-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 [hPre_in_range2 : Cert.Pre_in_range2.Facts] (m : (ℓ : Loc Cert.Kernel2.nD Cert.Kernel2.τ Cert.Kernel2.sig) → Buf (Elt Bits) ℓ) : Prop :=
  ∀ c : Dev Cert.Kernel2.nD,
    (Cert.Pre_in_range2.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3))) = (fun _ => 1#1)

def Pre_Kernel2Ideal [hPre_in_range2 : Cert.Pre_in_range2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_in_range2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal [hPre_in_range2 : Cert.Pre_in_range2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_in_range2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] [hPre_in_range2 : Cert.Pre_in_range2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] [hPre_in_range2 : Cert.Pre_in_range2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] [hPre_in_range2 : Cert.Pre_in_range2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] [hPre_in_range2 : Cert.Pre_in_range2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v56) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_in_range : Cert.Pre_in_range.Facts) (hPre_in_range2 : Cert.Pre_in_range2.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ quiescent_Kernel2 (hKernel2 := hKernel2) (hPre_in_range2 := hPre_in_range2)
    ∧ quiescent_Kernel2Ideal (hKernel2Ideal := hKernel2Ideal) (hPre_in_range2 := hPre_in_range2)
    ∧ quiescent_Reference2Ideal (hReference2Ideal := hReference2Ideal) (hPre_in_range2 := hPre_in_range2)
    ∧ preserves_Kernel_KernelIdeal
    ∧ algebraic_KernelIdeal_ReferenceIdeal (hKernelIdeal := hKernelIdeal) (hReferenceIdeal := hReferenceIdeal) (hPre_in_range := hPre_in_range)
    ∧ preserves_Kernel2_Kernel2Ideal
    ∧ algebraic_Kernel2Ideal_Reference2Ideal (hKernel2Ideal := hKernel2Ideal) (hReference2Ideal := hReference2Ideal) (hPre_in_range2 := hPre_in_range2)
-- ==== Pre_in_range.lean ====
abbrev S8x256x128x128 : Shape := ⟨4, ![8, 256, 128, 128]⟩
abbrev S8x512x64x64 : Shape := ⟨4, ![8, 512, 64, 64]⟩
abbrev S128 : Shape := ⟨1, ![128]⟩
abbrev S256 : Shape := ⟨1, ![256]⟩
abbrev S_ : Shape := ⟨0, ![]⟩

class Facts : Prop where
  bcast_S_S128 : S_.BroadcastsInDim S128 (![] : Fin 0 → Fin S128.rank)
  reducesTo_S128_S_d0 : S128.ReducesTo [0] S_
  h_S_ : 0 < S_.numel
  bcast_S_S256 : S_.BroadcastsInDim S256 (![] : Fin 0 → Fin S256.rank)
  reducesTo_S256_S_d0 : S256.ReducesTo [0] S_

variable [Facts]

def fn {F : FTy → Type} [FloatOps F] (main_arg0 : FVec F S8x256x128x128 .f32) (main_arg1 : FVec F S8x512x64x64 .f32) (main_arg2 : IVec S128 32) (main_arg3 : IVec S256 32) : IVec S_ 1 :=
  let main_c : IVec S_ 32 := constantI S_ 32 0#32
  let main_v0 : IVec S128 32 := broadcastInDim S128 ![] bcast_S_S128 main_c
  let main_v1 : IVec S128 1 := cmpi .sge main_arg2 main_v0
  let main_c_0 : IVec S_ 32 := constantI S_ 32 256#32
  let main_v2 : IVec S128 32 := broadcastInDim S128 ![] bcast_S_S128 main_c_0
  let main_v3 : IVec S128 1 := cmpi .slt main_arg2 main_v2
  let main_v4 : IVec S128 1 := andi main_v1 main_v3
  let main_c_1 : IVec S_ 1 := constantI S_ 1 1#1
  let main_v5 : IVec S_ 1 := (fun x v => Host.reduce IntOp.andi x v reducesTo_S128_S_d0 h_S_) main_v4 main_c_1
  let main_c_2 : IVec S_ 32 := constantI S_ 32 0#32
  let main_v6 : IVec S256 32 := broadcastInDim S256 ![] bcast_S_S256 main_c_2
  let main_v7 : IVec S256 1 := cmpi .sge main_arg3 main_v6
  let main_c_3 : IVec S_ 32 := constantI S_ 32 512#32
  let main_v8 : IVec S256 32 := broadcastInDim S256 ![] bcast_S_S256 main_c_3
  let main_v9 : IVec S256 1 := cmpi .slt main_arg3 main_v8
  let main_v10 : IVec S256 1 := andi main_v7 main_v9
  let main_c_4 : IVec S_ 1 := constantI S_ 1 1#1
  let main_v11 : IVec S_ 1 := (fun x v => Host.reduce IntOp.andi x v reducesTo_S256_S_d0 h_S_) main_v10 main_c_4
  let main_v12 : IVec S_ 1 := andi main_v5 main_v11
  main_v12
-- ==== Pre_in_range2.lean ====
abbrev S8x512x32x32 : Shape := ⟨4, ![8, 512, 32, 32]⟩
abbrev S8x256x16x16 : Shape := ⟨4, ![8, 256, 16, 16]⟩
abbrev S256 : Shape := ⟨1, ![256]⟩
abbrev S128 : Shape := ⟨1, ![128]⟩
abbrev S_ : Shape := ⟨0, ![]⟩

class Facts : Prop where
  bcast_S_S256 : S_.BroadcastsInDim S256 (![] : Fin 0 → Fin S256.rank)
  reducesTo_S256_S_d0 : S256.ReducesTo [0] S_
  h_S_ : 0 < S_.numel
  bcast_S_S128 : S_.BroadcastsInDim S128 (![] : Fin 0 → Fin S128.rank)
  reducesTo_S128_S_d0 : S128.ReducesTo [0] S_

variable [Facts]

def fn {F : FTy → Type} [FloatOps F] (main_arg0 : FVec F S8x512x32x32 .f32) (main_arg1 : FVec F S8x256x16x16 .f32) (main_arg2 : IVec S256 32) (main_arg3 : IVec S128 32) : IVec S_ 1 :=
  let main_c : IVec S_ 32 := constantI S_ 32 0#32
  let main_v0 : IVec S256 32 := broadcastInDim S256 ![] bcast_S_S256 main_c
  let main_v1 : IVec S256 1 := cmpi .sge main_arg2 main_v0
  let main_c_0 : IVec S_ 32 := constantI S_ 32 512#32
  let main_v2 : IVec S256 32 := broadcastInDim S256 ![] bcast_S_S256 main_c_0
  let main_v3 : IVec S256 1 := cmpi .slt main_arg2 main_v2
  let main_v4 : IVec S256 1 := andi main_v1 main_v3
  let main_c_1 : IVec S_ 1 := constantI S_ 1 1#1
  let main_v5 : IVec S_ 1 := (fun x v => Host.reduce IntOp.andi x v reducesTo_S256_S_d0 h_S_) main_v4 main_c_1
  let main_c_2 : IVec S_ 32 := constantI S_ 32 0#32
  let main_v6 : IVec S128 32 := broadcastInDim S128 ![] bcast_S_S128 main_c_2
  let main_v7 : IVec S128 1 := cmpi .sge main_arg3 main_v6
  let main_c_3 : IVec S_ 32 := constantI S_ 32 256#32
  let main_v8 : IVec S128 32 := broadcastInDim S128 ![] bcast_S_S128 main_c_3
  let main_v9 : IVec S128 1 := cmpi .slt main_arg3 main_v8
  let main_v10 : IVec S128 1 := andi main_v7 main_v9
  let main_c_4 : IVec S_ 1 := constantI S_ 1 1#1
  let main_v11 : IVec S_ 1 := (fun x v => Host.reduce IntOp.andi x v reducesTo_S128_S_d0 h_S_) main_v10 main_c_4
  let main_v12 : IVec S_ 1 := andi main_v5 main_v11
  main_v12
-- ==== Kernel.lean ====
abbrev S8x256x128x128 : Shape := ⟨4, ![8, 256, 128, 128]⟩
abbrev S8x512x64x64 : Shape := ⟨4, ![8, 512, 64, 64]⟩
abbrev S128 : Shape := ⟨1, ![128]⟩
abbrev S256 : Shape := ⟨1, ![256]⟩
abbrev S128x64 : Shape := ⟨2, ![128, 64]⟩
abbrev S8x48 : Shape := ⟨2, ![8, 48]⟩
abbrev S64x128 : Shape := ⟨2, ![64, 128]⟩
abbrev S_ : Shape := ⟨0, ![]⟩
abbrev S8x48x1 : Shape := ⟨3, ![8, 48, 1]⟩
abbrev S1 : Shape := ⟨1, ![1]⟩
abbrev S1x1x1 : Shape := ⟨3, ![1, 1, 1]⟩
abbrev S8x384x128x128 : Shape := ⟨4, ![8, 384, 128, 128]⟩
abbrev S8x1x128x128 : Shape := ⟨4, ![8, 1, 128, 128]⟩
abbrev S1x1 : Shape := ⟨2, ![1, 1]⟩
abbrev S8x1x64x64 : Shape := ⟨4, ![8, 1, 64, 64]⟩
abbrev S8x8x128x128 : Shape := ⟨4, ![8, 8, 128, 128]⟩
abbrev S1x1x128x128 : Shape := ⟨4, ![1, 1, 128, 128]⟩
abbrev S128x128 : Shape := ⟨2, ![128, 128]⟩
abbrev S1x1x64x64 : Shape := ⟨4, ![1, 1, 64, 64]⟩
abbrev S64x64 : Shape := ⟨2, ![64, 64]⟩
abbrev S512x64 : Shape := ⟨2, ![512, 64]⟩
abbrev S512x128 : Shape := ⟨2, ![512, 128]⟩

abbrev nBuf : Space → Nat
  | .hbm => 52
  | .vmem => 36
  | .smem => 2
  | _ => 0

abbrev bufTy : (tb : Table) → Fin (tcTables nBuf tb) → BufTy
  | .hbm, ⟨0, _⟩ => ⟨S8x256x128x128, .f32⟩
  | .hbm, ⟨1, _⟩ => ⟨S8x512x64x64, .f32⟩
  | .hbm, ⟨2, _⟩ => ⟨S128, .i32⟩
  | .hbm, ⟨3, _⟩ => ⟨S256, .i32⟩
  | .hbm, ⟨4, _⟩ => ⟨S128x64, .f32⟩
  | .hbm, ⟨5, _⟩ => ⟨S128x64, .f32⟩
  | .hbm, ⟨6, _⟩ => ⟨S8x48, .i32⟩
  | .hbm, ⟨7, _⟩ => ⟨S8x48, .i32⟩
  | .hbm, ⟨8, _⟩ => ⟨S64x128, .f32⟩
  | .hbm, ⟨9, _⟩ => ⟨S_, .i32⟩
  | .hbm, ⟨10, _⟩ => ⟨S8x48, .i32⟩
  | .hbm, ⟨11, _⟩ => ⟨S8x48, .i1⟩
  | .hbm, ⟨12, _⟩ => ⟨S_, .i32⟩
  | .hbm, ⟨13, _⟩ => ⟨S8x48, .i32⟩
  | .hbm, ⟨14, _⟩ => ⟨S8x48, .i32⟩
  | .hbm, ⟨15, _⟩ => ⟨S8x48, .i32⟩
  | .hbm, ⟨16, _⟩ => ⟨S8x48x1, .i32⟩
  | .hbm, ⟨17, _⟩ => ⟨S1, .i32⟩
  | .hbm, ⟨18, _⟩ => ⟨S_, .i32⟩
  | .hbm, ⟨19, _⟩ => ⟨S8x48x1, .i32⟩
  | .hbm, ⟨20, _⟩ => ⟨S8x48x1, .i1⟩
  | .hbm, ⟨21, _⟩ => ⟨S1x1x1, .i32⟩
  | .hbm, ⟨22, _⟩ => ⟨S8x48x1, .i32⟩
  | .hbm, ⟨23, _⟩ => ⟨S8x48x1, .i1⟩
  | .hbm, ⟨24, _⟩ => ⟨S8x48x1, .i1⟩
  | .hbm, ⟨25, _⟩ => ⟨S_, .i1⟩
  | .hbm, ⟨26, _⟩ => ⟨S8x48, .i1⟩
  | .hbm, ⟨27, _⟩ => ⟨S8x48, .i32⟩
  | .hbm, ⟨28, _⟩ => ⟨S_, .i32⟩
  | .hbm, ⟨29, _⟩ => ⟨S8x48, .i32⟩
  | .hbm, ⟨30, _⟩ => ⟨S_, .i32⟩
  | .hbm, ⟨31, _⟩ => ⟨S8x48, .i32⟩
  | .hbm, ⟨32, _⟩ => ⟨S8x48, .i1⟩
  | .hbm, ⟨33, _⟩ => ⟨S_, .i32⟩
  | .hbm, ⟨34, _⟩ => ⟨S8x48, .i32⟩
  | .hbm, ⟨35, _⟩ => ⟨S8x48, .i32⟩
  | .hbm, ⟨36, _⟩ => ⟨S8x48, .i32⟩
  | .hbm, ⟨37, _⟩ => ⟨S8x48x1, .i32⟩
  | .hbm, ⟨38, _⟩ => ⟨S1, .i32⟩
  | .hbm, ⟨39, _⟩ => ⟨S_, .i32⟩
  | .hbm, ⟨40, _⟩ => ⟨S8x48x1, .i32⟩
  | .hbm, ⟨41, _⟩ => ⟨S8x48x1, .i1⟩
  | .hbm, ⟨42, _⟩ => ⟨S1x1x1, .i32⟩
  | .hbm, ⟨43, _⟩ => ⟨S8x48x1, .i32⟩
  | .hbm, ⟨44, _⟩ => ⟨S8x48x1, .i1⟩
  | .hbm, ⟨45, _⟩ => ⟨S8x48x1, .i1⟩
  | .hbm, ⟨46, _⟩ => ⟨S_, .i1⟩
  | .hbm, ⟨47, _⟩ => ⟨S8x48, .i1⟩
  | .hbm, ⟨48, _⟩ => ⟨S8x48, .i32⟩
  | .hbm, ⟨49, _⟩ => ⟨S_, .i32⟩
  | .hbm, ⟨50, _⟩ => ⟨S8x48, .i32⟩
  | .hbm, ⟨51, _⟩ => ⟨S8x384x128x128, .f32⟩
  | .local _ .vmem, ⟨0, _⟩ => ⟨S128x64, .f32⟩
  | .local _ .vmem, ⟨1, _⟩ => ⟨S64x128, .f32⟩
  | .local _ .vmem, ⟨2, _⟩ => ⟨S8x1x128x128, .f32⟩
  | .local _ .vmem, ⟨3, _⟩ => ⟨S8x1x128x128, .f32⟩
  | .local _ .vmem, ⟨4, _⟩ => ⟨S8x1x128x128, .f32⟩
  | .local _ .vmem, ⟨5, _⟩ => ⟨S8x1x128x128, .f32⟩
  | .local _ .vmem, ⟨6, _⟩ => ⟨S8x1x128x128, .f32⟩
  | .local _ .vmem, ⟨7, _⟩ => ⟨S8x1x128x128, .f32⟩
  | .local _ .vmem, ⟨8, _⟩ => ⟨S8x1x128x128, .f32⟩
  | .local _ .vmem, ⟨9, _⟩ => ⟨S8x1x128x128, .f32⟩
  | .local _ .vmem, ⟨10, _⟩ => ⟨S8x1x128x128, .f32⟩
  | .local _ .vmem, ⟨11, _⟩ => ⟨S8x1x128x128, .f32⟩
  | .local _ .vmem, ⟨12, _⟩ => ⟨S8x1x128x128, .f32⟩
  | .local _ .vmem, ⟨13, _⟩ => ⟨S8x1x128x128, .f32⟩
  | .local _ .vmem, ⟨14, _⟩ => ⟨S8x1x128x128, .f32⟩
  | .local _ .vmem, ⟨15, _⟩ => ⟨S8x1x128x128, .f32⟩
  | .local _ .vmem, ⟨16, _⟩ => ⟨S8x1x128x128, .f32⟩
  | .local _ .vmem, ⟨17, _⟩ => ⟨S8x1x128x128, .f32⟩
  | .local _ .vmem, ⟨18, _⟩ => ⟨S8x1x64x64, .f32⟩
  | .local _ .vmem, ⟨19, _⟩ => ⟨S8x1x64x64, .f32⟩
  | .local _ .vmem, ⟨20, _⟩ => ⟨S8x1x64x64, .f32⟩
  | .local _ .vmem, ⟨21, _⟩ => ⟨S8x1x64x64, .f32⟩
  | .local _ .vmem, ⟨22, _⟩ => ⟨S8x1x64x64, .f32⟩
  | .local _ .vmem, ⟨23, _⟩ => ⟨S8x1x64x64, .f32⟩
  | .local _ .vmem, ⟨24, _⟩ => ⟨S8x1x64x64, .f32⟩
  | .local _ .vmem, ⟨25, _⟩ => ⟨S8x1x64x64, .f32⟩
  | .local _ .vmem, ⟨26, _⟩ => ⟨S8x1x64x64, .f32⟩
  | .local _ .vmem, ⟨27, _⟩ => ⟨S8x1x64x64, .f32⟩
  | .local _ .vmem, ⟨28, _⟩ => ⟨S8x1x64x64, .f32⟩
  | .local _ .vmem, ⟨29, _⟩ => ⟨S8x1x64x64, .f32⟩
  | .local _ .vmem, ⟨30, _⟩ => ⟨S8x1x64x64, .f32⟩
  | .local _ .vmem, ⟨31, _⟩ => ⟨S8x1x64x64, .f32⟩
  | .local _ .vmem, ⟨32, _⟩ => ⟨S8x1x64x64, .f32⟩
  | .local _ .vmem, ⟨33, _⟩ => ⟨S8x1x64x64, .f32⟩
  | .local _ .vmem, ⟨34, _⟩ => ⟨S8x8x128x128, .f32⟩
  | .local _ .vmem, ⟨35, _⟩ => ⟨S8x8x128x128, .f32⟩
  | .local _ .smem, ⟨0, _⟩ => ⟨S8x48, .i32⟩
  | .local _ .smem, ⟨1, _⟩ => ⟨S8x48, .i32⟩
  | _, _ => ⟨S8x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_c : Ref sig .tc := ⟨.hbm, 6, rfl⟩
abbrev main_c_1 : Ref sig .tc := ⟨.hbm, 7, rfl⟩
abbrev main_v0 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_c_4 : Ref sig .tc := ⟨.hbm, 28, rfl⟩
abbrev main_call0_v14 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_c_4 : Ref sig .tc := ⟨.hbm, 49, rfl⟩
abbrev main_call1_v14 : Ref sig .tc := ⟨.hbm, 50, rfl⟩
abbrev main_v3 : Ref sig .tc := ⟨.hbm, 51, rfl⟩
abbrev main_v1 : Ref sig .tc := ⟨.smem, 0, rfl⟩
abbrev main_v2 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35

abbrev nD : Nat := 1
abbrev τ : Topo := Topo.v7x

variable {F : FTy → Type} [FloatOps F]

abbrev grid0 : Pipeline.Grid := ⟨1, ![48], ![false]⟩

abbrev pre0 : Pipeline.Prefetch sig := ⟨2, ![main_v1.idx, main_v2.idx], fun | 0 => main_v1.names | 1 => main_v2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 2 → Nat :=
  let c0 : Index := 0#32
  let arg0 : BitVec 32 := BitVec.ofNat 32 (i 0).val
  let v0 : Index := Scalar.indexCast arg0
  ![0, v0.toNat]
def k0_off2 (i : grid0.Coords) : Fin 2 → Nat :=
  let c1 : Index := 1#32
  let arg0 : BitVec 32 := BitVec.ofNat 32 (i 0).val
  let v0 : Index := Scalar.indexCast arg0
  ![1, v0.toNat]
def k0_off3 (i : grid0.Coords) : Fin 2 → Nat :=
  let c2 : Index := 2#32
  let arg0 : BitVec 32 := BitVec.ofNat 32 (i 0).val
  let v0 : Index := Scalar.indexCast arg0
  ![2, v0.toNat]
def k0_off4 (i : grid0.Coords) : Fin 2 → Nat :=
  let c3 : Index := 3#32
  let arg0 : BitVec 32 := BitVec.ofNat 32 (i 0).val
  let v0 : Index := Scalar.indexCast arg0
  ![3, v0.toNat]
def k0_off5 (i : grid0.Coords) : Fin 2 → Nat :=
  let c4 : Index := 4#32
  let arg0 : BitVec 32 := BitVec.ofNat 32 (i 0).val
  let v0 : Index := Scalar.indexCast arg0
  ![4, v0.toNat]
def k0_off6 (i : grid0.Coords) : Fin 2 → Nat :=
  let c5 : Index := 5#32
  let arg0 : BitVec 32 := BitVec.ofNat 32 (i 0).val
  let v0 : Index := Scalar.indexCast arg0
  ![5, v0.toNat]
def k0_off7 (i : grid0.Coords) : Fin 2 → Nat :=
  let c6 : Index := 6#32
  let arg0 : BitVec 32 := BitVec.ofNat 32 (i 0).val
  let v0 : Index := Scalar.indexCast arg0
  ![6, v0.toNat]
def k0_off8 (i : grid0.Coords) : Fin 2 → Nat :=
  let c7 : Index := 7#32
  let arg0 : BitVec 32 := BitVec.ofNat 32 (i 0).val
  let v0 : Index := Scalar.indexCast arg0
  ![7, v0.toNat]
def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c16_i32_0 : BitVec 32 := 16#32
  let v3 : BitVec 1 := Scalar.cmpi .sge arg0 c16_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1x1.size a ≤ S8x48.size a) (numel1_S1x1 : S1x1.numel = 1) (pf : pre0.Contents (Elt F)) (i : grid0.Coords) : Fin 4 → Nat :=
  let arg0 : BitVec 32 := BitVec.ofNat 32 (i 0).val
  let c0 : Index := 0#32
  let v0 : Index := Scalar.indexCast arg0
  let v1 : BitVec 32 := pf.at 0 (Rect.unit (s := S8x48) ![0, v0.toNat] S1x1.size (k0_off1_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off2_inb : ∀ i : grid0.Coords, ∀ a, (k0_off2 i) a + S1x1.size a ≤ S8x48.size a) (numel1_S1x1 : S1x1.numel = 1) (pf : pre0.Contents (Elt F)) (i : grid0.Coords) : Fin 4 → Nat :=
  let arg0 : BitVec 32 := BitVec.ofNat 32 (i 0).val
  let c1 : Index := 1#32
  let v0 : Index := Scalar.indexCast arg0
  let v1 : BitVec 32 := pf.at 0 (Rect.unit (s := S8x48) ![1, v0.toNat] S1x1.size (k0_off2_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off3_inb : ∀ i : grid0.Coords, ∀ a, (k0_off3 i) a + S1x1.size a ≤ S8x48.size a) (numel1_S1x1 : S1x1.numel = 1) (pf : pre0.Contents (Elt F)) (i : grid0.Coords) : Fin 4 → Nat :=
  let arg0 : BitVec 32 := BitVec.ofNat 32 (i 0).val
  let c2 : Index := 2#32
  let v0 : Index := Scalar.indexCast arg0
  let v1 : BitVec 32 := pf.at 0 (Rect.unit (s := S8x48) ![2, v0.toNat] S1x1.size (k0_off3_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (k0_off4_inb : ∀ i : grid0.Coords, ∀ a, (k0_off4 i) a + S1x1.size a ≤ S8x48.size a) (numel1_S1x1 : S1x1.numel = 1) (pf : pre0.Contents (Elt F)) (i : grid0.Coords) : Fin 4 → Nat :=
  let arg0 : BitVec 32 := BitVec.ofNat 32 (i 0).val
  let c3 : Index := 3#32
  let v0 : Index := Scalar.indexCast arg0
  let v1 : BitVec 32 := pf.at 0 (Rect.unit (s := S8x48) ![3, v0.toNat] S1x1.size (k0_off4_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_6 (k0_off5_inb : ∀ i : grid0.Coords, ∀ a, (k0_off5 i) a + S1x1.size a ≤ S8x48.size a) (numel1_S1x1 : S1x1.numel = 1) (pf : pre0.Contents (Elt F)) (i : grid0.Coords) : Fin 4 → Nat :=
  let arg0 : BitVec 32 := BitVec.ofNat 32 (i 0).val
  let c4 : Index := 4#32
  let v0 : Index := Scalar.indexCast arg0
  let v1 : BitVec 32 := pf.at 0 (Rect.unit (s := S8x48) ![4, v0.toNat] S1x1.size (k0_off5_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_7 (k0_off6_inb : ∀ i : grid0.Coords, ∀ a, (k0_off6 i) a + S1x1.size a ≤ S8x48.size a) (numel1_S1x1 : S1x1.numel = 1) (pf : pre0.Contents (Elt F)) (i : grid0.Coords) : Fin 4 → Nat :=
  let arg0 : BitVec 32 := BitVec.ofNat 32 (i 0).val
  let c5 : Index := 5#32
  let v0 : Index := Scalar.indexCast arg0
  let v1 : BitVec 32 := pf.at 0 (Rect.unit (s := S8x48) ![5, v0.toNat] S1x1.size (k0_off6_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_8 (k0_off7_inb : ∀ i : grid0.Coords, ∀ a, (k0_off7 i) a + S1x1.size a ≤ S8x48.size a) (numel1_S1x1 : S1x1.numel = 1) (pf : pre0.Contents (Elt F)) (i : grid0.Coords) : Fin 4 → Nat :=
  let arg0 : BitVec 32 := BitVec.ofNat 32 (i 0).val
  let c6 : Index := 6#32
  let v0 : Index := Scalar.indexCast arg0
  let v1 : BitVec 32 := pf.at 0 (Rect.unit (s := S8x48) ![6, v0.toNat] S1x1.size (k0_off7_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_9 (k0_off8_inb : ∀ i : grid0.Coords, ∀ a, (k0_off8 i) a + S1x1.size a ≤ S8x48.size a) (numel1_S1x1 : S1x1.numel = 1) (pf : pre0.Contents (Elt F)) (i : grid0.Coords) : Fin 4 → Nat :=
  let arg0 : BitVec 32 := BitVec.ofNat 32 (i 0).val
  let c7 : Index := 7#32
  let v0 : Index := Scalar.indexCast arg0
  let v1 : BitVec 32 := pf.at 0 (Rect.unit (s := S8x48) ![7, v0.toNat] S1x1.size (k0_off8_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_10 (k0_off1_inb : ∀ i : grid0.Coords, ∀ a, (k0_off1 i) a + S1x1.size a ≤ S8x48.size a) (numel1_S1x1 : S1x1.numel = 1) (pf : pre0.Contents (Elt F)) (i : grid0.Coords) : Fin 4 → Nat :=
  let arg0 : BitVec 32 := BitVec.ofNat 32 (i 0).val
  let c0 : Index := 0#32
  let v0 : Index := Scalar.indexCast arg0
  let v1 : BitVec 32 := pf.at 1 (Rect.unit (s := S8x48) ![0, v0.toNat] S1x1.size (k0_off1_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_11 (k0_off2_inb : ∀ i : grid0.Coords, ∀ a, (k0_off2 i) a + S1x1.size a ≤ S8x48.size a) (numel1_S1x1 : S1x1.numel = 1) (pf : pre0.Contents (Elt F)) (i : grid0.Coords) : Fin 4 → Nat :=
  let arg0 : BitVec 32 := BitVec.ofNat 32 (i 0).val
  let c1 : Index := 1#32
  let v0 : Index := Scalar.indexCast arg0
  let v1 : BitVec 32 := pf.at 1 (Rect.unit (s := S8x48) ![1, v0.toNat] S1x1.size (k0_off2_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_12 (k0_off3_inb : ∀ i : grid0.Coords, ∀ a, (k0_off3 i) a + S1x1.size a ≤ S8x48.size a) (numel1_S1x1 : S1x1.numel = 1) (pf : pre0.Contents (Elt F)) (i : grid0.Coords) : Fin 4 → Nat :=
  let arg0 : BitVec 32 := BitVec.ofNat 32 (i 0).val
  let c2 : Index := 2#32
  let v0 : Index := Scalar.indexCast arg0
  let v1 : BitVec 32 := pf.at 1 (Rect.unit (s := S8x48) ![2, v0.toNat] S1x1.size (k0_off3_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_13 (k0_off4_inb : ∀ i : grid0.Coords, ∀ a, (k0_off4 i) a + S1x1.size a ≤ S8x48.size a) (numel1_S1x1 : S1x1.numel = 1) (pf : pre0.Contents (Elt F)) (i : grid0.Coords) : Fin 4 → Nat :=
  let arg0 : BitVec 32 := BitVec.ofNat 32 (i 0).val
  let c3 : Index := 3#32
  let v0 : Index := Scalar.indexCast arg0
  let v1 : BitVec 32 := pf.at 1 (Rect.unit (s := S8x48) ![3, v0.toNat] S1x1.size (k0_off4_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_14 (k0_off5_inb : ∀ i : grid0.Coords, ∀ a, (k0_off5 i) a + S1x1.size a ≤ S8x48.size a) (numel1_S1x1 : S1x1.numel = 1) (pf : pre0.Contents (Elt F)) (i : grid0.Coords) : Fin 4 → Nat :=
  let arg0 : BitVec 32 := BitVec.ofNat 32 (i 0).val
  let c4 : Index := 4#32
  let v0 : Index := Scalar.indexCast arg0
  let v1 : BitVec 32 := pf.at 1 (Rect.unit (s := S8x48) ![4, v0.toNat] S1x1.size (k0_off5_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_15 (k0_off6_inb : ∀ i : grid0.Coords, ∀ a, (k0_off6 i) a + S1x1.size a ≤ S8x48.size a) (numel1_S1x1 : S1x1.numel = 1) (pf : pre0.Contents (Elt F)) (i : grid0.Coords) : Fin 4 → Nat :=
  let arg0 : BitVec 32 := BitVec.ofNat 32 (i 0).val
  let c5 : Index := 5#32
  let v0 : Index := Scalar.indexCast arg0
  let v1 : BitVec 32 := pf.at 1 (Rect.unit (s := S8x48) ![5, v0.toNat] S1x1.size (k0_off6_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_16 (k0_off7_inb : ∀ i : grid0.Coords, ∀ a, (k0_off7 i) a + S1x1.size a ≤ S8x48.size a) (numel1_S1x1 : S1x1.numel = 1) (pf : pre0.Contents (Elt F)) (i : grid0.Coords) : Fin 4 → Nat :=
  let arg0 : BitVec 32 := BitVec.ofNat 32 (i 0).val
  let c6 : Index := 6#32
  let v0 : Index := Scalar.indexCast arg0
  let v1 : BitVec 32 := pf.at 1 (Rect.unit (s := S8x48) ![6, v0.toNat] S1x1.size (k0_off7_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_17 (k0_off8_inb : ∀ i : grid0.Coords, ∀ a, (k0_off8 i) a + S1x1.size a ≤ S8x48.size a) (numel1_S1x1 : S1x1.numel = 1) (pf : pre0.Contents (Elt F)) (i : grid0.Coords) : Fin 4 → Nat :=
  let arg0 : BitVec 32 := BitVec.ofNat 32 (i 0).val
  let c7 : Index := 7#32
  let v0 : Index := Scalar.indexCast arg0
  let v1 : BitVec 32 := pf.at 1 (Rect.unit (s := S8x48) ![7, v0.toNat] S1x1.size (k0_off8_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_18 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 1 → Memref sig .tc .vmem S128x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x1x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x1x64x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x1x64x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x1x64x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x1x64x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x1x64x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x1x64x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x1x64x64 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S8x1x64x64 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S8x8x128x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== ReferenceIdeal.lean ====
abbrev S8x256x128x128 : Shape := ⟨4, ![8, 256, 128, 128]⟩
abbrev S8x512x64x64 : Shape := ⟨4, ![8, 512, 64, 64]⟩
abbrev S128 : Shape := ⟨1, ![128]⟩
abbrev S256 : Shape := ⟨1, ![256]⟩
abbrev S1x1x1x128 : Shape := ⟨4, ![1, 1, 1, 128]⟩
abbrev S1x1x128x1 : Shape := ⟨4, ![1, 1, 128, 1]⟩
abbrev S_ : Shape := ⟨0, ![]⟩
abbrev S128x1 : Shape := ⟨2, ![128, 1]⟩
abbrev S1 : Shape := ⟨1, ![1]⟩
abbrev S1x1 : Shape := ⟨2, ![1, 1]⟩
abbrev S8x128x128x128 : Shape := ⟨4, ![8, 128, 128, 128]⟩
abbrev S256x1 : Shape := ⟨2, ![256, 1]⟩
abbrev S8x256x64x64 : Shape := ⟨4, ![8, 256, 64, 64]⟩
abbrev S8x256x128x64 : Shape := ⟨4, ![8, 256, 128, 64]⟩
abbrev S8x384x128x128 : Shape := ⟨4, ![8, 384, 128, 128]⟩

abbrev nBuf : Space → Nat
  | .hbm => 220
  | .vmem => 0
  | .smem => 0
  | _ => 0

abbrev hbmTy0_0 (i : Nat) : BufTy := match i % 128 with
  | 0 => ⟨S8x256x128x128, .f32⟩
  | 1 => ⟨S8x512x64x64, .f32⟩
  | 2 => ⟨S128, .i32⟩
  | 3 => ⟨S256, .i32⟩
  | 4 => ⟨S128, .i32⟩
  | 5 => ⟨S128, .i32⟩
  | 6 => ⟨S128, .i32⟩
  | 7 => ⟨S128, .i32⟩
  | 8 => ⟨S128, .f32⟩
  | 9 => ⟨S1x1x1x128, .f32⟩
  | 10 => ⟨S128, .f32⟩
  | 11 => ⟨S1x1x1x128, .f32⟩
  | 12 => ⟨S128, .f32⟩
  | 13 => ⟨S1x1x1x128, .f32⟩
  | 14 => ⟨S128, .f32⟩
  | 15 => ⟨S1x1x1x128, .f32⟩
  | 16 => ⟨S128, .f32⟩
  | 17 => ⟨S1x1x128x1, .f32⟩
  | 18 => ⟨S128, .f32⟩
  | 19 => ⟨S1x1x128x1, .f32⟩
  | 20 => ⟨S_, .i32⟩
  | 21 => ⟨S128, .i32⟩
  | 22 => ⟨S128, .i1⟩
  | 23 => ⟨S_, .i32⟩
  | 24 => ⟨S128, .i32⟩
  | 25 => ⟨S128, .i32⟩
  | 26 => ⟨S128, .i32⟩
  | 27 => ⟨S128x1, .i32⟩
  | 28 => ⟨S1, .i32⟩
  | 29 => ⟨S_, .i32⟩
  | 30 => ⟨S128x1, .i32⟩
  | 31 => ⟨S128x1, .i1⟩
  | 32 => ⟨S1x1, .i32⟩
  | 33 => ⟨S128x1, .i32⟩
  | 34 => ⟨S128x1, .i1⟩
  | 35 => ⟨S128x1, .i1⟩
  | 36 => ⟨S_, .i1⟩
  | 37 => ⟨S128, .i1⟩
  | 38 => ⟨S8x128x128x128, .f32⟩
  | 39 => ⟨S8x128x128x128, .i1⟩
  | 40 => ⟨S_, .f32⟩
  | 41 => ⟨S8x128x128x128, .f32⟩
  | 42 => ⟨S8x128x128x128, .f32⟩
  | 43 => ⟨S_, .i32⟩
  | 44 => ⟨S256, .i32⟩
  | 45 => ⟨S256, .i1⟩
  | 46 => ⟨S_, .i32⟩
  | 47 => ⟨S256, .i32⟩
  | 48 => ⟨S256, .i32⟩
  | 49 => ⟨S256, .i32⟩
  | 50 => ⟨S256x1, .i32⟩
  | 51 => ⟨S1, .i32⟩
  | 52 => ⟨S_, .i32⟩
  | 53 => ⟨S256x1, .i32⟩
  | 54 => ⟨S256x1, .i1⟩
  | 55 => ⟨S1x1, .i32⟩
  | 56 => ⟨S256x1, .i32⟩
  | 57 => ⟨S256x1, .i1⟩
  | 58 => ⟨S256x1, .i1⟩
  | 59 => ⟨S_, .i1⟩
  | 60 => ⟨S256, .i1⟩
  | 61 => ⟨S8x256x64x64, .f32⟩
  | 62 => ⟨S8x256x64x64, .i1⟩
  | 63 => ⟨S_, .f32⟩
  | 64 => ⟨S8x256x64x64, .f32⟩
  | 65 => ⟨S8x256x64x64, .f32⟩
  | 66 => ⟨S_, .i32⟩
  | 67 => ⟨S128, .i32⟩
  | 68 => ⟨S128, .i1⟩
  | 69 => ⟨S_, .i32⟩
  | 70 => ⟨S128, .i32⟩
  | 71 => ⟨S128, .i32⟩
  | 72 => ⟨S128, .i32⟩
  | 73 => ⟨S128x1, .i32⟩
  | 74 => ⟨S1, .i32⟩
  | 75 => ⟨S_, .i32⟩
  | 76 => ⟨S128x1, .i32⟩
  | 77 => ⟨S128x1, .i1⟩
  | 78 => ⟨S1x1, .i32⟩
  | 79 => ⟨S128x1, .i32⟩
  | 80 => ⟨S128x1, .i1⟩
  | 81 => ⟨S128x1, .i1⟩
  | 82 => ⟨S_, .i1⟩
  | 83 => ⟨S128, .i1⟩
  | 84 => ⟨S8x256x128x64, .f32⟩
  | 85 => ⟨S8x256x128x64, .i1⟩
  | 86 => ⟨S_, .f32⟩
  | 87 => ⟨S8x256x128x64, .f32⟩
  | 88 => ⟨S8x256x128x64, .f32⟩
  | 89 => ⟨S_, .i32⟩
  | 90 => ⟨S128, .i32⟩
  | 91 => ⟨S128, .i1⟩
  | 92 => ⟨S_, .i32⟩
  | 93 => ⟨S128, .i32⟩
  | 94 => ⟨S128, .i32⟩
  | 95 => ⟨S128, .i32⟩
  | 96 => ⟨S128x1, .i32⟩
  | 97 => ⟨S1, .i32⟩
  | 98 => ⟨S_, .i32⟩
  | 99 => ⟨S128x1, .i32⟩
  | 100 => ⟨S128x1, .i1⟩
  | 101 => ⟨S1x1, .i32⟩
  | 102 => ⟨S128x1, .i32⟩
  | 103 => ⟨S128x1, .i1⟩
  | 104 => ⟨S128x1, .i1⟩
  | 105 => ⟨S_, .i1⟩
  | 106 => ⟨S128, .i1⟩
  | 107 => ⟨S8x256x128x64, .f32⟩
  | 108 => ⟨S8x256x128x64, .i1⟩
  | 109 => ⟨S_, .f32⟩
  | 110 => ⟨S8x256x128x64, .f32⟩
  | 111 => ⟨S8x256x128x64, .f32⟩
  | 112 => ⟨S_, .i32⟩
  | 113 => ⟨S128, .i32⟩
  | 114 => ⟨S128, .i1⟩
  | 115 => ⟨S_, .i32⟩
  | 116 => ⟨S128, .i32⟩
  | 117 => ⟨S128, .i32⟩
  | 118 => ⟨S128, .i32⟩
  | 119 => ⟨S128x1, .i32⟩
  | 120 => ⟨S1, .i32⟩
  | 121 => ⟨S_, .i32⟩
  | 122 => ⟨S128x1, .i32⟩
  | 123 => ⟨S128x1, .i1⟩
  | 124 => ⟨S1x1, .i32⟩
  | 125 => ⟨S128x1, .i32⟩
  | 126 => ⟨S128x1, .i1⟩
  | 127 => ⟨S128x1, .i1⟩
  | _ => ⟨S8x256x128x128, .f32⟩

abbrev hbmTy0_1 (i : Nat) : BufTy := match i % 128 with
  | 0 => ⟨S_, .i1⟩
  | 1 => ⟨S128, .i1⟩
  | 2 => ⟨S8x256x128x128, .f32⟩
  | 3 => ⟨S8x256x128x128, .i1⟩
  | 4 => ⟨S_, .f32⟩
  | 5 => ⟨S8x256x128x128, .f32⟩
  | 6 => ⟨S8x256x128x128, .f32⟩
  | 7 => ⟨S_, .i32⟩
  | 8 => ⟨S128, .i32⟩
  | 9 => ⟨S128, .i1⟩
  | 10 => ⟨S_, .i32⟩
  | 11 => ⟨S128, .i32⟩
  | 12 => ⟨S128, .i32⟩
  | 13 => ⟨S128, .i32⟩
  | 14 => ⟨S128x1, .i32⟩
  | 15 => ⟨S1, .i32⟩
  | 16 => ⟨S_, .i32⟩
  | 17 => ⟨S128x1, .i32⟩
  | 18 => ⟨S128x1, .i1⟩
  | 19 => ⟨S1x1, .i32⟩
  | 20 => ⟨S128x1, .i32⟩
  | 21 => ⟨S128x1, .i1⟩
  | 22 => ⟨S128x1, .i1⟩
  | 23 => ⟨S_, .i1⟩
  | 24 => ⟨S128, .i1⟩
  | 25 => ⟨S8x256x128x128, .f32⟩
  | 26 => ⟨S8x256x128x128, .i1⟩
  | 27 => ⟨S_, .f32⟩
  | 28 => ⟨S8x256x128x128, .f32⟩
  | 29 => ⟨S8x256x128x128, .f32⟩
  | 30 => ⟨S8x256x128x128, .f32⟩
  | 31 => ⟨S8x256x128x128, .f32⟩
  | 32 => ⟨S8x256x128x128, .f32⟩
  | 33 => ⟨S8x256x128x128, .f32⟩
  | 34 => ⟨S8x256x128x128, .f32⟩
  | 35 => ⟨S_, .i32⟩
  | 36 => ⟨S128, .i32⟩
  | 37 => ⟨S128, .i1⟩
  | 38 => ⟨S_, .i32⟩
  | 39 => ⟨S128, .i32⟩
  | 40 => ⟨S128, .i32⟩
  | 41 => ⟨S128, .i32⟩
  | 42 => ⟨S128x1, .i32⟩
  | 43 => ⟨S1, .i32⟩
  | 44 => ⟨S_, .i32⟩
  | 45 => ⟨S128x1, .i32⟩
  | 46 => ⟨S128x1, .i1⟩
  | 47 => ⟨S1x1, .i32⟩
  | 48 => ⟨S128x1, .i32⟩
  | 49 => ⟨S128x1, .i1⟩
  | 50 => ⟨S128x1, .i1⟩
  | 51 => ⟨S_, .i1⟩
  | 52 => ⟨S128, .i1⟩
  | 53 => ⟨S8x256x128x128, .f32⟩
  | 54 => ⟨S8x256x128x128, .i1⟩
  | 55 => ⟨S_, .f32⟩
  | 56 => ⟨S8x256x128x128, .f32⟩
  | 57 => ⟨S8x256x128x128, .f32⟩
  | 58 => ⟨S_, .i32⟩
  | 59 => ⟨S128, .i32⟩
  | 60 => ⟨S128, .i1⟩
  | 61 => ⟨S_, .i32⟩
  | 62 => ⟨S128, .i32⟩
  | 63 => ⟨S128, .i32⟩
  | 64 => ⟨S128, .i32⟩
  | 65 => ⟨S128x1, .i32⟩
  | 66 => ⟨S1, .i32⟩
  | 67 => ⟨S_, .i32⟩
  | 68 => ⟨S128x1, .i32⟩
  | 69 => ⟨S128x1, .i1⟩
  | 70 => ⟨S1x1, .i32⟩
  | 71 => ⟨S128x1, .i32⟩
  | 72 => ⟨S128x1, .i1⟩
  | 73 => ⟨S128x1, .i1⟩
  | 74 => ⟨S_, .i1⟩
  | 75 => ⟨S128, .i1⟩
  | 76 => ⟨S8x256x128x128, .f32⟩
  | 77 => ⟨S8x256x128x128, .i1⟩
  | 78 => ⟨S_, .f32⟩
  | 79 => ⟨S8x256x128x128, .f32⟩
  | 80 => ⟨S8x256x128x128, .f32⟩
  | 81 => ⟨S8x256x128x128, .f32⟩
  | 82 => ⟨S8x256x128x128, .f32⟩
  | 83 => ⟨S8x256x128x128, .f32⟩
  | 84 => ⟨S8x256x128x128, .f32⟩
  | 85 => ⟨S8x256x128x128, .f32⟩
  | 86 => ⟨S8x256x128x128, .f32⟩
  | 87 => ⟨S8x256x128x128, .f32⟩
  | 88 => ⟨S8x256x128x128, .f32⟩
  | 89 => ⟨S8x256x128x128, .f32⟩
  | 90 => ⟨S8x256x128x128, .f32⟩
  | 91 => ⟨S8x384x128x128, .f32⟩
  | _ => ⟨S8x256x128x128, .f32⟩

abbrev hbmTy (i : Nat) : BufTy := match i / 128 with
  | 0 => hbmTy0_0 i
  | 1 => hbmTy0_1 i
  | _ => ⟨S8x256x128x128, .f32⟩

abbrev bufTy : (tb : Table) → Fin (tcTables nBuf tb) → BufTy
  | .hbm, ⟨i, _⟩ => hbmTy i
  | _, _ => ⟨S8x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_cst : Ref sig .tc := ⟨.hbm, 8, rfl⟩
abbrev main_v0 : Ref sig .tc := ⟨.hbm, 9, rfl⟩
abbrev main_cst_3 : Ref sig .tc := ⟨.hbm, 10, rfl⟩
abbrev main_v1 : Ref sig .tc := ⟨.hbm, 11, rfl⟩
abbrev main_cst_4 : Ref sig .tc := ⟨.hbm, 12, rfl⟩
abbrev main_v2 : Ref sig .tc := ⟨.hbm, 13, rfl⟩
abbrev main_cst_5 : Ref sig .tc := ⟨.hbm, 14, rfl⟩
abbrev main_v3 : Ref sig .tc := ⟨.hbm, 15, rfl⟩
abbrev main_cst_6 : Ref sig .tc := ⟨.hbm, 16, rfl⟩
abbrev main_v4 : Ref sig .tc := ⟨.hbm, 17, rfl⟩
abbrev main_cst_7 : Ref sig .tc := ⟨.hbm, 18, rfl⟩
abbrev main_v5 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v6 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_c_1 : Ref sig .tc := ⟨.hbm, 51, rfl⟩
abbrev main_call1_c_2 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_3 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_call1_cst : Ref sig .tc := ⟨.hbm, 63, rfl⟩
abbrev main_call1_v15 : Ref sig .tc := ⟨.hbm, 64, rfl⟩
abbrev main_v7 : Ref sig .tc := ⟨.hbm, 65, rfl⟩
abbrev main_call2_c : Ref sig .tc := ⟨.hbm, 66, rfl⟩
abbrev main_call2_v0 : Ref sig .tc := ⟨.hbm, 67, rfl⟩
abbrev main_call2_v1 : Ref sig .tc := ⟨.hbm, 68, rfl⟩
abbrev main_call2_c_0 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_c_1 : Ref sig .tc := ⟨.hbm, 74, rfl⟩
abbrev main_call2_c_2 : Ref sig .tc := ⟨.hbm, 75, rfl⟩
abbrev main_call2_v6 : Ref sig .tc := ⟨.hbm, 76, rfl⟩
abbrev main_call2_v7 : Ref sig .tc := ⟨.hbm, 77, rfl⟩
abbrev main_call2_v8 : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_call2_c_3 : Ref sig .tc := ⟨.hbm, 82, rfl⟩
abbrev main_call2_v12 : Ref sig .tc := ⟨.hbm, 83, rfl⟩
abbrev main_call2_v13 : Ref sig .tc := ⟨.hbm, 84, rfl⟩
abbrev main_call2_v14 : Ref sig .tc := ⟨.hbm, 85, rfl⟩
abbrev main_call2_cst : Ref sig .tc := ⟨.hbm, 86, rfl⟩
abbrev main_call2_v15 : Ref sig .tc := ⟨.hbm, 87, rfl⟩
abbrev main_v8 : Ref sig .tc := ⟨.hbm, 88, rfl⟩
abbrev main_call3_c : Ref sig .tc := ⟨.hbm, 89, rfl⟩
abbrev main_call3_v0 : Ref sig .tc := ⟨.hbm, 90, rfl⟩
abbrev main_call3_v1 : Ref sig .tc := ⟨.hbm, 91, rfl⟩
abbrev main_call3_c_0 : Ref sig .tc := ⟨.hbm, 92, rfl⟩
abbrev main_call3_v2 : Ref sig .tc := ⟨.hbm, 93, rfl⟩
abbrev main_call3_v3 : Ref sig .tc := ⟨.hbm, 94, rfl⟩
abbrev main_call3_v4 : Ref sig .tc := ⟨.hbm, 95, rfl⟩
abbrev main_call3_v5 : Ref sig .tc := ⟨.hbm, 96, rfl⟩
abbrev main_call3_c_1 : Ref sig .tc := ⟨.hbm, 97, rfl⟩
abbrev main_call3_c_2 : Ref sig .tc := ⟨.hbm, 98, rfl⟩
abbrev main_call3_v6 : Ref sig .tc := ⟨.hbm, 99, rfl⟩
abbrev main_call3_v7 : Ref sig .tc := ⟨.hbm, 100, rfl⟩
abbrev main_call3_v8 : Ref sig .tc := ⟨.hbm, 101, rfl⟩
abbrev main_call3_v9 : Ref sig .tc := ⟨.hbm, 102, rfl⟩
abbrev main_call3_v10 : Ref sig .tc := ⟨.hbm, 103, rfl⟩
abbrev main_call3_v11 : Ref sig .tc := ⟨.hbm, 104, rfl⟩
abbrev main_call3_c_3 : Ref sig .tc := ⟨.hbm, 105, rfl⟩
abbrev main_call3_v12 : Ref sig .tc := ⟨.hbm, 106, rfl⟩
abbrev main_call3_v13 : Ref sig .tc := ⟨.hbm, 107, rfl⟩
abbrev main_call3_v14 : Ref sig .tc := ⟨.hbm, 108, rfl⟩
abbrev main_call3_cst : Ref sig .tc := ⟨.hbm, 109, rfl⟩
abbrev main_call3_v15 : Ref sig .tc := ⟨.hbm, 110, rfl⟩
abbrev main_v9 : Ref sig .tc := ⟨.hbm, 111, rfl⟩
abbrev main_call4_c : Ref sig .tc := ⟨.hbm, 112, rfl⟩
abbrev main_call4_v0 : Ref sig .tc := ⟨.hbm, 113, rfl⟩
abbrev main_call4_v1 : Ref sig .tc := ⟨.hbm, 114, rfl⟩
abbrev main_call4_c_0 : Ref sig .tc := ⟨.hbm, 115, rfl⟩
abbrev main_call4_v2 : Ref sig .tc := ⟨.hbm, 116, rfl⟩
abbrev main_call4_v3 : Ref sig .tc := ⟨.hbm, 117, rfl⟩
abbrev main_call4_v4 : Ref sig .tc := ⟨.hbm, 118, rfl⟩
abbrev main_call4_v5 : Ref sig .tc := ⟨.hbm, 119, rfl⟩
abbrev main_call4_c_1 : Ref sig .tc := ⟨.hbm, 120, rfl⟩
abbrev main_call4_c_2 : Ref sig .tc := ⟨.hbm, 121, rfl⟩
abbrev main_call4_v6 : Ref sig .tc := ⟨.hbm, 122, rfl⟩
abbrev main_call4_v7 : Ref sig .tc := ⟨.hbm, 123, rfl⟩
abbrev main_call4_v8 : Ref sig .tc := ⟨.hbm, 124, rfl⟩
abbrev main_call4_v9 : Ref sig .tc := ⟨.hbm, 125, rfl⟩
abbrev main_call4_v10 : Ref sig .tc := ⟨.hbm, 126, rfl⟩
abbrev main_call4_v11 : Ref sig .tc := ⟨.hbm, 127, rfl⟩
abbrev main_call4_c_3 : Ref sig .tc := ⟨.hbm, 128, rfl⟩
abbrev main_call4_v12 : Ref sig .tc := ⟨.hbm, 129, rfl⟩
abbrev main_call4_v13 : Ref sig .tc := ⟨.hbm, 130, rfl⟩
abbrev main_call4_v14 : Ref sig .tc := ⟨.hbm, 131, rfl⟩
abbrev main_call4_cst : Ref sig .tc := ⟨.hbm, 132, rfl⟩
abbrev main_call4_v15 : Ref sig .tc := ⟨.hbm, 133, rfl⟩
abbrev main_v10 : Ref sig .tc := ⟨.hbm, 134, rfl⟩
abbrev main_call5_c : Ref sig .tc := ⟨.hbm, 135, rfl⟩
abbrev main_call5_v0 : Ref sig .tc := ⟨.hbm, 136, rfl⟩
abbrev main_call5_v1 : Ref sig .tc := ⟨.hbm, 137, rfl⟩
abbrev main_call5_c_0 : Ref sig .tc := ⟨.hbm, 138, rfl⟩
abbrev main_call5_v2 : Ref sig .tc := ⟨.hbm, 139, rfl⟩
abbrev main_call5_v3 : Ref sig .tc := ⟨.hbm, 140, rfl⟩
abbrev main_call5_v4 : Ref sig .tc := ⟨.hbm, 141, rfl⟩
abbrev main_call5_v5 : Ref sig .tc := ⟨.hbm, 142, rfl⟩
abbrev main_call5_c_1 : Ref sig .tc := ⟨.hbm, 143, rfl⟩
abbrev main_call5_c_2 : Ref sig .tc := ⟨.hbm, 144, rfl⟩
abbrev main_call5_v6 : Ref sig .tc := ⟨.hbm, 145, rfl⟩
abbrev main_call5_v7 : Ref sig .tc := ⟨.hbm, 146, rfl⟩
abbrev main_call5_v8 : Ref sig .tc := ⟨.hbm, 147, rfl⟩
abbrev main_call5_v9 : Ref sig .tc := ⟨.hbm, 148, rfl⟩
abbrev main_call5_v10 : Ref sig .tc := ⟨.hbm, 149, rfl⟩
abbrev main_call5_v11 : Ref sig .tc := ⟨.hbm, 150, rfl⟩
abbrev main_call5_c_3 : Ref sig .tc := ⟨.hbm, 151, rfl⟩
abbrev main_call5_v12 : Ref sig .tc := ⟨.hbm, 152, rfl⟩
abbrev main_call5_v13 : Ref sig .tc := ⟨.hbm, 153, rfl⟩
abbrev main_call5_v14 : Ref sig .tc := ⟨.hbm, 154, rfl⟩
abbrev main_call5_cst : Ref sig .tc := ⟨.hbm, 155, rfl⟩
abbrev main_call5_v15 : Ref sig .tc := ⟨.hbm, 156, rfl⟩
abbrev main_v11 : Ref sig .tc := ⟨.hbm, 157, rfl⟩
abbrev main_v12 : Ref sig .tc := ⟨.hbm, 158, rfl⟩
abbrev main_v13 : Ref sig .tc := ⟨.hbm, 159, rfl⟩
abbrev main_v14 : Ref sig .tc := ⟨.hbm, 160, rfl⟩
abbrev main_v15 : Ref sig .tc := ⟨.hbm, 161, rfl⟩
abbrev main_v16 : Ref sig .tc := ⟨.hbm, 162, rfl⟩
abbrev main_call6_c : Ref sig .tc := ⟨.hbm, 163, rfl⟩
abbrev main_call6_v0 : Ref sig .tc := ⟨.hbm, 164, rfl⟩
abbrev main_call6_v1 : Ref sig .tc := ⟨.hbm, 165, rfl⟩
abbrev main_call6_c_0 : Ref sig .tc := ⟨.hbm, 166, rfl⟩
abbrev main_call6_v2 : Ref sig .tc := ⟨.hbm, 167, rfl⟩
abbrev main_call6_v3 : Ref sig .tc := ⟨.hbm, 168, rfl⟩
abbrev main_call6_v4 : Ref sig .tc := ⟨.hbm, 169, rfl⟩
abbrev main_call6_v5 : Ref sig .tc := ⟨.hbm, 170, rfl⟩
abbrev main_call6_c_1 : Ref sig .tc := ⟨.hbm, 171, rfl⟩
abbrev main_call6_c_2 : Ref sig .tc := ⟨.hbm, 172, rfl⟩
abbrev main_call6_v6 : Ref sig .tc := ⟨.hbm, 173, rfl⟩
abbrev main_call6_v7 : Ref sig .tc := ⟨.hbm, 174, rfl⟩
abbrev main_call6_v8 : Ref sig .tc := ⟨.hbm, 175, rfl⟩
abbrev main_call6_v9 : Ref sig .tc := ⟨.hbm, 176, rfl⟩
abbrev main_call6_v10 : Ref sig .tc := ⟨.hbm, 177, rfl⟩
abbrev main_call6_v11 : Ref sig .tc := ⟨.hbm, 178, rfl⟩
abbrev main_call6_c_3 : Ref sig .tc := ⟨.hbm, 179, rfl⟩
abbrev main_call6_v12 : Ref sig .tc := ⟨.hbm, 180, rfl⟩
abbrev main_call6_v13 : Ref sig .tc := ⟨.hbm, 181, rfl⟩
abbrev main_call6_v14 : Ref sig .tc := ⟨.hbm, 182, rfl⟩
abbrev main_call6_cst : Ref sig .tc := ⟨.hbm, 183, rfl⟩
abbrev main_call6_v15 : Ref sig .tc := ⟨.hbm, 184, rfl⟩
abbrev main_v17 : Ref sig .tc := ⟨.hbm, 185, rfl⟩
abbrev main_call7_c : Ref sig .tc := ⟨.hbm, 186, rfl⟩
abbrev main_call7_v0 : Ref sig .tc := ⟨.hbm, 187, rfl⟩
abbrev main_call7_v1 : Ref sig .tc := ⟨.hbm, 188, rfl⟩
abbrev main_call7_c_0 : Ref sig .tc := ⟨.hbm, 189, rfl⟩
abbrev main_call7_v2 : Ref sig .tc := ⟨.hbm, 190, rfl⟩
abbrev main_call7_v3 : Ref sig .tc := ⟨.hbm, 191, rfl⟩
abbrev main_call7_v4 : Ref sig .tc := ⟨.hbm, 192, rfl⟩
abbrev main_call7_v5 : Ref sig .tc := ⟨.hbm, 193, rfl⟩
abbrev main_call7_c_1 : Ref sig .tc := ⟨.hbm, 194, rfl⟩
abbrev main_call7_c_2 : Ref sig .tc := ⟨.hbm, 195, rfl⟩
abbrev main_call7_v6 : Ref sig .tc := ⟨.hbm, 196, rfl⟩
abbrev main_call7_v7 : Ref sig .tc := ⟨.hbm, 197, rfl⟩
abbrev main_call7_v8 : Ref sig .tc := ⟨.hbm, 198, rfl⟩
abbrev main_call7_v9 : Ref sig .tc := ⟨.hbm, 199, rfl⟩
abbrev main_call7_v10 : Ref sig .tc := ⟨.hbm, 200, rfl⟩
abbrev main_call7_v11 : Ref sig .tc := ⟨.hbm, 201, rfl⟩
abbrev main_call7_c_3 : Ref sig .tc := ⟨.hbm, 202, rfl⟩
abbrev main_call7_v12 : Ref sig .tc := ⟨.hbm, 203, rfl⟩
abbrev main_call7_v13 : Ref sig .tc := ⟨.hbm, 204, rfl⟩
abbrev main_call7_v14 : Ref sig .tc := ⟨.hbm, 205, rfl⟩
abbrev main_call7_cst : Ref sig .tc := ⟨.hbm, 206, rfl⟩
abbrev main_call7_v15 : Ref sig .tc := ⟨.hbm, 207, rfl⟩
abbrev main_v18 : Ref sig .tc := ⟨.hbm, 208, rfl⟩
abbrev main_v19 : Ref sig .tc := ⟨.hbm, 209, rfl⟩
abbrev main_v20 : Ref sig .tc := ⟨.hbm, 210, rfl⟩
abbrev main_v21 : Ref sig .tc := ⟨.hbm, 211, rfl⟩
abbrev main_v22 : Ref sig .tc := ⟨.hbm, 212, rfl⟩
abbrev main_v23 : Ref sig .tc := ⟨.hbm, 213, rfl⟩
abbrev main_v24 : Ref sig .tc := ⟨.hbm, 214, rfl⟩
abbrev main_v25 : Ref sig .tc := ⟨.hbm, 215, rfl⟩
abbrev main_v26 : Ref sig .tc := ⟨.hbm, 216, rfl⟩
abbrev main_v27 : Ref sig .tc := ⟨.hbm, 217, rfl⟩
abbrev main_v28 : Ref sig .tc := ⟨.hbm, 218, rfl⟩
abbrev main_v29 : Ref sig .tc := ⟨.hbm, 219, rfl⟩

abbrev nD : Nat := 1
abbrev τ : Topo := Topo.v7x

variable {F : FTy → Type} [FloatOps F]
-- ==== Kernel2.lean ====
abbrev S8x512x32x32 : Shape := ⟨4, ![8, 512, 32, 32]⟩
abbrev S8x256x16x16 : Shape := ⟨4, ![8, 256, 16, 16]⟩
abbrev S256 : Shape := ⟨1, ![256]⟩
abbrev S128 : Shape := ⟨1, ![128]⟩
abbrev S64x32 : Shape := ⟨2, ![64, 32]⟩
abbrev S64x16 : Shape := ⟨2, ![64, 16]⟩
abbrev S32x64 : Shape := ⟨2, ![32, 64]⟩
abbrev S16x64 : Shape := ⟨2, ![16, 64]⟩
abbrev S8x384x64x64 : Shape := ⟨4, ![8, 384, 64, 64]⟩
abbrev S1x512x32x32 : Shape := ⟨4, ![1, 512, 32, 32]⟩
abbrev S1x256x16x16 : Shape := ⟨4, ![1, 256, 16, 16]⟩
abbrev S1x384x64x64 : Shape := ⟨4, ![1, 384, 64, 64]⟩
abbrev S1 : Shape := ⟨1, ![1]⟩
abbrev S1x1x32x32 : Shape := ⟨4, ![1, 1, 32, 32]⟩
abbrev S32x32 : Shape := ⟨2, ![32, 32]⟩
abbrev S8192x32 : Shape := ⟨2, ![8192, 32]⟩
abbrev S8192x64 : Shape := ⟨2, ![8192, 64]⟩
abbrev S64x64 : Shape := ⟨2, ![64, 64]⟩
abbrev S1x1x64x64 : Shape := ⟨4, ![1, 1, 64, 64]⟩
abbrev S1x1x16x16 : Shape := ⟨4, ![1, 1, 16, 16]⟩
abbrev S16x16 : Shape := ⟨2, ![16, 16]⟩
abbrev S2048x16 : Shape := ⟨2, ![2048, 16]⟩
abbrev S2048x64 : Shape := ⟨2, ![2048, 64]⟩

abbrev nBuf : Space → Nat
  | .hbm => 9
  | .vmem => 10
  | .smem => 2
  | _ => 0

abbrev bufTy : (tb : Table) → Fin (tcTables nBuf tb) → BufTy
  | .hbm, ⟨0, _⟩ => ⟨S8x512x32x32, .f32⟩
  | .hbm, ⟨1, _⟩ => ⟨S8x256x16x16, .f32⟩
  | .hbm, ⟨2, _⟩ => ⟨S64x32, .f32⟩
  | .hbm, ⟨3, _⟩ => ⟨S64x32, .f32⟩
  | .hbm, ⟨4, _⟩ => ⟨S64x16, .f32⟩
  | .hbm, ⟨5, _⟩ => ⟨S64x16, .f32⟩
  | .hbm, ⟨6, _⟩ => ⟨S32x64, .f32⟩
  | .hbm, ⟨7, _⟩ => ⟨S16x64, .f32⟩
  | .hbm, ⟨8, _⟩ => ⟨S8x384x64x64, .f32⟩
  | .local _ .vmem, ⟨0, _⟩ => ⟨S64x32, .f32⟩
  | .local _ .vmem, ⟨1, _⟩ => ⟨S32x64, .f32⟩
  | .local _ .vmem, ⟨2, _⟩ => ⟨S64x16, .f32⟩
  | .local _ .vmem, ⟨3, _⟩ => ⟨S16x64, .f32⟩
  | .local _ .vmem, ⟨4, _⟩ => ⟨S1x512x32x32, .f32⟩
  | .local _ .vmem, ⟨5, _⟩ => ⟨S1x512x32x32, .f32⟩
  | .local _ .vmem, ⟨6, _⟩ => ⟨S1x256x16x16, .f32⟩
  | .local _ .vmem, ⟨7, _⟩ => ⟨S1x256x16x16, .f32⟩
  | .local _ .vmem, ⟨8, _⟩ => ⟨S1x384x64x64, .f32⟩
  | .local _ .vmem, ⟨9, _⟩ => ⟨S1x384x64x64, .f32⟩
  | .local _ .smem, ⟨0, _⟩ => ⟨S256, .i32⟩
  | .local _ .smem, ⟨1, _⟩ => ⟨S128, .i32⟩
  | _, _ => ⟨S8x512x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_cst_1 : Ref sig .tc := ⟨.hbm, 4, rfl⟩
abbrev main_cst_2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_arg2 : Ref sig .tc := ⟨.smem, 0, rfl⟩
abbrev main_arg3 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (v0 : BitVec 32) : Fin 4 → Nat :=
  let c0_0 : Index := 0#32
  let v1 : Index := Scalar.indexCast v0
  let c0_1 : Index := 0#32
  let c0_2 : Index := 0#32
  ![0, v1.toNat, 0, 0]

def k0_chk1 (v0 : BitVec 32) : Prop :=
  (∀ a, (k0_off1 v0) a + S1x1x32x32.size a ≤ S1x512x32x32.size a)
theorem k0_off1_inb : ∀ (v0 : BitVec 32) (k0_hw1 : k0_chk1 v0), ∀ a, (k0_off1 v0) a + S1x1x32x32.size a ≤ S1x512x32x32.size a := fun v0 k0_hw1 => k0_hw1

def k0_off2 (v4 : BitVec 32) : Fin 4 → Nat :=
  let c0_3 : Index := 0#32
  let v5 : Index := Scalar.indexCast v4
  let c0_4 : Index := 0#32
  let c0_5 : Index := 0#32
  ![0, v5.toNat, 0, 0]

def k0_chk2 (v4 : BitVec 32) : Prop :=
  (∀ a, (k0_off2 v4) a + S1x1x32x32.size a ≤ S1x512x32x32.size a)
theorem k0_off2_inb : ∀ (v4 : BitVec 32) (k0_hw2 : k0_chk2 v4), ∀ a, (k0_off2 v4) a + S1x1x32x32.size a ≤ S1x512x32x32.size a := fun v4 k0_hw2 => k0_hw2

def k0_off3 (v8 : BitVec 32) : Fin 4 → Nat :=
  let c0_6 : Index := 0#32
  let v9 : Index := Scalar.indexCast v8
  let c0_7 : Index := 0#32
  let c0_8 : Index := 0#32
  ![0, v9.toNat, 0, 0]

def k0_chk3 (v8 : BitVec 32) : Prop :=
  (∀ a, (k0_off3 v8) a + S1x1x32x32.size a ≤ S1x512x32x32.size a)
theorem k0_off3_inb : ∀ (v8 : BitVec 32) (k0_hw3 : k0_chk3 v8), ∀ a, (k0_off3 v8) a + S1x1x32x32.size a ≤ S1x512x32x32.size a := fun v8 k0_hw3 => k0_hw3

def k0_off4 (v12 : BitVec 32) : Fin 4 → Nat :=
  let c0_9 : Index := 0#32
  let v13 : Index := Scalar.indexCast v12
  let c0_10 : Index := 0#32
  let c0_11 : Index := 0#32
  ![0, v13.toNat, 0, 0]

def k0_chk4 (v12 : BitVec 32) : Prop :=
  (∀ a, (k0_off4 v12) a + S1x1x32x32.size a ≤ S1x512x32x32.size a)
theorem k0_off4_inb : ∀ (v12 : BitVec 32) (k0_hw4 : k0_chk4 v12), ∀ a, (k0_off4 v12) a + S1x1x32x32.size a ≤ S1x512x32x32.size a := fun v12 k0_hw4 => k0_hw4

def k0_off5 (v16 : BitVec 32) : Fin 4 → Nat :=
  let c0_12 : Index := 0#32
  let v17 : Index := Scalar.indexCast v16
  let c0_13 : Index := 0#32
  let c0_14 : Index := 0#32
  ![0, v17.toNat, 0, 0]

def k0_chk5 (v16 : BitVec 32) : Prop :=
  (∀ a, (k0_off5 v16) a + S1x1x32x32.size a ≤ S1x512x32x32.size a)
theorem k0_off5_inb : ∀ (v16 : BitVec 32) (k0_hw5 : k0_chk5 v16), ∀ a, (k0_off5 v16) a + S1x1x32x32.size a ≤ S1x512x32x32.size a := fun v16 k0_hw5 => k0_hw5

def k0_off6 (v20 : BitVec 32) : Fin 4 → Nat :=
  let c0_15 : Index := 0#32
  let v21 : Index := Scalar.indexCast v20
  let c0_16 : Index := 0#32
  let c0_17 : Index := 0#32
  ![0, v21.toNat, 0, 0]

def k0_chk6 (v20 : BitVec 32) : Prop :=
  (∀ a, (k0_off6 v20) a + S1x1x32x32.size a ≤ S1x512x32x32.size a)
theorem k0_off6_inb : ∀ (v20 : BitVec 32) (k0_hw6 : k0_chk6 v20), ∀ a, (k0_off6 v20) a + S1x1x32x32.size a ≤ S1x512x32x32.size a := fun v20 k0_hw6 => k0_hw6

def k0_off7 (v24 : BitVec 32) : Fin 4 → Nat :=
  let c0_18 : Index := 0#32
  let v25 : Index := Scalar.indexCast v24
  let c0_19 : Index := 0#32
  let c0_20 : Index := 0#32
  ![0, v25.toNat, 0, 0]

def k0_chk7 (v24 : BitVec 32) : Prop :=
  (∀ a, (k0_off7 v24) a + S1x1x32x32.size a ≤ S1x512x32x32.size a)
theorem k0_off7_inb : ∀ (v24 : BitVec 32) (k0_hw7 : k0_chk7 v24), ∀ a, (k0_off7 v24) a + S1x1x32x32.size a ≤ S1x512x32x32.size a := fun v24 k0_hw7 => k0_hw7

def k0_off8 (v28 : BitVec 32) : Fin 4 → Nat :=
  let c0_21 : Index := 0#32
  let v29 : Index := Scalar.indexCast v28
  let c0_22 : Index := 0#32
  let c0_23 : Index := 0#32
  ![0, v29.toNat, 0, 0]

def k0_chk8 (v28 : BitVec 32) : Prop :=
  (∀ a, (k0_off8 v28) a + S1x1x32x32.size a ≤ S1x512x32x32.size a)
theorem k0_off8_inb : ∀ (v28 : BitVec 32) (k0_hw8 : k0_chk8 v28), ∀ a, (k0_off8 v28) a + S1x1x32x32.size a ≤ S1x512x32x32.size a := fun v28 k0_hw8 => k0_hw8

def k0_off9 (v32 : BitVec 32) : Fin 4 → Nat :=
  let c0_24 : Index := 0#32
  let v33 : Index := Scalar.indexCast v32
  let c0_25 : Index := 0#32
  let c0_26 : Index := 0#32
  ![0, v33.toNat, 0, 0]

def k0_chk9 (v32 : BitVec 32) : Prop :=
  (∀ a, (k0_off9 v32) a + S1x1x32x32.size a ≤ S1x512x32x32.size a)
theorem k0_off9_inb : ∀ (v32 : BitVec 32) (k0_hw9 : k0_chk9 v32), ∀ a, (k0_off9 v32) a + S1x1x32x32.size a ≤ S1x512x32x32.size a := fun v32 k0_hw9 => k0_hw9

def k0_off10 (v36 : BitVec 32) : Fin 4 → Nat :=
  let c0_27 : Index := 0#32
  let v37 : Index := Scalar.indexCast v36
  let c0_28 : Index := 0#32
  let c0_29 : Index := 0#32
  ![0, v37.toNat, 0, 0]

def k0_chk10 (v36 : BitVec 32) : Prop :=
  (∀ a, (k0_off10 v36) a + S1x1x32x32.size a ≤ S1x512x32x32.size a)
theorem k0_off10_inb : ∀ (v36 : BitVec 32) (k0_hw10 : k0_chk10 v36), ∀ a, (k0_off10 v36) a + S1x1x32x32.size a ≤ S1x512x32x32.size a := fun v36 k0_hw10 => k0_hw10

def k0_off11 (v40 : BitVec 32) : Fin 4 → Nat :=
  let c0_30 : Index := 0#32
  let v41 : Index := Scalar.indexCast v40
  let c0_31 : Index := 0#32
  let c0_32 : Index := 0#32
  ![0, v41.toNat, 0, 0]

def k0_chk11 (v40 : BitVec 32) : Prop :=
  (∀ a, (k0_off11 v40) a + S1x1x32x32.size a ≤ S1x512x32x32.size a)
theorem k0_off11_inb : ∀ (v40 : BitVec 32) (k0_hw11 : k0_chk11 v40), ∀ a, (k0_off11 v40) a + S1x1x32x32.size a ≤ S1x512x32x32.size a := fun v40 k0_hw11 => k0_hw11

def k0_off12 (v44 : BitVec 32) : Fin 4 → Nat :=
  let c0_33 : Index := 0#32
  let v45 : Index := Scalar.indexCast v44
  let c0_34 : Index := 0#32
  let c0_35 : Index := 0#32
  ![0, v45.toNat, 0, 0]

def k0_chk12 (v44 : BitVec 32) : Prop :=
  (∀ a, (k0_off12 v44) a + S1x1x32x32.size a ≤ S1x512x32x32.size a)
theorem k0_off12_inb : ∀ (v44 : BitVec 32) (k0_hw12 : k0_chk12 v44), ∀ a, (k0_off12 v44) a + S1x1x32x32.size a ≤ S1x512x32x32.size a := fun v44 k0_hw12 => k0_hw12

def k0_off13 (v48 : BitVec 32) : Fin 4 → Nat :=
  let c0_36 : Index := 0#32
  let v49 : Index := Scalar.indexCast v48
  let c0_37 : Index := 0#32
  let c0_38 : Index := 0#32
  ![0, v49.toNat, 0, 0]

def k0_chk13 (v48 : BitVec 32) : Prop :=
  (∀ a, (k0_off13 v48) a + S1x1x32x32.size a ≤ S1x512x32x32.size a)
theorem k0_off13_inb : ∀ (v48 : BitVec 32) (k0_hw13 : k0_chk13 v48), ∀ a, (k0_off13 v48) a + S1x1x32x32.size a ≤ S1x512x32x32.size a := fun v48 k0_hw13 => k0_hw13

def k0_off14 (v52 : BitVec 32) : Fin 4 → Nat :=
  let c0_39 : Index := 0#32
  let v53 : Index := Scalar.indexCast v52
  let c0_40 : Index := 0#32
  let c0_41 : Index := 0#32
  ![0, v53.toNat, 0, 0]

def k0_chk14 (v52 : BitVec 32) : Prop :=
  (∀ a, (k0_off14 v52) a + S1x1x32x32.size a ≤ S1x512x32x32.size a)
theorem k0_off14_inb : ∀ (v52 : BitVec 32) (k0_hw14 : k0_chk14 v52), ∀ a, (k0_off14 v52) a + S1x1x32x32.size a ≤ S1x512x32x32.size a := fun v52 k0_hw14 => k0_hw14

def k0_off15 (v56 : BitVec 32) : Fin 4 → Nat :=
  let c0_42 : Index := 0#32
  let v57 : Index := Scalar.indexCast v56
  let c0_43 : Index := 0#32
  let c0_44 : Index := 0#32
  ![0, v57.toNat, 0, 0]

def k0_chk15 (v56 : BitVec 32) : Prop :=
  (∀ a, (k0_off15 v56) a + S1x1x32x32.size a ≤ S1x512x32x32.size a)
theorem k0_off15_inb : ∀ (v56 : BitVec 32) (k0_hw15 : k0_chk15 v56), ∀ a, (k0_off15 v56) a + S1x1x32x32.size a ≤ S1x512x32x32.size a := fun v56 k0_hw15 => k0_hw15

def k0_off16 (v60 : BitVec 32) : Fin 4 → Nat :=
  let c0_45 : Index := 0#32
  let v61 : Index := Scalar.indexCast v60
  let c0_46 : Index := 0#32
  let c0_47 : Index := 0#32
  ![0, v61.toNat, 0, 0]

def k0_chk16 (v60 : BitVec 32) : Prop :=
  (∀ a, (k0_off16 v60) a + S1x1x32x32.size a ≤ S1x512x32x32.size a)
theorem k0_off16_inb : ∀ (v60 : BitVec 32) (k0_hw16 : k0_chk16 v60), ∀ a, (k0_off16 v60) a + S1x1x32x32.size a ≤ S1x512x32x32.size a := fun v60 k0_hw16 => k0_hw16

def k0_off17 (v64 : BitVec 32) : Fin 4 → Nat :=
  let c0_48 : Index := 0#32
  let v65 : Index := Scalar.indexCast v64
  let c0_49 : Index := 0#32
  let c0_50 : Index := 0#32
  ![0, v65.toNat, 0, 0]

def k0_chk17 (v64 : BitVec 32) : Prop :=
  (∀ a, (k0_off17 v64) a + S1x1x32x32.size a ≤ S1x512x32x32.size a)
theorem k0_off17_inb : ∀ (v64 : BitVec 32) (k0_hw17 : k0_chk17 v64), ∀ a, (k0_off17 v64) a + S1x1x32x32.size a ≤ S1x512x32x32.size a := fun v64 k0_hw17 => k0_hw17

def k0_off18 (v68 : BitVec 32) : Fin 4 → Nat :=
  let c0_51 : Index := 0#32
  let v69 : Index := Scalar.indexCast v68
  let c0_52 : Index := 0#32
  let c0_53 : Index := 0#32
  ![0, v69.toNat, 0, 0]

def k0_chk18 (v68 : BitVec 32) : Prop :=
  (∀ a, (k0_off18 v68) a + S1x1x32x32.size a ≤ S1x512x32x32.size a)
theorem k0_off18_inb : ∀ (v68 : BitVec 32) (k0_hw18 : k0_chk18 v68), ∀ a, (k0_off18 v68) a + S1x1x32x32.size a ≤ S1x512x32x32.size a := fun v68 k0_hw18 => k0_hw18

def k0_off19 (v72 : BitVec 32) : Fin 4 → Nat :=
  let c0_54 : Index := 0#32
  let v73 : Index := Scalar.indexCast v72
  let c0_55 : Index := 0#32
  let c0_56 : Index := 0#32
  ![0, v73.toNat, 0, 0]

def k0_chk19 (v72 : BitVec 32) : Prop :=
  (∀ a, (k0_off19 v72) a + S1x1x32x32.size a ≤ S1x512x32x32.size a)
theorem k0_off19_inb : ∀ (v72 : BitVec 32) (k0_hw19 : k0_chk19 v72), ∀ a, (k0_off19 v72) a + S1x1x32x32.size a ≤ S1x512x32x32.size a := fun v72 k0_hw19 => k0_hw19

def k0_off20 (v76 : BitVec 32) : Fin 4 → Nat :=
  let c0_57 : Index := 0#32
  let v77 : Index := Scalar.indexCast v76
  let c0_58 : Index := 0#32
  let c0_59 : Index := 0#32
  ![0, v77.toNat, 0, 0]

def k0_chk20 (v76 : BitVec 32) : Prop :=
  (∀ a, (k0_off20 v76) a + S1x1x32x32.size a ≤ S1x512x32x32.size a)
theorem k0_off20_inb : ∀ (v76 : BitVec 32) (k0_hw20 : k0_chk20 v76), ∀ a, (k0_off20 v76) a + S1x1x32x32.size a ≤ S1x512x32x32.size a := fun v76 k0_hw20 => k0_hw20

def k0_off21 (v80 : BitVec 32) : Fin 4 → Nat :=
  let c0_60 : Index := 0#32
  let v81 : Index := Scalar.indexCast v80
  let c0_61 : Index := 0#32
  let c0_62 : Index := 0#32
  ![0, v81.toNat, 0, 0]

def k0_chk21 (v80 : BitVec 32) : Prop :=
  (∀ a, (k0_off21 v80) a + S1x1x32x32.size a ≤ S1x512x32x32.size a)
theorem k0_off21_inb : ∀ (v80 : BitVec 32) (k0_hw21 : k0_chk21 v80), ∀ a, (k0_off21 v80) a + S1x1x32x32.size a ≤ S1x512x32x32.size a := fun v80 k0_hw21 => k0_hw21

def k0_off22 (v84 : BitVec 32) : Fin 4 → Nat :=
  let c0_63 : Index := 0#32
  let v85 : Index := Scalar.indexCast v84
  let c0_64 : Index := 0#32
  let c0_65 : Index := 0#32
  ![0, v85.toNat, 0, 0]

def k0_chk22 (v84 : BitVec 32) : Prop :=
  (∀ a, (k0_off22 v84) a + S1x1x32x32.size a ≤ S1x512x32x32.size a)
theorem k0_off22_inb : ∀ (v84 : BitVec 32) (k0_hw22 : k0_chk22 v84), ∀ a, (k0_off22 v84) a + S1x1x32x32.size a ≤ S1x512x32x32.size a := fun v84 k0_hw22 => k0_hw22

def k0_off23 (v88 : BitVec 32) : Fin 4 → Nat :=
  let c0_66 : Index := 0#32
  let v89 : Index := Scalar.indexCast v88
  let c0_67 : Index := 0#32
  let c0_68 : Index := 0#32
  ![0, v89.toNat, 0, 0]

def k0_chk23 (v88 : BitVec 32) : Prop :=
  (∀ a, (k0_off23 v88) a + S1x1x32x32.size a ≤ S1x512x32x32.size a)
theorem k0_off23_inb : ∀ (v88 : BitVec 32) (k0_hw23 : k0_chk23 v88), ∀ a, (k0_off23 v88) a + S1x1x32x32.size a ≤ S1x512x32x32.size a := fun v88 k0_hw23 => k0_hw23

def k0_off24 (v92 : BitVec 32) : Fin 4 → Nat :=
  let c0_69 : Index := 0#32
  let v93 : Index := Scalar.indexCast v92
  let c0_70 : Index := 0#32
  let c0_71 : Index := 0#32
  ![0, v93.toNat, 0, 0]

def k0_chk24 (v92 : BitVec 32) : Prop :=
  (∀ a, (k0_off24 v92) a + S1x1x32x32.size a ≤ S1x512x32x32.size a)
theorem k0_off24_inb : ∀ (v92 : BitVec 32) (k0_hw24 : k0_chk24 v92), ∀ a, (k0_off24 v92) a + S1x1x32x32.size a ≤ S1x512x32x32.size a := fun v92 k0_hw24 => k0_hw24

def k0_off25 (v96 : BitVec 32) : Fin 4 → Nat :=
  let c0_72 : Index := 0#32
  let v97 : Index := Scalar.indexCast v96
  let c0_73 : Index := 0#32
  let c0_74 : Index := 0#32
  ![0, v97.toNat, 0, 0]

def k0_chk25 (v96 : BitVec 32) : Prop :=
  (∀ a, (k0_off25 v96) a + S1x1x32x32.size a ≤ S1x512x32x32.size a)
theorem k0_off25_inb : ∀ (v96 : BitVec 32) (k0_hw25 : k0_chk25 v96), ∀ a, (k0_off25 v96) a + S1x1x32x32.size a ≤ S1x512x32x32.size a := fun v96 k0_hw25 => k0_hw25

def k0_off26 (v100 : BitVec 32) : Fin 4 → Nat :=
  let c0_75 : Index := 0#32
  let v101 : Index := Scalar.indexCast v100
  let c0_76 : Index := 0#32
  let c0_77 : Index := 0#32
  ![0, v101.toNat, 0, 0]

def k0_chk26 (v100 : BitVec 32) : Prop :=
  (∀ a, (k0_off26 v100) a + S1x1x32x32.size a ≤ S1x512x32x32.size a)
theorem k0_off26_inb : ∀ (v100 : BitVec 32) (k0_hw26 : k0_chk26 v100), ∀ a, (k0_off26 v100) a + S1x1x32x32.size a ≤ S1x512x32x32.size a := fun v100 k0_hw26 => k0_hw26

def k0_off27 (v104 : BitVec 32) : Fin 4 → Nat :=
  let c0_78 : Index := 0#32
  let v105 : Index := Scalar.indexCast v104
  let c0_79 : Index := 0#32
  let c0_80 : Index := 0#32
  ![0, v105.toNat, 0, 0]

def k0_chk27 (v104 : BitVec 32) : Prop :=
  (∀ a, (k0_off27 v104) a + S1x1x32x32.size a ≤ S1x512x32x32.size a)
theorem k0_off27_inb : ∀ (v104 : BitVec 32) (k0_hw27 : k0_chk27 v104), ∀ a, (k0_off27 v104) a + S1x1x32x32.size a ≤ S1x512x32x32.size a := fun v104 k0_hw27 => k0_hw27

def k0_off28 (v108 : BitVec 32) : Fin 4 → Nat :=
  let c0_81 : Index := 0#32
  let v109 : Index := Scalar.indexCast v108
  let c0_82 : Index := 0#32
  let c0_83 : Index := 0#32
  ![0, v109.toNat, 0, 0]

def k0_chk28 (v108 : BitVec 32) : Prop :=
  (∀ a, (k0_off28 v108) a + S1x1x32x32.size a ≤ S1x512x32x32.size a)
theorem k0_off28_inb : ∀ (v108 : BitVec 32) (k0_hw28 : k0_chk28 v108), ∀ a, (k0_off28 v108) a + S1x1x32x32.size a ≤ S1x512x32x32.size a := fun v108 k0_hw28 => k0_hw28

def k0_off29 (v112 : BitVec 32) : Fin 4 → Nat :=
  let c0_84 : Index := 0#32
  let v113 : Index := Scalar.indexCast v112
  let c0_85 : Index := 0#32
  let c0_86 : Index := 0#32
  ![0, v113.toNat, 0, 0]

def k0_chk29 (v112 : BitVec 32) : Prop :=
  (∀ a, (k0_off29 v112) a + S1x1x32x32.size a ≤ S1x512x32x32.size a)
theorem k0_off29_inb : ∀ (v112 : BitVec 32) (k0_hw29 : k0_chk29 v112), ∀ a, (k0_off29 v112) a + S1x1x32x32.size a ≤ S1x512x32x32.size a := fun v112 k0_hw29 => k0_hw29

def k0_off30 (v116 : BitVec 32) : Fin 4 → Nat :=
  let c0_87 : Index := 0#32
  let v117 : Index := Scalar.indexCast v116
  let c0_88 : Index := 0#32
  let c0_89 : Index := 0#32
  ![0, v117.toNat, 0, 0]

def k0_chk30 (v116 : BitVec 32) : Prop :=
  (∀ a, (k0_off30 v116) a + S1x1x32x32.size a ≤ S1x512x32x32.size a)
theorem k0_off30_inb : ∀ (v116 : BitVec 32) (k0_hw30 : k0_chk30 v116), ∀ a, (k0_off30 v116) a + S1x1x32x32.size a ≤ S1x512x32x32.size a := fun v116 k0_hw30 => k0_hw30

def k0_off31 (v120 : BitVec 32) : Fin 4 → Nat :=
  let c0_90 : Index := 0#32
  let v121 : Index := Scalar.indexCast v120
  let c0_91 : Index := 0#32
  let c0_92 : Index := 0#32
  ![0, v121.toNat, 0, 0]

def k0_chk31 (v120 : BitVec 32) : Prop :=
  (∀ a, (k0_off31 v120) a + S1x1x32x32.size a ≤ S1x512x32x32.size a)
theorem k0_off31_inb : ∀ (v120 : BitVec 32) (k0_hw31 : k0_chk31 v120), ∀ a, (k0_off31 v120) a + S1x1x32x32.size a ≤ S1x512x32x32.size a := fun v120 k0_hw31 => k0_hw31

def k0_off32 (v124 : BitVec 32) : Fin 4 → Nat :=
  let c0_93 : Index := 0#32
  let v125 : Index := Scalar.indexCast v124
  let c0_94 : Index := 0#32
  let c0_95 : Index := 0#32
  ![0, v125.toNat, 0, 0]

def k0_chk32 (v124 : BitVec 32) : Prop :=
  (∀ a, (k0_off32 v124) a + S1x1x32x32.size a ≤ S1x512x32x32.size a)
theorem k0_off32_inb : ∀ (v124 : BitVec 32) (k0_hw32 : k0_chk32 v124), ∀ a, (k0_off32 v124) a + S1x1x32x32.size a ≤ S1x512x32x32.size a := fun v124 k0_hw32 => k0_hw32

def k0_off33 (v128 : BitVec 32) : Fin 4 → Nat :=
  let c0_96 : Index := 0#32
  let v129 : Index := Scalar.indexCast v128
  let c0_97 : Index := 0#32
  let c0_98 : Index := 0#32
  ![0, v129.toNat, 0, 0]

def k0_chk33 (v128 : BitVec 32) : Prop :=
  (∀ a, (k0_off33 v128) a + S1x1x32x32.size a ≤ S1x512x32x32.size a)
theorem k0_off33_inb : ∀ (v128 : BitVec 32) (k0_hw33 : k0_chk33 v128), ∀ a, (k0_off33 v128) a + S1x1x32x32.size a ≤ S1x512x32x32.size a := fun v128 k0_hw33 => k0_hw33

def k0_off34 (v132 : BitVec 32) : Fin 4 → Nat :=
  let c0_99 : Index := 0#32
  let v133 : Index := Scalar.indexCast v132
  let c0_100 : Index := 0#32
  let c0_101 : Index := 0#32
  ![0, v133.toNat, 0, 0]

def k0_chk34 (v132 : BitVec 32) : Prop :=
  (∀ a, (k0_off34 v132) a + S1x1x32x32.size a ≤ S1x512x32x32.size a)
theorem k0_off34_inb : ∀ (v132 : BitVec 32) (k0_hw34 : k0_chk34 v132), ∀ a, (k0_off34 v132) a + S1x1x32x32.size a ≤ S1x512x32x32.size a := fun v132 k0_hw34 => k0_hw34

def k0_off35 (v136 : BitVec 32) : Fin 4 → Nat :=
  let c0_102 : Index := 0#32
  let v137 : Index := Scalar.indexCast v136
  let c0_103 : Index := 0#32
  let c0_104 : Index := 0#32
  ![0, v137.toNat, 0, 0]

def k0_chk35 (v136 : BitVec 32) : Prop :=
  (∀ a, (k0_off35 v136) a + S1x1x32x32.size a ≤ S1x512x32x32.size a)
theorem k0_off35_inb : ∀ (v136 : BitVec 32) (k0_hw35 : k0_chk35 v136), ∀ a, (k0_off35 v136) a + S1x1x32x32.size a ≤ S1x512x32x32.size a := fun v136 k0_hw35 => k0_hw35

def k0_off36 (v140 : BitVec 32) : Fin 4 → Nat :=
  let c0_105 : Index := 0#32
  let v141 : Index := Scalar.indexCast v140
  let c0_106 : Index := 0#32
  let c0_107 : Index := 0#32
  ![0, v141.toNat, 0, 0]

def k0_chk36 (v140 : BitVec 32) : Prop :=
  (∀ a, (k0_off36 v140) a + S1x1x32x32.size a ≤ S1x512x32x32.size a)
theorem k0_off36_inb : ∀ (v140 : BitVec 32) (k0_hw36 : k0_chk36 v140), ∀ a, (k0_off36 v140) a + S1x1x32x32.size a ≤ S1x512x32x32.size a := fun v140 k0_hw36 => k0_hw36

def k0_off37 (v144 : BitVec 32) : Fin 4 → Nat :=
  let c0_108 : Index := 0#32
  let v145 : Index := Scalar.indexCast v144
  let c0_109 : Index := 0#32
  let c0_110 : Index := 0#32
  ![0, v145.toNat, 0, 0]

def k0_chk37 (v144 : BitVec 32) : Prop :=
  (∀ a, (k0_off37 v144) a + S1x1x32x32.size a ≤ S1x512x32x32.size a)
theorem k0_off37_inb : ∀ (v144 : BitVec 32) (k0_hw37 : k0_chk37 v144), ∀ a, (k0_off37 v144) a + S1x1x32x32.size a ≤ S1x512x32x32.size a := fun v144 k0_hw37 => k0_hw37

def k0_off38 (v148 : BitVec 32) : Fin 4 → Nat :=
  let c0_111 : Index := 0#32
  let v149 : Index := Scalar.indexCast v148
  let c0_112 : Index := 0#32
  let c0_113 : Index := 0#32
  ![0, v149.toNat, 0, 0]

def k0_chk38 (v148 : BitVec 32) : Prop :=
  (∀ a, (k0_off38 v148) a + S1x1x32x32.size a ≤ S1x512x32x32.size a)
theorem k0_off38_inb : ∀ (v148 : BitVec 32) (k0_hw38 : k0_chk38 v148), ∀ a, (k0_off38 v148) a + S1x1x32x32.size a ≤ S1x512x32x32.size a := fun v148 k0_hw38 => k0_hw38

def k0_off39 (v152 : BitVec 32) : Fin 4 → Nat :=
  let c0_114 : Index := 0#32
  let v153 : Index := Scalar.indexCast v152
  let c0_115 : Index := 0#32
  let c0_116 : Index := 0#32
  ![0, v153.toNat, 0, 0]

def k0_chk39 (v152 : BitVec 32) : Prop :=
  (∀ a, (k0_off39 v152) a + S1x1x32x32.size a ≤ S1x512x32x32.size a)
theorem k0_off39_inb : ∀ (v152 : BitVec 32) (k0_hw39 : k0_chk39 v152), ∀ a, (k0_off39 v152) a + S1x1x32x32.size a ≤ S1x512x32x32.size a := fun v152 k0_hw39 => k0_hw39

def k0_off40 (v156 : BitVec 32) : Fin 4 → Nat :=
  let c0_117 : Index := 0#32
  let v157 : Index := Scalar.indexCast v156
  let c0_118 : Index := 0#32
  let c0_119 : Index := 0#32
  ![0, v157.toNat, 0, 0]

def k0_chk40 (v156 : BitVec 32) : Prop :=
  (∀ a, (k0_off40 v156) a + S1x1x32x32.size a ≤ S1x512x32x32.size a)
theorem k0_off40_inb : ∀ (v156 : BitVec 32) (k0_hw40 : k0_chk40 v156), ∀ a, (k0_off40 v156) a + S1x1x32x32.size a ≤ S1x512x32x32.size a := fun v156 k0_hw40 => k0_hw40

def k0_off41 (v160 : BitVec 32) : Fin 4 → Nat :=
  let c0_120 : Index := 0#32
  let v161 : Index := Scalar.indexCast v160
  let c0_121 : Index := 0#32
  let c0_122 : Index := 0#32
  ![0, v161.toNat, 0, 0]

def k0_chk41 (v160 : BitVec 32) : Prop :=
  (∀ a, (k0_off41 v160) a + S1x1x32x32.size a ≤ S1x512x32x32.size a)
theorem k0_off41_inb : ∀ (v160 : BitVec 32) (k0_hw41 : k0_chk41 v160), ∀ a, (k0_off41 v160) a + S1x1x32x32.size a ≤ S1x512x32x32.size a := fun v160 k0_hw41 => k0_hw41

def k0_off42 (v164 : BitVec 32) : Fin 4 → Nat :=
  let c0_123 : Index := 0#32
  let v165 : Index := Scalar.indexCast v164
  let c0_124 : Index := 0#32
  let c0_125 : Index := 0#32
  ![0, v165.toNat, 0, 0]

def k0_chk42 (v164 : BitVec 32) : Prop :=
  (∀ a, (k0_off42 v164) a + S1x1x32x32.size a ≤ S1x512x32x32.size a)
theorem k0_off42_inb : ∀ (v164 : BitVec 32) (k0_hw42 : k0_chk42 v164), ∀ a, (k0_off42 v164) a + S1x1x32x32.size a ≤ S1x512x32x32.size a := fun v164 k0_hw42 => k0_hw42

def k0_off43 (v168 : BitVec 32) : Fin 4 → Nat :=
  let c0_126 : Index := 0#32
  let v169 : Index := Scalar.indexCast v168
  let c0_127 : Index := 0#32
  let c0_128 : Index := 0#32
  ![0, v169.toNat, 0, 0]

def k0_chk43 (v168 : BitVec 32) : Prop :=
  (∀ a, (k0_off43 v168) a + S1x1x32x32.size a ≤ S1x512x32x32.size a)
theorem k0_off43_inb : ∀ (v168 : BitVec 32) (k0_hw43 : k0_chk43 v168), ∀ a, (k0_off43 v168) a + S1x1x32x32.size a ≤ S1x512x32x32.size a := fun v168 k0_hw43 => k0_hw43

def k0_off44 (v172 : BitVec 32) : Fin 4 → Nat :=
  let c0_129 : Index := 0#32
  let v173 : Index := Scalar.indexCast v172
  let c0_130 : Index := 0#32
  let c0_131 : Index := 0#32
  ![0, v173.toNat, 0, 0]

def k0_chk44 (v172 : BitVec 32) : Prop :=
  (∀ a, (k0_off44 v172) a + S1x1x32x32.size a ≤ S1x512x32x32.size a)
theorem k0_off44_inb : ∀ (v172 : BitVec 32) (k0_hw44 : k0_chk44 v172), ∀ a, (k0_off44 v172) a + S1x1x32x32.size a ≤ S1x512x32x32.size a := fun v172 k0_hw44 => k0_hw44

def k0_off45 (v176 : BitVec 32) : Fin 4 → Nat :=
  let c0_132 : Index := 0#32
  let v177 : Index := Scalar.indexCast v176
  let c0_133 : Index := 0#32
  let c0_134 : Index := 0#32
  ![0, v177.toNat, 0, 0]

def k0_chk45 (v176 : BitVec 32) : Prop :=
  (∀ a, (k0_off45 v176) a + S1x1x32x32.size a ≤ S1x512x32x32.size a)
theorem k0_off45_inb : ∀ (v176 : BitVec 32) (k0_hw45 : k0_chk45 v176), ∀ a, (k0_off45 v176) a + S1x1x32x32.size a ≤ S1x512x32x32.size a := fun v176 k0_hw45 => k0_hw45

def k0_off46 (v180 : BitVec 32) : Fin 4 → Nat :=
  let c0_135 : Index := 0#32
  let v181 : Index := Scalar.indexCast v180
  let c0_136 : Index := 0#32
  let c0_137 : Index := 0#32
  ![0, v181.toNat, 0, 0]

def k0_chk46 (v180 : BitVec 32) : Prop :=
  (∀ a, (k0_off46 v180) a + S1x1x32x32.size a ≤ S1x512x32x32.size a)
theorem k0_off46_inb : ∀ (v180 : BitVec 32) (k0_hw46 : k0_chk46 v180), ∀ a, (k0_off46 v180) a + S1x1x32x32.size a ≤ S1x512x32x32.size a := fun v180 k0_hw46 => k0_hw46

def k0_off47 (v184 : BitVec 32) : Fin 4 → Nat :=
  let c0_138 : Index := 0#32
  let v185 : Index := Scalar.indexCast v184
  let c0_139 : Index := 0#32
  let c0_140 : Index := 0#32
  ![0, v185.toNat, 0, 0]

def k0_chk47 (v184 : BitVec 32) : Prop :=
  (∀ a, (k0_off47 v184) a + S1x1x32x32.size a ≤ S1x512x32x32.size a)
theorem k0_off47_inb : ∀ (v184 : BitVec 32) (k0_hw47 : k0_chk47 v184), ∀ a, (k0_off47 v184) a + S1x1x32x32.size a ≤ S1x512x32x32.size a := fun v184 k0_hw47 => k0_hw47

def k0_off48 (v188 : BitVec 32) : Fin 4 → Nat :=
  let c0_141 : Index := 0#32
  let v189 : Index := Scalar.indexCast v188
  let c0_142 : Index := 0#32
  let c0_143 : Index := 0#32
  ![0, v189.toNat, 0, 0]

def k0_chk48 (v188 : BitVec 32) : Prop :=
  (∀ a, (k0_off48 v188) a + S1x1x32x32.size a ≤ S1x512x32x32.size a)
theorem k0_off48_inb : ∀ (v188 : BitVec 32) (k0_hw48 : k0_chk48 v188), ∀ a, (k0_off48 v188) a + S1x1x32x32.size a ≤ S1x512x32x32.size a := fun v188 k0_hw48 => k0_hw48

def k0_off49 (v192 : BitVec 32) : Fin 4 → Nat :=
  let c0_144 : Index := 0#32
  let v193 : Index := Scalar.indexCast v192
  let c0_145 : Index := 0#32
  let c0_146 : Index := 0#32
  ![0, v193.toNat, 0, 0]

def k0_chk49 (v192 : BitVec 32) : Prop :=
  (∀ a, (k0_off49 v192) a + S1x1x32x32.size a ≤ S1x512x32x32.size a)
theorem k0_off49_inb : ∀ (v192 : BitVec 32) (k0_hw49 : k0_chk49 v192), ∀ a, (k0_off49 v192) a + S1x1x32x32.size a ≤ S1x512x32x32.size a := fun v192 k0_hw49 => k0_hw49

def k0_off50 (v196 : BitVec 32) : Fin 4 → Nat :=
  let c0_147 : Index := 0#32
  let v197 : Index := Scalar.indexCast v196
  let c0_148 : Index := 0#32
  let c0_149 : Index := 0#32
  ![0, v197.toNat, 0, 0]

def k0_chk50 (v196 : BitVec 32) : Prop :=
  (∀ a, (k0_off50 v196) a + S1x1x32x32.size a ≤ S1x512x32x32.size a)
theorem k0_off50_inb : ∀ (v196 : BitVec 32) (k0_hw50 : k0_chk50 v196), ∀ a, (k0_off50 v196) a + S1x1x32x32.size a ≤ S1x512x32x32.size a := fun v196 k0_hw50 => k0_hw50

def k0_off51 (v200 : BitVec 32) : Fin 4 → Nat :=
  let c0_150 : Index := 0#32
  let v201 : Index := Scalar.indexCast v200
  let c0_151 : Index := 0#32
  let c0_152 : Index := 0#32
  ![0, v201.toNat, 0, 0]

def k0_chk51 (v200 : BitVec 32) : Prop :=
  (∀ a, (k0_off51 v200) a + S1x1x32x32.size a ≤ S1x512x32x32.size a)
theorem k0_off51_inb : ∀ (v200 : BitVec 32) (k0_hw51 : k0_chk51 v200), ∀ a, (k0_off51 v200) a + S1x1x32x32.size a ≤ S1x512x32x32.size a := fun v200 k0_hw51 => k0_hw51

def k0_off52 (v204 : BitVec 32) : Fin 4 → Nat :=
  let c0_153 : Index := 0#32
  let v205 : Index := Scalar.indexCast v204
  let c0_154 : Index := 0#32
  let c0_155 : Index := 0#32
  ![0, v205.toNat, 0, 0]

def k0_chk52 (v204 : BitVec 32) : Prop :=
  (∀ a, (k0_off52 v204) a + S1x1x32x32.size a ≤ S1x512x32x32.size a)
theorem k0_off52_inb : ∀ (v204 : BitVec 32) (k0_hw52 : k0_chk52 v204), ∀ a, (k0_off52 v204) a + S1x1x32x32.size a ≤ S1x512x32x32.size a := fun v204 k0_hw52 => k0_hw52

def k0_off53 (v208 : BitVec 32) : Fin 4 → Nat :=
  let c0_156 : Index := 0#32
  let v209 : Index := Scalar.indexCast v208
  let c0_157 : Index := 0#32
  let c0_158 : Index := 0#32
  ![0, v209.toNat, 0, 0]

def k0_chk53 (v208 : BitVec 32) : Prop :=
  (∀ a, (k0_off53 v208) a + S1x1x32x32.size a ≤ S1x512x32x32.size a)
theorem k0_off53_inb : ∀ (v208 : BitVec 32) (k0_hw53 : k0_chk53 v208), ∀ a, (k0_off53 v208) a + S1x1x32x32.size a ≤ S1x512x32x32.size a := fun v208 k0_hw53 => k0_hw53

def k0_off54 (v212 : BitVec 32) : Fin 4 → Nat :=
  let c0_159 : Index := 0#32
  let v213 : Index := Scalar.indexCast v212
  let c0_160 : Index := 0#32
  let c0_161 : Index := 0#32
  ![0, v213.toNat, 0, 0]

def k0_chk54 (v212 : BitVec 32) : Prop :=
  (∀ a, (k0_off54 v212) a + S1x1x32x32.size a ≤ S1x512x32x32.size a)
theorem k0_off54_inb : ∀ (v212 : BitVec 32) (k0_hw54 : k0_chk54 v212), ∀ a, (k0_off54 v212) a + S1x1x32x32.size a ≤ S1x512x32x32.size a := fun v212 k0_hw54 => k0_hw54

def k0_off55 (v216 : BitVec 32) : Fin 4 → Nat :=
  let c0_162 : Index := 0#32
  let v217 : Index := Scalar.indexCast v216
  let c0_163 : Index := 0#32
  let c0_164 : Index := 0#32
  ![0, v217.toNat, 0, 0]

def k0_chk55 (v216 : BitVec 32) : Prop :=
  (∀ a, (k0_off55 v216) a + S1x1x32x32.size a ≤ S1x512x32x32.size a)
theorem k0_off55_inb : ∀ (v216 : BitVec 32) (k0_hw55 : k0_chk55 v216), ∀ a, (k0_off55 v216) a + S1x1x32x32.size a ≤ S1x512x32x32.size a := fun v216 k0_hw55 => k0_hw55

def k0_off56 (v220 : BitVec 32) : Fin 4 → Nat :=
  let c0_165 : Index := 0#32
  let v221 : Index := Scalar.indexCast v220
  let c0_166 : Index := 0#32
  let c0_167 : Index := 0#32
  ![0, v221.toNat, 0, 0]

def k0_chk56 (v220 : BitVec 32) : Prop :=
  (∀ a, (k0_off56 v220) a + S1x1x32x32.size a ≤ S1x512x32x32.size a)
theorem k0_off56_inb : ∀ (v220 : BitVec 32) (k0_hw56 : k0_chk56 v220), ∀ a, (k0_off56 v220) a + S1x1x32x32.size a ≤ S1x512x32x32.size a := fun v220 k0_hw56 => k0_hw56

def k0_off57 (v224 : BitVec 32) : Fin 4 → Nat :=
  let c0_168 : Index := 0#32
  let v225 : Index := Scalar.indexCast v224
  let c0_169 : Index := 0#32
  let c0_170 : Index := 0#32
  ![0, v225.toNat, 0, 0]

def k0_chk57 (v224 : BitVec 32) : Prop :=
  (∀ a, (k0_off57 v224) a + S1x1x32x32.size a ≤ S1x512x32x32.size a)
theorem k0_off57_inb : ∀ (v224 : BitVec 32) (k0_hw57 : k0_chk57 v224), ∀ a, (k0_off57 v224) a + S1x1x32x32.size a ≤ S1x512x32x32.size a := fun v224 k0_hw57 => k0_hw57

def k0_off58 (v228 : BitVec 32) : Fin 4 → Nat :=
  let c0_171 : Index := 0#32
  let v229 : Index := Scalar.indexCast v228
  let c0_172 : Index := 0#32
  let c0_173 : Index := 0#32
  ![0, v229.toNat, 0, 0]

def k0_chk58 (v228 : BitVec 32) : Prop :=
  (∀ a, (k0_off58 v228) a + S1x1x32x32.size a ≤ S1x512x32x32.size a)
theorem k0_off58_inb : ∀ (v228 : BitVec 32) (k0_hw58 : k0_chk58 v228), ∀ a, (k0_off58 v228) a + S1x1x32x32.size a ≤ S1x512x32x32.size a := fun v228 k0_hw58 => k0_hw58

def k0_off59 (v232 : BitVec 32) : Fin 4 → Nat :=
  let c0_174 : Index := 0#32
  let v233 : Index := Scalar.indexCast v232
  let c0_175 : Index := 0#32
  let c0_176 : Index := 0#32
  ![0, v233.toNat, 0, 0]

def k0_chk59 (v232 : BitVec 32) : Prop :=
  (∀ a, (k0_off59 v232) a + S1x1x32x32.size a ≤ S1x512x32x32.size a)
theorem k0_off59_inb : ∀ (v232 : BitVec 32) (k0_hw59 : k0_chk59 v232), ∀ a, (k0_off59 v232) a + S1x1x32x32.size a ≤ S1x512x32x32.size a := fun v232 k0_hw59 => k0_hw59

def k0_off60 (v236 : BitVec 32) : Fin 4 → Nat :=
  let c0_177 : Index := 0#32
  let v237 : Index := Scalar.indexCast v236
  let c0_178 : Index := 0#32
  let c0_179 : Index := 0#32
  ![0, v237.toNat, 0, 0]

def k0_chk60 (v236 : BitVec 32) : Prop :=
  (∀ a, (k0_off60 v236) a + S1x1x32x32.size a ≤ S1x512x32x32.size a)
theorem k0_off60_inb : ∀ (v236 : BitVec 32) (k0_hw60 : k0_chk60 v236), ∀ a, (k0_off60 v236) a + S1x1x32x32.size a ≤ S1x512x32x32.size a := fun v236 k0_hw60 => k0_hw60

def k0_off61 (v240 : BitVec 32) : Fin 4 → Nat :=
  let c0_180 : Index := 0#32
  let v241 : Index := Scalar.indexCast v240
  let c0_181 : Index := 0#32
  let c0_182 : Index := 0#32
  ![0, v241.toNat, 0, 0]

def k0_chk61 (v240 : BitVec 32) : Prop :=
  (∀ a, (k0_off61 v240) a + S1x1x32x32.size a ≤ S1x512x32x32.size a)
theorem k0_off61_inb : ∀ (v240 : BitVec 32) (k0_hw61 : k0_chk61 v240), ∀ a, (k0_off61 v240) a + S1x1x32x32.size a ≤ S1x512x32x32.size a := fun v240 k0_hw61 => k0_hw61

def k0_off62 (v244 : BitVec 32) : Fin 4 → Nat :=
  let c0_183 : Index := 0#32
  let v245 : Index := Scalar.indexCast v244
  let c0_184 : Index := 0#32
  let c0_185 : Index := 0#32
  ![0, v245.toNat, 0, 0]

def k0_chk62 (v244 : BitVec 32) : Prop :=
  (∀ a, (k0_off62 v244) a + S1x1x32x32.size a ≤ S1x512x32x32.size a)
theorem k0_off62_inb : ∀ (v244 : BitVec 32) (k0_hw62 : k0_chk62 v244), ∀ a, (k0_off62 v244) a + S1x1x32x32.size a ≤ S1x512x32x32.size a := fun v244 k0_hw62 => k0_hw62

def k0_off63 (v248 : BitVec 32) : Fin 4 → Nat :=
  let c0_186 : Index := 0#32
  let v249 : Index := Scalar.indexCast v248
  let c0_187 : Index := 0#32
  let c0_188 : Index := 0#32
  ![0, v249.toNat, 0, 0]

def k0_chk63 (v248 : BitVec 32) : Prop :=
  (∀ a, (k0_off63 v248) a + S1x1x32x32.size a ≤ S1x512x32x32.size a)
theorem k0_off63_inb : ∀ (v248 : BitVec 32) (k0_hw63 : k0_chk63 v248), ∀ a, (k0_off63 v248) a + S1x1x32x32.size a ≤ S1x512x32x32.size a := fun v248 k0_hw63 => k0_hw63

def k0_off64 (v252 : BitVec 32) : Fin 4 → Nat :=
  let c0_189 : Index := 0#32
  let v253 : Index := Scalar.indexCast v252
  let c0_190 : Index := 0#32
  let c0_191 : Index := 0#32
  ![0, v253.toNat, 0, 0]

def k0_chk64 (v252 : BitVec 32) : Prop :=
  (∀ a, (k0_off64 v252) a + S1x1x32x32.size a ≤ S1x512x32x32.size a)
theorem k0_off64_inb : ∀ (v252 : BitVec 32) (k0_hw64 : k0_chk64 v252), ∀ a, (k0_off64 v252) a + S1x1x32x32.size a ≤ S1x512x32x32.size a := fun v252 k0_hw64 => k0_hw64

def k0_off65 (v256 : BitVec 32) : Fin 4 → Nat :=
  let c0_192 : Index := 0#32
  let v257 : Index := Scalar.indexCast v256
  let c0_193 : Index := 0#32
  let c0_194 : Index := 0#32
  ![0, v257.toNat, 0, 0]

def k0_chk65 (v256 : BitVec 32) : Prop :=
  (∀ a, (k0_off65 v256) a + S1x1x32x32.size a ≤ S1x512x32x32.size a)
theorem k0_off65_inb : ∀ (v256 : BitVec 32) (k0_hw65 : k0_chk65 v256), ∀ a, (k0_off65 v256) a + S1x1x32x32.size a ≤ S1x512x32x32.size a := fun v256 k0_hw65 => k0_hw65

def k0_off66 (v260 : BitVec 32) : Fin 4 → Nat :=
  let c0_195 : Index := 0#32
  let v261 : Index := Scalar.indexCast v260
  let c0_196 : Index := 0#32
  let c0_197 : Index := 0#32
  ![0, v261.toNat, 0, 0]

def k0_chk66 (v260 : BitVec 32) : Prop :=
  (∀ a, (k0_off66 v260) a + S1x1x32x32.size a ≤ S1x512x32x32.size a)
theorem k0_off66_inb : ∀ (v260 : BitVec 32) (k0_hw66 : k0_chk66 v260), ∀ a, (k0_off66 v260) a + S1x1x32x32.size a ≤ S1x512x32x32.size a := fun v260 k0_hw66 => k0_hw66

def k0_off67 (v264 : BitVec 32) : Fin 4 → Nat :=
  let c0_198 : Index := 0#32
  let v265 : Index := Scalar.indexCast v264
  let c0_199 : Index := 0#32
  let c0_200 : Index := 0#32
  ![0, v265.toNat, 0, 0]

def k0_chk67 (v264 : BitVec 32) : Prop :=
  (∀ a, (k0_off67 v264) a + S1x1x32x32.size a ≤ S1x512x32x32.size a)
theorem k0_off67_inb : ∀ (v264 : BitVec 32) (k0_hw67 : k0_chk67 v264), ∀ a, (k0_off67 v264) a + S1x1x32x32.size a ≤ S1x512x32x32.size a := fun v264 k0_hw67 => k0_hw67

def k0_off68 (v268 : BitVec 32) : Fin 4 → Nat :=
  let c0_201 : Index := 0#32
  let v269 : Index := Scalar.indexCast v268
  let c0_202 : Index := 0#32
  let c0_203 : Index := 0#32
  ![0, v269.toNat, 0, 0]

def k0_chk68 (v268 : BitVec 32) : Prop :=
  (∀ a, (k0_off68 v268) a + S1x1x32x32.size a ≤ S1x512x32x32.size a)
theorem k0_off68_inb : ∀ (v268 : BitVec 32) (k0_hw68 : k0_chk68 v268), ∀ a, (k0_off68 v268) a + S1x1x32x32.size a ≤ S1x512x32x32.size a := fun v268 k0_hw68 => k0_hw68

def k0_off69 (v272 : BitVec 32) : Fin 4 → Nat :=
  let c0_204 : Index := 0#32
  let v273 : Index := Scalar.indexCast v272
  let c0_205 : Index := 0#32
  let c0_206 : Index := 0#32
  ![0, v273.toNat, 0, 0]

def k0_chk69 (v272 : BitVec 32) : Prop :=
  (∀ a, (k0_off69 v272) a + S1x1x32x32.size a ≤ S1x512x32x32.size a)
theorem k0_off69_inb : ∀ (v272 : BitVec 32) (k0_hw69 : k0_chk69 v272), ∀ a, (k0_off69 v272) a + S1x1x32x32.size a ≤ S1x512x32x32.size a := fun v272 k0_hw69 => k0_hw69

def k0_off70 (v276 : BitVec 32) : Fin 4 → Nat :=
  let c0_207 : Index := 0#32
  let v277 : Index := Scalar.indexCast v276
  let c0_208 : Index := 0#32
  let c0_209 : Index := 0#32
  ![0, v277.toNat, 0, 0]

def k0_chk70 (v276 : BitVec 32) : Prop :=
  (∀ a, (k0_off70 v276) a + S1x1x32x32.size a ≤ S1x512x32x32.size a)
theorem k0_off70_inb : ∀ (v276 : BitVec 32) (k0_hw70 : k0_chk70 v276), ∀ a, (k0_off70 v276) a + S1x1x32x32.size a ≤ S1x512x32x32.size a := fun v276 k0_hw70 => k0_hw70

def k0_off71 (v280 : BitVec 32) : Fin 4 → Nat :=
  let c0_210 : Index := 0#32
  let v281 : Index := Scalar.indexCast v280
  let c0_211 : Index := 0#32
  let c0_212 : Index := 0#32
  ![0, v281.toNat, 0, 0]

def k0_chk71 (v280 : BitVec 32) : Prop :=
  (∀ a, (k0_off71 v280) a + S1x1x32x32.size a ≤ S1x512x32x32.size a)
theorem k0_off71_inb : ∀ (v280 : BitVec 32) (k0_hw71 : k0_chk71 v280), ∀ a, (k0_off71 v280) a + S1x1x32x32.size a ≤ S1x512x32x32.size a := fun v280 k0_hw71 => k0_hw71

def k0_off72 (v284 : BitVec 32) : Fin 4 → Nat :=
  let c0_213 : Index := 0#32
  let v285 : Index := Scalar.indexCast v284
  let c0_214 : Index := 0#32
  let c0_215 : Index := 0#32
  ![0, v285.toNat, 0, 0]

def k0_chk72 (v284 : BitVec 32) : Prop :=
  (∀ a, (k0_off72 v284) a + S1x1x32x32.size a ≤ S1x512x32x32.size a)
theorem k0_off72_inb : ∀ (v284 : BitVec 32) (k0_hw72 : k0_chk72 v284), ∀ a, (k0_off72 v284) a + S1x1x32x32.size a ≤ S1x512x32x32.size a := fun v284 k0_hw72 => k0_hw72

def k0_off73 (v288 : BitVec 32) : Fin 4 → Nat :=
  let c0_216 : Index := 0#32
  let v289 : Index := Scalar.indexCast v288
  let c0_217 : Index := 0#32
  let c0_218 : Index := 0#32
  ![0, v289.toNat, 0, 0]

def k0_chk73 (v288 : BitVec 32) : Prop :=
  (∀ a, (k0_off73 v288) a + S1x1x32x32.size a ≤ S1x512x32x32.size a)
theorem k0_off73_inb : ∀ (v288 : BitVec 32) (k0_hw73 : k0_chk73 v288), ∀ a, (k0_off73 v288) a + S1x1x32x32.size a ≤ S1x512x32x32.size a := fun v288 k0_hw73 => k0_hw73

def k0_off74 (v292 : BitVec 32) : Fin 4 → Nat :=
  let c0_219 : Index := 0#32
  let v293 : Index := Scalar.indexCast v292
  let c0_220 : Index := 0#32
  let c0_221 : Index := 0#32
  ![0, v293.toNat, 0, 0]

def k0_chk74 (v292 : BitVec 32) : Prop :=
  (∀ a, (k0_off74 v292) a + S1x1x32x32.size a ≤ S1x512x32x32.size a)
theorem k0_off74_inb : ∀ (v292 : BitVec 32) (k0_hw74 : k0_chk74 v292), ∀ a, (k0_off74 v292) a + S1x1x32x32.size a ≤ S1x512x32x32.size a := fun v292 k0_hw74 => k0_hw74

def k0_off75 (v296 : BitVec 32) : Fin 4 → Nat :=
  let c0_222 : Index := 0#32
  let v297 : Index := Scalar.indexCast v296
  let c0_223 : Index := 0#32
  let c0_224 : Index := 0#32
  ![0, v297.toNat, 0, 0]

def k0_chk75 (v296 : BitVec 32) : Prop :=
  (∀ a, (k0_off75 v296) a + S1x1x32x32.size a ≤ S1x512x32x32.size a)
theorem k0_off75_inb : ∀ (v296 : BitVec 32) (k0_hw75 : k0_chk75 v296), ∀ a, (k0_off75 v296) a + S1x1x32x32.size a ≤ S1x512x32x32.size a := fun v296 k0_hw75 => k0_hw75

def k0_off76 (v300 : BitVec 32) : Fin 4 → Nat :=
  let c0_225 : Index := 0#32
  let v301 : Index := Scalar.indexCast v300
  let c0_226 : Index := 0#32
  let c0_227 : Index := 0#32
  ![0, v301.toNat, 0, 0]

def k0_chk76 (v300 : BitVec 32) : Prop :=
  (∀ a, (k0_off76 v300) a + S1x1x32x32.size a ≤ S1x512x32x32.size a)
theorem k0_off76_inb : ∀ (v300 : BitVec 32) (k0_hw76 : k0_chk76 v300), ∀ a, (k0_off76 v300) a + S1x1x32x32.size a ≤ S1x512x32x32.size a := fun v300 k0_hw76 => k0_hw76

def k0_off77 (v304 : BitVec 32) : Fin 4 → Nat :=
  let c0_228 : Index := 0#32
  let v305 : Index := Scalar.indexCast v304
  let c0_229 : Index := 0#32
  let c0_230 : Index := 0#32
  ![0, v305.toNat, 0, 0]

def k0_chk77 (v304 : BitVec 32) : Prop :=
  (∀ a, (k0_off77 v304) a + S1x1x32x32.size a ≤ S1x512x32x32.size a)
theorem k0_off77_inb : ∀ (v304 : BitVec 32) (k0_hw77 : k0_chk77 v304), ∀ a, (k0_off77 v304) a + S1x1x32x32.size a ≤ S1x512x32x32.size a := fun v304 k0_hw77 => k0_hw77

def k0_off78 (v308 : BitVec 32) : Fin 4 → Nat :=
  let c0_231 : Index := 0#32
  let v309 : Index := Scalar.indexCast v308
  let c0_232 : Index := 0#32
  let c0_233 : Index := 0#32
  ![0, v309.toNat, 0, 0]

def k0_chk78 (v308 : BitVec 32) : Prop :=
  (∀ a, (k0_off78 v308) a + S1x1x32x32.size a ≤ S1x512x32x32.size a)
theorem k0_off78_inb : ∀ (v308 : BitVec 32) (k0_hw78 : k0_chk78 v308), ∀ a, (k0_off78 v308) a + S1x1x32x32.size a ≤ S1x512x32x32.size a := fun v308 k0_hw78 => k0_hw78

def k0_off79 (v312 : BitVec 32) : Fin 4 → Nat :=
  let c0_234 : Index := 0#32
  let v313 : Index := Scalar.indexCast v312
  let c0_235 : Index := 0#32
  let c0_236 : Index := 0#32
  ![0, v313.toNat, 0, 0]

def k0_chk79 (v312 : BitVec 32) : Prop :=
  (∀ a, (k0_off79 v312) a + S1x1x32x32.size a ≤ S1x512x32x32.size a)
theorem k0_off79_inb : ∀ (v312 : BitVec 32) (k0_hw79 : k0_chk79 v312), ∀ a, (k0_off79 v312) a + S1x1x32x32.size a ≤ S1x512x32x32.size a := fun v312 k0_hw79 => k0_hw79

def k0_off80 (v316 : BitVec 32) : Fin 4 → Nat :=
  let c0_237 : Index := 0#32
  let v317 : Index := Scalar.indexCast v316
  let c0_238 : Index := 0#32
  let c0_239 : Index := 0#32
  ![0, v317.toNat, 0, 0]

def k0_chk80 (v316 : BitVec 32) : Prop :=
  (∀ a, (k0_off80 v316) a + S1x1x32x32.size a ≤ S1x512x32x32.size a)
theorem k0_off80_inb : ∀ (v316 : BitVec 32) (k0_hw80 : k0_chk80 v316), ∀ a, (k0_off80 v316) a + S1x1x32x32.size a ≤ S1x512x32x32.size a := fun v316 k0_hw80 => k0_hw80

def k0_off81 (v320 : BitVec 32) : Fin 4 → Nat :=
  let c0_240 : Index := 0#32
  let v321 : Index := Scalar.indexCast v320
  let c0_241 : Index := 0#32
  let c0_242 : Index := 0#32
  ![0, v321.toNat, 0, 0]

def k0_chk81 (v320 : BitVec 32) : Prop :=
  (∀ a, (k0_off81 v320) a + S1x1x32x32.size a ≤ S1x512x32x32.size a)
theorem k0_off81_inb : ∀ (v320 : BitVec 32) (k0_hw81 : k0_chk81 v320), ∀ a, (k0_off81 v320) a + S1x1x32x32.size a ≤ S1x512x32x32.size a := fun v320 k0_hw81 => k0_hw81

def k0_off82 (v324 : BitVec 32) : Fin 4 → Nat :=
  let c0_243 : Index := 0#32
  let v325 : Index := Scalar.indexCast v324
  let c0_244 : Index := 0#32
  let c0_245 : Index := 0#32
  ![0, v325.toNat, 0, 0]

def k0_chk82 (v324 : BitVec 32) : Prop :=
  (∀ a, (k0_off82 v324) a + S1x1x32x32.size a ≤ S1x512x32x32.size a)
theorem k0_off82_inb : ∀ (v324 : BitVec 32) (k0_hw82 : k0_chk82 v324), ∀ a, (k0_off82 v324) a + S1x1x32x32.size a ≤ S1x512x32x32.size a := fun v324 k0_hw82 => k0_hw82

def k0_off83 (v328 : BitVec 32) : Fin 4 → Nat :=
  let c0_246 : Index := 0#32
  let v329 : Index := Scalar.indexCast v328
  let c0_247 : Index := 0#32
  let c0_248 : Index := 0#32
  ![0, v329.toNat, 0, 0]

def k0_chk83 (v328 : BitVec 32) : Prop :=
  (∀ a, (k0_off83 v328) a + S1x1x32x32.size a ≤ S1x512x32x32.size a)
theorem k0_off83_inb : ∀ (v328 : BitVec 32) (k0_hw83 : k0_chk83 v328), ∀ a, (k0_off83 v328) a + S1x1x32x32.size a ≤ S1x512x32x32.size a := fun v328 k0_hw83 => k0_hw83

def k0_off84 (v332 : BitVec 32) : Fin 4 → Nat :=
  let c0_249 : Index := 0#32
  let v333 : Index := Scalar.indexCast v332
  let c0_250 : Index := 0#32
  let c0_251 : Index := 0#32
  ![0, v333.toNat, 0, 0]

def k0_chk84 (v332 : BitVec 32) : Prop :=
  (∀ a, (k0_off84 v332) a + S1x1x32x32.size a ≤ S1x512x32x32.size a)
theorem k0_off84_inb : ∀ (v332 : BitVec 32) (k0_hw84 : k0_chk84 v332), ∀ a, (k0_off84 v332) a + S1x1x32x32.size a ≤ S1x512x32x32.size a := fun v332 k0_hw84 => k0_hw84

def k0_off85 (v336 : BitVec 32) : Fin 4 → Nat :=
  let c0_252 : Index := 0#32
  let v337 : Index := Scalar.indexCast v336
  let c0_253 : Index := 0#32
  let c0_254 : Index := 0#32
  ![0, v337.toNat, 0, 0]

def k0_chk85 (v336 : BitVec 32) : Prop :=
  (∀ a, (k0_off85 v336) a + S1x1x32x32.size a ≤ S1x512x32x32.size a)
theorem k0_off85_inb : ∀ (v336 : BitVec 32) (k0_hw85 : k0_chk85 v336), ∀ a, (k0_off85 v336) a + S1x1x32x32.size a ≤ S1x512x32x32.size a := fun v336 k0_hw85 => k0_hw85

def k0_off86 (v340 : BitVec 32) : Fin 4 → Nat :=
  let c0_255 : Index := 0#32
  let v341 : Index := Scalar.indexCast v340
  let c0_256 : Index := 0#32
  let c0_257 : Index := 0#32
  ![0, v341.toNat, 0, 0]

def k0_chk86 (v340 : BitVec 32) : Prop :=
  (∀ a, (k0_off86 v340) a + S1x1x32x32.size a ≤ S1x512x32x32.size a)
theorem k0_off86_inb : ∀ (v340 : BitVec 32) (k0_hw86 : k0_chk86 v340), ∀ a, (k0_off86 v340) a + S1x1x32x32.size a ≤ S1x512x32x32.size a := fun v340 k0_hw86 => k0_hw86

def k0_off87 (v344 : BitVec 32) : Fin 4 → Nat :=
  let c0_258 : Index := 0#32
  let v345 : Index := Scalar.indexCast v344
  let c0_259 : Index := 0#32
  let c0_260 : Index := 0#32
  ![0, v345.toNat, 0, 0]

def k0_chk87 (v344 : BitVec 32) : Prop :=
  (∀ a, (k0_off87 v344) a + S1x1x32x32.size a ≤ S1x512x32x32.size a)
theorem k0_off87_inb : ∀ (v344 : BitVec 32) (k0_hw87 : k0_chk87 v344), ∀ a, (k0_off87 v344) a + S1x1x32x32.size a ≤ S1x512x32x32.size a := fun v344 k0_hw87 => k0_hw87

def k0_off88 (v348 : BitVec 32) : Fin 4 → Nat :=
  let c0_261 : Index := 0#32
  let v349 : Index := Scalar.indexCast v348
  let c0_262 : Index := 0#32
  let c0_263 : Index := 0#32
  ![0, v349.toNat, 0, 0]

def k0_chk88 (v348 : BitVec 32) : Prop :=
  (∀ a, (k0_off88 v348) a + S1x1x32x32.size a ≤ S1x512x32x32.size a)
theorem k0_off88_inb : ∀ (v348 : BitVec 32) (k0_hw88 : k0_chk88 v348), ∀ a, (k0_off88 v348) a + S1x1x32x32.size a ≤ S1x512x32x32.size a := fun v348 k0_hw88 => k0_hw88

def k0_off89 (v352 : BitVec 32) : Fin 4 → Nat :=
  let c0_264 : Index := 0#32
  let v353 : Index := Scalar.indexCast v352
  let c0_265 : Index := 0#32
  let c0_266 : Index := 0#32
  ![0, v353.toNat, 0, 0]

def k0_chk89 (v352 : BitVec 32) : Prop :=
  (∀ a, (k0_off89 v352) a + S1x1x32x32.size a ≤ S1x512x32x32.size a)
theorem k0_off89_inb : ∀ (v352 : BitVec 32) (k0_hw89 : k0_chk89 v352), ∀ a, (k0_off89 v352) a + S1x1x32x32.size a ≤ S1x512x32x32.size a := fun v352 k0_hw89 => k0_hw89

def k0_off90 (v356 : BitVec 32) : Fin 4 → Nat :=
  let c0_267 : Index := 0#32
  let v357 : Index := Scalar.indexCast v356
  let c0_268 : Index := 0#32
  let c0_269 : Index := 0#32
  ![0, v357.toNat, 0, 0]

def k0_chk90 (v356 : BitVec 32) : Prop :=
  (∀ a, (k0_off90 v356) a + S1x1x32x32.size a ≤ S1x512x32x32.size a)
theorem k0_off90_inb : ∀ (v356 : BitVec 32) (k0_hw90 : k0_chk90 v356), ∀ a, (k0_off90 v356) a + S1x1x32x32.size a ≤ S1x512x32x32.size a := fun v356 k0_hw90 => k0_hw90

def k0_off91 (v360 : BitVec 32) : Fin 4 → Nat :=
  let c0_270 : Index := 0#32
  let v361 : Index := Scalar.indexCast v360
  let c0_271 : Index := 0#32
  let c0_272 : Index := 0#32
  ![0, v361.toNat, 0, 0]

def k0_chk91 (v360 : BitVec 32) : Prop :=
  (∀ a, (k0_off91 v360) a + S1x1x32x32.size a ≤ S1x512x32x32.size a)
theorem k0_off91_inb : ∀ (v360 : BitVec 32) (k0_hw91 : k0_chk91 v360), ∀ a, (k0_off91 v360) a + S1x1x32x32.size a ≤ S1x512x32x32.size a := fun v360 k0_hw91 => k0_hw91

def k0_off92 (v364 : BitVec 32) : Fin 4 → Nat :=
  let c0_273 : Index := 0#32
  let v365 : Index := Scalar.indexCast v364
  let c0_274 : Index := 0#32
  let c0_275 : Index := 0#32
  ![0, v365.toNat, 0, 0]

def k0_chk92 (v364 : BitVec 32) : Prop :=
  (∀ a, (k0_off92 v364) a + S1x1x32x32.size a ≤ S1x512x32x32.size a)
theorem k0_off92_inb : ∀ (v364 : BitVec 32) (k0_hw92 : k0_chk92 v364), ∀ a, (k0_off92 v364) a + S1x1x32x32.size a ≤ S1x512x32x32.size a := fun v364 k0_hw92 => k0_hw92

def k0_off93 (v368 : BitVec 32) : Fin 4 → Nat :=
  let c0_276 : Index := 0#32
  let v369 : Index := Scalar.indexCast v368
  let c0_277 : Index := 0#32
  let c0_278 : Index := 0#32
  ![0, v369.toNat, 0, 0]

def k0_chk93 (v368 : BitVec 32) : Prop :=
  (∀ a, (k0_off93 v368) a + S1x1x32x32.size a ≤ S1x512x32x32.size a)
theorem k0_off93_inb : ∀ (v368 : BitVec 32) (k0_hw93 : k0_chk93 v368), ∀ a, (k0_off93 v368) a + S1x1x32x32.size a ≤ S1x512x32x32.size a := fun v368 k0_hw93 => k0_hw93

def k0_off94 (v372 : BitVec 32) : Fin 4 → Nat :=
  let c0_279 : Index := 0#32
  let v373 : Index := Scalar.indexCast v372
  let c0_280 : Index := 0#32
  let c0_281 : Index := 0#32
  ![0, v373.toNat, 0, 0]

def k0_chk94 (v372 : BitVec 32) : Prop :=
  (∀ a, (k0_off94 v372) a + S1x1x32x32.size a ≤ S1x512x32x32.size a)
theorem k0_off94_inb : ∀ (v372 : BitVec 32) (k0_hw94 : k0_chk94 v372), ∀ a, (k0_off94 v372) a + S1x1x32x32.size a ≤ S1x512x32x32.size a := fun v372 k0_hw94 => k0_hw94

def k0_off95 (v376 : BitVec 32) : Fin 4 → Nat :=
  let c0_282 : Index := 0#32
  let v377 : Index := Scalar.indexCast v376
  let c0_283 : Index := 0#32
  let c0_284 : Index := 0#32
  ![0, v377.toNat, 0, 0]

def k0_chk95 (v376 : BitVec 32) : Prop :=
  (∀ a, (k0_off95 v376) a + S1x1x32x32.size a ≤ S1x512x32x32.size a)
theorem k0_off95_inb : ∀ (v376 : BitVec 32) (k0_hw95 : k0_chk95 v376), ∀ a, (k0_off95 v376) a + S1x1x32x32.size a ≤ S1x512x32x32.size a := fun v376 k0_hw95 => k0_hw95

def k0_off96 (v380 : BitVec 32) : Fin 4 → Nat :=
  let c0_285 : Index := 0#32
  let v381 : Index := Scalar.indexCast v380
  let c0_286 : Index := 0#32
  let c0_287 : Index := 0#32
  ![0, v381.toNat, 0, 0]

def k0_chk96 (v380 : BitVec 32) : Prop :=
  (∀ a, (k0_off96 v380) a + S1x1x32x32.size a ≤ S1x512x32x32.size a)
theorem k0_off96_inb : ∀ (v380 : BitVec 32) (k0_hw96 : k0_chk96 v380), ∀ a, (k0_off96 v380) a + S1x1x32x32.size a ≤ S1x512x32x32.size a := fun v380 k0_hw96 => k0_hw96

def k0_off97 (v384 : BitVec 32) : Fin 4 → Nat :=
  let c0_288 : Index := 0#32
  let v385 : Index := Scalar.indexCast v384
  let c0_289 : Index := 0#32
  let c0_290 : Index := 0#32
  ![0, v385.toNat, 0, 0]

def k0_chk97 (v384 : BitVec 32) : Prop :=
  (∀ a, (k0_off97 v384) a + S1x1x32x32.size a ≤ S1x512x32x32.size a)
theorem k0_off97_inb : ∀ (v384 : BitVec 32) (k0_hw97 : k0_chk97 v384), ∀ a, (k0_off97 v384) a + S1x1x32x32.size a ≤ S1x512x32x32.size a := fun v384 k0_hw97 => k0_hw97

def k0_off98 (v388 : BitVec 32) : Fin 4 → Nat :=
  let c0_291 : Index := 0#32
  let v389 : Index := Scalar.indexCast v388
  let c0_292 : Index := 0#32
  let c0_293 : Index := 0#32
  ![0, v389.toNat, 0, 0]

def k0_chk98 (v388 : BitVec 32) : Prop :=
  (∀ a, (k0_off98 v388) a + S1x1x32x32.size a ≤ S1x512x32x32.size a)
theorem k0_off98_inb : ∀ (v388 : BitVec 32) (k0_hw98 : k0_chk98 v388), ∀ a, (k0_off98 v388) a + S1x1x32x32.size a ≤ S1x512x32x32.size a := fun v388 k0_hw98 => k0_hw98

def k0_off99 (v392 : BitVec 32) : Fin 4 → Nat :=
  let c0_294 : Index := 0#32
  let v393 : Index := Scalar.indexCast v392
  let c0_295 : Index := 0#32
  let c0_296 : Index := 0#32
  ![0, v393.toNat, 0, 0]

def k0_chk99 (v392 : BitVec 32) : Prop :=
  (∀ a, (k0_off99 v392) a + S1x1x32x32.size a ≤ S1x512x32x32.size a)
theorem k0_off99_inb : ∀ (v392 : BitVec 32) (k0_hw99 : k0_chk99 v392), ∀ a, (k0_off99 v392) a + S1x1x32x32.size a ≤ S1x512x32x32.size a := fun v392 k0_hw99 => k0_hw99

def k0_off100 (v396 : BitVec 32) : Fin 4 → Nat :=
  let c0_297 : Index := 0#32
  let v397 : Index := Scalar.indexCast v396
  let c0_298 : Index := 0#32
  let c0_299 : Index := 0#32
  ![0, v397.toNat, 0, 0]

def k0_chk100 (v396 : BitVec 32) : Prop :=
  (∀ a, (k0_off100 v396) a + S1x1x32x32.size a ≤ S1x512x32x32.size a)
theorem k0_off100_inb : ∀ (v396 : BitVec 32) (k0_hw100 : k0_chk100 v396), ∀ a, (k0_off100 v396) a + S1x1x32x32.size a ≤ S1x512x32x32.size a := fun v396 k0_hw100 => k0_hw100

def k0_off101 (v400 : BitVec 32) : Fin 4 → Nat :=
  let c0_300 : Index := 0#32
  let v401 : Index := Scalar.indexCast v400
  let c0_301 : Index := 0#32
  let c0_302 : Index := 0#32
  ![0, v401.toNat, 0, 0]

def k0_chk101 (v400 : BitVec 32) : Prop :=
  (∀ a, (k0_off101 v400) a + S1x1x32x32.size a ≤ S1x512x32x32.size a)
theorem k0_off101_inb : ∀ (v400 : BitVec 32) (k0_hw101 : k0_chk101 v400), ∀ a, (k0_off101 v400) a + S1x1x32x32.size a ≤ S1x512x32x32.size a := fun v400 k0_hw101 => k0_hw101

def k0_off102 (v404 : BitVec 32) : Fin 4 → Nat :=
  let c0_303 : Index := 0#32
  let v405 : Index := Scalar.indexCast v404
  let c0_304 : Index := 0#32
  let c0_305 : Index := 0#32
  ![0, v405.toNat, 0, 0]

def k0_chk102 (v404 : BitVec 32) : Prop :=
  (∀ a, (k0_off102 v404) a + S1x1x32x32.size a ≤ S1x512x32x32.size a)
theorem k0_off102_inb : ∀ (v404 : BitVec 32) (k0_hw102 : k0_chk102 v404), ∀ a, (k0_off102 v404) a + S1x1x32x32.size a ≤ S1x512x32x32.size a := fun v404 k0_hw102 => k0_hw102

def k0_off103 (v408 : BitVec 32) : Fin 4 → Nat :=
  let c0_306 : Index := 0#32
  let v409 : Index := Scalar.indexCast v408
  let c0_307 : Index := 0#32
  let c0_308 : Index := 0#32
  ![0, v409.toNat, 0, 0]

def k0_chk103 (v408 : BitVec 32) : Prop :=
  (∀ a, (k0_off103 v408) a + S1x1x32x32.size a ≤ S1x512x32x32.size a)
theorem k0_off103_inb : ∀ (v408 : BitVec 32) (k0_hw103 : k0_chk103 v408), ∀ a, (k0_off103 v408) a + S1x1x32x32.size a ≤ S1x512x32x32.size a := fun v408 k0_hw103 => k0_hw103

def k0_off104 (v412 : BitVec 32) : Fin 4 → Nat :=
  let c0_309 : Index := 0#32
  let v413 : Index := Scalar.indexCast v412
  let c0_310 : Index := 0#32
  let c0_311 : Index := 0#32
  ![0, v413.toNat, 0, 0]

def k0_chk104 (v412 : BitVec 32) : Prop :=
  (∀ a, (k0_off104 v412) a + S1x1x32x32.size a ≤ S1x512x32x32.size a)
theorem k0_off104_inb : ∀ (v412 : BitVec 32) (k0_hw104 : k0_chk104 v412), ∀ a, (k0_off104 v412) a + S1x1x32x32.size a ≤ S1x512x32x32.size a := fun v412 k0_hw104 => k0_hw104

def k0_off105 (v416 : BitVec 32) : Fin 4 → Nat :=
  let c0_312 : Index := 0#32
  let v417 : Index := Scalar.indexCast v416
  let c0_313 : Index := 0#32
  let c0_314 : Index := 0#32
  ![0, v417.toNat, 0, 0]

def k0_chk105 (v416 : BitVec 32) : Prop :=
  (∀ a, (k0_off105 v416) a + S1x1x32x32.size a ≤ S1x512x32x32.size a)
theorem k0_off105_inb : ∀ (v416 : BitVec 32) (k0_hw105 : k0_chk105 v416), ∀ a, (k0_off105 v416) a + S1x1x32x32.size a ≤ S1x512x32x32.size a := fun v416 k0_hw105 => k0_hw105

def k0_off106 (v420 : BitVec 32) : Fin 4 → Nat :=
  let c0_315 : Index := 0#32
  let v421 : Index := Scalar.indexCast v420
  let c0_316 : Index := 0#32
  let c0_317 : Index := 0#32
  ![0, v421.toNat, 0, 0]

def k0_chk106 (v420 : BitVec 32) : Prop :=
  (∀ a, (k0_off106 v420) a + S1x1x32x32.size a ≤ S1x512x32x32.size a)
theorem k0_off106_inb : ∀ (v420 : BitVec 32) (k0_hw106 : k0_chk106 v420), ∀ a, (k0_off106 v420) a + S1x1x32x32.size a ≤ S1x512x32x32.size a := fun v420 k0_hw106 => k0_hw106

def k0_off107 (v424 : BitVec 32) : Fin 4 → Nat :=
  let c0_318 : Index := 0#32
  let v425 : Index := Scalar.indexCast v424
  let c0_319 : Index := 0#32
  let c0_320 : Index := 0#32
  ![0, v425.toNat, 0, 0]

def k0_chk107 (v424 : BitVec 32) : Prop :=
  (∀ a, (k0_off107 v424) a + S1x1x32x32.size a ≤ S1x512x32x32.size a)
theorem k0_off107_inb : ∀ (v424 : BitVec 32) (k0_hw107 : k0_chk107 v424), ∀ a, (k0_off107 v424) a + S1x1x32x32.size a ≤ S1x512x32x32.size a := fun v424 k0_hw107 => k0_hw107

def k0_off108 (v428 : BitVec 32) : Fin 4 → Nat :=
  let c0_321 : Index := 0#32
  let v429 : Index := Scalar.indexCast v428
  let c0_322 : Index := 0#32
  let c0_323 : Index := 0#32
  ![0, v429.toNat, 0, 0]

def k0_chk108 (v428 : BitVec 32) : Prop :=
  (∀ a, (k0_off108 v428) a + S1x1x32x32.size a ≤ S1x512x32x32.size a)
theorem k0_off108_inb : ∀ (v428 : BitVec 32) (k0_hw108 : k0_chk108 v428), ∀ a, (k0_off108 v428) a + S1x1x32x32.size a ≤ S1x512x32x32.size a := fun v428 k0_hw108 => k0_hw108

def k0_off109 (v432 : BitVec 32) : Fin 4 → Nat :=
  let c0_324 : Index := 0#32
  let v433 : Index := Scalar.indexCast v432
  let c0_325 : Index := 0#32
  let c0_326 : Index := 0#32
  ![0, v433.toNat, 0, 0]

def k0_chk109 (v432 : BitVec 32) : Prop :=
  (∀ a, (k0_off109 v432) a + S1x1x32x32.size a ≤ S1x512x32x32.size a)
theorem k0_off109_inb : ∀ (v432 : BitVec 32) (k0_hw109 : k0_chk109 v432), ∀ a, (k0_off109 v432) a + S1x1x32x32.size a ≤ S1x512x32x32.size a := fun v432 k0_hw109 => k0_hw109

def k0_off110 (v436 : BitVec 32) : Fin 4 → Nat :=
  let c0_327 : Index := 0#32
  let v437 : Index := Scalar.indexCast v436
  let c0_328 : Index := 0#32
  let c0_329 : Index := 0#32
  ![0, v437.toNat, 0, 0]

def k0_chk110 (v436 : BitVec 32) : Prop :=
  (∀ a, (k0_off110 v436) a + S1x1x32x32.size a ≤ S1x512x32x32.size a)
theorem k0_off110_inb : ∀ (v436 : BitVec 32) (k0_hw110 : k0_chk110 v436), ∀ a, (k0_off110 v436) a + S1x1x32x32.size a ≤ S1x512x32x32.size a := fun v436 k0_hw110 => k0_hw110

def k0_off111 (v440 : BitVec 32) : Fin 4 → Nat :=
  let c0_330 : Index := 0#32
  let v441 : Index := Scalar.indexCast v440
  let c0_331 : Index := 0#32
  let c0_332 : Index := 0#32
  ![0, v441.toNat, 0, 0]

def k0_chk111 (v440 : BitVec 32) : Prop :=
  (∀ a, (k0_off111 v440) a + S1x1x32x32.size a ≤ S1x512x32x32.size a)
theorem k0_off111_inb : ∀ (v440 : BitVec 32) (k0_hw111 : k0_chk111 v440), ∀ a, (k0_off111 v440) a + S1x1x32x32.size a ≤ S1x512x32x32.size a := fun v440 k0_hw111 => k0_hw111

def k0_off112 (v444 : BitVec 32) : Fin 4 → Nat :=
  let c0_333 : Index := 0#32
  let v445 : Index := Scalar.indexCast v444
  let c0_334 : Index := 0#32
  let c0_335 : Index := 0#32
  ![0, v445.toNat, 0, 0]

def k0_chk112 (v444 : BitVec 32) : Prop :=
  (∀ a, (k0_off112 v444) a + S1x1x32x32.size a ≤ S1x512x32x32.size a)
theorem k0_off112_inb : ∀ (v444 : BitVec 32) (k0_hw112 : k0_chk112 v444), ∀ a, (k0_off112 v444) a + S1x1x32x32.size a ≤ S1x512x32x32.size a := fun v444 k0_hw112 => k0_hw112

def k0_off113 (v448 : BitVec 32) : Fin 4 → Nat :=
  let c0_336 : Index := 0#32
  let v449 : Index := Scalar.indexCast v448
  let c0_337 : Index := 0#32
  let c0_338 : Index := 0#32
  ![0, v449.toNat, 0, 0]

def k0_chk113 (v448 : BitVec 32) : Prop :=
  (∀ a, (k0_off113 v448) a + S1x1x32x32.size a ≤ S1x512x32x32.size a)
theorem k0_off113_inb : ∀ (v448 : BitVec 32) (k0_hw113 : k0_chk113 v448), ∀ a, (k0_off113 v448) a + S1x1x32x32.size a ≤ S1x512x32x32.size a := fun v448 k0_hw113 => k0_hw113

def k0_off114 (v452 : BitVec 32) : Fin 4 → Nat :=
  let c0_339 : Index := 0#32
  let v453 : Index := Scalar.indexCast v452
  let c0_340 : Index := 0#32
  let c0_341 : Index := 0#32
  ![0, v453.toNat, 0, 0]

def k0_chk114 (v452 : BitVec 32) : Prop :=
  (∀ a, (k0_off114 v452) a + S1x1x32x32.size a ≤ S1x512x32x32.size a)
theorem k0_off114_inb : ∀ (v452 : BitVec 32) (k0_hw114 : k0_chk114 v452), ∀ a, (k0_off114 v452) a + S1x1x32x32.size a ≤ S1x512x32x32.size a := fun v452 k0_hw114 => k0_hw114

def k0_off115 (v456 : BitVec 32) : Fin 4 → Nat :=
  let c0_342 : Index := 0#32
  let v457 : Index := Scalar.indexCast v456
  let c0_343 : Index := 0#32
  let c0_344 : Index := 0#32
  ![0, v457.toNat, 0, 0]

def k0_chk115 (v456 : BitVec 32) : Prop :=
  (∀ a, (k0_off115 v456) a + S1x1x32x32.size a ≤ S1x512x32x32.size a)
theorem k0_off115_inb : ∀ (v456 : BitVec 32) (k0_hw115 : k0_chk115 v456), ∀ a, (k0_off115 v456) a + S1x1x32x32.size a ≤ S1x512x32x32.size a := fun v456 k0_hw115 => k0_hw115

def k0_off116 (v460 : BitVec 32) : Fin 4 → Nat :=
  let c0_345 : Index := 0#32
  let v461 : Index := Scalar.indexCast v460
  let c0_346 : Index := 0#32
  let c0_347 : Index := 0#32
  ![0, v461.toNat, 0, 0]

def k0_chk116 (v460 : BitVec 32) : Prop :=
  (∀ a, (k0_off116 v460) a + S1x1x32x32.size a ≤ S1x512x32x32.size a)
theorem k0_off116_inb : ∀ (v460 : BitVec 32) (k0_hw116 : k0_chk116 v460), ∀ a, (k0_off116 v460) a + S1x1x32x32.size a ≤ S1x512x32x32.size a := fun v460 k0_hw116 => k0_hw116

def k0_off117 (v464 : BitVec 32) : Fin 4 → Nat :=
  let c0_348 : Index := 0#32
  let v465 : Index := Scalar.indexCast v464
  let c0_349 : Index := 0#32
  let c0_350 : Index := 0#32
  ![0, v465.toNat, 0, 0]

def k0_chk117 (v464 : BitVec 32) : Prop :=
  (∀ a, (k0_off117 v464) a + S1x1x32x32.size a ≤ S1x512x32x32.size a)
theorem k0_off117_inb : ∀ (v464 : BitVec 32) (k0_hw117 : k0_chk117 v464), ∀ a, (k0_off117 v464) a + S1x1x32x32.size a ≤ S1x512x32x32.size a := fun v464 k0_hw117 => k0_hw117

def k0_off118 (v468 : BitVec 32) : Fin 4 → Nat :=
  let c0_351 : Index := 0#32
  let v469 : Index := Scalar.indexCast v468
  let c0_352 : Index := 0#32
  let c0_353 : Index := 0#32
  ![0, v469.toNat, 0, 0]

def k0_chk118 (v468 : BitVec 32) : Prop :=
  (∀ a, (k0_off118 v468) a + S1x1x32x32.size a ≤ S1x512x32x32.size a)
theorem k0_off118_inb : ∀ (v468 : BitVec 32) (k0_hw118 : k0_chk118 v468), ∀ a, (k0_off118 v468) a + S1x1x32x32.size a ≤ S1x512x32x32.size a := fun v468 k0_hw118 => k0_hw118

def k0_off119 (v472 : BitVec 32) : Fin 4 → Nat :=
  let c0_354 : Index := 0#32
  let v473 : Index := Scalar.indexCast v472
  let c0_355 : Index := 0#32
  let c0_356 : Index := 0#32
  ![0, v473.toNat, 0, 0]

def k0_chk119 (v472 : BitVec 32) : Prop :=
  (∀ a, (k0_off119 v472) a + S1x1x32x32.size a ≤ S1x512x32x32.size a)
theorem k0_off119_inb : ∀ (v472 : BitVec 32) (k0_hw119 : k0_chk119 v472), ∀ a, (k0_off119 v472) a + S1x1x32x32.size a ≤ S1x512x32x32.size a := fun v472 k0_hw119 => k0_hw119

def k0_off120 (v476 : BitVec 32) : Fin 4 → Nat :=
  let c0_357 : Index := 0#32
  let v477 : Index := Scalar.indexCast v476
  let c0_358 : Index := 0#32
  let c0_359 : Index := 0#32
  ![0, v477.toNat, 0, 0]

def k0_chk120 (v476 : BitVec 32) : Prop :=
  (∀ a, (k0_off120 v476) a + S1x1x32x32.size a ≤ S1x512x32x32.size a)
theorem k0_off120_inb : ∀ (v476 : BitVec 32) (k0_hw120 : k0_chk120 v476), ∀ a, (k0_off120 v476) a + S1x1x32x32.size a ≤ S1x512x32x32.size a := fun v476 k0_hw120 => k0_hw120

def k0_off121 (v480 : BitVec 32) : Fin 4 → Nat :=
  let c0_360 : Index := 0#32
  let v481 : Index := Scalar.indexCast v480
  let c0_361 : Index := 0#32
  let c0_362 : Index := 0#32
  ![0, v481.toNat, 0, 0]

def k0_chk121 (v480 : BitVec 32) : Prop :=
  (∀ a, (k0_off121 v480) a + S1x1x32x32.size a ≤ S1x512x32x32.size a)
theorem k0_off121_inb : ∀ (v480 : BitVec 32) (k0_hw121 : k0_chk121 v480), ∀ a, (k0_off121 v480) a + S1x1x32x32.size a ≤ S1x512x32x32.size a := fun v480 k0_hw121 => k0_hw121

def k0_off122 (v484 : BitVec 32) : Fin 4 → Nat :=
  let c0_363 : Index := 0#32
  let v485 : Index := Scalar.indexCast v484
  let c0_364 : Index := 0#32
  let c0_365 : Index := 0#32
  ![0, v485.toNat, 0, 0]

def k0_chk122 (v484 : BitVec 32) : Prop :=
  (∀ a, (k0_off122 v484) a + S1x1x32x32.size a ≤ S1x512x32x32.size a)
theorem k0_off122_inb : ∀ (v484 : BitVec 32) (k0_hw122 : k0_chk122 v484), ∀ a, (k0_off122 v484) a + S1x1x32x32.size a ≤ S1x512x32x32.size a := fun v484 k0_hw122 => k0_hw122

def k0_off123 (v488 : BitVec 32) : Fin 4 → Nat :=
  let c0_366 : Index := 0#32
  let v489 : Index := Scalar.indexCast v488
  let c0_367 : Index := 0#32
  let c0_368 : Index := 0#32
  ![0, v489.toNat, 0, 0]

def k0_chk123 (v488 : BitVec 32) : Prop :=
  (∀ a, (k0_off123 v488) a + S1x1x32x32.size a ≤ S1x512x32x32.size a)
theorem k0_off123_inb : ∀ (v488 : BitVec 32) (k0_hw123 : k0_chk123 v488), ∀ a, (k0_off123 v488) a + S1x1x32x32.size a ≤ S1x512x32x32.size a := fun v488 k0_hw123 => k0_hw123

def k0_off124 (v492 : BitVec 32) : Fin 4 → Nat :=
  let c0_369 : Index := 0#32
  let v493 : Index := Scalar.indexCast v492
  let c0_370 : Index := 0#32
  let c0_371 : Index := 0#32
  ![0, v493.toNat, 0, 0]

def k0_chk124 (v492 : BitVec 32) : Prop :=
  (∀ a, (k0_off124 v492) a + S1x1x32x32.size a ≤ S1x512x32x32.size a)
theorem k0_off124_inb : ∀ (v492 : BitVec 32) (k0_hw124 : k0_chk124 v492), ∀ a, (k0_off124 v492) a + S1x1x32x32.size a ≤ S1x512x32x32.size a := fun v492 k0_hw124 => k0_hw124

def k0_off125 (v496 : BitVec 32) : Fin 4 → Nat :=
  let c0_372 : Index := 0#32
  let v497 : Index := Scalar.indexCast v496
  let c0_373 : Index := 0#32
  let c0_374 : Index := 0#32
  ![0, v497.toNat, 0, 0]

def k0_chk125 (v496 : BitVec 32) : Prop :=
  (∀ a, (k0_off125 v496) a + S1x1x32x32.size a ≤ S1x512x32x32.size a)
theorem k0_off125_inb : ∀ (v496 : BitVec 32) (k0_hw125 : k0_chk125 v496), ∀ a, (k0_off125 v496) a + S1x1x32x32.size a ≤ S1x512x32x32.size a := fun v496 k0_hw125 => k0_hw125

def k0_off126 (v500 : BitVec 32) : Fin 4 → Nat :=
  let c0_375 : Index := 0#32
  let v501 : Index := Scalar.indexCast v500
  let c0_376 : Index := 0#32
  let c0_377 : Index := 0#32
  ![0, v501.toNat, 0, 0]

def k0_chk126 (v500 : BitVec 32) : Prop :=
  (∀ a, (k0_off126 v500) a + S1x1x32x32.size a ≤ S1x512x32x32.size a)
theorem k0_off126_inb : ∀ (v500 : BitVec 32) (k0_hw126 : k0_chk126 v500), ∀ a, (k0_off126 v500) a + S1x1x32x32.size a ≤ S1x512x32x32.size a := fun v500 k0_hw126 => k0_hw126

def k0_off127 (v504 : BitVec 32) : Fin 4 → Nat :=
  let c0_378 : Index := 0#32
  let v505 : Index := Scalar.indexCast v504
  let c0_379 : Index := 0#32
  let c0_380 : Index := 0#32
  ![0, v505.toNat, 0, 0]

def k0_chk127 (v504 : BitVec 32) : Prop :=
  (∀ a, (k0_off127 v504) a + S1x1x32x32.size a ≤ S1x512x32x32.size a)
theorem k0_off127_inb : ∀ (v504 : BitVec 32) (k0_hw127 : k0_chk127 v504), ∀ a, (k0_off127 v504) a + S1x1x32x32.size a ≤ S1x512x32x32.size a := fun v504 k0_hw127 => k0_hw127

def k0_off128 (v508 : BitVec 32) : Fin 4 → Nat :=
  let c0_381 : Index := 0#32
  let v509 : Index := Scalar.indexCast v508
  let c0_382 : Index := 0#32
  let c0_383 : Index := 0#32
  ![0, v509.toNat, 0, 0]

def k0_chk128 (v508 : BitVec 32) : Prop :=
  (∀ a, (k0_off128 v508) a + S1x1x32x32.size a ≤ S1x512x32x32.size a)
theorem k0_off128_inb : ∀ (v508 : BitVec 32) (k0_hw128 : k0_chk128 v508), ∀ a, (k0_off128 v508) a + S1x1x32x32.size a ≤ S1x512x32x32.size a := fun v508 k0_hw128 => k0_hw128

def k0_off129 (v512 : BitVec 32) : Fin 4 → Nat :=
  let c0_384 : Index := 0#32
  let v513 : Index := Scalar.indexCast v512
  let c0_385 : Index := 0#32
  let c0_386 : Index := 0#32
  ![0, v513.toNat, 0, 0]

def k0_chk129 (v512 : BitVec 32) : Prop :=
  (∀ a, (k0_off129 v512) a + S1x1x32x32.size a ≤ S1x512x32x32.size a)
theorem k0_off129_inb : ∀ (v512 : BitVec 32) (k0_hw129 : k0_chk129 v512), ∀ a, (k0_off129 v512) a + S1x1x32x32.size a ≤ S1x512x32x32.size a := fun v512 k0_hw129 => k0_hw129

def k0_off130 (v516 : BitVec 32) : Fin 4 → Nat :=
  let c0_387 : Index := 0#32
  let v517 : Index := Scalar.indexCast v516
  let c0_388 : Index := 0#32
  let c0_389 : Index := 0#32
  ![0, v517.toNat, 0, 0]

def k0_chk130 (v516 : BitVec 32) : Prop :=
  (∀ a, (k0_off130 v516) a + S1x1x32x32.size a ≤ S1x512x32x32.size a)
theorem k0_off130_inb : ∀ (v516 : BitVec 32) (k0_hw130 : k0_chk130 v516), ∀ a, (k0_off130 v516) a + S1x1x32x32.size a ≤ S1x512x32x32.size a := fun v516 k0_hw130 => k0_hw130

def k0_off131 (v520 : BitVec 32) : Fin 4 → Nat :=
  let c0_390 : Index := 0#32
  let v521 : Index := Scalar.indexCast v520
  let c0_391 : Index := 0#32
  let c0_392 : Index := 0#32
  ![0, v521.toNat, 0, 0]

def k0_chk131 (v520 : BitVec 32) : Prop :=
  (∀ a, (k0_off131 v520) a + S1x1x32x32.size a ≤ S1x512x32x32.size a)
theorem k0_off131_inb : ∀ (v520 : BitVec 32) (k0_hw131 : k0_chk131 v520), ∀ a, (k0_off131 v520) a + S1x1x32x32.size a ≤ S1x512x32x32.size a := fun v520 k0_hw131 => k0_hw131

def k0_off132 (v524 : BitVec 32) : Fin 4 → Nat :=
  let c0_393 : Index := 0#32
  let v525 : Index := Scalar.indexCast v524
  let c0_394 : Index := 0#32
  let c0_395 : Index := 0#32
  ![0, v525.toNat, 0, 0]

def k0_chk132 (v524 : BitVec 32) : Prop :=
  (∀ a, (k0_off132 v524) a + S1x1x32x32.size a ≤ S1x512x32x32.size a)
theorem k0_off132_inb : ∀ (v524 : BitVec 32) (k0_hw132 : k0_chk132 v524), ∀ a, (k0_off132 v524) a + S1x1x32x32.size a ≤ S1x512x32x32.size a := fun v524 k0_hw132 => k0_hw132

def k0_off133 (v528 : BitVec 32) : Fin 4 → Nat :=
  let c0_396 : Index := 0#32
  let v529 : Index := Scalar.indexCast v528
  let c0_397 : Index := 0#32
  let c0_398 : Index := 0#32
  ![0, v529.toNat, 0, 0]

def k0_chk133 (v528 : BitVec 32) : Prop :=
  (∀ a, (k0_off133 v528) a + S1x1x32x32.size a ≤ S1x512x32x32.size a)
theorem k0_off133_inb : ∀ (v528 : BitVec 32) (k0_hw133 : k0_chk133 v528), ∀ a, (k0_off133 v528) a + S1x1x32x32.size a ≤ S1x512x32x32.size a := fun v528 k0_hw133 => k0_hw133

def k0_off134 (v532 : BitVec 32) : Fin 4 → Nat :=
  let c0_399 : Index := 0#32
  let v533 : Index := Scalar.indexCast v532
  let c0_400 : Index := 0#32
  let c0_401 : Index := 0#32
  ![0, v533.toNat, 0, 0]

def k0_chk134 (v532 : BitVec 32) : Prop :=
  (∀ a, (k0_off134 v532) a + S1x1x32x32.size a ≤ S1x512x32x32.size a)
theorem k0_off134_inb : ∀ (v532 : BitVec 32) (k0_hw134 : k0_chk134 v532), ∀ a, (k0_off134 v532) a + S1x1x32x32.size a ≤ S1x512x32x32.size a := fun v532 k0_hw134 => k0_hw134

def k0_off135 (v536 : BitVec 32) : Fin 4 → Nat :=
  let c0_402 : Index := 0#32
  let v537 : Index := Scalar.indexCast v536
  let c0_403 : Index := 0#32
  let c0_404 : Index := 0#32
  ![0, v537.toNat, 0, 0]

def k0_chk135 (v536 : BitVec 32) : Prop :=
  (∀ a, (k0_off135 v536) a + S1x1x32x32.size a ≤ S1x512x32x32.size a)
theorem k0_off135_inb : ∀ (v536 : BitVec 32) (k0_hw135 : k0_chk135 v536), ∀ a, (k0_off135 v536) a + S1x1x32x32.size a ≤ S1x512x32x32.size a := fun v536 k0_hw135 => k0_hw135

def k0_off136 (v540 : BitVec 32) : Fin 4 → Nat :=
  let c0_405 : Index := 0#32
  let v541 : Index := Scalar.indexCast v540
  let c0_406 : Index := 0#32
  let c0_407 : Index := 0#32
  ![0, v541.toNat, 0, 0]

def k0_chk136 (v540 : BitVec 32) : Prop :=
  (∀ a, (k0_off136 v540) a + S1x1x32x32.size a ≤ S1x512x32x32.size a)
theorem k0_off136_inb : ∀ (v540 : BitVec 32) (k0_hw136 : k0_chk136 v540), ∀ a, (k0_off136 v540) a + S1x1x32x32.size a ≤ S1x512x32x32.size a := fun v540 k0_hw136 => k0_hw136

def k0_off137 (v544 : BitVec 32) : Fin 4 → Nat :=
  let c0_408 : Index := 0#32
  let v545 : Index := Scalar.indexCast v544
  let c0_409 : Index := 0#32
  let c0_410 : Index := 0#32
  ![0, v545.toNat, 0, 0]

def k0_chk137 (v544 : BitVec 32) : Prop :=
  (∀ a, (k0_off137 v544) a + S1x1x32x32.size a ≤ S1x512x32x32.size a)
theorem k0_off137_inb : ∀ (v544 : BitVec 32) (k0_hw137 : k0_chk137 v544), ∀ a, (k0_off137 v544) a + S1x1x32x32.size a ≤ S1x512x32x32.size a := fun v544 k0_hw137 => k0_hw137

def k0_off138 (v548 : BitVec 32) : Fin 4 → Nat :=
  let c0_411 : Index := 0#32
  let v549 : Index := Scalar.indexCast v548
  let c0_412 : Index := 0#32
  let c0_413 : Index := 0#32
  ![0, v549.toNat, 0, 0]

def k0_chk138 (v548 : BitVec 32) : Prop :=
  (∀ a, (k0_off138 v548) a + S1x1x32x32.size a ≤ S1x512x32x32.size a)
theorem k0_off138_inb : ∀ (v548 : BitVec 32) (k0_hw138 : k0_chk138 v548), ∀ a, (k0_off138 v548) a + S1x1x32x32.size a ≤ S1x512x32x32.size a := fun v548 k0_hw138 => k0_hw138

def k0_off139 (v552 : BitVec 32) : Fin 4 → Nat :=
  let c0_414 : Index := 0#32
  let v553 : Index := Scalar.indexCast v552
  let c0_415 : Index := 0#32
  let c0_416 : Index := 0#32
  ![0, v553.toNat, 0, 0]

def k0_chk139 (v552 : BitVec 32) : Prop :=
  (∀ a, (k0_off139 v552) a + S1x1x32x32.size a ≤ S1x512x32x32.size a)
theorem k0_off139_inb : ∀ (v552 : BitVec 32) (k0_hw139 : k0_chk139 v552), ∀ a, (k0_off139 v552) a + S1x1x32x32.size a ≤ S1x512x32x32.size a := fun v552 k0_hw139 => k0_hw139

def k0_off140 (v556 : BitVec 32) : Fin 4 → Nat :=
  let c0_417 : Index := 0#32
  let v557 : Index := Scalar.indexCast v556
  let c0_418 : Index := 0#32
  let c0_419 : Index := 0#32
  ![0, v557.toNat, 0, 0]

def k0_chk140 (v556 : BitVec 32) : Prop :=
  (∀ a, (k0_off140 v556) a + S1x1x32x32.size a ≤ S1x512x32x32.size a)
theorem k0_off140_inb : ∀ (v556 : BitVec 32) (k0_hw140 : k0_chk140 v556), ∀ a, (k0_off140 v556) a + S1x1x32x32.size a ≤ S1x512x32x32.size a := fun v556 k0_hw140 => k0_hw140

def k0_off141 (v560 : BitVec 32) : Fin 4 → Nat :=
  let c0_420 : Index := 0#32
  let v561 : Index := Scalar.indexCast v560
  let c0_421 : Index := 0#32
  let c0_422 : Index := 0#32
  ![0, v561.toNat, 0, 0]

def k0_chk141 (v560 : BitVec 32) : Prop :=
  (∀ a, (k0_off141 v560) a + S1x1x32x32.size a ≤ S1x512x32x32.size a)
theorem k0_off141_inb : ∀ (v560 : BitVec 32) (k0_hw141 : k0_chk141 v560), ∀ a, (k0_off141 v560) a + S1x1x32x32.size a ≤ S1x512x32x32.size a := fun v560 k0_hw141 => k0_hw141

def k0_off142 (v564 : BitVec 32) : Fin 4 → Nat :=
  let c0_423 : Index := 0#32
  let v565 : Index := Scalar.indexCast v564
  let c0_424 : Index := 0#32
  let c0_425 : Index := 0#32
  ![0, v565.toNat, 0, 0]

def k0_chk142 (v564 : BitVec 32) : Prop :=
  (∀ a, (k0_off142 v564) a + S1x1x32x32.size a ≤ S1x512x32x32.size a)
theorem k0_off142_inb : ∀ (v564 : BitVec 32) (k0_hw142 : k0_chk142 v564), ∀ a, (k0_off142 v564) a + S1x1x32x32.size a ≤ S1x512x32x32.size a := fun v564 k0_hw142 => k0_hw142

def k0_off143 (v568 : BitVec 32) : Fin 4 → Nat :=
  let c0_426 : Index := 0#32
  let v569 : Index := Scalar.indexCast v568
  let c0_427 : Index := 0#32
  let c0_428 : Index := 0#32
  ![0, v569.toNat, 0, 0]

def k0_chk143 (v568 : BitVec 32) : Prop :=
  (∀ a, (k0_off143 v568) a + S1x1x32x32.size a ≤ S1x512x32x32.size a)
theorem k0_off143_inb : ∀ (v568 : BitVec 32) (k0_hw143 : k0_chk143 v568), ∀ a, (k0_off143 v568) a + S1x1x32x32.size a ≤ S1x512x32x32.size a := fun v568 k0_hw143 => k0_hw143

def k0_off144 (v572 : BitVec 32) : Fin 4 → Nat :=
  let c0_429 : Index := 0#32
  let v573 : Index := Scalar.indexCast v572
  let c0_430 : Index := 0#32
  let c0_431 : Index := 0#32
  ![0, v573.toNat, 0, 0]

def k0_chk144 (v572 : BitVec 32) : Prop :=
  (∀ a, (k0_off144 v572) a + S1x1x32x32.size a ≤ S1x512x32x32.size a)
theorem k0_off144_inb : ∀ (v572 : BitVec 32) (k0_hw144 : k0_chk144 v572), ∀ a, (k0_off144 v572) a + S1x1x32x32.size a ≤ S1x512x32x32.size a := fun v572 k0_hw144 => k0_hw144

def k0_off145 (v576 : BitVec 32) : Fin 4 → Nat :=
  let c0_432 : Index := 0#32
  let v577 : Index := Scalar.indexCast v576
  let c0_433 : Index := 0#32
  let c0_434 : Index := 0#32
  ![0, v577.toNat, 0, 0]

def k0_chk145 (v576 : BitVec 32) : Prop :=
  (∀ a, (k0_off145 v576) a + S1x1x32x32.size a ≤ S1x512x32x32.size a)
theorem k0_off145_inb : ∀ (v576 : BitVec 32) (k0_hw145 : k0_chk145 v576), ∀ a, (k0_off145 v576) a + S1x1x32x32.size a ≤ S1x512x32x32.size a := fun v576 k0_hw145 => k0_hw145

def k0_off146 (v580 : BitVec 32) : Fin 4 → Nat :=
  let c0_435 : Index := 0#32
  let v581 : Index := Scalar.indexCast v580
  let c0_436 : Index := 0#32
  let c0_437 : Index := 0#32
  ![0, v581.toNat, 0, 0]

def k0_chk146 (v580 : BitVec 32) : Prop :=
  (∀ a, (k0_off146 v580) a + S1x1x32x32.size a ≤ S1x512x32x32.size a)
theorem k0_off146_inb : ∀ (v580 : BitVec 32) (k0_hw146 : k0_chk146 v580), ∀ a, (k0_off146 v580) a + S1x1x32x32.size a ≤ S1x512x32x32.size a := fun v580 k0_hw146 => k0_hw146

def k0_off147 (v584 : BitVec 32) : Fin 4 → Nat :=
  let c0_438 : Index := 0#32
  let v585 : Index := Scalar.indexCast v584
  let c0_439 : Index := 0#32
  let c0_440 : Index := 0#32
  ![0, v585.toNat, 0, 0]

def k0_chk147 (v584 : BitVec 32) : Prop :=
  (∀ a, (k0_off147 v584) a + S1x1x32x32.size a ≤ S1x512x32x32.size a)
theorem k0_off147_inb : ∀ (v584 : BitVec 32) (k0_hw147 : k0_chk147 v584), ∀ a, (k0_off147 v584) a + S1x1x32x32.size a ≤ S1x512x32x32.size a := fun v584 k0_hw147 => k0_hw147

def k0_off148 (v588 : BitVec 32) : Fin 4 → Nat :=
  let c0_441 : Index := 0#32
  let v589 : Index := Scalar.indexCast v588
  let c0_442 : Index := 0#32
  let c0_443 : Index := 0#32
  ![0, v589.toNat, 0, 0]

def k0_chk148 (v588 : BitVec 32) : Prop :=
  (∀ a, (k0_off148 v588) a + S1x1x32x32.size a ≤ S1x512x32x32.size a)
theorem k0_off148_inb : ∀ (v588 : BitVec 32) (k0_hw148 : k0_chk148 v588), ∀ a, (k0_off148 v588) a + S1x1x32x32.size a ≤ S1x512x32x32.size a := fun v588 k0_hw148 => k0_hw148

def k0_off149 (v592 : BitVec 32) : Fin 4 → Nat :=
  let c0_444 : Index := 0#32
  let v593 : Index := Scalar.indexCast v592
  let c0_445 : Index := 0#32
  let c0_446 : Index := 0#32
  ![0, v593.toNat, 0, 0]

def k0_chk149 (v592 : BitVec 32) : Prop :=
  (∀ a, (k0_off149 v592) a + S1x1x32x32.size a ≤ S1x512x32x32.size a)
theorem k0_off149_inb : ∀ (v592 : BitVec 32) (k0_hw149 : k0_chk149 v592), ∀ a, (k0_off149 v592) a + S1x1x32x32.size a ≤ S1x512x32x32.size a := fun v592 k0_hw149 => k0_hw149

def k0_off150 (v596 : BitVec 32) : Fin 4 → Nat :=
  let c0_447 : Index := 0#32
  let v597 : Index := Scalar.indexCast v596
  let c0_448 : Index := 0#32
  let c0_449 : Index := 0#32
  ![0, v597.toNat, 0, 0]

def k0_chk150 (v596 : BitVec 32) : Prop :=
  (∀ a, (k0_off150 v596) a + S1x1x32x32.size a ≤ S1x512x32x32.size a)
theorem k0_off150_inb : ∀ (v596 : BitVec 32) (k0_hw150 : k0_chk150 v596), ∀ a, (k0_off150 v596) a + S1x1x32x32.size a ≤ S1x512x32x32.size a := fun v596 k0_hw150 => k0_hw150

def k0_off151 (v600 : BitVec 32) : Fin 4 → Nat :=
  let c0_450 : Index := 0#32
  let v601 : Index := Scalar.indexCast v600
  let c0_451 : Index := 0#32
  let c0_452 : Index := 0#32
  ![0, v601.toNat, 0, 0]

def k0_chk151 (v600 : BitVec 32) : Prop :=
  (∀ a, (k0_off151 v600) a + S1x1x32x32.size a ≤ S1x512x32x32.size a)
theorem k0_off151_inb : ∀ (v600 : BitVec 32) (k0_hw151 : k0_chk151 v600), ∀ a, (k0_off151 v600) a + S1x1x32x32.size a ≤ S1x512x32x32.size a := fun v600 k0_hw151 => k0_hw151

def k0_off152 (v604 : BitVec 32) : Fin 4 → Nat :=
  let c0_453 : Index := 0#32
  let v605 : Index := Scalar.indexCast v604
  let c0_454 : Index := 0#32
  let c0_455 : Index := 0#32
  ![0, v605.toNat, 0, 0]

def k0_chk152 (v604 : BitVec 32) : Prop :=
  (∀ a, (k0_off152 v604) a + S1x1x32x32.size a ≤ S1x512x32x32.size a)
theorem k0_off152_inb : ∀ (v604 : BitVec 32) (k0_hw152 : k0_chk152 v604), ∀ a, (k0_off152 v604) a + S1x1x32x32.size a ≤ S1x512x32x32.size a := fun v604 k0_hw152 => k0_hw152

def k0_off153 (v608 : BitVec 32) : Fin 4 → Nat :=
  let c0_456 : Index := 0#32
  let v609 : Index := Scalar.indexCast v608
  let c0_457 : Index := 0#32
  let c0_458 : Index := 0#32
  ![0, v609.toNat, 0, 0]

def k0_chk153 (v608 : BitVec 32) : Prop :=
  (∀ a, (k0_off153 v608) a + S1x1x32x32.size a ≤ S1x512x32x32.size a)
theorem k0_off153_inb : ∀ (v608 : BitVec 32) (k0_hw153 : k0_chk153 v608), ∀ a, (k0_off153 v608) a + S1x1x32x32.size a ≤ S1x512x32x32.size a := fun v608 k0_hw153 => k0_hw153

def k0_off154 (v612 : BitVec 32) : Fin 4 → Nat :=
  let c0_459 : Index := 0#32
  let v613 : Index := Scalar.indexCast v612
  let c0_460 : Index := 0#32
  let c0_461 : Index := 0#32
  ![0, v613.toNat, 0, 0]

def k0_chk154 (v612 : BitVec 32) : Prop :=
  (∀ a, (k0_off154 v612) a + S1x1x32x32.size a ≤ S1x512x32x32.size a)
theorem k0_off154_inb : ∀ (v612 : BitVec 32) (k0_hw154 : k0_chk154 v612), ∀ a, (k0_off154 v612) a + S1x1x32x32.size a ≤ S1x512x32x32.size a := fun v612 k0_hw154 => k0_hw154

def k0_off155 (v616 : BitVec 32) : Fin 4 → Nat :=
  let c0_462 : Index := 0#32
  let v617 : Index := Scalar.indexCast v616
  let c0_463 : Index := 0#32
  let c0_464 : Index := 0#32
  ![0, v617.toNat, 0, 0]

def k0_chk155 (v616 : BitVec 32) : Prop :=
  (∀ a, (k0_off155 v616) a + S1x1x32x32.size a ≤ S1x512x32x32.size a)
theorem k0_off155_inb : ∀ (v616 : BitVec 32) (k0_hw155 : k0_chk155 v616), ∀ a, (k0_off155 v616) a + S1x1x32x32.size a ≤ S1x512x32x32.size a := fun v616 k0_hw155 => k0_hw155

def k0_off156 (v620 : BitVec 32) : Fin 4 → Nat :=
  let c0_465 : Index := 0#32
  let v621 : Index := Scalar.indexCast v620
  let c0_466 : Index := 0#32
  let c0_467 : Index := 0#32
  ![0, v621.toNat, 0, 0]

def k0_chk156 (v620 : BitVec 32) : Prop :=
  (∀ a, (k0_off156 v620) a + S1x1x32x32.size a ≤ S1x512x32x32.size a)
theorem k0_off156_inb : ∀ (v620 : BitVec 32) (k0_hw156 : k0_chk156 v620), ∀ a, (k0_off156 v620) a + S1x1x32x32.size a ≤ S1x512x32x32.size a := fun v620 k0_hw156 => k0_hw156

def k0_off157 (v624 : BitVec 32) : Fin 4 → Nat :=
  let c0_468 : Index := 0#32
  let v625 : Index := Scalar.indexCast v624
  let c0_469 : Index := 0#32
  let c0_470 : Index := 0#32
  ![0, v625.toNat, 0, 0]

def k0_chk157 (v624 : BitVec 32) : Prop :=
  (∀ a, (k0_off157 v624) a + S1x1x32x32.size a ≤ S1x512x32x32.size a)
theorem k0_off157_inb : ∀ (v624 : BitVec 32) (k0_hw157 : k0_chk157 v624), ∀ a, (k0_off157 v624) a + S1x1x32x32.size a ≤ S1x512x32x32.size a := fun v624 k0_hw157 => k0_hw157

def k0_off158 (v628 : BitVec 32) : Fin 4 → Nat :=
  let c0_471 : Index := 0#32
  let v629 : Index := Scalar.indexCast v628
  let c0_472 : Index := 0#32
  let c0_473 : Index := 0#32
  ![0, v629.toNat, 0, 0]

def k0_chk158 (v628 : BitVec 32) : Prop :=
  (∀ a, (k0_off158 v628) a + S1x1x32x32.size a ≤ S1x512x32x32.size a)
theorem k0_off158_inb : ∀ (v628 : BitVec 32) (k0_hw158 : k0_chk158 v628), ∀ a, (k0_off158 v628) a + S1x1x32x32.size a ≤ S1x512x32x32.size a := fun v628 k0_hw158 => k0_hw158

def k0_off159 (v632 : BitVec 32) : Fin 4 → Nat :=
  let c0_474 : Index := 0#32
  let v633 : Index := Scalar.indexCast v632
  let c0_475 : Index := 0#32
  let c0_476 : Index := 0#32
  ![0, v633.toNat, 0, 0]

def k0_chk159 (v632 : BitVec 32) : Prop :=
  (∀ a, (k0_off159 v632) a + S1x1x32x32.size a ≤ S1x512x32x32.size a)
theorem k0_off159_inb : ∀ (v632 : BitVec 32) (k0_hw159 : k0_chk159 v632), ∀ a, (k0_off159 v632) a + S1x1x32x32.size a ≤ S1x512x32x32.size a := fun v632 k0_hw159 => k0_hw159

def k0_off160 (v636 : BitVec 32) : Fin 4 → Nat :=
  let c0_477 : Index := 0#32
  let v637 : Index := Scalar.indexCast v636
  let c0_478 : Index := 0#32
  let c0_479 : Index := 0#32
  ![0, v637.toNat, 0, 0]

def k0_chk160 (v636 : BitVec 32) : Prop :=
  (∀ a, (k0_off160 v636) a + S1x1x32x32.size a ≤ S1x512x32x32.size a)
theorem k0_off160_inb : ∀ (v636 : BitVec 32) (k0_hw160 : k0_chk160 v636), ∀ a, (k0_off160 v636) a + S1x1x32x32.size a ≤ S1x512x32x32.size a := fun v636 k0_hw160 => k0_hw160

def k0_off161 (v640 : BitVec 32) : Fin 4 → Nat :=
  let c0_480 : Index := 0#32
  let v641 : Index := Scalar.indexCast v640
  let c0_481 : Index := 0#32
  let c0_482 : Index := 0#32
  ![0, v641.toNat, 0, 0]

def k0_chk161 (v640 : BitVec 32) : Prop :=
  (∀ a, (k0_off161 v640) a + S1x1x32x32.size a ≤ S1x512x32x32.size a)
theorem k0_off161_inb : ∀ (v640 : BitVec 32) (k0_hw161 : k0_chk161 v640), ∀ a, (k0_off161 v640) a + S1x1x32x32.size a ≤ S1x512x32x32.size a := fun v640 k0_hw161 => k0_hw161

def k0_off162 (v644 : BitVec 32) : Fin 4 → Nat :=
  let c0_483 : Index := 0#32
  let v645 : Index := Scalar.indexCast v644
  let c0_484 : Index := 0#32
  let c0_485 : Index := 0#32
  ![0, v645.toNat, 0, 0]

def k0_chk162 (v644 : BitVec 32) : Prop :=
  (∀ a, (k0_off162 v644) a + S1x1x32x32.size a ≤ S1x512x32x32.size a)
theorem k0_off162_inb : ∀ (v644 : BitVec 32) (k0_hw162 : k0_chk162 v644), ∀ a, (k0_off162 v644) a + S1x1x32x32.size a ≤ S1x512x32x32.size a := fun v644 k0_hw162 => k0_hw162

def k0_off163 (v648 : BitVec 32) : Fin 4 → Nat :=
  let c0_486 : Index := 0#32
  let v649 : Index := Scalar.indexCast v648
  let c0_487 : Index := 0#32
  let c0_488 : Index := 0#32
  ![0, v649.toNat, 0, 0]

def k0_chk163 (v648 : BitVec 32) : Prop :=
  (∀ a, (k0_off163 v648) a + S1x1x32x32.size a ≤ S1x512x32x32.size a)
theorem k0_off163_inb : ∀ (v648 : BitVec 32) (k0_hw163 : k0_chk163 v648), ∀ a, (k0_off163 v648) a + S1x1x32x32.size a ≤ S1x512x32x32.size a := fun v648 k0_hw163 => k0_hw163

def k0_off164 (v652 : BitVec 32) : Fin 4 → Nat :=
  let c0_489 : Index := 0#32
  let v653 : Index := Scalar.indexCast v652
  let c0_490 : Index := 0#32
  let c0_491 : Index := 0#32
  ![0, v653.toNat, 0, 0]

def k0_chk164 (v652 : BitVec 32) : Prop :=
  (∀ a, (k0_off164 v652) a + S1x1x32x32.size a ≤ S1x512x32x32.size a)
theorem k0_off164_inb : ∀ (v652 : BitVec 32) (k0_hw164 : k0_chk164 v652), ∀ a, (k0_off164 v652) a + S1x1x32x32.size a ≤ S1x512x32x32.size a := fun v652 k0_hw164 => k0_hw164

def k0_off165 (v656 : BitVec 32) : Fin 4 → Nat :=
  let c0_492 : Index := 0#32
  let v657 : Index := Scalar.indexCast v656
  let c0_493 : Index := 0#32
  let c0_494 : Index := 0#32
  ![0, v657.toNat, 0, 0]

def k0_chk165 (v656 : BitVec 32) : Prop :=
  (∀ a, (k0_off165 v656) a + S1x1x32x32.size a ≤ S1x512x32x32.size a)
theorem k0_off165_inb : ∀ (v656 : BitVec 32) (k0_hw165 : k0_chk165 v656), ∀ a, (k0_off165 v656) a + S1x1x32x32.size a ≤ S1x512x32x32.size a := fun v656 k0_hw165 => k0_hw165

def k0_off166 (v660 : BitVec 32) : Fin 4 → Nat :=
  let c0_495 : Index := 0#32
  let v661 : Index := Scalar.indexCast v660
  let c0_496 : Index := 0#32
  let c0_497 : Index := 0#32
  ![0, v661.toNat, 0, 0]

def k0_chk166 (v660 : BitVec 32) : Prop :=
  (∀ a, (k0_off166 v660) a + S1x1x32x32.size a ≤ S1x512x32x32.size a)
theorem k0_off166_inb : ∀ (v660 : BitVec 32) (k0_hw166 : k0_chk166 v660), ∀ a, (k0_off166 v660) a + S1x1x32x32.size a ≤ S1x512x32x32.size a := fun v660 k0_hw166 => k0_hw166

def k0_off167 (v664 : BitVec 32) : Fin 4 → Nat :=
  let c0_498 : Index := 0#32
  let v665 : Index := Scalar.indexCast v664
  let c0_499 : Index := 0#32
  let c0_500 : Index := 0#32
  ![0, v665.toNat, 0, 0]

def k0_chk167 (v664 : BitVec 32) : Prop :=
  (∀ a, (k0_off167 v664) a + S1x1x32x32.size a ≤ S1x512x32x32.size a)
theorem k0_off167_inb : ∀ (v664 : BitVec 32) (k0_hw167 : k0_chk167 v664), ∀ a, (k0_off167 v664) a + S1x1x32x32.size a ≤ S1x512x32x32.size a := fun v664 k0_hw167 => k0_hw167

def k0_off168 (v668 : BitVec 32) : Fin 4 → Nat :=
  let c0_501 : Index := 0#32
  let v669 : Index := Scalar.indexCast v668
  let c0_502 : Index := 0#32
  let c0_503 : Index := 0#32
  ![0, v669.toNat, 0, 0]

def k0_chk168 (v668 : BitVec 32) : Prop :=
  (∀ a, (k0_off168 v668) a + S1x1x32x32.size a ≤ S1x512x32x32.size a)
theorem k0_off168_inb : ∀ (v668 : BitVec 32) (k0_hw168 : k0_chk168 v668), ∀ a, (k0_off168 v668) a + S1x1x32x32.size a ≤ S1x512x32x32.size a := fun v668 k0_hw168 => k0_hw168

def k0_off169 (v672 : BitVec 32) : Fin 4 → Nat :=
  let c0_504 : Index := 0#32
  let v673 : Index := Scalar.indexCast v672
  let c0_505 : Index := 0#32
  let c0_506 : Index := 0#32
  ![0, v673.toNat, 0, 0]

def k0_chk169 (v672 : BitVec 32) : Prop :=
  (∀ a, (k0_off169 v672) a + S1x1x32x32.size a ≤ S1x512x32x32.size a)
theorem k0_off169_inb : ∀ (v672 : BitVec 32) (k0_hw169 : k0_chk169 v672), ∀ a, (k0_off169 v672) a + S1x1x32x32.size a ≤ S1x512x32x32.size a := fun v672 k0_hw169 => k0_hw169

def k0_off170 (v676 : BitVec 32) : Fin 4 → Nat :=
  let c0_507 : Index := 0#32
  let v677 : Index := Scalar.indexCast v676
  let c0_508 : Index := 0#32
  let c0_509 : Index := 0#32
  ![0, v677.toNat, 0, 0]

def k0_chk170 (v676 : BitVec 32) : Prop :=
  (∀ a, (k0_off170 v676) a + S1x1x32x32.size a ≤ S1x512x32x32.size a)
theorem k0_off170_inb : ∀ (v676 : BitVec 32) (k0_hw170 : k0_chk170 v676), ∀ a, (k0_off170 v676) a + S1x1x32x32.size a ≤ S1x512x32x32.size a := fun v676 k0_hw170 => k0_hw170

def k0_off171 (v680 : BitVec 32) : Fin 4 → Nat :=
  let c0_510 : Index := 0#32
  let v681 : Index := Scalar.indexCast v680
  let c0_511 : Index := 0#32
  let c0_512 : Index := 0#32
  ![0, v681.toNat, 0, 0]

def k0_chk171 (v680 : BitVec 32) : Prop :=
  (∀ a, (k0_off171 v680) a + S1x1x32x32.size a ≤ S1x512x32x32.size a)
theorem k0_off171_inb : ∀ (v680 : BitVec 32) (k0_hw171 : k0_chk171 v680), ∀ a, (k0_off171 v680) a + S1x1x32x32.size a ≤ S1x512x32x32.size a := fun v680 k0_hw171 => k0_hw171

def k0_off172 (v684 : BitVec 32) : Fin 4 → Nat :=
  let c0_513 : Index := 0#32
  let v685 : Index := Scalar.indexCast v684
  let c0_514 : Index := 0#32
  let c0_515 : Index := 0#32
  ![0, v685.toNat, 0, 0]

def k0_chk172 (v684 : BitVec 32) : Prop :=
  (∀ a, (k0_off172 v684) a + S1x1x32x32.size a ≤ S1x512x32x32.size a)
theorem k0_off172_inb : ∀ (v684 : BitVec 32) (k0_hw172 : k0_chk172 v684), ∀ a, (k0_off172 v684) a + S1x1x32x32.size a ≤ S1x512x32x32.size a := fun v684 k0_hw172 => k0_hw172

def k0_off173 (v688 : BitVec 32) : Fin 4 → Nat :=
  let c0_516 : Index := 0#32
  let v689 : Index := Scalar.indexCast v688
  let c0_517 : Index := 0#32
  let c0_518 : Index := 0#32
  ![0, v689.toNat, 0, 0]

def k0_chk173 (v688 : BitVec 32) : Prop :=
  (∀ a, (k0_off173 v688) a + S1x1x32x32.size a ≤ S1x512x32x32.size a)
theorem k0_off173_inb : ∀ (v688 : BitVec 32) (k0_hw173 : k0_chk173 v688), ∀ a, (k0_off173 v688) a + S1x1x32x32.size a ≤ S1x512x32x32.size a := fun v688 k0_hw173 => k0_hw173

def k0_off174 (v692 : BitVec 32) : Fin 4 → Nat :=
  let c0_519 : Index := 0#32
  let v693 : Index := Scalar.indexCast v692
  let c0_520 : Index := 0#32
  let c0_521 : Index := 0#32
  ![0, v693.toNat, 0, 0]

def k0_chk174 (v692 : BitVec 32) : Prop :=
  (∀ a, (k0_off174 v692) a + S1x1x32x32.size a ≤ S1x512x32x32.size a)
theorem k0_off174_inb : ∀ (v692 : BitVec 32) (k0_hw174 : k0_chk174 v692), ∀ a, (k0_off174 v692) a + S1x1x32x32.size a ≤ S1x512x32x32.size a := fun v692 k0_hw174 => k0_hw174

def k0_off175 (v696 : BitVec 32) : Fin 4 → Nat :=
  let c0_522 : Index := 0#32
  let v697 : Index := Scalar.indexCast v696
  let c0_523 : Index := 0#32
  let c0_524 : Index := 0#32
  ![0, v697.toNat, 0, 0]

def k0_chk175 (v696 : BitVec 32) : Prop :=
  (∀ a, (k0_off175 v696) a + S1x1x32x32.size a ≤ S1x512x32x32.size a)
theorem k0_off175_inb : ∀ (v696 : BitVec 32) (k0_hw175 : k0_chk175 v696), ∀ a, (k0_off175 v696) a + S1x1x32x32.size a ≤ S1x512x32x32.size a := fun v696 k0_hw175 => k0_hw175

def k0_off176 (v700 : BitVec 32) : Fin 4 → Nat :=
  let c0_525 : Index := 0#32
  let v701 : Index := Scalar.indexCast v700
  let c0_526 : Index := 0#32
  let c0_527 : Index := 0#32
  ![0, v701.toNat, 0, 0]

def k0_chk176 (v700 : BitVec 32) : Prop :=
  (∀ a, (k0_off176 v700) a + S1x1x32x32.size a ≤ S1x512x32x32.size a)
theorem k0_off176_inb : ∀ (v700 : BitVec 32) (k0_hw176 : k0_chk176 v700), ∀ a, (k0_off176 v700) a + S1x1x32x32.size a ≤ S1x512x32x32.size a := fun v700 k0_hw176 => k0_hw176

def k0_off177 (v704 : BitVec 32) : Fin 4 → Nat :=
  let c0_528 : Index := 0#32
  let v705 : Index := Scalar.indexCast v704
  let c0_529 : Index := 0#32
  let c0_530 : Index := 0#32
  ![0, v705.toNat, 0, 0]

def k0_chk177 (v704 : BitVec 32) : Prop :=
  (∀ a, (k0_off177 v704) a + S1x1x32x32.size a ≤ S1x512x32x32.size a)
theorem k0_off177_inb : ∀ (v704 : BitVec 32) (k0_hw177 : k0_chk177 v704), ∀ a, (k0_off177 v704) a + S1x1x32x32.size a ≤ S1x512x32x32.size a := fun v704 k0_hw177 => k0_hw177

def k0_off178 (v708 : BitVec 32) : Fin 4 → Nat :=
  let c0_531 : Index := 0#32
  let v709 : Index := Scalar.indexCast v708
  let c0_532 : Index := 0#32
  let c0_533 : Index := 0#32
  ![0, v709.toNat, 0, 0]

def k0_chk178 (v708 : BitVec 32) : Prop :=
  (∀ a, (k0_off178 v708) a + S1x1x32x32.size a ≤ S1x512x32x32.size a)
theorem k0_off178_inb : ∀ (v708 : BitVec 32) (k0_hw178 : k0_chk178 v708), ∀ a, (k0_off178 v708) a + S1x1x32x32.size a ≤ S1x512x32x32.size a := fun v708 k0_hw178 => k0_hw178

def k0_off179 (v712 : BitVec 32) : Fin 4 → Nat :=
  let c0_534 : Index := 0#32
  let v713 : Index := Scalar.indexCast v712
  let c0_535 : Index := 0#32
  let c0_536 : Index := 0#32
  ![0, v713.toNat, 0, 0]

def k0_chk179 (v712 : BitVec 32) : Prop :=
  (∀ a, (k0_off179 v712) a + S1x1x32x32.size a ≤ S1x512x32x32.size a)
theorem k0_off179_inb : ∀ (v712 : BitVec 32) (k0_hw179 : k0_chk179 v712), ∀ a, (k0_off179 v712) a + S1x1x32x32.size a ≤ S1x512x32x32.size a := fun v712 k0_hw179 => k0_hw179

def k0_off180 (v716 : BitVec 32) : Fin 4 → Nat :=
  let c0_537 : Index := 0#32
  let v717 : Index := Scalar.indexCast v716
  let c0_538 : Index := 0#32
  let c0_539 : Index := 0#32
  ![0, v717.toNat, 0, 0]

def k0_chk180 (v716 : BitVec 32) : Prop :=
  (∀ a, (k0_off180 v716) a + S1x1x32x32.size a ≤ S1x512x32x32.size a)
theorem k0_off180_inb : ∀ (v716 : BitVec 32) (k0_hw180 : k0_chk180 v716), ∀ a, (k0_off180 v716) a + S1x1x32x32.size a ≤ S1x512x32x32.size a := fun v716 k0_hw180 => k0_hw180

def k0_off181 (v720 : BitVec 32) : Fin 4 → Nat :=
  let c0_540 : Index := 0#32
  let v721 : Index := Scalar.indexCast v720
  let c0_541 : Index := 0#32
  let c0_542 : Index := 0#32
  ![0, v721.toNat, 0, 0]

def k0_chk181 (v720 : BitVec 32) : Prop :=
  (∀ a, (k0_off181 v720) a + S1x1x32x32.size a ≤ S1x512x32x32.size a)
theorem k0_off181_inb : ∀ (v720 : BitVec 32) (k0_hw181 : k0_chk181 v720), ∀ a, (k0_off181 v720) a + S1x1x32x32.size a ≤ S1x512x32x32.size a := fun v720 k0_hw181 => k0_hw181

def k0_off182 (v724 : BitVec 32) : Fin 4 → Nat :=
  let c0_543 : Index := 0#32
  let v725 : Index := Scalar.indexCast v724
  let c0_544 : Index := 0#32
  let c0_545 : Index := 0#32
  ![0, v725.toNat, 0, 0]

def k0_chk182 (v724 : BitVec 32) : Prop :=
  (∀ a, (k0_off182 v724) a + S1x1x32x32.size a ≤ S1x512x32x32.size a)
theorem k0_off182_inb : ∀ (v724 : BitVec 32) (k0_hw182 : k0_chk182 v724), ∀ a, (k0_off182 v724) a + S1x1x32x32.size a ≤ S1x512x32x32.size a := fun v724 k0_hw182 => k0_hw182

def k0_off183 (v728 : BitVec 32) : Fin 4 → Nat :=
  let c0_546 : Index := 0#32
  let v729 : Index := Scalar.indexCast v728
  let c0_547 : Index := 0#32
  let c0_548 : Index := 0#32
  ![0, v729.toNat, 0, 0]

def k0_chk183 (v728 : BitVec 32) : Prop :=
  (∀ a, (k0_off183 v728) a + S1x1x32x32.size a ≤ S1x512x32x32.size a)
theorem k0_off183_inb : ∀ (v728 : BitVec 32) (k0_hw183 : k0_chk183 v728), ∀ a, (k0_off183 v728) a + S1x1x32x32.size a ≤ S1x512x32x32.size a := fun v728 k0_hw183 => k0_hw183

def k0_off184 (v732 : BitVec 32) : Fin 4 → Nat :=
  let c0_549 : Index := 0#32
  let v733 : Index := Scalar.indexCast v732
  let c0_550 : Index := 0#32
  let c0_551 : Index := 0#32
  ![0, v733.toNat, 0, 0]

def k0_chk184 (v732 : BitVec 32) : Prop :=
  (∀ a, (k0_off184 v732) a + S1x1x32x32.size a ≤ S1x512x32x32.size a)
theorem k0_off184_inb : ∀ (v732 : BitVec 32) (k0_hw184 : k0_chk184 v732), ∀ a, (k0_off184 v732) a + S1x1x32x32.size a ≤ S1x512x32x32.size a := fun v732 k0_hw184 => k0_hw184

def k0_off185 (v736 : BitVec 32) : Fin 4 → Nat :=
  let c0_552 : Index := 0#32
  let v737 : Index := Scalar.indexCast v736
  let c0_553 : Index := 0#32
  let c0_554 : Index := 0#32
  ![0, v737.toNat, 0, 0]

def k0_chk185 (v736 : BitVec 32) : Prop :=
  (∀ a, (k0_off185 v736) a + S1x1x32x32.size a ≤ S1x512x32x32.size a)
theorem k0_off185_inb : ∀ (v736 : BitVec 32) (k0_hw185 : k0_chk185 v736), ∀ a, (k0_off185 v736) a + S1x1x32x32.size a ≤ S1x512x32x32.size a := fun v736 k0_hw185 => k0_hw185

def k0_off186 (v740 : BitVec 32) : Fin 4 → Nat :=
  let c0_555 : Index := 0#32
  let v741 : Index := Scalar.indexCast v740
  let c0_556 : Index := 0#32
  let c0_557 : Index := 0#32
  ![0, v741.toNat, 0, 0]

def k0_chk186 (v740 : BitVec 32) : Prop :=
  (∀ a, (k0_off186 v740) a + S1x1x32x32.size a ≤ S1x512x32x32.size a)
theorem k0_off186_inb : ∀ (v740 : BitVec 32) (k0_hw186 : k0_chk186 v740), ∀ a, (k0_off186 v740) a + S1x1x32x32.size a ≤ S1x512x32x32.size a := fun v740 k0_hw186 => k0_hw186

def k0_off187 (v744 : BitVec 32) : Fin 4 → Nat :=
  let c0_558 : Index := 0#32
  let v745 : Index := Scalar.indexCast v744
  let c0_559 : Index := 0#32
  let c0_560 : Index := 0#32
  ![0, v745.toNat, 0, 0]

def k0_chk187 (v744 : BitVec 32) : Prop :=
  (∀ a, (k0_off187 v744) a + S1x1x32x32.size a ≤ S1x512x32x32.size a)
theorem k0_off187_inb : ∀ (v744 : BitVec 32) (k0_hw187 : k0_chk187 v744), ∀ a, (k0_off187 v744) a + S1x1x32x32.size a ≤ S1x512x32x32.size a := fun v744 k0_hw187 => k0_hw187

def k0_off188 (v748 : BitVec 32) : Fin 4 → Nat :=
  let c0_561 : Index := 0#32
  let v749 : Index := Scalar.indexCast v748
  let c0_562 : Index := 0#32
  let c0_563 : Index := 0#32
  ![0, v749.toNat, 0, 0]

def k0_chk188 (v748 : BitVec 32) : Prop :=
  (∀ a, (k0_off188 v748) a + S1x1x32x32.size a ≤ S1x512x32x32.size a)
theorem k0_off188_inb : ∀ (v748 : BitVec 32) (k0_hw188 : k0_chk188 v748), ∀ a, (k0_off188 v748) a + S1x1x32x32.size a ≤ S1x512x32x32.size a := fun v748 k0_hw188 => k0_hw188

def k0_off189 (v752 : BitVec 32) : Fin 4 → Nat :=
  let c0_564 : Index := 0#32
  let v753 : Index := Scalar.indexCast v752
  let c0_565 : Index := 0#32
  let c0_566 : Index := 0#32
  ![0, v753.toNat, 0, 0]

def k0_chk189 (v752 : BitVec 32) : Prop :=
  (∀ a, (k0_off189 v752) a + S1x1x32x32.size a ≤ S1x512x32x32.size a)
theorem k0_off189_inb : ∀ (v752 : BitVec 32) (k0_hw189 : k0_chk189 v752), ∀ a, (k0_off189 v752) a + S1x1x32x32.size a ≤ S1x512x32x32.size a := fun v752 k0_hw189 => k0_hw189

def k0_off190 (v756 : BitVec 32) : Fin 4 → Nat :=
  let c0_567 : Index := 0#32
  let v757 : Index := Scalar.indexCast v756
  let c0_568 : Index := 0#32
  let c0_569 : Index := 0#32
  ![0, v757.toNat, 0, 0]

def k0_chk190 (v756 : BitVec 32) : Prop :=
  (∀ a, (k0_off190 v756) a + S1x1x32x32.size a ≤ S1x512x32x32.size a)
theorem k0_off190_inb : ∀ (v756 : BitVec 32) (k0_hw190 : k0_chk190 v756), ∀ a, (k0_off190 v756) a + S1x1x32x32.size a ≤ S1x512x32x32.size a := fun v756 k0_hw190 => k0_hw190

def k0_off191 (v760 : BitVec 32) : Fin 4 → Nat :=
  let c0_570 : Index := 0#32
  let v761 : Index := Scalar.indexCast v760
  let c0_571 : Index := 0#32
  let c0_572 : Index := 0#32
  ![0, v761.toNat, 0, 0]

def k0_chk191 (v760 : BitVec 32) : Prop :=
  (∀ a, (k0_off191 v760) a + S1x1x32x32.size a ≤ S1x512x32x32.size a)
theorem k0_off191_inb : ∀ (v760 : BitVec 32) (k0_hw191 : k0_chk191 v760), ∀ a, (k0_off191 v760) a + S1x1x32x32.size a ≤ S1x512x32x32.size a := fun v760 k0_hw191 => k0_hw191

def k0_off192 (v764 : BitVec 32) : Fin 4 → Nat :=
  let c0_573 : Index := 0#32
  let v765 : Index := Scalar.indexCast v764
  let c0_574 : Index := 0#32
  let c0_575 : Index := 0#32
  ![0, v765.toNat, 0, 0]

def k0_chk192 (v764 : BitVec 32) : Prop :=
  (∀ a, (k0_off192 v764) a + S1x1x32x32.size a ≤ S1x512x32x32.size a)
theorem k0_off192_inb : ∀ (v764 : BitVec 32) (k0_hw192 : k0_chk192 v764), ∀ a, (k0_off192 v764) a + S1x1x32x32.size a ≤ S1x512x32x32.size a := fun v764 k0_hw192 => k0_hw192

def k0_off193 (v768 : BitVec 32) : Fin 4 → Nat :=
  let c0_576 : Index := 0#32
  let v769 : Index := Scalar.indexCast v768
  let c0_577 : Index := 0#32
  let c0_578 : Index := 0#32
  ![0, v769.toNat, 0, 0]

def k0_chk193 (v768 : BitVec 32) : Prop :=
  (∀ a, (k0_off193 v768) a + S1x1x32x32.size a ≤ S1x512x32x32.size a)
theorem k0_off193_inb : ∀ (v768 : BitVec 32) (k0_hw193 : k0_chk193 v768), ∀ a, (k0_off193 v768) a + S1x1x32x32.size a ≤ S1x512x32x32.size a := fun v768 k0_hw193 => k0_hw193

def k0_off194 (v772 : BitVec 32) : Fin 4 → Nat :=
  let c0_579 : Index := 0#32
  let v773 : Index := Scalar.indexCast v772
  let c0_580 : Index := 0#32
  let c0_581 : Index := 0#32
  ![0, v773.toNat, 0, 0]

def k0_chk194 (v772 : BitVec 32) : Prop :=
  (∀ a, (k0_off194 v772) a + S1x1x32x32.size a ≤ S1x512x32x32.size a)
theorem k0_off194_inb : ∀ (v772 : BitVec 32) (k0_hw194 : k0_chk194 v772), ∀ a, (k0_off194 v772) a + S1x1x32x32.size a ≤ S1x512x32x32.size a := fun v772 k0_hw194 => k0_hw194

def k0_off195 (v776 : BitVec 32) : Fin 4 → Nat :=
  let c0_582 : Index := 0#32
  let v777 : Index := Scalar.indexCast v776
  let c0_583 : Index := 0#32
  let c0_584 : Index := 0#32
  ![0, v777.toNat, 0, 0]

def k0_chk195 (v776 : BitVec 32) : Prop :=
  (∀ a, (k0_off195 v776) a + S1x1x32x32.size a ≤ S1x512x32x32.size a)
theorem k0_off195_inb : ∀ (v776 : BitVec 32) (k0_hw195 : k0_chk195 v776), ∀ a, (k0_off195 v776) a + S1x1x32x32.size a ≤ S1x512x32x32.size a := fun v776 k0_hw195 => k0_hw195

def k0_off196 (v780 : BitVec 32) : Fin 4 → Nat :=
  let c0_585 : Index := 0#32
  let v781 : Index := Scalar.indexCast v780
  let c0_586 : Index := 0#32
  let c0_587 : Index := 0#32
  ![0, v781.toNat, 0, 0]

def k0_chk196 (v780 : BitVec 32) : Prop :=
  (∀ a, (k0_off196 v780) a + S1x1x32x32.size a ≤ S1x512x32x32.size a)
theorem k0_off196_inb : ∀ (v780 : BitVec 32) (k0_hw196 : k0_chk196 v780), ∀ a, (k0_off196 v780) a + S1x1x32x32.size a ≤ S1x512x32x32.size a := fun v780 k0_hw196 => k0_hw196

def k0_off197 (v784 : BitVec 32) : Fin 4 → Nat :=
  let c0_588 : Index := 0#32
  let v785 : Index := Scalar.indexCast v784
  let c0_589 : Index := 0#32
  let c0_590 : Index := 0#32
  ![0, v785.toNat, 0, 0]

def k0_chk197 (v784 : BitVec 32) : Prop :=
  (∀ a, (k0_off197 v784) a + S1x1x32x32.size a ≤ S1x512x32x32.size a)
theorem k0_off197_inb : ∀ (v784 : BitVec 32) (k0_hw197 : k0_chk197 v784), ∀ a, (k0_off197 v784) a + S1x1x32x32.size a ≤ S1x512x32x32.size a := fun v784 k0_hw197 => k0_hw197

def k0_off198 (v788 : BitVec 32) : Fin 4 → Nat :=
  let c0_591 : Index := 0#32
  let v789 : Index := Scalar.indexCast v788
  let c0_592 : Index := 0#32
  let c0_593 : Index := 0#32
  ![0, v789.toNat, 0, 0]

def k0_chk198 (v788 : BitVec 32) : Prop :=
  (∀ a, (k0_off198 v788) a + S1x1x32x32.size a ≤ S1x512x32x32.size a)
theorem k0_off198_inb : ∀ (v788 : BitVec 32) (k0_hw198 : k0_chk198 v788), ∀ a, (k0_off198 v788) a + S1x1x32x32.size a ≤ S1x512x32x32.size a := fun v788 k0_hw198 => k0_hw198

def k0_off199 (v792 : BitVec 32) : Fin 4 → Nat :=
  let c0_594 : Index := 0#32
  let v793 : Index := Scalar.indexCast v792
  let c0_595 : Index := 0#32
  let c0_596 : Index := 0#32
  ![0, v793.toNat, 0, 0]

def k0_chk199 (v792 : BitVec 32) : Prop :=
  (∀ a, (k0_off199 v792) a + S1x1x32x32.size a ≤ S1x512x32x32.size a)
theorem k0_off199_inb : ∀ (v792 : BitVec 32) (k0_hw199 : k0_chk199 v792), ∀ a, (k0_off199 v792) a + S1x1x32x32.size a ≤ S1x512x32x32.size a := fun v792 k0_hw199 => k0_hw199

def k0_off200 (v796 : BitVec 32) : Fin 4 → Nat :=
  let c0_597 : Index := 0#32
  let v797 : Index := Scalar.indexCast v796
  let c0_598 : Index := 0#32
  let c0_599 : Index := 0#32
  ![0, v797.toNat, 0, 0]

def k0_chk200 (v796 : BitVec 32) : Prop :=
  (∀ a, (k0_off200 v796) a + S1x1x32x32.size a ≤ S1x512x32x32.size a)
theorem k0_off200_inb : ∀ (v796 : BitVec 32) (k0_hw200 : k0_chk200 v796), ∀ a, (k0_off200 v796) a + S1x1x32x32.size a ≤ S1x512x32x32.size a := fun v796 k0_hw200 => k0_hw200

def k0_off201 (v800 : BitVec 32) : Fin 4 → Nat :=
  let c0_600 : Index := 0#32
  let v801 : Index := Scalar.indexCast v800
  let c0_601 : Index := 0#32
  let c0_602 : Index := 0#32
  ![0, v801.toNat, 0, 0]

def k0_chk201 (v800 : BitVec 32) : Prop :=
  (∀ a, (k0_off201 v800) a + S1x1x32x32.size a ≤ S1x512x32x32.size a)
theorem k0_off201_inb : ∀ (v800 : BitVec 32) (k0_hw201 : k0_chk201 v800), ∀ a, (k0_off201 v800) a + S1x1x32x32.size a ≤ S1x512x32x32.size a := fun v800 k0_hw201 => k0_hw201

def k0_off202 (v804 : BitVec 32) : Fin 4 → Nat :=
  let c0_603 : Index := 0#32
  let v805 : Index := Scalar.indexCast v804
  let c0_604 : Index := 0#32
  let c0_605 : Index := 0#32
  ![0, v805.toNat, 0, 0]

def k0_chk202 (v804 : BitVec 32) : Prop :=
  (∀ a, (k0_off202 v804) a + S1x1x32x32.size a ≤ S1x512x32x32.size a)
theorem k0_off202_inb : ∀ (v804 : BitVec 32) (k0_hw202 : k0_chk202 v804), ∀ a, (k0_off202 v804) a + S1x1x32x32.size a ≤ S1x512x32x32.size a := fun v804 k0_hw202 => k0_hw202

def k0_off203 (v808 : BitVec 32) : Fin 4 → Nat :=
  let c0_606 : Index := 0#32
  let v809 : Index := Scalar.indexCast v808
  let c0_607 : Index := 0#32
  let c0_608 : Index := 0#32
  ![0, v809.toNat, 0, 0]

def k0_chk203 (v808 : BitVec 32) : Prop :=
  (∀ a, (k0_off203 v808) a + S1x1x32x32.size a ≤ S1x512x32x32.size a)
theorem k0_off203_inb : ∀ (v808 : BitVec 32) (k0_hw203 : k0_chk203 v808), ∀ a, (k0_off203 v808) a + S1x1x32x32.size a ≤ S1x512x32x32.size a := fun v808 k0_hw203 => k0_hw203

def k0_off204 (v812 : BitVec 32) : Fin 4 → Nat :=
  let c0_609 : Index := 0#32
  let v813 : Index := Scalar.indexCast v812
  let c0_610 : Index := 0#32
  let c0_611 : Index := 0#32
  ![0, v813.toNat, 0, 0]

def k0_chk204 (v812 : BitVec 32) : Prop :=
  (∀ a, (k0_off204 v812) a + S1x1x32x32.size a ≤ S1x512x32x32.size a)
theorem k0_off204_inb : ∀ (v812 : BitVec 32) (k0_hw204 : k0_chk204 v812), ∀ a, (k0_off204 v812) a + S1x1x32x32.size a ≤ S1x512x32x32.size a := fun v812 k0_hw204 => k0_hw204

def k0_off205 (v816 : BitVec 32) : Fin 4 → Nat :=
  let c0_612 : Index := 0#32
  let v817 : Index := Scalar.indexCast v816
  let c0_613 : Index := 0#32
  let c0_614 : Index := 0#32
  ![0, v817.toNat, 0, 0]

def k0_chk205 (v816 : BitVec 32) : Prop :=
  (∀ a, (k0_off205 v816) a + S1x1x32x32.size a ≤ S1x512x32x32.size a)
theorem k0_off205_inb : ∀ (v816 : BitVec 32) (k0_hw205 : k0_chk205 v816), ∀ a, (k0_off205 v816) a + S1x1x32x32.size a ≤ S1x512x32x32.size a := fun v816 k0_hw205 => k0_hw205

def k0_off206 (v820 : BitVec 32) : Fin 4 → Nat :=
  let c0_615 : Index := 0#32
  let v821 : Index := Scalar.indexCast v820
  let c0_616 : Index := 0#32
  let c0_617 : Index := 0#32
  ![0, v821.toNat, 0, 0]

def k0_chk206 (v820 : BitVec 32) : Prop :=
  (∀ a, (k0_off206 v820) a + S1x1x32x32.size a ≤ S1x512x32x32.size a)
theorem k0_off206_inb : ∀ (v820 : BitVec 32) (k0_hw206 : k0_chk206 v820), ∀ a, (k0_off206 v820) a + S1x1x32x32.size a ≤ S1x512x32x32.size a := fun v820 k0_hw206 => k0_hw206

def k0_off207 (v824 : BitVec 32) : Fin 4 → Nat :=
  let c0_618 : Index := 0#32
  let v825 : Index := Scalar.indexCast v824
  let c0_619 : Index := 0#32
  let c0_620 : Index := 0#32
  ![0, v825.toNat, 0, 0]

def k0_chk207 (v824 : BitVec 32) : Prop :=
  (∀ a, (k0_off207 v824) a + S1x1x32x32.size a ≤ S1x512x32x32.size a)
theorem k0_off207_inb : ∀ (v824 : BitVec 32) (k0_hw207 : k0_chk207 v824), ∀ a, (k0_off207 v824) a + S1x1x32x32.size a ≤ S1x512x32x32.size a := fun v824 k0_hw207 => k0_hw207

def k0_off208 (v828 : BitVec 32) : Fin 4 → Nat :=
  let c0_621 : Index := 0#32
  let v829 : Index := Scalar.indexCast v828
  let c0_622 : Index := 0#32
  let c0_623 : Index := 0#32
  ![0, v829.toNat, 0, 0]

def k0_chk208 (v828 : BitVec 32) : Prop :=
  (∀ a, (k0_off208 v828) a + S1x1x32x32.size a ≤ S1x512x32x32.size a)
theorem k0_off208_inb : ∀ (v828 : BitVec 32) (k0_hw208 : k0_chk208 v828), ∀ a, (k0_off208 v828) a + S1x1x32x32.size a ≤ S1x512x32x32.size a := fun v828 k0_hw208 => k0_hw208

def k0_off209 (v832 : BitVec 32) : Fin 4 → Nat :=
  let c0_624 : Index := 0#32
  let v833 : Index := Scalar.indexCast v832
  let c0_625 : Index := 0#32
  let c0_626 : Index := 0#32
  ![0, v833.toNat, 0, 0]

def k0_chk209 (v832 : BitVec 32) : Prop :=
  (∀ a, (k0_off209 v832) a + S1x1x32x32.size a ≤ S1x512x32x32.size a)
theorem k0_off209_inb : ∀ (v832 : BitVec 32) (k0_hw209 : k0_chk209 v832), ∀ a, (k0_off209 v832) a + S1x1x32x32.size a ≤ S1x512x32x32.size a := fun v832 k0_hw209 => k0_hw209

def k0_off210 (v836 : BitVec 32) : Fin 4 → Nat :=
  let c0_627 : Index := 0#32
  let v837 : Index := Scalar.indexCast v836
  let c0_628 : Index := 0#32
  let c0_629 : Index := 0#32
  ![0, v837.toNat, 0, 0]

def k0_chk210 (v836 : BitVec 32) : Prop :=
  (∀ a, (k0_off210 v836) a + S1x1x32x32.size a ≤ S1x512x32x32.size a)
theorem k0_off210_inb : ∀ (v836 : BitVec 32) (k0_hw210 : k0_chk210 v836), ∀ a, (k0_off210 v836) a + S1x1x32x32.size a ≤ S1x512x32x32.size a := fun v836 k0_hw210 => k0_hw210

def k0_off211 (v840 : BitVec 32) : Fin 4 → Nat :=
  let c0_630 : Index := 0#32
  let v841 : Index := Scalar.indexCast v840
  let c0_631 : Index := 0#32
  let c0_632 : Index := 0#32
  ![0, v841.toNat, 0, 0]

def k0_chk211 (v840 : BitVec 32) : Prop :=
  (∀ a, (k0_off211 v840) a + S1x1x32x32.size a ≤ S1x512x32x32.size a)
theorem k0_off211_inb : ∀ (v840 : BitVec 32) (k0_hw211 : k0_chk211 v840), ∀ a, (k0_off211 v840) a + S1x1x32x32.size a ≤ S1x512x32x32.size a := fun v840 k0_hw211 => k0_hw211

def k0_off212 (v844 : BitVec 32) : Fin 4 → Nat :=
  let c0_633 : Index := 0#32
  let v845 : Index := Scalar.indexCast v844
  let c0_634 : Index := 0#32
  let c0_635 : Index := 0#32
  ![0, v845.toNat, 0, 0]

def k0_chk212 (v844 : BitVec 32) : Prop :=
  (∀ a, (k0_off212 v844) a + S1x1x32x32.size a ≤ S1x512x32x32.size a)
theorem k0_off212_inb : ∀ (v844 : BitVec 32) (k0_hw212 : k0_chk212 v844), ∀ a, (k0_off212 v844) a + S1x1x32x32.size a ≤ S1x512x32x32.size a := fun v844 k0_hw212 => k0_hw212

def k0_off213 (v848 : BitVec 32) : Fin 4 → Nat :=
  let c0_636 : Index := 0#32
  let v849 : Index := Scalar.indexCast v848
  let c0_637 : Index := 0#32
  let c0_638 : Index := 0#32
  ![0, v849.toNat, 0, 0]

def k0_chk213 (v848 : BitVec 32) : Prop :=
  (∀ a, (k0_off213 v848) a + S1x1x32x32.size a ≤ S1x512x32x32.size a)
theorem k0_off213_inb : ∀ (v848 : BitVec 32) (k0_hw213 : k0_chk213 v848), ∀ a, (k0_off213 v848) a + S1x1x32x32.size a ≤ S1x512x32x32.size a := fun v848 k0_hw213 => k0_hw213

def k0_off214 (v852 : BitVec 32) : Fin 4 → Nat :=
  let c0_639 : Index := 0#32
  let v853 : Index := Scalar.indexCast v852
  let c0_640 : Index := 0#32
  let c0_641 : Index := 0#32
  ![0, v853.toNat, 0, 0]

def k0_chk214 (v852 : BitVec 32) : Prop :=
  (∀ a, (k0_off214 v852) a + S1x1x32x32.size a ≤ S1x512x32x32.size a)
theorem k0_off214_inb : ∀ (v852 : BitVec 32) (k0_hw214 : k0_chk214 v852), ∀ a, (k0_off214 v852) a + S1x1x32x32.size a ≤ S1x512x32x32.size a := fun v852 k0_hw214 => k0_hw214

def k0_off215 (v856 : BitVec 32) : Fin 4 → Nat :=
  let c0_642 : Index := 0#32
  let v857 : Index := Scalar.indexCast v856
  let c0_643 : Index := 0#32
  let c0_644 : Index := 0#32
  ![0, v857.toNat, 0, 0]

def k0_chk215 (v856 : BitVec 32) : Prop :=
  (∀ a, (k0_off215 v856) a + S1x1x32x32.size a ≤ S1x512x32x32.size a)
theorem k0_off215_inb : ∀ (v856 : BitVec 32) (k0_hw215 : k0_chk215 v856), ∀ a, (k0_off215 v856) a + S1x1x32x32.size a ≤ S1x512x32x32.size a := fun v856 k0_hw215 => k0_hw215

def k0_off216 (v860 : BitVec 32) : Fin 4 → Nat :=
  let c0_645 : Index := 0#32
  let v861 : Index := Scalar.indexCast v860
  let c0_646 : Index := 0#32
  let c0_647 : Index := 0#32
  ![0, v861.toNat, 0, 0]

def k0_chk216 (v860 : BitVec 32) : Prop :=
  (∀ a, (k0_off216 v860) a + S1x1x32x32.size a ≤ S1x512x32x32.size a)
theorem k0_off216_inb : ∀ (v860 : BitVec 32) (k0_hw216 : k0_chk216 v860), ∀ a, (k0_off216 v860) a + S1x1x32x32.size a ≤ S1x512x32x32.size a := fun v860 k0_hw216 => k0_hw216

def k0_off217 (v864 : BitVec 32) : Fin 4 → Nat :=
  let c0_648 : Index := 0#32
  let v865 : Index := Scalar.indexCast v864
  let c0_649 : Index := 0#32
  let c0_650 : Index := 0#32
  ![0, v865.toNat, 0, 0]

def k0_chk217 (v864 : BitVec 32) : Prop :=
  (∀ a, (k0_off217 v864) a + S1x1x32x32.size a ≤ S1x512x32x32.size a)
theorem k0_off217_inb : ∀ (v864 : BitVec 32) (k0_hw217 : k0_chk217 v864), ∀ a, (k0_off217 v864) a + S1x1x32x32.size a ≤ S1x512x32x32.size a := fun v864 k0_hw217 => k0_hw217

def k0_off218 (v868 : BitVec 32) : Fin 4 → Nat :=
  let c0_651 : Index := 0#32
  let v869 : Index := Scalar.indexCast v868
  let c0_652 : Index := 0#32
  let c0_653 : Index := 0#32
  ![0, v869.toNat, 0, 0]

def k0_chk218 (v868 : BitVec 32) : Prop :=
  (∀ a, (k0_off218 v868) a + S1x1x32x32.size a ≤ S1x512x32x32.size a)
theorem k0_off218_inb : ∀ (v868 : BitVec 32) (k0_hw218 : k0_chk218 v868), ∀ a, (k0_off218 v868) a + S1x1x32x32.size a ≤ S1x512x32x32.size a := fun v868 k0_hw218 => k0_hw218

def k0_off219 (v872 : BitVec 32) : Fin 4 → Nat :=
  let c0_654 : Index := 0#32
  let v873 : Index := Scalar.indexCast v872
  let c0_655 : Index := 0#32
  let c0_656 : Index := 0#32
  ![0, v873.toNat, 0, 0]

def k0_chk219 (v872 : BitVec 32) : Prop :=
  (∀ a, (k0_off219 v872) a + S1x1x32x32.size a ≤ S1x512x32x32.size a)
theorem k0_off219_inb : ∀ (v872 : BitVec 32) (k0_hw219 : k0_chk219 v872), ∀ a, (k0_off219 v872) a + S1x1x32x32.size a ≤ S1x512x32x32.size a := fun v872 k0_hw219 => k0_hw219

def k0_off220 (v876 : BitVec 32) : Fin 4 → Nat :=
  let c0_657 : Index := 0#32
  let v877 : Index := Scalar.indexCast v876
  let c0_658 : Index := 0#32
  let c0_659 : Index := 0#32
  ![0, v877.toNat, 0, 0]

def k0_chk220 (v876 : BitVec 32) : Prop :=
  (∀ a, (k0_off220 v876) a + S1x1x32x32.size a ≤ S1x512x32x32.size a)
theorem k0_off220_inb : ∀ (v876 : BitVec 32) (k0_hw220 : k0_chk220 v876), ∀ a, (k0_off220 v876) a + S1x1x32x32.size a ≤ S1x512x32x32.size a := fun v876 k0_hw220 => k0_hw220

def k0_off221 (v880 : BitVec 32) : Fin 4 → Nat :=
  let c0_660 : Index := 0#32
  let v881 : Index := Scalar.indexCast v880
  let c0_661 : Index := 0#32
  let c0_662 : Index := 0#32
  ![0, v881.toNat, 0, 0]

def k0_chk221 (v880 : BitVec 32) : Prop :=
  (∀ a, (k0_off221 v880) a + S1x1x32x32.size a ≤ S1x512x32x32.size a)
theorem k0_off221_inb : ∀ (v880 : BitVec 32) (k0_hw221 : k0_chk221 v880), ∀ a, (k0_off221 v880) a + S1x1x32x32.size a ≤ S1x512x32x32.size a := fun v880 k0_hw221 => k0_hw221

def k0_off222 (v884 : BitVec 32) : Fin 4 → Nat :=
  let c0_663 : Index := 0#32
  let v885 : Index := Scalar.indexCast v884
  let c0_664 : Index := 0#32
  let c0_665 : Index := 0#32
  ![0, v885.toNat, 0, 0]

def k0_chk222 (v884 : BitVec 32) : Prop :=
  (∀ a, (k0_off222 v884) a + S1x1x32x32.size a ≤ S1x512x32x32.size a)
theorem k0_off222_inb : ∀ (v884 : BitVec 32) (k0_hw222 : k0_chk222 v884), ∀ a, (k0_off222 v884) a + S1x1x32x32.size a ≤ S1x512x32x32.size a := fun v884 k0_hw222 => k0_hw222

def k0_off223 (v888 : BitVec 32) : Fin 4 → Nat :=
  let c0_666 : Index := 0#32
  let v889 : Index := Scalar.indexCast v888
  let c0_667 : Index := 0#32
  let c0_668 : Index := 0#32
  ![0, v889.toNat, 0, 0]

def k0_chk223 (v888 : BitVec 32) : Prop :=
  (∀ a, (k0_off223 v888) a + S1x1x32x32.size a ≤ S1x512x32x32.size a)
theorem k0_off223_inb : ∀ (v888 : BitVec 32) (k0_hw223 : k0_chk223 v888), ∀ a, (k0_off223 v888) a + S1x1x32x32.size a ≤ S1x512x32x32.size a := fun v888 k0_hw223 => k0_hw223

def k0_off224 (v892 : BitVec 32) : Fin 4 → Nat :=
  let c0_669 : Index := 0#32
  let v893 : Index := Scalar.indexCast v892
  let c0_670 : Index := 0#32
  let c0_671 : Index := 0#32
  ![0, v893.toNat, 0, 0]

def k0_chk224 (v892 : BitVec 32) : Prop :=
  (∀ a, (k0_off224 v892) a + S1x1x32x32.size a ≤ S1x512x32x32.size a)
theorem k0_off224_inb : ∀ (v892 : BitVec 32) (k0_hw224 : k0_chk224 v892), ∀ a, (k0_off224 v892) a + S1x1x32x32.size a ≤ S1x512x32x32.size a := fun v892 k0_hw224 => k0_hw224

def k0_off225 (v896 : BitVec 32) : Fin 4 → Nat :=
  let c0_672 : Index := 0#32
  let v897 : Index := Scalar.indexCast v896
  let c0_673 : Index := 0#32
  let c0_674 : Index := 0#32
  ![0, v897.toNat, 0, 0]

def k0_chk225 (v896 : BitVec 32) : Prop :=
  (∀ a, (k0_off225 v896) a + S1x1x32x32.size a ≤ S1x512x32x32.size a)
theorem k0_off225_inb : ∀ (v896 : BitVec 32) (k0_hw225 : k0_chk225 v896), ∀ a, (k0_off225 v896) a + S1x1x32x32.size a ≤ S1x512x32x32.size a := fun v896 k0_hw225 => k0_hw225

def k0_off226 (v900 : BitVec 32) : Fin 4 → Nat :=
  let c0_675 : Index := 0#32
  let v901 : Index := Scalar.indexCast v900
  let c0_676 : Index := 0#32
  let c0_677 : Index := 0#32
  ![0, v901.toNat, 0, 0]

def k0_chk226 (v900 : BitVec 32) : Prop :=
  (∀ a, (k0_off226 v900) a + S1x1x32x32.size a ≤ S1x512x32x32.size a)
theorem k0_off226_inb : ∀ (v900 : BitVec 32) (k0_hw226 : k0_chk226 v900), ∀ a, (k0_off226 v900) a + S1x1x32x32.size a ≤ S1x512x32x32.size a := fun v900 k0_hw226 => k0_hw226

def k0_off227 (v904 : BitVec 32) : Fin 4 → Nat :=
  let c0_678 : Index := 0#32
  let v905 : Index := Scalar.indexCast v904
  let c0_679 : Index := 0#32
  let c0_680 : Index := 0#32
  ![0, v905.toNat, 0, 0]

def k0_chk227 (v904 : BitVec 32) : Prop :=
  (∀ a, (k0_off227 v904) a + S1x1x32x32.size a ≤ S1x512x32x32.size a)
theorem k0_off227_inb : ∀ (v904 : BitVec 32) (k0_hw227 : k0_chk227 v904), ∀ a, (k0_off227 v904) a + S1x1x32x32.size a ≤ S1x512x32x32.size a := fun v904 k0_hw227 => k0_hw227

def k0_off228 (v908 : BitVec 32) : Fin 4 → Nat :=
  let c0_681 : Index := 0#32
  let v909 : Index := Scalar.indexCast v908
  let c0_682 : Index := 0#32
  let c0_683 : Index := 0#32
  ![0, v909.toNat, 0, 0]

def k0_chk228 (v908 : BitVec 32) : Prop :=
  (∀ a, (k0_off228 v908) a + S1x1x32x32.size a ≤ S1x512x32x32.size a)
theorem k0_off228_inb : ∀ (v908 : BitVec 32) (k0_hw228 : k0_chk228 v908), ∀ a, (k0_off228 v908) a + S1x1x32x32.size a ≤ S1x512x32x32.size a := fun v908 k0_hw228 => k0_hw228

def k0_off229 (v912 : BitVec 32) : Fin 4 → Nat :=
  let c0_684 : Index := 0#32
  let v913 : Index := Scalar.indexCast v912
  let c0_685 : Index := 0#32
  let c0_686 : Index := 0#32
  ![0, v913.toNat, 0, 0]

def k0_chk229 (v912 : BitVec 32) : Prop :=
  (∀ a, (k0_off229 v912) a + S1x1x32x32.size a ≤ S1x512x32x32.size a)
theorem k0_off229_inb : ∀ (v912 : BitVec 32) (k0_hw229 : k0_chk229 v912), ∀ a, (k0_off229 v912) a + S1x1x32x32.size a ≤ S1x512x32x32.size a := fun v912 k0_hw229 => k0_hw229

def k0_off230 (v916 : BitVec 32) : Fin 4 → Nat :=
  let c0_687 : Index := 0#32
  let v917 : Index := Scalar.indexCast v916
  let c0_688 : Index := 0#32
  let c0_689 : Index := 0#32
  ![0, v917.toNat, 0, 0]

def k0_chk230 (v916 : BitVec 32) : Prop :=
  (∀ a, (k0_off230 v916) a + S1x1x32x32.size a ≤ S1x512x32x32.size a)
theorem k0_off230_inb : ∀ (v916 : BitVec 32) (k0_hw230 : k0_chk230 v916), ∀ a, (k0_off230 v916) a + S1x1x32x32.size a ≤ S1x512x32x32.size a := fun v916 k0_hw230 => k0_hw230

def k0_off231 (v920 : BitVec 32) : Fin 4 → Nat :=
  let c0_690 : Index := 0#32
  let v921 : Index := Scalar.indexCast v920
  let c0_691 : Index := 0#32
  let c0_692 : Index := 0#32
  ![0, v921.toNat, 0, 0]

def k0_chk231 (v920 : BitVec 32) : Prop :=
  (∀ a, (k0_off231 v920) a + S1x1x32x32.size a ≤ S1x512x32x32.size a)
theorem k0_off231_inb : ∀ (v920 : BitVec 32) (k0_hw231 : k0_chk231 v920), ∀ a, (k0_off231 v920) a + S1x1x32x32.size a ≤ S1x512x32x32.size a := fun v920 k0_hw231 => k0_hw231

def k0_off232 (v924 : BitVec 32) : Fin 4 → Nat :=
  let c0_693 : Index := 0#32
  let v925 : Index := Scalar.indexCast v924
  let c0_694 : Index := 0#32
  let c0_695 : Index := 0#32
  ![0, v925.toNat, 0, 0]

def k0_chk232 (v924 : BitVec 32) : Prop :=
  (∀ a, (k0_off232 v924) a + S1x1x32x32.size a ≤ S1x512x32x32.size a)
theorem k0_off232_inb : ∀ (v924 : BitVec 32) (k0_hw232 : k0_chk232 v924), ∀ a, (k0_off232 v924) a + S1x1x32x32.size a ≤ S1x512x32x32.size a := fun v924 k0_hw232 => k0_hw232

def k0_off233 (v928 : BitVec 32) : Fin 4 → Nat :=
  let c0_696 : Index := 0#32
  let v929 : Index := Scalar.indexCast v928
  let c0_697 : Index := 0#32
  let c0_698 : Index := 0#32
  ![0, v929.toNat, 0, 0]

def k0_chk233 (v928 : BitVec 32) : Prop :=
  (∀ a, (k0_off233 v928) a + S1x1x32x32.size a ≤ S1x512x32x32.size a)
theorem k0_off233_inb : ∀ (v928 : BitVec 32) (k0_hw233 : k0_chk233 v928), ∀ a, (k0_off233 v928) a + S1x1x32x32.size a ≤ S1x512x32x32.size a := fun v928 k0_hw233 => k0_hw233

def k0_off234 (v932 : BitVec 32) : Fin 4 → Nat :=
  let c0_699 : Index := 0#32
  let v933 : Index := Scalar.indexCast v932
  let c0_700 : Index := 0#32
  let c0_701 : Index := 0#32
  ![0, v933.toNat, 0, 0]

def k0_chk234 (v932 : BitVec 32) : Prop :=
  (∀ a, (k0_off234 v932) a + S1x1x32x32.size a ≤ S1x512x32x32.size a)
theorem k0_off234_inb : ∀ (v932 : BitVec 32) (k0_hw234 : k0_chk234 v932), ∀ a, (k0_off234 v932) a + S1x1x32x32.size a ≤ S1x512x32x32.size a := fun v932 k0_hw234 => k0_hw234

def k0_off235 (v936 : BitVec 32) : Fin 4 → Nat :=
  let c0_702 : Index := 0#32
  let v937 : Index := Scalar.indexCast v936
  let c0_703 : Index := 0#32
  let c0_704 : Index := 0#32
  ![0, v937.toNat, 0, 0]

def k0_chk235 (v936 : BitVec 32) : Prop :=
  (∀ a, (k0_off235 v936) a + S1x1x32x32.size a ≤ S1x512x32x32.size a)
theorem k0_off235_inb : ∀ (v936 : BitVec 32) (k0_hw235 : k0_chk235 v936), ∀ a, (k0_off235 v936) a + S1x1x32x32.size a ≤ S1x512x32x32.size a := fun v936 k0_hw235 => k0_hw235

def k0_off236 (v940 : BitVec 32) : Fin 4 → Nat :=
  let c0_705 : Index := 0#32
  let v941 : Index := Scalar.indexCast v940
  let c0_706 : Index := 0#32
  let c0_707 : Index := 0#32
  ![0, v941.toNat, 0, 0]

def k0_chk236 (v940 : BitVec 32) : Prop :=
  (∀ a, (k0_off236 v940) a + S1x1x32x32.size a ≤ S1x512x32x32.size a)
theorem k0_off236_inb : ∀ (v940 : BitVec 32) (k0_hw236 : k0_chk236 v940), ∀ a, (k0_off236 v940) a + S1x1x32x32.size a ≤ S1x512x32x32.size a := fun v940 k0_hw236 => k0_hw236

def k0_off237 (v944 : BitVec 32) : Fin 4 → Nat :=
  let c0_708 : Index := 0#32
  let v945 : Index := Scalar.indexCast v944
  let c0_709 : Index := 0#32
  let c0_710 : Index := 0#32
  ![0, v945.toNat, 0, 0]

def k0_chk237 (v944 : BitVec 32) : Prop :=
  (∀ a, (k0_off237 v944) a + S1x1x32x32.size a ≤ S1x512x32x32.size a)
theorem k0_off237_inb : ∀ (v944 : BitVec 32) (k0_hw237 : k0_chk237 v944), ∀ a, (k0_off237 v944) a + S1x1x32x32.size a ≤ S1x512x32x32.size a := fun v944 k0_hw237 => k0_hw237

def k0_off238 (v948 : BitVec 32) : Fin 4 → Nat :=
  let c0_711 : Index := 0#32
  let v949 : Index := Scalar.indexCast v948
  let c0_712 : Index := 0#32
  let c0_713 : Index := 0#32
  ![0, v949.toNat, 0, 0]

def k0_chk238 (v948 : BitVec 32) : Prop :=
  (∀ a, (k0_off238 v948) a + S1x1x32x32.size a ≤ S1x512x32x32.size a)
theorem k0_off238_inb : ∀ (v948 : BitVec 32) (k0_hw238 : k0_chk238 v948), ∀ a, (k0_off238 v948) a + S1x1x32x32.size a ≤ S1x512x32x32.size a := fun v948 k0_hw238 => k0_hw238

def k0_off239 (v952 : BitVec 32) : Fin 4 → Nat :=
  let c0_714 : Index := 0#32
  let v953 : Index := Scalar.indexCast v952
  let c0_715 : Index := 0#32
  let c0_716 : Index := 0#32
  ![0, v953.toNat, 0, 0]

def k0_chk239 (v952 : BitVec 32) : Prop :=
  (∀ a, (k0_off239 v952) a + S1x1x32x32.size a ≤ S1x512x32x32.size a)
theorem k0_off239_inb : ∀ (v952 : BitVec 32) (k0_hw239 : k0_chk239 v952), ∀ a, (k0_off239 v952) a + S1x1x32x32.size a ≤ S1x512x32x32.size a := fun v952 k0_hw239 => k0_hw239

def k0_off240 (v956 : BitVec 32) : Fin 4 → Nat :=
  let c0_717 : Index := 0#32
  let v957 : Index := Scalar.indexCast v956
  let c0_718 : Index := 0#32
  let c0_719 : Index := 0#32
  ![0, v957.toNat, 0, 0]

def k0_chk240 (v956 : BitVec 32) : Prop :=
  (∀ a, (k0_off240 v956) a + S1x1x32x32.size a ≤ S1x512x32x32.size a)
theorem k0_off240_inb : ∀ (v956 : BitVec 32) (k0_hw240 : k0_chk240 v956), ∀ a, (k0_off240 v956) a + S1x1x32x32.size a ≤ S1x512x32x32.size a := fun v956 k0_hw240 => k0_hw240

def k0_off241 (v960 : BitVec 32) : Fin 4 → Nat :=
  let c0_720 : Index := 0#32
  let v961 : Index := Scalar.indexCast v960
  let c0_721 : Index := 0#32
  let c0_722 : Index := 0#32
  ![0, v961.toNat, 0, 0]

def k0_chk241 (v960 : BitVec 32) : Prop :=
  (∀ a, (k0_off241 v960) a + S1x1x32x32.size a ≤ S1x512x32x32.size a)
theorem k0_off241_inb : ∀ (v960 : BitVec 32) (k0_hw241 : k0_chk241 v960), ∀ a, (k0_off241 v960) a + S1x1x32x32.size a ≤ S1x512x32x32.size a := fun v960 k0_hw241 => k0_hw241

def k0_off242 (v964 : BitVec 32) : Fin 4 → Nat :=
  let c0_723 : Index := 0#32
  let v965 : Index := Scalar.indexCast v964
  let c0_724 : Index := 0#32
  let c0_725 : Index := 0#32
  ![0, v965.toNat, 0, 0]

def k0_chk242 (v964 : BitVec 32) : Prop :=
  (∀ a, (k0_off242 v964) a + S1x1x32x32.size a ≤ S1x512x32x32.size a)
theorem k0_off242_inb : ∀ (v964 : BitVec 32) (k0_hw242 : k0_chk242 v964), ∀ a, (k0_off242 v964) a + S1x1x32x32.size a ≤ S1x512x32x32.size a := fun v964 k0_hw242 => k0_hw242

def k0_off243 (v968 : BitVec 32) : Fin 4 → Nat :=
  let c0_726 : Index := 0#32
  let v969 : Index := Scalar.indexCast v968
  let c0_727 : Index := 0#32
  let c0_728 : Index := 0#32
  ![0, v969.toNat, 0, 0]

def k0_chk243 (v968 : BitVec 32) : Prop :=
  (∀ a, (k0_off243 v968) a + S1x1x32x32.size a ≤ S1x512x32x32.size a)
theorem k0_off243_inb : ∀ (v968 : BitVec 32) (k0_hw243 : k0_chk243 v968), ∀ a, (k0_off243 v968) a + S1x1x32x32.size a ≤ S1x512x32x32.size a := fun v968 k0_hw243 => k0_hw243

def k0_off244 (v972 : BitVec 32) : Fin 4 → Nat :=
  let c0_729 : Index := 0#32
  let v973 : Index := Scalar.indexCast v972
  let c0_730 : Index := 0#32
  let c0_731 : Index := 0#32
  ![0, v973.toNat, 0, 0]

def k0_chk244 (v972 : BitVec 32) : Prop :=
  (∀ a, (k0_off244 v972) a + S1x1x32x32.size a ≤ S1x512x32x32.size a)
theorem k0_off244_inb : ∀ (v972 : BitVec 32) (k0_hw244 : k0_chk244 v972), ∀ a, (k0_off244 v972) a + S1x1x32x32.size a ≤ S1x512x32x32.size a := fun v972 k0_hw244 => k0_hw244

def k0_off245 (v976 : BitVec 32) : Fin 4 → Nat :=
  let c0_732 : Index := 0#32
  let v977 : Index := Scalar.indexCast v976
  let c0_733 : Index := 0#32
  let c0_734 : Index := 0#32
  ![0, v977.toNat, 0, 0]

def k0_chk245 (v976 : BitVec 32) : Prop :=
  (∀ a, (k0_off245 v976) a + S1x1x32x32.size a ≤ S1x512x32x32.size a)
theorem k0_off245_inb : ∀ (v976 : BitVec 32) (k0_hw245 : k0_chk245 v976), ∀ a, (k0_off245 v976) a + S1x1x32x32.size a ≤ S1x512x32x32.size a := fun v976 k0_hw245 => k0_hw245

def k0_off246 (v980 : BitVec 32) : Fin 4 → Nat :=
  let c0_735 : Index := 0#32
  let v981 : Index := Scalar.indexCast v980
  let c0_736 : Index := 0#32
  let c0_737 : Index := 0#32
  ![0, v981.toNat, 0, 0]

def k0_chk246 (v980 : BitVec 32) : Prop :=
  (∀ a, (k0_off246 v980) a + S1x1x32x32.size a ≤ S1x512x32x32.size a)
theorem k0_off246_inb : ∀ (v980 : BitVec 32) (k0_hw246 : k0_chk246 v980), ∀ a, (k0_off246 v980) a + S1x1x32x32.size a ≤ S1x512x32x32.size a := fun v980 k0_hw246 => k0_hw246

def k0_off247 (v984 : BitVec 32) : Fin 4 → Nat :=
  let c0_738 : Index := 0#32
  let v985 : Index := Scalar.indexCast v984
  let c0_739 : Index := 0#32
  let c0_740 : Index := 0#32
  ![0, v985.toNat, 0, 0]

def k0_chk247 (v984 : BitVec 32) : Prop :=
  (∀ a, (k0_off247 v984) a + S1x1x32x32.size a ≤ S1x512x32x32.size a)
theorem k0_off247_inb : ∀ (v984 : BitVec 32) (k0_hw247 : k0_chk247 v984), ∀ a, (k0_off247 v984) a + S1x1x32x32.size a ≤ S1x512x32x32.size a := fun v984 k0_hw247 => k0_hw247

def k0_off248 (v988 : BitVec 32) : Fin 4 → Nat :=
  let c0_741 : Index := 0#32
  let v989 : Index := Scalar.indexCast v988
  let c0_742 : Index := 0#32
  let c0_743 : Index := 0#32
  ![0, v989.toNat, 0, 0]

def k0_chk248 (v988 : BitVec 32) : Prop :=
  (∀ a, (k0_off248 v988) a + S1x1x32x32.size a ≤ S1x512x32x32.size a)
theorem k0_off248_inb : ∀ (v988 : BitVec 32) (k0_hw248 : k0_chk248 v988), ∀ a, (k0_off248 v988) a + S1x1x32x32.size a ≤ S1x512x32x32.size a := fun v988 k0_hw248 => k0_hw248

def k0_off249 (v992 : BitVec 32) : Fin 4 → Nat :=
  let c0_744 : Index := 0#32
  let v993 : Index := Scalar.indexCast v992
  let c0_745 : Index := 0#32
  let c0_746 : Index := 0#32
  ![0, v993.toNat, 0, 0]

def k0_chk249 (v992 : BitVec 32) : Prop :=
  (∀ a, (k0_off249 v992) a + S1x1x32x32.size a ≤ S1x512x32x32.size a)
theorem k0_off249_inb : ∀ (v992 : BitVec 32) (k0_hw249 : k0_chk249 v992), ∀ a, (k0_off249 v992) a + S1x1x32x32.size a ≤ S1x512x32x32.size a := fun v992 k0_hw249 => k0_hw249

def k0_off250 (v996 : BitVec 32) : Fin 4 → Nat :=
  let c0_747 : Index := 0#32
  let v997 : Index := Scalar.indexCast v996
  let c0_748 : Index := 0#32
  let c0_749 : Index := 0#32
  ![0, v997.toNat, 0, 0]

def k0_chk250 (v996 : BitVec 32) : Prop :=
  (∀ a, (k0_off250 v996) a + S1x1x32x32.size a ≤ S1x512x32x32.size a)
theorem k0_off250_inb : ∀ (v996 : BitVec 32) (k0_hw250 : k0_chk250 v996), ∀ a, (k0_off250 v996) a + S1x1x32x32.size a ≤ S1x512x32x32.size a := fun v996 k0_hw250 => k0_hw250

def k0_off251 (v1000 : BitVec 32) : Fin 4 → Nat :=
  let c0_750 : Index := 0#32
  let v1001 : Index := Scalar.indexCast v1000
  let c0_751 : Index := 0#32
  let c0_752 : Index := 0#32
  ![0, v1001.toNat, 0, 0]

def k0_chk251 (v1000 : BitVec 32) : Prop :=
  (∀ a, (k0_off251 v1000) a + S1x1x32x32.size a ≤ S1x512x32x32.size a)
theorem k0_off251_inb : ∀ (v1000 : BitVec 32) (k0_hw251 : k0_chk251 v1000), ∀ a, (k0_off251 v1000) a + S1x1x32x32.size a ≤ S1x512x32x32.size a := fun v1000 k0_hw251 => k0_hw251

def k0_off252 (v1004 : BitVec 32) : Fin 4 → Nat :=
  let c0_753 : Index := 0#32
  let v1005 : Index := Scalar.indexCast v1004
  let c0_754 : Index := 0#32
  let c0_755 : Index := 0#32
  ![0, v1005.toNat, 0, 0]

def k0_chk252 (v1004 : BitVec 32) : Prop :=
  (∀ a, (k0_off252 v1004) a + S1x1x32x32.size a ≤ S1x512x32x32.size a)
theorem k0_off252_inb : ∀ (v1004 : BitVec 32) (k0_hw252 : k0_chk252 v1004), ∀ a, (k0_off252 v1004) a + S1x1x32x32.size a ≤ S1x512x32x32.size a := fun v1004 k0_hw252 => k0_hw252

def k0_off253 (v1008 : BitVec 32) : Fin 4 → Nat :=
  let c0_756 : Index := 0#32
  let v1009 : Index := Scalar.indexCast v1008
  let c0_757 : Index := 0#32
  let c0_758 : Index := 0#32
  ![0, v1009.toNat, 0, 0]

def k0_chk253 (v1008 : BitVec 32) : Prop :=
  (∀ a, (k0_off253 v1008) a + S1x1x32x32.size a ≤ S1x512x32x32.size a)
theorem k0_off253_inb : ∀ (v1008 : BitVec 32) (k0_hw253 : k0_chk253 v1008), ∀ a, (k0_off253 v1008) a + S1x1x32x32.size a ≤ S1x512x32x32.size a := fun v1008 k0_hw253 => k0_hw253

def k0_off254 (v1012 : BitVec 32) : Fin 4 → Nat :=
  let c0_759 : Index := 0#32
  let v1013 : Index := Scalar.indexCast v1012
  let c0_760 : Index := 0#32
  let c0_761 : Index := 0#32
  ![0, v1013.toNat, 0, 0]

def k0_chk254 (v1012 : BitVec 32) : Prop :=
  (∀ a, (k0_off254 v1012) a + S1x1x32x32.size a ≤ S1x512x32x32.size a)
theorem k0_off254_inb : ∀ (v1012 : BitVec 32) (k0_hw254 : k0_chk254 v1012), ∀ a, (k0_off254 v1012) a + S1x1x32x32.size a ≤ S1x512x32x32.size a := fun v1012 k0_hw254 => k0_hw254

def k0_off255 (v1016 : BitVec 32) : Fin 4 → Nat :=
  let c0_762 : Index := 0#32
  let v1017 : Index := Scalar.indexCast v1016
  let c0_763 : Index := 0#32
  let c0_764 : Index := 0#32
  ![0, v1017.toNat, 0, 0]

def k0_chk255 (v1016 : BitVec 32) : Prop :=
  (∀ a, (k0_off255 v1016) a + S1x1x32x32.size a ≤ S1x512x32x32.size a)
theorem k0_off255_inb : ∀ (v1016 : BitVec 32) (k0_hw255 : k0_chk255 v1016), ∀ a, (k0_off255 v1016) a + S1x1x32x32.size a ≤ S1x512x32x32.size a := fun v1016 k0_hw255 => k0_hw255

def k0_off256 (v1020 : BitVec 32) : Fin 4 → Nat :=
  let c0_765 : Index := 0#32
  let v1021 : Index := Scalar.indexCast v1020
  let c0_766 : Index := 0#32
  let c0_767 : Index := 0#32
  ![0, v1021.toNat, 0, 0]

def k0_chk256 (v1020 : BitVec 32) : Prop :=
  (∀ a, (k0_off256 v1020) a + S1x1x32x32.size a ≤ S1x512x32x32.size a)
theorem k0_off256_inb : ∀ (v1020 : BitVec 32) (k0_hw256 : k0_chk256 v1020), ∀ a, (k0_off256 v1020) a + S1x1x32x32.size a ≤ S1x512x32x32.size a := fun v1020 k0_hw256 => k0_hw256

def k0_off257 (v2564 : BitVec 32) : Fin 4 → Nat :=
  let c0_2563 : Index := 0#32
  let v2565 : Index := Scalar.indexCast v2564
  let c0_2564 : Index := 0#32
  let c0_2565 : Index := 0#32
  ![0, v2565.toNat, 0, 0]

def k0_chk257 (v2564 : BitVec 32) : Prop :=
  (∀ a, (k0_off257 v2564) a + S1x1x16x16.size a ≤ S1x256x16x16.size a)
theorem k0_off257_inb : ∀ (v2564 : BitVec 32) (k0_hw257 : k0_chk257 v2564), ∀ a, (k0_off257 v2564) a + S1x1x16x16.size a ≤ S1x256x16x16.size a := fun v2564 k0_hw257 => k0_hw257

def k0_off258 (v2568 : BitVec 32) : Fin 4 → Nat :=
  let c0_2567 : Index := 0#32
  let v2569 : Index := Scalar.indexCast v2568
  let c0_2568 : Index := 0#32
  let c0_2569 : Index := 0#32
  ![0, v2569.toNat, 0, 0]

def k0_chk258 (v2568 : BitVec 32) : Prop :=
  (∀ a, (k0_off258 v2568) a + S1x1x16x16.size a ≤ S1x256x16x16.size a)
theorem k0_off258_inb : ∀ (v2568 : BitVec 32) (k0_hw258 : k0_chk258 v2568), ∀ a, (k0_off258 v2568) a + S1x1x16x16.size a ≤ S1x256x16x16.size a := fun v2568 k0_hw258 => k0_hw258

def k0_off259 (v2572 : BitVec 32) : Fin 4 → Nat :=
  let c0_2571 : Index := 0#32
  let v2573 : Index := Scalar.indexCast v2572
  let c0_2572 : Index := 0#32
  let c0_2573 : Index := 0#32
  ![0, v2573.toNat, 0, 0]

def k0_chk259 (v2572 : BitVec 32) : Prop :=
  (∀ a, (k0_off259 v2572) a + S1x1x16x16.size a ≤ S1x256x16x16.size a)
theorem k0_off259_inb : ∀ (v2572 : BitVec 32) (k0_hw259 : k0_chk259 v2572), ∀ a, (k0_off259 v2572) a + S1x1x16x16.size a ≤ S1x256x16x16.size a := fun v2572 k0_hw259 => k0_hw259

def k0_off260 (v2576 : BitVec 32) : Fin 4 → Nat :=
  let c0_2575 : Index := 0#32
  let v2577 : Index := Scalar.indexCast v2576
  let c0_2576 : Index := 0#32
  let c0_2577 : Index := 0#32
  ![0, v2577.toNat, 0, 0]

def k0_chk260 (v2576 : BitVec 32) : Prop :=
  (∀ a, (k0_off260 v2576) a + S1x1x16x16.size a ≤ S1x256x16x16.size a)
theorem k0_off260_inb : ∀ (v2576 : BitVec 32) (k0_hw260 : k0_chk260 v2576), ∀ a, (k0_off260 v2576) a + S1x1x16x16.size a ≤ S1x256x16x16.size a := fun v2576 k0_hw260 => k0_hw260

def k0_off261 (v2580 : BitVec 32) : Fin 4 → Nat :=
  let c0_2579 : Index := 0#32
  let v2581 : Index := Scalar.indexCast v2580
  let c0_2580 : Index := 0#32
  let c0_2581 : Index := 0#32
  ![0, v2581.toNat, 0, 0]

def k0_chk261 (v2580 : BitVec 32) : Prop :=
  (∀ a, (k0_off261 v2580) a + S1x1x16x16.size a ≤ S1x256x16x16.size a)
theorem k0_off261_inb : ∀ (v2580 : BitVec 32) (k0_hw261 : k0_chk261 v2580), ∀ a, (k0_off261 v2580) a + S1x1x16x16.size a ≤ S1x256x16x16.size a := fun v2580 k0_hw261 => k0_hw261

def k0_off262 (v2584 : BitVec 32) : Fin 4 → Nat :=
  let c0_2583 : Index := 0#32
  let v2585 : Index := Scalar.indexCast v2584
  let c0_2584 : Index := 0#32
  let c0_2585 : Index := 0#32
  ![0, v2585.toNat, 0, 0]

def k0_chk262 (v2584 : BitVec 32) : Prop :=
  (∀ a, (k0_off262 v2584) a + S1x1x16x16.size a ≤ S1x256x16x16.size a)
theorem k0_off262_inb : ∀ (v2584 : BitVec 32) (k0_hw262 : k0_chk262 v2584), ∀ a, (k0_off262 v2584) a + S1x1x16x16.size a ≤ S1x256x16x16.size a := fun v2584 k0_hw262 => k0_hw262

def k0_off263 (v2588 : BitVec 32) : Fin 4 → Nat :=
  let c0_2587 : Index := 0#32
  let v2589 : Index := Scalar.indexCast v2588
  let c0_2588 : Index := 0#32
  let c0_2589 : Index := 0#32
  ![0, v2589.toNat, 0, 0]

def k0_chk263 (v2588 : BitVec 32) : Prop :=
  (∀ a, (k0_off263 v2588) a + S1x1x16x16.size a ≤ S1x256x16x16.size a)
theorem k0_off263_inb : ∀ (v2588 : BitVec 32) (k0_hw263 : k0_chk263 v2588), ∀ a, (k0_off263 v2588) a + S1x1x16x16.size a ≤ S1x256x16x16.size a := fun v2588 k0_hw263 => k0_hw263

def k0_off264 (v2592 : BitVec 32) : Fin 4 → Nat :=
  let c0_2591 : Index := 0#32
  let v2593 : Index := Scalar.indexCast v2592
  let c0_2592 : Index := 0#32
  let c0_2593 : Index := 0#32
  ![0, v2593.toNat, 0, 0]

def k0_chk264 (v2592 : BitVec 32) : Prop :=
  (∀ a, (k0_off264 v2592) a + S1x1x16x16.size a ≤ S1x256x16x16.size a)
theorem k0_off264_inb : ∀ (v2592 : BitVec 32) (k0_hw264 : k0_chk264 v2592), ∀ a, (k0_off264 v2592) a + S1x1x16x16.size a ≤ S1x256x16x16.size a := fun v2592 k0_hw264 => k0_hw264

def k0_off265 (v2596 : BitVec 32) : Fin 4 → Nat :=
  let c0_2595 : Index := 0#32
  let v2597 : Index := Scalar.indexCast v2596
  let c0_2596 : Index := 0#32
  let c0_2597 : Index := 0#32
  ![0, v2597.toNat, 0, 0]

def k0_chk265 (v2596 : BitVec 32) : Prop :=
  (∀ a, (k0_off265 v2596) a + S1x1x16x16.size a ≤ S1x256x16x16.size a)
theorem k0_off265_inb : ∀ (v2596 : BitVec 32) (k0_hw265 : k0_chk265 v2596), ∀ a, (k0_off265 v2596) a + S1x1x16x16.size a ≤ S1x256x16x16.size a := fun v2596 k0_hw265 => k0_hw265

def k0_off266 (v2600 : BitVec 32) : Fin 4 → Nat :=
  let c0_2599 : Index := 0#32
  let v2601 : Index := Scalar.indexCast v2600
  let c0_2600 : Index := 0#32
  let c0_2601 : Index := 0#32
  ![0, v2601.toNat, 0, 0]

def k0_chk266 (v2600 : BitVec 32) : Prop :=
  (∀ a, (k0_off266 v2600) a + S1x1x16x16.size a ≤ S1x256x16x16.size a)
theorem k0_off266_inb : ∀ (v2600 : BitVec 32) (k0_hw266 : k0_chk266 v2600), ∀ a, (k0_off266 v2600) a + S1x1x16x16.size a ≤ S1x256x16x16.size a := fun v2600 k0_hw266 => k0_hw266

def k0_off267 (v2604 : BitVec 32) : Fin 4 → Nat :=
  let c0_2603 : Index := 0#32
  let v2605 : Index := Scalar.indexCast v2604
  let c0_2604 : Index := 0#32
  let c0_2605 : Index := 0#32
  ![0, v2605.toNat, 0, 0]

def k0_chk267 (v2604 : BitVec 32) : Prop :=
  (∀ a, (k0_off267 v2604) a + S1x1x16x16.size a ≤ S1x256x16x16.size a)
theorem k0_off267_inb : ∀ (v2604 : BitVec 32) (k0_hw267 : k0_chk267 v2604), ∀ a, (k0_off267 v2604) a + S1x1x16x16.size a ≤ S1x256x16x16.size a := fun v2604 k0_hw267 => k0_hw267

def k0_off268 (v2608 : BitVec 32) : Fin 4 → Nat :=
  let c0_2607 : Index := 0#32
  let v2609 : Index := Scalar.indexCast v2608
  let c0_2608 : Index := 0#32
  let c0_2609 : Index := 0#32
  ![0, v2609.toNat, 0, 0]

def k0_chk268 (v2608 : BitVec 32) : Prop :=
  (∀ a, (k0_off268 v2608) a + S1x1x16x16.size a ≤ S1x256x16x16.size a)
theorem k0_off268_inb : ∀ (v2608 : BitVec 32) (k0_hw268 : k0_chk268 v2608), ∀ a, (k0_off268 v2608) a + S1x1x16x16.size a ≤ S1x256x16x16.size a := fun v2608 k0_hw268 => k0_hw268

def k0_off269 (v2612 : BitVec 32) : Fin 4 → Nat :=
  let c0_2611 : Index := 0#32
  let v2613 : Index := Scalar.indexCast v2612
  let c0_2612 : Index := 0#32
  let c0_2613 : Index := 0#32
  ![0, v2613.toNat, 0, 0]

def k0_chk269 (v2612 : BitVec 32) : Prop :=
  (∀ a, (k0_off269 v2612) a + S1x1x16x16.size a ≤ S1x256x16x16.size a)
theorem k0_off269_inb : ∀ (v2612 : BitVec 32) (k0_hw269 : k0_chk269 v2612), ∀ a, (k0_off269 v2612) a + S1x1x16x16.size a ≤ S1x256x16x16.size a := fun v2612 k0_hw269 => k0_hw269

def k0_off270 (v2616 : BitVec 32) : Fin 4 → Nat :=
  let c0_2615 : Index := 0#32
  let v2617 : Index := Scalar.indexCast v2616
  let c0_2616 : Index := 0#32
  let c0_2617 : Index := 0#32
  ![0, v2617.toNat, 0, 0]

def k0_chk270 (v2616 : BitVec 32) : Prop :=
  (∀ a, (k0_off270 v2616) a + S1x1x16x16.size a ≤ S1x256x16x16.size a)
theorem k0_off270_inb : ∀ (v2616 : BitVec 32) (k0_hw270 : k0_chk270 v2616), ∀ a, (k0_off270 v2616) a + S1x1x16x16.size a ≤ S1x256x16x16.size a := fun v2616 k0_hw270 => k0_hw270

def k0_off271 (v2620 : BitVec 32) : Fin 4 → Nat :=
  let c0_2619 : Index := 0#32
  let v2621 : Index := Scalar.indexCast v2620
  let c0_2620 : Index := 0#32
  let c0_2621 : Index := 0#32
  ![0, v2621.toNat, 0, 0]

def k0_chk271 (v2620 : BitVec 32) : Prop :=
  (∀ a, (k0_off271 v2620) a + S1x1x16x16.size a ≤ S1x256x16x16.size a)
theorem k0_off271_inb : ∀ (v2620 : BitVec 32) (k0_hw271 : k0_chk271 v2620), ∀ a, (k0_off271 v2620) a + S1x1x16x16.size a ≤ S1x256x16x16.size a := fun v2620 k0_hw271 => k0_hw271

def k0_off272 (v2624 : BitVec 32) : Fin 4 → Nat :=
  let c0_2623 : Index := 0#32
  let v2625 : Index := Scalar.indexCast v2624
  let c0_2624 : Index := 0#32
  let c0_2625 : Index := 0#32
  ![0, v2625.toNat, 0, 0]

def k0_chk272 (v2624 : BitVec 32) : Prop :=
  (∀ a, (k0_off272 v2624) a + S1x1x16x16.size a ≤ S1x256x16x16.size a)
theorem k0_off272_inb : ∀ (v2624 : BitVec 32) (k0_hw272 : k0_chk272 v2624), ∀ a, (k0_off272 v2624) a + S1x1x16x16.size a ≤ S1x256x16x16.size a := fun v2624 k0_hw272 => k0_hw272

def k0_off273 (v2628 : BitVec 32) : Fin 4 → Nat :=
  let c0_2627 : Index := 0#32
  let v2629 : Index := Scalar.indexCast v2628
  let c0_2628 : Index := 0#32
  let c0_2629 : Index := 0#32
  ![0, v2629.toNat, 0, 0]

def k0_chk273 (v2628 : BitVec 32) : Prop :=
  (∀ a, (k0_off273 v2628) a + S1x1x16x16.size a ≤ S1x256x16x16.size a)
theorem k0_off273_inb : ∀ (v2628 : BitVec 32) (k0_hw273 : k0_chk273 v2628), ∀ a, (k0_off273 v2628) a + S1x1x16x16.size a ≤ S1x256x16x16.size a := fun v2628 k0_hw273 => k0_hw273

def k0_off274 (v2632 : BitVec 32) : Fin 4 → Nat :=
  let c0_2631 : Index := 0#32
  let v2633 : Index := Scalar.indexCast v2632
  let c0_2632 : Index := 0#32
  let c0_2633 : Index := 0#32
  ![0, v2633.toNat, 0, 0]

def k0_chk274 (v2632 : BitVec 32) : Prop :=
  (∀ a, (k0_off274 v2632) a + S1x1x16x16.size a ≤ S1x256x16x16.size a)
theorem k0_off274_inb : ∀ (v2632 : BitVec 32) (k0_hw274 : k0_chk274 v2632), ∀ a, (k0_off274 v2632) a + S1x1x16x16.size a ≤ S1x256x16x16.size a := fun v2632 k0_hw274 => k0_hw274

def k0_off275 (v2636 : BitVec 32) : Fin 4 → Nat :=
  let c0_2635 : Index := 0#32
  let v2637 : Index := Scalar.indexCast v2636
  let c0_2636 : Index := 0#32
  let c0_2637 : Index := 0#32
  ![0, v2637.toNat, 0, 0]

def k0_chk275 (v2636 : BitVec 32) : Prop :=
  (∀ a, (k0_off275 v2636) a + S1x1x16x16.size a ≤ S1x256x16x16.size a)
theorem k0_off275_inb : ∀ (v2636 : BitVec 32) (k0_hw275 : k0_chk275 v2636), ∀ a, (k0_off275 v2636) a + S1x1x16x16.size a ≤ S1x256x16x16.size a := fun v2636 k0_hw275 => k0_hw275

def k0_off276 (v2640 : BitVec 32) : Fin 4 → Nat :=
  let c0_2639 : Index := 0#32
  let v2641 : Index := Scalar.indexCast v2640
  let c0_2640 : Index := 0#32
  let c0_2641 : Index := 0#32
  ![0, v2641.toNat, 0, 0]

def k0_chk276 (v2640 : BitVec 32) : Prop :=
  (∀ a, (k0_off276 v2640) a + S1x1x16x16.size a ≤ S1x256x16x16.size a)
theorem k0_off276_inb : ∀ (v2640 : BitVec 32) (k0_hw276 : k0_chk276 v2640), ∀ a, (k0_off276 v2640) a + S1x1x16x16.size a ≤ S1x256x16x16.size a := fun v2640 k0_hw276 => k0_hw276

def k0_off277 (v2644 : BitVec 32) : Fin 4 → Nat :=
  let c0_2643 : Index := 0#32
  let v2645 : Index := Scalar.indexCast v2644
  let c0_2644 : Index := 0#32
  let c0_2645 : Index := 0#32
  ![0, v2645.toNat, 0, 0]

def k0_chk277 (v2644 : BitVec 32) : Prop :=
  (∀ a, (k0_off277 v2644) a + S1x1x16x16.size a ≤ S1x256x16x16.size a)
theorem k0_off277_inb : ∀ (v2644 : BitVec 32) (k0_hw277 : k0_chk277 v2644), ∀ a, (k0_off277 v2644) a + S1x1x16x16.size a ≤ S1x256x16x16.size a := fun v2644 k0_hw277 => k0_hw277

def k0_off278 (v2648 : BitVec 32) : Fin 4 → Nat :=
  let c0_2647 : Index := 0#32
  let v2649 : Index := Scalar.indexCast v2648
  let c0_2648 : Index := 0#32
  let c0_2649 : Index := 0#32
  ![0, v2649.toNat, 0, 0]

def k0_chk278 (v2648 : BitVec 32) : Prop :=
  (∀ a, (k0_off278 v2648) a + S1x1x16x16.size a ≤ S1x256x16x16.size a)
theorem k0_off278_inb : ∀ (v2648 : BitVec 32) (k0_hw278 : k0_chk278 v2648), ∀ a, (k0_off278 v2648) a + S1x1x16x16.size a ≤ S1x256x16x16.size a := fun v2648 k0_hw278 => k0_hw278

def k0_off279 (v2652 : BitVec 32) : Fin 4 → Nat :=
  let c0_2651 : Index := 0#32
  let v2653 : Index := Scalar.indexCast v2652
  let c0_2652 : Index := 0#32
  let c0_2653 : Index := 0#32
  ![0, v2653.toNat, 0, 0]

def k0_chk279 (v2652 : BitVec 32) : Prop :=
  (∀ a, (k0_off279 v2652) a + S1x1x16x16.size a ≤ S1x256x16x16.size a)
theorem k0_off279_inb : ∀ (v2652 : BitVec 32) (k0_hw279 : k0_chk279 v2652), ∀ a, (k0_off279 v2652) a + S1x1x16x16.size a ≤ S1x256x16x16.size a := fun v2652 k0_hw279 => k0_hw279

def k0_off280 (v2656 : BitVec 32) : Fin 4 → Nat :=
  let c0_2655 : Index := 0#32
  let v2657 : Index := Scalar.indexCast v2656
  let c0_2656 : Index := 0#32
  let c0_2657 : Index := 0#32
  ![0, v2657.toNat, 0, 0]

def k0_chk280 (v2656 : BitVec 32) : Prop :=
  (∀ a, (k0_off280 v2656) a + S1x1x16x16.size a ≤ S1x256x16x16.size a)
theorem k0_off280_inb : ∀ (v2656 : BitVec 32) (k0_hw280 : k0_chk280 v2656), ∀ a, (k0_off280 v2656) a + S1x1x16x16.size a ≤ S1x256x16x16.size a := fun v2656 k0_hw280 => k0_hw280

def k0_off281 (v2660 : BitVec 32) : Fin 4 → Nat :=
  let c0_2659 : Index := 0#32
  let v2661 : Index := Scalar.indexCast v2660
  let c0_2660 : Index := 0#32
  let c0_2661 : Index := 0#32
  ![0, v2661.toNat, 0, 0]

def k0_chk281 (v2660 : BitVec 32) : Prop :=
  (∀ a, (k0_off281 v2660) a + S1x1x16x16.size a ≤ S1x256x16x16.size a)
theorem k0_off281_inb : ∀ (v2660 : BitVec 32) (k0_hw281 : k0_chk281 v2660), ∀ a, (k0_off281 v2660) a + S1x1x16x16.size a ≤ S1x256x16x16.size a := fun v2660 k0_hw281 => k0_hw281

def k0_off282 (v2664 : BitVec 32) : Fin 4 → Nat :=
  let c0_2663 : Index := 0#32
  let v2665 : Index := Scalar.indexCast v2664
  let c0_2664 : Index := 0#32
  let c0_2665 : Index := 0#32
  ![0, v2665.toNat, 0, 0]

def k0_chk282 (v2664 : BitVec 32) : Prop :=
  (∀ a, (k0_off282 v2664) a + S1x1x16x16.size a ≤ S1x256x16x16.size a)
theorem k0_off282_inb : ∀ (v2664 : BitVec 32) (k0_hw282 : k0_chk282 v2664), ∀ a, (k0_off282 v2664) a + S1x1x16x16.size a ≤ S1x256x16x16.size a := fun v2664 k0_hw282 => k0_hw282

def k0_off283 (v2668 : BitVec 32) : Fin 4 → Nat :=
  let c0_2667 : Index := 0#32
  let v2669 : Index := Scalar.indexCast v2668
  let c0_2668 : Index := 0#32
  let c0_2669 : Index := 0#32
  ![0, v2669.toNat, 0, 0]

def k0_chk283 (v2668 : BitVec 32) : Prop :=
  (∀ a, (k0_off283 v2668) a + S1x1x16x16.size a ≤ S1x256x16x16.size a)
theorem k0_off283_inb : ∀ (v2668 : BitVec 32) (k0_hw283 : k0_chk283 v2668), ∀ a, (k0_off283 v2668) a + S1x1x16x16.size a ≤ S1x256x16x16.size a := fun v2668 k0_hw283 => k0_hw283

def k0_off284 (v2672 : BitVec 32) : Fin 4 → Nat :=
  let c0_2671 : Index := 0#32
  let v2673 : Index := Scalar.indexCast v2672
  let c0_2672 : Index := 0#32
  let c0_2673 : Index := 0#32
  ![0, v2673.toNat, 0, 0]

def k0_chk284 (v2672 : BitVec 32) : Prop :=
  (∀ a, (k0_off284 v2672) a + S1x1x16x16.size a ≤ S1x256x16x16.size a)
theorem k0_off284_inb : ∀ (v2672 : BitVec 32) (k0_hw284 : k0_chk284 v2672), ∀ a, (k0_off284 v2672) a + S1x1x16x16.size a ≤ S1x256x16x16.size a := fun v2672 k0_hw284 => k0_hw284

def k0_off285 (v2676 : BitVec 32) : Fin 4 → Nat :=
  let c0_2675 : Index := 0#32
  let v2677 : Index := Scalar.indexCast v2676
  let c0_2676 : Index := 0#32
  let c0_2677 : Index := 0#32
  ![0, v2677.toNat, 0, 0]

def k0_chk285 (v2676 : BitVec 32) : Prop :=
  (∀ a, (k0_off285 v2676) a + S1x1x16x16.size a ≤ S1x256x16x16.size a)
theorem k0_off285_inb : ∀ (v2676 : BitVec 32) (k0_hw285 : k0_chk285 v2676), ∀ a, (k0_off285 v2676) a + S1x1x16x16.size a ≤ S1x256x16x16.size a := fun v2676 k0_hw285 => k0_hw285

def k0_off286 (v2680 : BitVec 32) : Fin 4 → Nat :=
  let c0_2679 : Index := 0#32
  let v2681 : Index := Scalar.indexCast v2680
  let c0_2680 : Index := 0#32
  let c0_2681 : Index := 0#32
  ![0, v2681.toNat, 0, 0]

def k0_chk286 (v2680 : BitVec 32) : Prop :=
  (∀ a, (k0_off286 v2680) a + S1x1x16x16.size a ≤ S1x256x16x16.size a)
theorem k0_off286_inb : ∀ (v2680 : BitVec 32) (k0_hw286 : k0_chk286 v2680), ∀ a, (k0_off286 v2680) a + S1x1x16x16.size a ≤ S1x256x16x16.size a := fun v2680 k0_hw286 => k0_hw286

def k0_off287 (v2684 : BitVec 32) : Fin 4 → Nat :=
  let c0_2683 : Index := 0#32
  let v2685 : Index := Scalar.indexCast v2684
  let c0_2684 : Index := 0#32
  let c0_2685 : Index := 0#32
  ![0, v2685.toNat, 0, 0]

def k0_chk287 (v2684 : BitVec 32) : Prop :=
  (∀ a, (k0_off287 v2684) a + S1x1x16x16.size a ≤ S1x256x16x16.size a)
theorem k0_off287_inb : ∀ (v2684 : BitVec 32) (k0_hw287 : k0_chk287 v2684), ∀ a, (k0_off287 v2684) a + S1x1x16x16.size a ≤ S1x256x16x16.size a := fun v2684 k0_hw287 => k0_hw287

def k0_off288 (v2688 : BitVec 32) : Fin 4 → Nat :=
  let c0_2687 : Index := 0#32
  let v2689 : Index := Scalar.indexCast v2688
  let c0_2688 : Index := 0#32
  let c0_2689 : Index := 0#32
  ![0, v2689.toNat, 0, 0]

def k0_chk288 (v2688 : BitVec 32) : Prop :=
  (∀ a, (k0_off288 v2688) a + S1x1x16x16.size a ≤ S1x256x16x16.size a)
theorem k0_off288_inb : ∀ (v2688 : BitVec 32) (k0_hw288 : k0_chk288 v2688), ∀ a, (k0_off288 v2688) a + S1x1x16x16.size a ≤ S1x256x16x16.size a := fun v2688 k0_hw288 => k0_hw288

def k0_off289 (v2692 : BitVec 32) : Fin 4 → Nat :=
  let c0_2691 : Index := 0#32
  let v2693 : Index := Scalar.indexCast v2692
  let c0_2692 : Index := 0#32
  let c0_2693 : Index := 0#32
  ![0, v2693.toNat, 0, 0]

def k0_chk289 (v2692 : BitVec 32) : Prop :=
  (∀ a, (k0_off289 v2692) a + S1x1x16x16.size a ≤ S1x256x16x16.size a)
theorem k0_off289_inb : ∀ (v2692 : BitVec 32) (k0_hw289 : k0_chk289 v2692), ∀ a, (k0_off289 v2692) a + S1x1x16x16.size a ≤ S1x256x16x16.size a := fun v2692 k0_hw289 => k0_hw289

def k0_off290 (v2696 : BitVec 32) : Fin 4 → Nat :=
  let c0_2695 : Index := 0#32
  let v2697 : Index := Scalar.indexCast v2696
  let c0_2696 : Index := 0#32
  let c0_2697 : Index := 0#32
  ![0, v2697.toNat, 0, 0]

def k0_chk290 (v2696 : BitVec 32) : Prop :=
  (∀ a, (k0_off290 v2696) a + S1x1x16x16.size a ≤ S1x256x16x16.size a)
theorem k0_off290_inb : ∀ (v2696 : BitVec 32) (k0_hw290 : k0_chk290 v2696), ∀ a, (k0_off290 v2696) a + S1x1x16x16.size a ≤ S1x256x16x16.size a := fun v2696 k0_hw290 => k0_hw290

def k0_off291 (v2700 : BitVec 32) : Fin 4 → Nat :=
  let c0_2699 : Index := 0#32
  let v2701 : Index := Scalar.indexCast v2700
  let c0_2700 : Index := 0#32
  let c0_2701 : Index := 0#32
  ![0, v2701.toNat, 0, 0]

def k0_chk291 (v2700 : BitVec 32) : Prop :=
  (∀ a, (k0_off291 v2700) a + S1x1x16x16.size a ≤ S1x256x16x16.size a)
theorem k0_off291_inb : ∀ (v2700 : BitVec 32) (k0_hw291 : k0_chk291 v2700), ∀ a, (k0_off291 v2700) a + S1x1x16x16.size a ≤ S1x256x16x16.size a := fun v2700 k0_hw291 => k0_hw291

def k0_off292 (v2704 : BitVec 32) : Fin 4 → Nat :=
  let c0_2703 : Index := 0#32
  let v2705 : Index := Scalar.indexCast v2704
  let c0_2704 : Index := 0#32
  let c0_2705 : Index := 0#32
  ![0, v2705.toNat, 0, 0]

def k0_chk292 (v2704 : BitVec 32) : Prop :=
  (∀ a, (k0_off292 v2704) a + S1x1x16x16.size a ≤ S1x256x16x16.size a)
theorem k0_off292_inb : ∀ (v2704 : BitVec 32) (k0_hw292 : k0_chk292 v2704), ∀ a, (k0_off292 v2704) a + S1x1x16x16.size a ≤ S1x256x16x16.size a := fun v2704 k0_hw292 => k0_hw292

def k0_off293 (v2708 : BitVec 32) : Fin 4 → Nat :=
  let c0_2707 : Index := 0#32
  let v2709 : Index := Scalar.indexCast v2708
  let c0_2708 : Index := 0#32
  let c0_2709 : Index := 0#32
  ![0, v2709.toNat, 0, 0]

def k0_chk293 (v2708 : BitVec 32) : Prop :=
  (∀ a, (k0_off293 v2708) a + S1x1x16x16.size a ≤ S1x256x16x16.size a)
theorem k0_off293_inb : ∀ (v2708 : BitVec 32) (k0_hw293 : k0_chk293 v2708), ∀ a, (k0_off293 v2708) a + S1x1x16x16.size a ≤ S1x256x16x16.size a := fun v2708 k0_hw293 => k0_hw293

def k0_off294 (v2712 : BitVec 32) : Fin 4 → Nat :=
  let c0_2711 : Index := 0#32
  let v2713 : Index := Scalar.indexCast v2712
  let c0_2712 : Index := 0#32
  let c0_2713 : Index := 0#32
  ![0, v2713.toNat, 0, 0]

def k0_chk294 (v2712 : BitVec 32) : Prop :=
  (∀ a, (k0_off294 v2712) a + S1x1x16x16.size a ≤ S1x256x16x16.size a)
theorem k0_off294_inb : ∀ (v2712 : BitVec 32) (k0_hw294 : k0_chk294 v2712), ∀ a, (k0_off294 v2712) a + S1x1x16x16.size a ≤ S1x256x16x16.size a := fun v2712 k0_hw294 => k0_hw294

def k0_off295 (v2716 : BitVec 32) : Fin 4 → Nat :=
  let c0_2715 : Index := 0#32
  let v2717 : Index := Scalar.indexCast v2716
  let c0_2716 : Index := 0#32
  let c0_2717 : Index := 0#32
  ![0, v2717.toNat, 0, 0]

def k0_chk295 (v2716 : BitVec 32) : Prop :=
  (∀ a, (k0_off295 v2716) a + S1x1x16x16.size a ≤ S1x256x16x16.size a)
theorem k0_off295_inb : ∀ (v2716 : BitVec 32) (k0_hw295 : k0_chk295 v2716), ∀ a, (k0_off295 v2716) a + S1x1x16x16.size a ≤ S1x256x16x16.size a := fun v2716 k0_hw295 => k0_hw295

def k0_off296 (v2720 : BitVec 32) : Fin 4 → Nat :=
  let c0_2719 : Index := 0#32
  let v2721 : Index := Scalar.indexCast v2720
  let c0_2720 : Index := 0#32
  let c0_2721 : Index := 0#32
  ![0, v2721.toNat, 0, 0]

def k0_chk296 (v2720 : BitVec 32) : Prop :=
  (∀ a, (k0_off296 v2720) a + S1x1x16x16.size a ≤ S1x256x16x16.size a)
theorem k0_off296_inb : ∀ (v2720 : BitVec 32) (k0_hw296 : k0_chk296 v2720), ∀ a, (k0_off296 v2720) a + S1x1x16x16.size a ≤ S1x256x16x16.size a := fun v2720 k0_hw296 => k0_hw296

def k0_off297 (v2724 : BitVec 32) : Fin 4 → Nat :=
  let c0_2723 : Index := 0#32
  let v2725 : Index := Scalar.indexCast v2724
  let c0_2724 : Index := 0#32
  let c0_2725 : Index := 0#32
  ![0, v2725.toNat, 0, 0]

def k0_chk297 (v2724 : BitVec 32) : Prop :=
  (∀ a, (k0_off297 v2724) a + S1x1x16x16.size a ≤ S1x256x16x16.size a)
theorem k0_off297_inb : ∀ (v2724 : BitVec 32) (k0_hw297 : k0_chk297 v2724), ∀ a, (k0_off297 v2724) a + S1x1x16x16.size a ≤ S1x256x16x16.size a := fun v2724 k0_hw297 => k0_hw297

def k0_off298 (v2728 : BitVec 32) : Fin 4 → Nat :=
  let c0_2727 : Index := 0#32
  let v2729 : Index := Scalar.indexCast v2728
  let c0_2728 : Index := 0#32
  let c0_2729 : Index := 0#32
  ![0, v2729.toNat, 0, 0]

def k0_chk298 (v2728 : BitVec 32) : Prop :=
  (∀ a, (k0_off298 v2728) a + S1x1x16x16.size a ≤ S1x256x16x16.size a)
theorem k0_off298_inb : ∀ (v2728 : BitVec 32) (k0_hw298 : k0_chk298 v2728), ∀ a, (k0_off298 v2728) a + S1x1x16x16.size a ≤ S1x256x16x16.size a := fun v2728 k0_hw298 => k0_hw298

def k0_off299 (v2732 : BitVec 32) : Fin 4 → Nat :=
  let c0_2731 : Index := 0#32
  let v2733 : Index := Scalar.indexCast v2732
  let c0_2732 : Index := 0#32
  let c0_2733 : Index := 0#32
  ![0, v2733.toNat, 0, 0]

def k0_chk299 (v2732 : BitVec 32) : Prop :=
  (∀ a, (k0_off299 v2732) a + S1x1x16x16.size a ≤ S1x256x16x16.size a)
theorem k0_off299_inb : ∀ (v2732 : BitVec 32) (k0_hw299 : k0_chk299 v2732), ∀ a, (k0_off299 v2732) a + S1x1x16x16.size a ≤ S1x256x16x16.size a := fun v2732 k0_hw299 => k0_hw299

def k0_off300 (v2736 : BitVec 32) : Fin 4 → Nat :=
  let c0_2735 : Index := 0#32
  let v2737 : Index := Scalar.indexCast v2736
  let c0_2736 : Index := 0#32
  let c0_2737 : Index := 0#32
  ![0, v2737.toNat, 0, 0]

def k0_chk300 (v2736 : BitVec 32) : Prop :=
  (∀ a, (k0_off300 v2736) a + S1x1x16x16.size a ≤ S1x256x16x16.size a)
theorem k0_off300_inb : ∀ (v2736 : BitVec 32) (k0_hw300 : k0_chk300 v2736), ∀ a, (k0_off300 v2736) a + S1x1x16x16.size a ≤ S1x256x16x16.size a := fun v2736 k0_hw300 => k0_hw300

def k0_off301 (v2740 : BitVec 32) : Fin 4 → Nat :=
  let c0_2739 : Index := 0#32
  let v2741 : Index := Scalar.indexCast v2740
  let c0_2740 : Index := 0#32
  let c0_2741 : Index := 0#32
  ![0, v2741.toNat, 0, 0]

def k0_chk301 (v2740 : BitVec 32) : Prop :=
  (∀ a, (k0_off301 v2740) a + S1x1x16x16.size a ≤ S1x256x16x16.size a)
theorem k0_off301_inb : ∀ (v2740 : BitVec 32) (k0_hw301 : k0_chk301 v2740), ∀ a, (k0_off301 v2740) a + S1x1x16x16.size a ≤ S1x256x16x16.size a := fun v2740 k0_hw301 => k0_hw301

def k0_off302 (v2744 : BitVec 32) : Fin 4 → Nat :=
  let c0_2743 : Index := 0#32
  let v2745 : Index := Scalar.indexCast v2744
  let c0_2744 : Index := 0#32
  let c0_2745 : Index := 0#32
  ![0, v2745.toNat, 0, 0]

def k0_chk302 (v2744 : BitVec 32) : Prop :=
  (∀ a, (k0_off302 v2744) a + S1x1x16x16.size a ≤ S1x256x16x16.size a)
theorem k0_off302_inb : ∀ (v2744 : BitVec 32) (k0_hw302 : k0_chk302 v2744), ∀ a, (k0_off302 v2744) a + S1x1x16x16.size a ≤ S1x256x16x16.size a := fun v2744 k0_hw302 => k0_hw302

def k0_off303 (v2748 : BitVec 32) : Fin 4 → Nat :=
  let c0_2747 : Index := 0#32
  let v2749 : Index := Scalar.indexCast v2748
  let c0_2748 : Index := 0#32
  let c0_2749 : Index := 0#32
  ![0, v2749.toNat, 0, 0]

def k0_chk303 (v2748 : BitVec 32) : Prop :=
  (∀ a, (k0_off303 v2748) a + S1x1x16x16.size a ≤ S1x256x16x16.size a)
theorem k0_off303_inb : ∀ (v2748 : BitVec 32) (k0_hw303 : k0_chk303 v2748), ∀ a, (k0_off303 v2748) a + S1x1x16x16.size a ≤ S1x256x16x16.size a := fun v2748 k0_hw303 => k0_hw303

def k0_off304 (v2752 : BitVec 32) : Fin 4 → Nat :=
  let c0_2751 : Index := 0#32
  let v2753 : Index := Scalar.indexCast v2752
  let c0_2752 : Index := 0#32
  let c0_2753 : Index := 0#32
  ![0, v2753.toNat, 0, 0]

def k0_chk304 (v2752 : BitVec 32) : Prop :=
  (∀ a, (k0_off304 v2752) a + S1x1x16x16.size a ≤ S1x256x16x16.size a)
theorem k0_off304_inb : ∀ (v2752 : BitVec 32) (k0_hw304 : k0_chk304 v2752), ∀ a, (k0_off304 v2752) a + S1x1x16x16.size a ≤ S1x256x16x16.size a := fun v2752 k0_hw304 => k0_hw304

def k0_off305 (v2756 : BitVec 32) : Fin 4 → Nat :=
  let c0_2755 : Index := 0#32
  let v2757 : Index := Scalar.indexCast v2756
  let c0_2756 : Index := 0#32
  let c0_2757 : Index := 0#32
  ![0, v2757.toNat, 0, 0]

def k0_chk305 (v2756 : BitVec 32) : Prop :=
  (∀ a, (k0_off305 v2756) a + S1x1x16x16.size a ≤ S1x256x16x16.size a)
theorem k0_off305_inb : ∀ (v2756 : BitVec 32) (k0_hw305 : k0_chk305 v2756), ∀ a, (k0_off305 v2756) a + S1x1x16x16.size a ≤ S1x256x16x16.size a := fun v2756 k0_hw305 => k0_hw305

def k0_off306 (v2760 : BitVec 32) : Fin 4 → Nat :=
  let c0_2759 : Index := 0#32
  let v2761 : Index := Scalar.indexCast v2760
  let c0_2760 : Index := 0#32
  let c0_2761 : Index := 0#32
  ![0, v2761.toNat, 0, 0]

def k0_chk306 (v2760 : BitVec 32) : Prop :=
  (∀ a, (k0_off306 v2760) a + S1x1x16x16.size a ≤ S1x256x16x16.size a)
theorem k0_off306_inb : ∀ (v2760 : BitVec 32) (k0_hw306 : k0_chk306 v2760), ∀ a, (k0_off306 v2760) a + S1x1x16x16.size a ≤ S1x256x16x16.size a := fun v2760 k0_hw306 => k0_hw306

def k0_off307 (v2764 : BitVec 32) : Fin 4 → Nat :=
  let c0_2763 : Index := 0#32
  let v2765 : Index := Scalar.indexCast v2764
  let c0_2764 : Index := 0#32
  let c0_2765 : Index := 0#32
  ![0, v2765.toNat, 0, 0]

def k0_chk307 (v2764 : BitVec 32) : Prop :=
  (∀ a, (k0_off307 v2764) a + S1x1x16x16.size a ≤ S1x256x16x16.size a)
theorem k0_off307_inb : ∀ (v2764 : BitVec 32) (k0_hw307 : k0_chk307 v2764), ∀ a, (k0_off307 v2764) a + S1x1x16x16.size a ≤ S1x256x16x16.size a := fun v2764 k0_hw307 => k0_hw307

def k0_off308 (v2768 : BitVec 32) : Fin 4 → Nat :=
  let c0_2767 : Index := 0#32
  let v2769 : Index := Scalar.indexCast v2768
  let c0_2768 : Index := 0#32
  let c0_2769 : Index := 0#32
  ![0, v2769.toNat, 0, 0]

def k0_chk308 (v2768 : BitVec 32) : Prop :=
  (∀ a, (k0_off308 v2768) a + S1x1x16x16.size a ≤ S1x256x16x16.size a)
theorem k0_off308_inb : ∀ (v2768 : BitVec 32) (k0_hw308 : k0_chk308 v2768), ∀ a, (k0_off308 v2768) a + S1x1x16x16.size a ≤ S1x256x16x16.size a := fun v2768 k0_hw308 => k0_hw308

def k0_off309 (v2772 : BitVec 32) : Fin 4 → Nat :=
  let c0_2771 : Index := 0#32
  let v2773 : Index := Scalar.indexCast v2772
  let c0_2772 : Index := 0#32
  let c0_2773 : Index := 0#32
  ![0, v2773.toNat, 0, 0]

def k0_chk309 (v2772 : BitVec 32) : Prop :=
  (∀ a, (k0_off309 v2772) a + S1x1x16x16.size a ≤ S1x256x16x16.size a)
theorem k0_off309_inb : ∀ (v2772 : BitVec 32) (k0_hw309 : k0_chk309 v2772), ∀ a, (k0_off309 v2772) a + S1x1x16x16.size a ≤ S1x256x16x16.size a := fun v2772 k0_hw309 => k0_hw309

def k0_off310 (v2776 : BitVec 32) : Fin 4 → Nat :=
  let c0_2775 : Index := 0#32
  let v2777 : Index := Scalar.indexCast v2776
  let c0_2776 : Index := 0#32
  let c0_2777 : Index := 0#32
  ![0, v2777.toNat, 0, 0]

def k0_chk310 (v2776 : BitVec 32) : Prop :=
  (∀ a, (k0_off310 v2776) a + S1x1x16x16.size a ≤ S1x256x16x16.size a)
theorem k0_off310_inb : ∀ (v2776 : BitVec 32) (k0_hw310 : k0_chk310 v2776), ∀ a, (k0_off310 v2776) a + S1x1x16x16.size a ≤ S1x256x16x16.size a := fun v2776 k0_hw310 => k0_hw310

def k0_off311 (v2780 : BitVec 32) : Fin 4 → Nat :=
  let c0_2779 : Index := 0#32
  let v2781 : Index := Scalar.indexCast v2780
  let c0_2780 : Index := 0#32
  let c0_2781 : Index := 0#32
  ![0, v2781.toNat, 0, 0]

def k0_chk311 (v2780 : BitVec 32) : Prop :=
  (∀ a, (k0_off311 v2780) a + S1x1x16x16.size a ≤ S1x256x16x16.size a)
theorem k0_off311_inb : ∀ (v2780 : BitVec 32) (k0_hw311 : k0_chk311 v2780), ∀ a, (k0_off311 v2780) a + S1x1x16x16.size a ≤ S1x256x16x16.size a := fun v2780 k0_hw311 => k0_hw311

def k0_off312 (v2784 : BitVec 32) : Fin 4 → Nat :=
  let c0_2783 : Index := 0#32
  let v2785 : Index := Scalar.indexCast v2784
  let c0_2784 : Index := 0#32
  let c0_2785 : Index := 0#32
  ![0, v2785.toNat, 0, 0]

def k0_chk312 (v2784 : BitVec 32) : Prop :=
  (∀ a, (k0_off312 v2784) a + S1x1x16x16.size a ≤ S1x256x16x16.size a)
theorem k0_off312_inb : ∀ (v2784 : BitVec 32) (k0_hw312 : k0_chk312 v2784), ∀ a, (k0_off312 v2784) a + S1x1x16x16.size a ≤ S1x256x16x16.size a := fun v2784 k0_hw312 => k0_hw312

def k0_off313 (v2788 : BitVec 32) : Fin 4 → Nat :=
  let c0_2787 : Index := 0#32
  let v2789 : Index := Scalar.indexCast v2788
  let c0_2788 : Index := 0#32
  let c0_2789 : Index := 0#32
  ![0, v2789.toNat, 0, 0]

def k0_chk313 (v2788 : BitVec 32) : Prop :=
  (∀ a, (k0_off313 v2788) a + S1x1x16x16.size a ≤ S1x256x16x16.size a)
theorem k0_off313_inb : ∀ (v2788 : BitVec 32) (k0_hw313 : k0_chk313 v2788), ∀ a, (k0_off313 v2788) a + S1x1x16x16.size a ≤ S1x256x16x16.size a := fun v2788 k0_hw313 => k0_hw313

def k0_off314 (v2792 : BitVec 32) : Fin 4 → Nat :=
  let c0_2791 : Index := 0#32
  let v2793 : Index := Scalar.indexCast v2792
  let c0_2792 : Index := 0#32
  let c0_2793 : Index := 0#32
  ![0, v2793.toNat, 0, 0]

def k0_chk314 (v2792 : BitVec 32) : Prop :=
  (∀ a, (k0_off314 v2792) a + S1x1x16x16.size a ≤ S1x256x16x16.size a)
theorem k0_off314_inb : ∀ (v2792 : BitVec 32) (k0_hw314 : k0_chk314 v2792), ∀ a, (k0_off314 v2792) a + S1x1x16x16.size a ≤ S1x256x16x16.size a := fun v2792 k0_hw314 => k0_hw314

def k0_off315 (v2796 : BitVec 32) : Fin 4 → Nat :=
  let c0_2795 : Index := 0#32
  let v2797 : Index := Scalar.indexCast v2796
  let c0_2796 : Index := 0#32
  let c0_2797 : Index := 0#32
  ![0, v2797.toNat, 0, 0]

def k0_chk315 (v2796 : BitVec 32) : Prop :=
  (∀ a, (k0_off315 v2796) a + S1x1x16x16.size a ≤ S1x256x16x16.size a)
theorem k0_off315_inb : ∀ (v2796 : BitVec 32) (k0_hw315 : k0_chk315 v2796), ∀ a, (k0_off315 v2796) a + S1x1x16x16.size a ≤ S1x256x16x16.size a := fun v2796 k0_hw315 => k0_hw315

def k0_off316 (v2800 : BitVec 32) : Fin 4 → Nat :=
  let c0_2799 : Index := 0#32
  let v2801 : Index := Scalar.indexCast v2800
  let c0_2800 : Index := 0#32
  let c0_2801 : Index := 0#32
  ![0, v2801.toNat, 0, 0]

def k0_chk316 (v2800 : BitVec 32) : Prop :=
  (∀ a, (k0_off316 v2800) a + S1x1x16x16.size a ≤ S1x256x16x16.size a)
theorem k0_off316_inb : ∀ (v2800 : BitVec 32) (k0_hw316 : k0_chk316 v2800), ∀ a, (k0_off316 v2800) a + S1x1x16x16.size a ≤ S1x256x16x16.size a := fun v2800 k0_hw316 => k0_hw316

def k0_off317 (v2804 : BitVec 32) : Fin 4 → Nat :=
  let c0_2803 : Index := 0#32
  let v2805 : Index := Scalar.indexCast v2804
  let c0_2804 : Index := 0#32
  let c0_2805 : Index := 0#32
  ![0, v2805.toNat, 0, 0]

def k0_chk317 (v2804 : BitVec 32) : Prop :=
  (∀ a, (k0_off317 v2804) a + S1x1x16x16.size a ≤ S1x256x16x16.size a)
theorem k0_off317_inb : ∀ (v2804 : BitVec 32) (k0_hw317 : k0_chk317 v2804), ∀ a, (k0_off317 v2804) a + S1x1x16x16.size a ≤ S1x256x16x16.size a := fun v2804 k0_hw317 => k0_hw317

def k0_off318 (v2808 : BitVec 32) : Fin 4 → Nat :=
  let c0_2807 : Index := 0#32
  let v2809 : Index := Scalar.indexCast v2808
  let c0_2808 : Index := 0#32
  let c0_2809 : Index := 0#32
  ![0, v2809.toNat, 0, 0]

def k0_chk318 (v2808 : BitVec 32) : Prop :=
  (∀ a, (k0_off318 v2808) a + S1x1x16x16.size a ≤ S1x256x16x16.size a)
theorem k0_off318_inb : ∀ (v2808 : BitVec 32) (k0_hw318 : k0_chk318 v2808), ∀ a, (k0_off318 v2808) a + S1x1x16x16.size a ≤ S1x256x16x16.size a := fun v2808 k0_hw318 => k0_hw318

def k0_off319 (v2812 : BitVec 32) : Fin 4 → Nat :=
  let c0_2811 : Index := 0#32
  let v2813 : Index := Scalar.indexCast v2812
  let c0_2812 : Index := 0#32
  let c0_2813 : Index := 0#32
  ![0, v2813.toNat, 0, 0]

def k0_chk319 (v2812 : BitVec 32) : Prop :=
  (∀ a, (k0_off319 v2812) a + S1x1x16x16.size a ≤ S1x256x16x16.size a)
theorem k0_off319_inb : ∀ (v2812 : BitVec 32) (k0_hw319 : k0_chk319 v2812), ∀ a, (k0_off319 v2812) a + S1x1x16x16.size a ≤ S1x256x16x16.size a := fun v2812 k0_hw319 => k0_hw319

def k0_off320 (v2816 : BitVec 32) : Fin 4 → Nat :=
  let c0_2815 : Index := 0#32
  let v2817 : Index := Scalar.indexCast v2816
  let c0_2816 : Index := 0#32
  let c0_2817 : Index := 0#32
  ![0, v2817.toNat, 0, 0]

def k0_chk320 (v2816 : BitVec 32) : Prop :=
  (∀ a, (k0_off320 v2816) a + S1x1x16x16.size a ≤ S1x256x16x16.size a)
theorem k0_off320_inb : ∀ (v2816 : BitVec 32) (k0_hw320 : k0_chk320 v2816), ∀ a, (k0_off320 v2816) a + S1x1x16x16.size a ≤ S1x256x16x16.size a := fun v2816 k0_hw320 => k0_hw320

def k0_off321 (v2820 : BitVec 32) : Fin 4 → Nat :=
  let c0_2819 : Index := 0#32
  let v2821 : Index := Scalar.indexCast v2820
  let c0_2820 : Index := 0#32
  let c0_2821 : Index := 0#32
  ![0, v2821.toNat, 0, 0]

def k0_chk321 (v2820 : BitVec 32) : Prop :=
  (∀ a, (k0_off321 v2820) a + S1x1x16x16.size a ≤ S1x256x16x16.size a)
theorem k0_off321_inb : ∀ (v2820 : BitVec 32) (k0_hw321 : k0_chk321 v2820), ∀ a, (k0_off321 v2820) a + S1x1x16x16.size a ≤ S1x256x16x16.size a := fun v2820 k0_hw321 => k0_hw321

def k0_off322 (v2824 : BitVec 32) : Fin 4 → Nat :=
  let c0_2823 : Index := 0#32
  let v2825 : Index := Scalar.indexCast v2824
  let c0_2824 : Index := 0#32
  let c0_2825 : Index := 0#32
  ![0, v2825.toNat, 0, 0]

def k0_chk322 (v2824 : BitVec 32) : Prop :=
  (∀ a, (k0_off322 v2824) a + S1x1x16x16.size a ≤ S1x256x16x16.size a)
theorem k0_off322_inb : ∀ (v2824 : BitVec 32) (k0_hw322 : k0_chk322 v2824), ∀ a, (k0_off322 v2824) a + S1x1x16x16.size a ≤ S1x256x16x16.size a := fun v2824 k0_hw322 => k0_hw322

def k0_off323 (v2828 : BitVec 32) : Fin 4 → Nat :=
  let c0_2827 : Index := 0#32
  let v2829 : Index := Scalar.indexCast v2828
  let c0_2828 : Index := 0#32
  let c0_2829 : Index := 0#32
  ![0, v2829.toNat, 0, 0]

def k0_chk323 (v2828 : BitVec 32) : Prop :=
  (∀ a, (k0_off323 v2828) a + S1x1x16x16.size a ≤ S1x256x16x16.size a)
theorem k0_off323_inb : ∀ (v2828 : BitVec 32) (k0_hw323 : k0_chk323 v2828), ∀ a, (k0_off323 v2828) a + S1x1x16x16.size a ≤ S1x256x16x16.size a := fun v2828 k0_hw323 => k0_hw323

def k0_off324 (v2832 : BitVec 32) : Fin 4 → Nat :=
  let c0_2831 : Index := 0#32
  let v2833 : Index := Scalar.indexCast v2832
  let c0_2832 : Index := 0#32
  let c0_2833 : Index := 0#32
  ![0, v2833.toNat, 0, 0]

def k0_chk324 (v2832 : BitVec 32) : Prop :=
  (∀ a, (k0_off324 v2832) a + S1x1x16x16.size a ≤ S1x256x16x16.size a)
theorem k0_off324_inb : ∀ (v2832 : BitVec 32) (k0_hw324 : k0_chk324 v2832), ∀ a, (k0_off324 v2832) a + S1x1x16x16.size a ≤ S1x256x16x16.size a := fun v2832 k0_hw324 => k0_hw324

def k0_off325 (v2836 : BitVec 32) : Fin 4 → Nat :=
  let c0_2835 : Index := 0#32
  let v2837 : Index := Scalar.indexCast v2836
  let c0_2836 : Index := 0#32
  let c0_2837 : Index := 0#32
  ![0, v2837.toNat, 0, 0]

def k0_chk325 (v2836 : BitVec 32) : Prop :=
  (∀ a, (k0_off325 v2836) a + S1x1x16x16.size a ≤ S1x256x16x16.size a)
theorem k0_off325_inb : ∀ (v2836 : BitVec 32) (k0_hw325 : k0_chk325 v2836), ∀ a, (k0_off325 v2836) a + S1x1x16x16.size a ≤ S1x256x16x16.size a := fun v2836 k0_hw325 => k0_hw325

def k0_off326 (v2840 : BitVec 32) : Fin 4 → Nat :=
  let c0_2839 : Index := 0#32
  let v2841 : Index := Scalar.indexCast v2840
  let c0_2840 : Index := 0#32
  let c0_2841 : Index := 0#32
  ![0, v2841.toNat, 0, 0]

def k0_chk326 (v2840 : BitVec 32) : Prop :=
  (∀ a, (k0_off326 v2840) a + S1x1x16x16.size a ≤ S1x256x16x16.size a)
theorem k0_off326_inb : ∀ (v2840 : BitVec 32) (k0_hw326 : k0_chk326 v2840), ∀ a, (k0_off326 v2840) a + S1x1x16x16.size a ≤ S1x256x16x16.size a := fun v2840 k0_hw326 => k0_hw326

def k0_off327 (v2844 : BitVec 32) : Fin 4 → Nat :=
  let c0_2843 : Index := 0#32
  let v2845 : Index := Scalar.indexCast v2844
  let c0_2844 : Index := 0#32
  let c0_2845 : Index := 0#32
  ![0, v2845.toNat, 0, 0]

def k0_chk327 (v2844 : BitVec 32) : Prop :=
  (∀ a, (k0_off327 v2844) a + S1x1x16x16.size a ≤ S1x256x16x16.size a)
theorem k0_off327_inb : ∀ (v2844 : BitVec 32) (k0_hw327 : k0_chk327 v2844), ∀ a, (k0_off327 v2844) a + S1x1x16x16.size a ≤ S1x256x16x16.size a := fun v2844 k0_hw327 => k0_hw327

def k0_off328 (v2848 : BitVec 32) : Fin 4 → Nat :=
  let c0_2847 : Index := 0#32
  let v2849 : Index := Scalar.indexCast v2848
  let c0_2848 : Index := 0#32
  let c0_2849 : Index := 0#32
  ![0, v2849.toNat, 0, 0]

def k0_chk328 (v2848 : BitVec 32) : Prop :=
  (∀ a, (k0_off328 v2848) a + S1x1x16x16.size a ≤ S1x256x16x16.size a)
theorem k0_off328_inb : ∀ (v2848 : BitVec 32) (k0_hw328 : k0_chk328 v2848), ∀ a, (k0_off328 v2848) a + S1x1x16x16.size a ≤ S1x256x16x16.size a := fun v2848 k0_hw328 => k0_hw328

def k0_off329 (v2852 : BitVec 32) : Fin 4 → Nat :=
  let c0_2851 : Index := 0#32
  let v2853 : Index := Scalar.indexCast v2852
  let c0_2852 : Index := 0#32
  let c0_2853 : Index := 0#32
  ![0, v2853.toNat, 0, 0]

def k0_chk329 (v2852 : BitVec 32) : Prop :=
  (∀ a, (k0_off329 v2852) a + S1x1x16x16.size a ≤ S1x256x16x16.size a)
theorem k0_off329_inb : ∀ (v2852 : BitVec 32) (k0_hw329 : k0_chk329 v2852), ∀ a, (k0_off329 v2852) a + S1x1x16x16.size a ≤ S1x256x16x16.size a := fun v2852 k0_hw329 => k0_hw329

def k0_off330 (v2856 : BitVec 32) : Fin 4 → Nat :=
  let c0_2855 : Index := 0#32
  let v2857 : Index := Scalar.indexCast v2856
  let c0_2856 : Index := 0#32
  let c0_2857 : Index := 0#32
  ![0, v2857.toNat, 0, 0]

def k0_chk330 (v2856 : BitVec 32) : Prop :=
  (∀ a, (k0_off330 v2856) a + S1x1x16x16.size a ≤ S1x256x16x16.size a)
theorem k0_off330_inb : ∀ (v2856 : BitVec 32) (k0_hw330 : k0_chk330 v2856), ∀ a, (k0_off330 v2856) a + S1x1x16x16.size a ≤ S1x256x16x16.size a := fun v2856 k0_hw330 => k0_hw330

def k0_off331 (v2860 : BitVec 32) : Fin 4 → Nat :=
  let c0_2859 : Index := 0#32
  let v2861 : Index := Scalar.indexCast v2860
  let c0_2860 : Index := 0#32
  let c0_2861 : Index := 0#32
  ![0, v2861.toNat, 0, 0]

def k0_chk331 (v2860 : BitVec 32) : Prop :=
  (∀ a, (k0_off331 v2860) a + S1x1x16x16.size a ≤ S1x256x16x16.size a)
theorem k0_off331_inb : ∀ (v2860 : BitVec 32) (k0_hw331 : k0_chk331 v2860), ∀ a, (k0_off331 v2860) a + S1x1x16x16.size a ≤ S1x256x16x16.size a := fun v2860 k0_hw331 => k0_hw331

def k0_off332 (v2864 : BitVec 32) : Fin 4 → Nat :=
  let c0_2863 : Index := 0#32
  let v2865 : Index := Scalar.indexCast v2864
  let c0_2864 : Index := 0#32
  let c0_2865 : Index := 0#32
  ![0, v2865.toNat, 0, 0]

def k0_chk332 (v2864 : BitVec 32) : Prop :=
  (∀ a, (k0_off332 v2864) a + S1x1x16x16.size a ≤ S1x256x16x16.size a)
theorem k0_off332_inb : ∀ (v2864 : BitVec 32) (k0_hw332 : k0_chk332 v2864), ∀ a, (k0_off332 v2864) a + S1x1x16x16.size a ≤ S1x256x16x16.size a := fun v2864 k0_hw332 => k0_hw332

def k0_off333 (v2868 : BitVec 32) : Fin 4 → Nat :=
  let c0_2867 : Index := 0#32
  let v2869 : Index := Scalar.indexCast v2868
  let c0_2868 : Index := 0#32
  let c0_2869 : Index := 0#32
  ![0, v2869.toNat, 0, 0]

def k0_chk333 (v2868 : BitVec 32) : Prop :=
  (∀ a, (k0_off333 v2868) a + S1x1x16x16.size a ≤ S1x256x16x16.size a)
theorem k0_off333_inb : ∀ (v2868 : BitVec 32) (k0_hw333 : k0_chk333 v2868), ∀ a, (k0_off333 v2868) a + S1x1x16x16.size a ≤ S1x256x16x16.size a := fun v2868 k0_hw333 => k0_hw333

def k0_off334 (v2872 : BitVec 32) : Fin 4 → Nat :=
  let c0_2871 : Index := 0#32
  let v2873 : Index := Scalar.indexCast v2872
  let c0_2872 : Index := 0#32
  let c0_2873 : Index := 0#32
  ![0, v2873.toNat, 0, 0]

def k0_chk334 (v2872 : BitVec 32) : Prop :=
  (∀ a, (k0_off334 v2872) a + S1x1x16x16.size a ≤ S1x256x16x16.size a)
theorem k0_off334_inb : ∀ (v2872 : BitVec 32) (k0_hw334 : k0_chk334 v2872), ∀ a, (k0_off334 v2872) a + S1x1x16x16.size a ≤ S1x256x16x16.size a := fun v2872 k0_hw334 => k0_hw334

def k0_off335 (v2876 : BitVec 32) : Fin 4 → Nat :=
  let c0_2875 : Index := 0#32
  let v2877 : Index := Scalar.indexCast v2876
  let c0_2876 : Index := 0#32
  let c0_2877 : Index := 0#32
  ![0, v2877.toNat, 0, 0]

def k0_chk335 (v2876 : BitVec 32) : Prop :=
  (∀ a, (k0_off335 v2876) a + S1x1x16x16.size a ≤ S1x256x16x16.size a)
theorem k0_off335_inb : ∀ (v2876 : BitVec 32) (k0_hw335 : k0_chk335 v2876), ∀ a, (k0_off335 v2876) a + S1x1x16x16.size a ≤ S1x256x16x16.size a := fun v2876 k0_hw335 => k0_hw335

def k0_off336 (v2880 : BitVec 32) : Fin 4 → Nat :=
  let c0_2879 : Index := 0#32
  let v2881 : Index := Scalar.indexCast v2880
  let c0_2880 : Index := 0#32
  let c0_2881 : Index := 0#32
  ![0, v2881.toNat, 0, 0]

def k0_chk336 (v2880 : BitVec 32) : Prop :=
  (∀ a, (k0_off336 v2880) a + S1x1x16x16.size a ≤ S1x256x16x16.size a)
theorem k0_off336_inb : ∀ (v2880 : BitVec 32) (k0_hw336 : k0_chk336 v2880), ∀ a, (k0_off336 v2880) a + S1x1x16x16.size a ≤ S1x256x16x16.size a := fun v2880 k0_hw336 => k0_hw336

def k0_off337 (v2884 : BitVec 32) : Fin 4 → Nat :=
  let c0_2883 : Index := 0#32
  let v2885 : Index := Scalar.indexCast v2884
  let c0_2884 : Index := 0#32
  let c0_2885 : Index := 0#32
  ![0, v2885.toNat, 0, 0]

def k0_chk337 (v2884 : BitVec 32) : Prop :=
  (∀ a, (k0_off337 v2884) a + S1x1x16x16.size a ≤ S1x256x16x16.size a)
theorem k0_off337_inb : ∀ (v2884 : BitVec 32) (k0_hw337 : k0_chk337 v2884), ∀ a, (k0_off337 v2884) a + S1x1x16x16.size a ≤ S1x256x16x16.size a := fun v2884 k0_hw337 => k0_hw337

def k0_off338 (v2888 : BitVec 32) : Fin 4 → Nat :=
  let c0_2887 : Index := 0#32
  let v2889 : Index := Scalar.indexCast v2888
  let c0_2888 : Index := 0#32
  let c0_2889 : Index := 0#32
  ![0, v2889.toNat, 0, 0]

def k0_chk338 (v2888 : BitVec 32) : Prop :=
  (∀ a, (k0_off338 v2888) a + S1x1x16x16.size a ≤ S1x256x16x16.size a)
theorem k0_off338_inb : ∀ (v2888 : BitVec 32) (k0_hw338 : k0_chk338 v2888), ∀ a, (k0_off338 v2888) a + S1x1x16x16.size a ≤ S1x256x16x16.size a := fun v2888 k0_hw338 => k0_hw338

def k0_off339 (v2892 : BitVec 32) : Fin 4 → Nat :=
  let c0_2891 : Index := 0#32
  let v2893 : Index := Scalar.indexCast v2892
  let c0_2892 : Index := 0#32
  let c0_2893 : Index := 0#32
  ![0, v2893.toNat, 0, 0]

def k0_chk339 (v2892 : BitVec 32) : Prop :=
  (∀ a, (k0_off339 v2892) a + S1x1x16x16.size a ≤ S1x256x16x16.size a)
theorem k0_off339_inb : ∀ (v2892 : BitVec 32) (k0_hw339 : k0_chk339 v2892), ∀ a, (k0_off339 v2892) a + S1x1x16x16.size a ≤ S1x256x16x16.size a := fun v2892 k0_hw339 => k0_hw339

def k0_off340 (v2896 : BitVec 32) : Fin 4 → Nat :=
  let c0_2895 : Index := 0#32
  let v2897 : Index := Scalar.indexCast v2896
  let c0_2896 : Index := 0#32
  let c0_2897 : Index := 0#32
  ![0, v2897.toNat, 0, 0]

def k0_chk340 (v2896 : BitVec 32) : Prop :=
  (∀ a, (k0_off340 v2896) a + S1x1x16x16.size a ≤ S1x256x16x16.size a)
theorem k0_off340_inb : ∀ (v2896 : BitVec 32) (k0_hw340 : k0_chk340 v2896), ∀ a, (k0_off340 v2896) a + S1x1x16x16.size a ≤ S1x256x16x16.size a := fun v2896 k0_hw340 => k0_hw340

def k0_off341 (v2900 : BitVec 32) : Fin 4 → Nat :=
  let c0_2899 : Index := 0#32
  let v2901 : Index := Scalar.indexCast v2900
  let c0_2900 : Index := 0#32
  let c0_2901 : Index := 0#32
  ![0, v2901.toNat, 0, 0]

def k0_chk341 (v2900 : BitVec 32) : Prop :=
  (∀ a, (k0_off341 v2900) a + S1x1x16x16.size a ≤ S1x256x16x16.size a)
theorem k0_off341_inb : ∀ (v2900 : BitVec 32) (k0_hw341 : k0_chk341 v2900), ∀ a, (k0_off341 v2900) a + S1x1x16x16.size a ≤ S1x256x16x16.size a := fun v2900 k0_hw341 => k0_hw341

def k0_off342 (v2904 : BitVec 32) : Fin 4 → Nat :=
  let c0_2903 : Index := 0#32
  let v2905 : Index := Scalar.indexCast v2904
  let c0_2904 : Index := 0#32
  let c0_2905 : Index := 0#32
  ![0, v2905.toNat, 0, 0]

def k0_chk342 (v2904 : BitVec 32) : Prop :=
  (∀ a, (k0_off342 v2904) a + S1x1x16x16.size a ≤ S1x256x16x16.size a)
theorem k0_off342_inb : ∀ (v2904 : BitVec 32) (k0_hw342 : k0_chk342 v2904), ∀ a, (k0_off342 v2904) a + S1x1x16x16.size a ≤ S1x256x16x16.size a := fun v2904 k0_hw342 => k0_hw342

def k0_off343 (v2908 : BitVec 32) : Fin 4 → Nat :=
  let c0_2907 : Index := 0#32
  let v2909 : Index := Scalar.indexCast v2908
  let c0_2908 : Index := 0#32
  let c0_2909 : Index := 0#32
  ![0, v2909.toNat, 0, 0]

def k0_chk343 (v2908 : BitVec 32) : Prop :=
  (∀ a, (k0_off343 v2908) a + S1x1x16x16.size a ≤ S1x256x16x16.size a)
theorem k0_off343_inb : ∀ (v2908 : BitVec 32) (k0_hw343 : k0_chk343 v2908), ∀ a, (k0_off343 v2908) a + S1x1x16x16.size a ≤ S1x256x16x16.size a := fun v2908 k0_hw343 => k0_hw343

def k0_off344 (v2912 : BitVec 32) : Fin 4 → Nat :=
  let c0_2911 : Index := 0#32
  let v2913 : Index := Scalar.indexCast v2912
  let c0_2912 : Index := 0#32
  let c0_2913 : Index := 0#32
  ![0, v2913.toNat, 0, 0]

def k0_chk344 (v2912 : BitVec 32) : Prop :=
  (∀ a, (k0_off344 v2912) a + S1x1x16x16.size a ≤ S1x256x16x16.size a)
theorem k0_off344_inb : ∀ (v2912 : BitVec 32) (k0_hw344 : k0_chk344 v2912), ∀ a, (k0_off344 v2912) a + S1x1x16x16.size a ≤ S1x256x16x16.size a := fun v2912 k0_hw344 => k0_hw344

def k0_off345 (v2916 : BitVec 32) : Fin 4 → Nat :=
  let c0_2915 : Index := 0#32
  let v2917 : Index := Scalar.indexCast v2916
  let c0_2916 : Index := 0#32
  let c0_2917 : Index := 0#32
  ![0, v2917.toNat, 0, 0]

def k0_chk345 (v2916 : BitVec 32) : Prop :=
  (∀ a, (k0_off345 v2916) a + S1x1x16x16.size a ≤ S1x256x16x16.size a)
theorem k0_off345_inb : ∀ (v2916 : BitVec 32) (k0_hw345 : k0_chk345 v2916), ∀ a, (k0_off345 v2916) a + S1x1x16x16.size a ≤ S1x256x16x16.size a := fun v2916 k0_hw345 => k0_hw345

def k0_off346 (v2920 : BitVec 32) : Fin 4 → Nat :=
  let c0_2919 : Index := 0#32
  let v2921 : Index := Scalar.indexCast v2920
  let c0_2920 : Index := 0#32
  let c0_2921 : Index := 0#32
  ![0, v2921.toNat, 0, 0]

def k0_chk346 (v2920 : BitVec 32) : Prop :=
  (∀ a, (k0_off346 v2920) a + S1x1x16x16.size a ≤ S1x256x16x16.size a)
theorem k0_off346_inb : ∀ (v2920 : BitVec 32) (k0_hw346 : k0_chk346 v2920), ∀ a, (k0_off346 v2920) a + S1x1x16x16.size a ≤ S1x256x16x16.size a := fun v2920 k0_hw346 => k0_hw346

def k0_off347 (v2924 : BitVec 32) : Fin 4 → Nat :=
  let c0_2923 : Index := 0#32
  let v2925 : Index := Scalar.indexCast v2924
  let c0_2924 : Index := 0#32
  let c0_2925 : Index := 0#32
  ![0, v2925.toNat, 0, 0]

def k0_chk347 (v2924 : BitVec 32) : Prop :=
  (∀ a, (k0_off347 v2924) a + S1x1x16x16.size a ≤ S1x256x16x16.size a)
theorem k0_off347_inb : ∀ (v2924 : BitVec 32) (k0_hw347 : k0_chk347 v2924), ∀ a, (k0_off347 v2924) a + S1x1x16x16.size a ≤ S1x256x16x16.size a := fun v2924 k0_hw347 => k0_hw347

def k0_off348 (v2928 : BitVec 32) : Fin 4 → Nat :=
  let c0_2927 : Index := 0#32
  let v2929 : Index := Scalar.indexCast v2928
  let c0_2928 : Index := 0#32
  let c0_2929 : Index := 0#32
  ![0, v2929.toNat, 0, 0]

def k0_chk348 (v2928 : BitVec 32) : Prop :=
  (∀ a, (k0_off348 v2928) a + S1x1x16x16.size a ≤ S1x256x16x16.size a)
theorem k0_off348_inb : ∀ (v2928 : BitVec 32) (k0_hw348 : k0_chk348 v2928), ∀ a, (k0_off348 v2928) a + S1x1x16x16.size a ≤ S1x256x16x16.size a := fun v2928 k0_hw348 => k0_hw348

def k0_off349 (v2932 : BitVec 32) : Fin 4 → Nat :=
  let c0_2931 : Index := 0#32
  let v2933 : Index := Scalar.indexCast v2932
  let c0_2932 : Index := 0#32
  let c0_2933 : Index := 0#32
  ![0, v2933.toNat, 0, 0]

def k0_chk349 (v2932 : BitVec 32) : Prop :=
  (∀ a, (k0_off349 v2932) a + S1x1x16x16.size a ≤ S1x256x16x16.size a)
theorem k0_off349_inb : ∀ (v2932 : BitVec 32) (k0_hw349 : k0_chk349 v2932), ∀ a, (k0_off349 v2932) a + S1x1x16x16.size a ≤ S1x256x16x16.size a := fun v2932 k0_hw349 => k0_hw349

def k0_off350 (v2936 : BitVec 32) : Fin 4 → Nat :=
  let c0_2935 : Index := 0#32
  let v2937 : Index := Scalar.indexCast v2936
  let c0_2936 : Index := 0#32
  let c0_2937 : Index := 0#32
  ![0, v2937.toNat, 0, 0]

def k0_chk350 (v2936 : BitVec 32) : Prop :=
  (∀ a, (k0_off350 v2936) a + S1x1x16x16.size a ≤ S1x256x16x16.size a)
theorem k0_off350_inb : ∀ (v2936 : BitVec 32) (k0_hw350 : k0_chk350 v2936), ∀ a, (k0_off350 v2936) a + S1x1x16x16.size a ≤ S1x256x16x16.size a := fun v2936 k0_hw350 => k0_hw350

def k0_off351 (v2940 : BitVec 32) : Fin 4 → Nat :=
  let c0_2939 : Index := 0#32
  let v2941 : Index := Scalar.indexCast v2940
  let c0_2940 : Index := 0#32
  let c0_2941 : Index := 0#32
  ![0, v2941.toNat, 0, 0]

def k0_chk351 (v2940 : BitVec 32) : Prop :=
  (∀ a, (k0_off351 v2940) a + S1x1x16x16.size a ≤ S1x256x16x16.size a)
theorem k0_off351_inb : ∀ (v2940 : BitVec 32) (k0_hw351 : k0_chk351 v2940), ∀ a, (k0_off351 v2940) a + S1x1x16x16.size a ≤ S1x256x16x16.size a := fun v2940 k0_hw351 => k0_hw351

def k0_off352 (v2944 : BitVec 32) : Fin 4 → Nat :=
  let c0_2943 : Index := 0#32
  let v2945 : Index := Scalar.indexCast v2944
  let c0_2944 : Index := 0#32
  let c0_2945 : Index := 0#32
  ![0, v2945.toNat, 0, 0]

def k0_chk352 (v2944 : BitVec 32) : Prop :=
  (∀ a, (k0_off352 v2944) a + S1x1x16x16.size a ≤ S1x256x16x16.size a)
theorem k0_off352_inb : ∀ (v2944 : BitVec 32) (k0_hw352 : k0_chk352 v2944), ∀ a, (k0_off352 v2944) a + S1x1x16x16.size a ≤ S1x256x16x16.size a := fun v2944 k0_hw352 => k0_hw352

def k0_off353 (v2948 : BitVec 32) : Fin 4 → Nat :=
  let c0_2947 : Index := 0#32
  let v2949 : Index := Scalar.indexCast v2948
  let c0_2948 : Index := 0#32
  let c0_2949 : Index := 0#32
  ![0, v2949.toNat, 0, 0]

def k0_chk353 (v2948 : BitVec 32) : Prop :=
  (∀ a, (k0_off353 v2948) a + S1x1x16x16.size a ≤ S1x256x16x16.size a)
theorem k0_off353_inb : ∀ (v2948 : BitVec 32) (k0_hw353 : k0_chk353 v2948), ∀ a, (k0_off353 v2948) a + S1x1x16x16.size a ≤ S1x256x16x16.size a := fun v2948 k0_hw353 => k0_hw353

def k0_off354 (v2952 : BitVec 32) : Fin 4 → Nat :=
  let c0_2951 : Index := 0#32
  let v2953 : Index := Scalar.indexCast v2952
  let c0_2952 : Index := 0#32
  let c0_2953 : Index := 0#32
  ![0, v2953.toNat, 0, 0]

def k0_chk354 (v2952 : BitVec 32) : Prop :=
  (∀ a, (k0_off354 v2952) a + S1x1x16x16.size a ≤ S1x256x16x16.size a)
theorem k0_off354_inb : ∀ (v2952 : BitVec 32) (k0_hw354 : k0_chk354 v2952), ∀ a, (k0_off354 v2952) a + S1x1x16x16.size a ≤ S1x256x16x16.size a := fun v2952 k0_hw354 => k0_hw354

def k0_off355 (v2956 : BitVec 32) : Fin 4 → Nat :=
  let c0_2955 : Index := 0#32
  let v2957 : Index := Scalar.indexCast v2956
  let c0_2956 : Index := 0#32
  let c0_2957 : Index := 0#32
  ![0, v2957.toNat, 0, 0]

def k0_chk355 (v2956 : BitVec 32) : Prop :=
  (∀ a, (k0_off355 v2956) a + S1x1x16x16.size a ≤ S1x256x16x16.size a)
theorem k0_off355_inb : ∀ (v2956 : BitVec 32) (k0_hw355 : k0_chk355 v2956), ∀ a, (k0_off355 v2956) a + S1x1x16x16.size a ≤ S1x256x16x16.size a := fun v2956 k0_hw355 => k0_hw355

def k0_off356 (v2960 : BitVec 32) : Fin 4 → Nat :=
  let c0_2959 : Index := 0#32
  let v2961 : Index := Scalar.indexCast v2960
  let c0_2960 : Index := 0#32
  let c0_2961 : Index := 0#32
  ![0, v2961.toNat, 0, 0]

def k0_chk356 (v2960 : BitVec 32) : Prop :=
  (∀ a, (k0_off356 v2960) a + S1x1x16x16.size a ≤ S1x256x16x16.size a)
theorem k0_off356_inb : ∀ (v2960 : BitVec 32) (k0_hw356 : k0_chk356 v2960), ∀ a, (k0_off356 v2960) a + S1x1x16x16.size a ≤ S1x256x16x16.size a := fun v2960 k0_hw356 => k0_hw356

def k0_off357 (v2964 : BitVec 32) : Fin 4 → Nat :=
  let c0_2963 : Index := 0#32
  let v2965 : Index := Scalar.indexCast v2964
  let c0_2964 : Index := 0#32
  let c0_2965 : Index := 0#32
  ![0, v2965.toNat, 0, 0]

def k0_chk357 (v2964 : BitVec 32) : Prop :=
  (∀ a, (k0_off357 v2964) a + S1x1x16x16.size a ≤ S1x256x16x16.size a)
theorem k0_off357_inb : ∀ (v2964 : BitVec 32) (k0_hw357 : k0_chk357 v2964), ∀ a, (k0_off357 v2964) a + S1x1x16x16.size a ≤ S1x256x16x16.size a := fun v2964 k0_hw357 => k0_hw357

def k0_off358 (v2968 : BitVec 32) : Fin 4 → Nat :=
  let c0_2967 : Index := 0#32
  let v2969 : Index := Scalar.indexCast v2968
  let c0_2968 : Index := 0#32
  let c0_2969 : Index := 0#32
  ![0, v2969.toNat, 0, 0]

def k0_chk358 (v2968 : BitVec 32) : Prop :=
  (∀ a, (k0_off358 v2968) a + S1x1x16x16.size a ≤ S1x256x16x16.size a)
theorem k0_off358_inb : ∀ (v2968 : BitVec 32) (k0_hw358 : k0_chk358 v2968), ∀ a, (k0_off358 v2968) a + S1x1x16x16.size a ≤ S1x256x16x16.size a := fun v2968 k0_hw358 => k0_hw358

def k0_off359 (v2972 : BitVec 32) : Fin 4 → Nat :=
  let c0_2971 : Index := 0#32
  let v2973 : Index := Scalar.indexCast v2972
  let c0_2972 : Index := 0#32
  let c0_2973 : Index := 0#32
  ![0, v2973.toNat, 0, 0]

def k0_chk359 (v2972 : BitVec 32) : Prop :=
  (∀ a, (k0_off359 v2972) a + S1x1x16x16.size a ≤ S1x256x16x16.size a)
theorem k0_off359_inb : ∀ (v2972 : BitVec 32) (k0_hw359 : k0_chk359 v2972), ∀ a, (k0_off359 v2972) a + S1x1x16x16.size a ≤ S1x256x16x16.size a := fun v2972 k0_hw359 => k0_hw359

def k0_off360 (v2976 : BitVec 32) : Fin 4 → Nat :=
  let c0_2975 : Index := 0#32
  let v2977 : Index := Scalar.indexCast v2976
  let c0_2976 : Index := 0#32
  let c0_2977 : Index := 0#32
  ![0, v2977.toNat, 0, 0]

def k0_chk360 (v2976 : BitVec 32) : Prop :=
  (∀ a, (k0_off360 v2976) a + S1x1x16x16.size a ≤ S1x256x16x16.size a)
theorem k0_off360_inb : ∀ (v2976 : BitVec 32) (k0_hw360 : k0_chk360 v2976), ∀ a, (k0_off360 v2976) a + S1x1x16x16.size a ≤ S1x256x16x16.size a := fun v2976 k0_hw360 => k0_hw360

def k0_off361 (v2980 : BitVec 32) : Fin 4 → Nat :=
  let c0_2979 : Index := 0#32
  let v2981 : Index := Scalar.indexCast v2980
  let c0_2980 : Index := 0#32
  let c0_2981 : Index := 0#32
  ![0, v2981.toNat, 0, 0]

def k0_chk361 (v2980 : BitVec 32) : Prop :=
  (∀ a, (k0_off361 v2980) a + S1x1x16x16.size a ≤ S1x256x16x16.size a)
theorem k0_off361_inb : ∀ (v2980 : BitVec 32) (k0_hw361 : k0_chk361 v2980), ∀ a, (k0_off361 v2980) a + S1x1x16x16.size a ≤ S1x256x16x16.size a := fun v2980 k0_hw361 => k0_hw361

def k0_off362 (v2984 : BitVec 32) : Fin 4 → Nat :=
  let c0_2983 : Index := 0#32
  let v2985 : Index := Scalar.indexCast v2984
  let c0_2984 : Index := 0#32
  let c0_2985 : Index := 0#32
  ![0, v2985.toNat, 0, 0]

def k0_chk362 (v2984 : BitVec 32) : Prop :=
  (∀ a, (k0_off362 v2984) a + S1x1x16x16.size a ≤ S1x256x16x16.size a)
theorem k0_off362_inb : ∀ (v2984 : BitVec 32) (k0_hw362 : k0_chk362 v2984), ∀ a, (k0_off362 v2984) a + S1x1x16x16.size a ≤ S1x256x16x16.size a := fun v2984 k0_hw362 => k0_hw362

def k0_off363 (v2988 : BitVec 32) : Fin 4 → Nat :=
  let c0_2987 : Index := 0#32
  let v2989 : Index := Scalar.indexCast v2988
  let c0_2988 : Index := 0#32
  let c0_2989 : Index := 0#32
  ![0, v2989.toNat, 0, 0]

def k0_chk363 (v2988 : BitVec 32) : Prop :=
  (∀ a, (k0_off363 v2988) a + S1x1x16x16.size a ≤ S1x256x16x16.size a)
theorem k0_off363_inb : ∀ (v2988 : BitVec 32) (k0_hw363 : k0_chk363 v2988), ∀ a, (k0_off363 v2988) a + S1x1x16x16.size a ≤ S1x256x16x16.size a := fun v2988 k0_hw363 => k0_hw363

def k0_off364 (v2992 : BitVec 32) : Fin 4 → Nat :=
  let c0_2991 : Index := 0#32
  let v2993 : Index := Scalar.indexCast v2992
  let c0_2992 : Index := 0#32
  let c0_2993 : Index := 0#32
  ![0, v2993.toNat, 0, 0]

def k0_chk364 (v2992 : BitVec 32) : Prop :=
  (∀ a, (k0_off364 v2992) a + S1x1x16x16.size a ≤ S1x256x16x16.size a)
theorem k0_off364_inb : ∀ (v2992 : BitVec 32) (k0_hw364 : k0_chk364 v2992), ∀ a, (k0_off364 v2992) a + S1x1x16x16.size a ≤ S1x256x16x16.size a := fun v2992 k0_hw364 => k0_hw364

def k0_off365 (v2996 : BitVec 32) : Fin 4 → Nat :=
  let c0_2995 : Index := 0#32
  let v2997 : Index := Scalar.indexCast v2996
  let c0_2996 : Index := 0#32
  let c0_2997 : Index := 0#32
  ![0, v2997.toNat, 0, 0]

def k0_chk365 (v2996 : BitVec 32) : Prop :=
  (∀ a, (k0_off365 v2996) a + S1x1x16x16.size a ≤ S1x256x16x16.size a)
theorem k0_off365_inb : ∀ (v2996 : BitVec 32) (k0_hw365 : k0_chk365 v2996), ∀ a, (k0_off365 v2996) a + S1x1x16x16.size a ≤ S1x256x16x16.size a := fun v2996 k0_hw365 => k0_hw365

def k0_off366 (v3000 : BitVec 32) : Fin 4 → Nat :=
  let c0_2999 : Index := 0#32
  let v3001 : Index := Scalar.indexCast v3000
  let c0_3000 : Index := 0#32
  let c0_3001 : Index := 0#32
  ![0, v3001.toNat, 0, 0]

def k0_chk366 (v3000 : BitVec 32) : Prop :=
  (∀ a, (k0_off366 v3000) a + S1x1x16x16.size a ≤ S1x256x16x16.size a)
theorem k0_off366_inb : ∀ (v3000 : BitVec 32) (k0_hw366 : k0_chk366 v3000), ∀ a, (k0_off366 v3000) a + S1x1x16x16.size a ≤ S1x256x16x16.size a := fun v3000 k0_hw366 => k0_hw366

def k0_off367 (v3004 : BitVec 32) : Fin 4 → Nat :=
  let c0_3003 : Index := 0#32
  let v3005 : Index := Scalar.indexCast v3004
  let c0_3004 : Index := 0#32
  let c0_3005 : Index := 0#32
  ![0, v3005.toNat, 0, 0]

def k0_chk367 (v3004 : BitVec 32) : Prop :=
  (∀ a, (k0_off367 v3004) a + S1x1x16x16.size a ≤ S1x256x16x16.size a)
theorem k0_off367_inb : ∀ (v3004 : BitVec 32) (k0_hw367 : k0_chk367 v3004), ∀ a, (k0_off367 v3004) a + S1x1x16x16.size a ≤ S1x256x16x16.size a := fun v3004 k0_hw367 => k0_hw367

def k0_off368 (v3008 : BitVec 32) : Fin 4 → Nat :=
  let c0_3007 : Index := 0#32
  let v3009 : Index := Scalar.indexCast v3008
  let c0_3008 : Index := 0#32
  let c0_3009 : Index := 0#32
  ![0, v3009.toNat, 0, 0]

def k0_chk368 (v3008 : BitVec 32) : Prop :=
  (∀ a, (k0_off368 v3008) a + S1x1x16x16.size a ≤ S1x256x16x16.size a)
theorem k0_off368_inb : ∀ (v3008 : BitVec 32) (k0_hw368 : k0_chk368 v3008), ∀ a, (k0_off368 v3008) a + S1x1x16x16.size a ≤ S1x256x16x16.size a := fun v3008 k0_hw368 => k0_hw368

def k0_off369 (v3012 : BitVec 32) : Fin 4 → Nat :=
  let c0_3011 : Index := 0#32
  let v3013 : Index := Scalar.indexCast v3012
  let c0_3012 : Index := 0#32
  let c0_3013 : Index := 0#32
  ![0, v3013.toNat, 0, 0]

def k0_chk369 (v3012 : BitVec 32) : Prop :=
  (∀ a, (k0_off369 v3012) a + S1x1x16x16.size a ≤ S1x256x16x16.size a)
theorem k0_off369_inb : ∀ (v3012 : BitVec 32) (k0_hw369 : k0_chk369 v3012), ∀ a, (k0_off369 v3012) a + S1x1x16x16.size a ≤ S1x256x16x16.size a := fun v3012 k0_hw369 => k0_hw369

def k0_off370 (v3016 : BitVec 32) : Fin 4 → Nat :=
  let c0_3015 : Index := 0#32
  let v3017 : Index := Scalar.indexCast v3016
  let c0_3016 : Index := 0#32
  let c0_3017 : Index := 0#32
  ![0, v3017.toNat, 0, 0]

def k0_chk370 (v3016 : BitVec 32) : Prop :=
  (∀ a, (k0_off370 v3016) a + S1x1x16x16.size a ≤ S1x256x16x16.size a)
theorem k0_off370_inb : ∀ (v3016 : BitVec 32) (k0_hw370 : k0_chk370 v3016), ∀ a, (k0_off370 v3016) a + S1x1x16x16.size a ≤ S1x256x16x16.size a := fun v3016 k0_hw370 => k0_hw370

def k0_off371 (v3020 : BitVec 32) : Fin 4 → Nat :=
  let c0_3019 : Index := 0#32
  let v3021 : Index := Scalar.indexCast v3020
  let c0_3020 : Index := 0#32
  let c0_3021 : Index := 0#32
  ![0, v3021.toNat, 0, 0]

def k0_chk371 (v3020 : BitVec 32) : Prop :=
  (∀ a, (k0_off371 v3020) a + S1x1x16x16.size a ≤ S1x256x16x16.size a)
theorem k0_off371_inb : ∀ (v3020 : BitVec 32) (k0_hw371 : k0_chk371 v3020), ∀ a, (k0_off371 v3020) a + S1x1x16x16.size a ≤ S1x256x16x16.size a := fun v3020 k0_hw371 => k0_hw371

def k0_off372 (v3024 : BitVec 32) : Fin 4 → Nat :=
  let c0_3023 : Index := 0#32
  let v3025 : Index := Scalar.indexCast v3024
  let c0_3024 : Index := 0#32
  let c0_3025 : Index := 0#32
  ![0, v3025.toNat, 0, 0]

def k0_chk372 (v3024 : BitVec 32) : Prop :=
  (∀ a, (k0_off372 v3024) a + S1x1x16x16.size a ≤ S1x256x16x16.size a)
theorem k0_off372_inb : ∀ (v3024 : BitVec 32) (k0_hw372 : k0_chk372 v3024), ∀ a, (k0_off372 v3024) a + S1x1x16x16.size a ≤ S1x256x16x16.size a := fun v3024 k0_hw372 => k0_hw372

def k0_off373 (v3028 : BitVec 32) : Fin 4 → Nat :=
  let c0_3027 : Index := 0#32
  let v3029 : Index := Scalar.indexCast v3028
  let c0_3028 : Index := 0#32
  let c0_3029 : Index := 0#32
  ![0, v3029.toNat, 0, 0]

def k0_chk373 (v3028 : BitVec 32) : Prop :=
  (∀ a, (k0_off373 v3028) a + S1x1x16x16.size a ≤ S1x256x16x16.size a)
theorem k0_off373_inb : ∀ (v3028 : BitVec 32) (k0_hw373 : k0_chk373 v3028), ∀ a, (k0_off373 v3028) a + S1x1x16x16.size a ≤ S1x256x16x16.size a := fun v3028 k0_hw373 => k0_hw373

def k0_off374 (v3032 : BitVec 32) : Fin 4 → Nat :=
  let c0_3031 : Index := 0#32
  let v3033 : Index := Scalar.indexCast v3032
  let c0_3032 : Index := 0#32
  let c0_3033 : Index := 0#32
  ![0, v3033.toNat, 0, 0]

def k0_chk374 (v3032 : BitVec 32) : Prop :=
  (∀ a, (k0_off374 v3032) a + S1x1x16x16.size a ≤ S1x256x16x16.size a)
theorem k0_off374_inb : ∀ (v3032 : BitVec 32) (k0_hw374 : k0_chk374 v3032), ∀ a, (k0_off374 v3032) a + S1x1x16x16.size a ≤ S1x256x16x16.size a := fun v3032 k0_hw374 => k0_hw374

def k0_off375 (v3036 : BitVec 32) : Fin 4 → Nat :=
  let c0_3035 : Index := 0#32
  let v3037 : Index := Scalar.indexCast v3036
  let c0_3036 : Index := 0#32
  let c0_3037 : Index := 0#32
  ![0, v3037.toNat, 0, 0]

def k0_chk375 (v3036 : BitVec 32) : Prop :=
  (∀ a, (k0_off375 v3036) a + S1x1x16x16.size a ≤ S1x256x16x16.size a)
theorem k0_off375_inb : ∀ (v3036 : BitVec 32) (k0_hw375 : k0_chk375 v3036), ∀ a, (k0_off375 v3036) a + S1x1x16x16.size a ≤ S1x256x16x16.size a := fun v3036 k0_hw375 => k0_hw375

def k0_off376 (v3040 : BitVec 32) : Fin 4 → Nat :=
  let c0_3039 : Index := 0#32
  let v3041 : Index := Scalar.indexCast v3040
  let c0_3040 : Index := 0#32
  let c0_3041 : Index := 0#32
  ![0, v3041.toNat, 0, 0]

def k0_chk376 (v3040 : BitVec 32) : Prop :=
  (∀ a, (k0_off376 v3040) a + S1x1x16x16.size a ≤ S1x256x16x16.size a)
theorem k0_off376_inb : ∀ (v3040 : BitVec 32) (k0_hw376 : k0_chk376 v3040), ∀ a, (k0_off376 v3040) a + S1x1x16x16.size a ≤ S1x256x16x16.size a := fun v3040 k0_hw376 => k0_hw376

def k0_off377 (v3044 : BitVec 32) : Fin 4 → Nat :=
  let c0_3043 : Index := 0#32
  let v3045 : Index := Scalar.indexCast v3044
  let c0_3044 : Index := 0#32
  let c0_3045 : Index := 0#32
  ![0, v3045.toNat, 0, 0]

def k0_chk377 (v3044 : BitVec 32) : Prop :=
  (∀ a, (k0_off377 v3044) a + S1x1x16x16.size a ≤ S1x256x16x16.size a)
theorem k0_off377_inb : ∀ (v3044 : BitVec 32) (k0_hw377 : k0_chk377 v3044), ∀ a, (k0_off377 v3044) a + S1x1x16x16.size a ≤ S1x256x16x16.size a := fun v3044 k0_hw377 => k0_hw377

def k0_off378 (v3048 : BitVec 32) : Fin 4 → Nat :=
  let c0_3047 : Index := 0#32
  let v3049 : Index := Scalar.indexCast v3048
  let c0_3048 : Index := 0#32
  let c0_3049 : Index := 0#32
  ![0, v3049.toNat, 0, 0]

def k0_chk378 (v3048 : BitVec 32) : Prop :=
  (∀ a, (k0_off378 v3048) a + S1x1x16x16.size a ≤ S1x256x16x16.size a)
theorem k0_off378_inb : ∀ (v3048 : BitVec 32) (k0_hw378 : k0_chk378 v3048), ∀ a, (k0_off378 v3048) a + S1x1x16x16.size a ≤ S1x256x16x16.size a := fun v3048 k0_hw378 => k0_hw378

def k0_off379 (v3052 : BitVec 32) : Fin 4 → Nat :=
  let c0_3051 : Index := 0#32
  let v3053 : Index := Scalar.indexCast v3052
  let c0_3052 : Index := 0#32
  let c0_3053 : Index := 0#32
  ![0, v3053.toNat, 0, 0]

def k0_chk379 (v3052 : BitVec 32) : Prop :=
  (∀ a, (k0_off379 v3052) a + S1x1x16x16.size a ≤ S1x256x16x16.size a)
theorem k0_off379_inb : ∀ (v3052 : BitVec 32) (k0_hw379 : k0_chk379 v3052), ∀ a, (k0_off379 v3052) a + S1x1x16x16.size a ≤ S1x256x16x16.size a := fun v3052 k0_hw379 => k0_hw379

def k0_off380 (v3056 : BitVec 32) : Fin 4 → Nat :=
  let c0_3055 : Index := 0#32
  let v3057 : Index := Scalar.indexCast v3056
  let c0_3056 : Index := 0#32
  let c0_3057 : Index := 0#32
  ![0, v3057.toNat, 0, 0]

def k0_chk380 (v3056 : BitVec 32) : Prop :=
  (∀ a, (k0_off380 v3056) a + S1x1x16x16.size a ≤ S1x256x16x16.size a)
theorem k0_off380_inb : ∀ (v3056 : BitVec 32) (k0_hw380 : k0_chk380 v3056), ∀ a, (k0_off380 v3056) a + S1x1x16x16.size a ≤ S1x256x16x16.size a := fun v3056 k0_hw380 => k0_hw380

def k0_off381 (v3060 : BitVec 32) : Fin 4 → Nat :=
  let c0_3059 : Index := 0#32
  let v3061 : Index := Scalar.indexCast v3060
  let c0_3060 : Index := 0#32
  let c0_3061 : Index := 0#32
  ![0, v3061.toNat, 0, 0]

def k0_chk381 (v3060 : BitVec 32) : Prop :=
  (∀ a, (k0_off381 v3060) a + S1x1x16x16.size a ≤ S1x256x16x16.size a)
theorem k0_off381_inb : ∀ (v3060 : BitVec 32) (k0_hw381 : k0_chk381 v3060), ∀ a, (k0_off381 v3060) a + S1x1x16x16.size a ≤ S1x256x16x16.size a := fun v3060 k0_hw381 => k0_hw381

def k0_off382 (v3064 : BitVec 32) : Fin 4 → Nat :=
  let c0_3063 : Index := 0#32
  let v3065 : Index := Scalar.indexCast v3064
  let c0_3064 : Index := 0#32
  let c0_3065 : Index := 0#32
  ![0, v3065.toNat, 0, 0]

def k0_chk382 (v3064 : BitVec 32) : Prop :=
  (∀ a, (k0_off382 v3064) a + S1x1x16x16.size a ≤ S1x256x16x16.size a)
theorem k0_off382_inb : ∀ (v3064 : BitVec 32) (k0_hw382 : k0_chk382 v3064), ∀ a, (k0_off382 v3064) a + S1x1x16x16.size a ≤ S1x256x16x16.size a := fun v3064 k0_hw382 => k0_hw382

def k0_off383 (v3068 : BitVec 32) : Fin 4 → Nat :=
  let c0_3067 : Index := 0#32
  let v3069 : Index := Scalar.indexCast v3068
  let c0_3068 : Index := 0#32
  let c0_3069 : Index := 0#32
  ![0, v3069.toNat, 0, 0]

def k0_chk383 (v3068 : BitVec 32) : Prop :=
  (∀ a, (k0_off383 v3068) a + S1x1x16x16.size a ≤ S1x256x16x16.size a)
theorem k0_off383_inb : ∀ (v3068 : BitVec 32) (k0_hw383 : k0_chk383 v3068), ∀ a, (k0_off383 v3068) a + S1x1x16x16.size a ≤ S1x256x16x16.size a := fun v3068 k0_hw383 => k0_hw383

def k0_off384 (v3072 : BitVec 32) : Fin 4 → Nat :=
  let c0_3071 : Index := 0#32
  let v3073 : Index := Scalar.indexCast v3072
  let c0_3072 : Index := 0#32
  let c0_3073 : Index := 0#32
  ![0, v3073.toNat, 0, 0]

def k0_chk384 (v3072 : BitVec 32) : Prop :=
  (∀ a, (k0_off384 v3072) a + S1x1x16x16.size a ≤ S1x256x16x16.size a)
theorem k0_off384_inb : ∀ (v3072 : BitVec 32) (k0_hw384 : k0_chk384 v3072), ∀ a, (k0_off384 v3072) a + S1x1x16x16.size a ≤ S1x256x16x16.size a := fun v3072 k0_hw384 => k0_hw384

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .vmem S64x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512x32x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x16x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x384x64x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S8x512x32x32 : Shape := ⟨4, ![8, 512, 32, 32]⟩
abbrev S8x256x16x16 : Shape := ⟨4, ![8, 256, 16, 16]⟩
abbrev S256 : Shape := ⟨1, ![256]⟩
abbrev S128 : Shape := ⟨1, ![128]⟩
abbrev S64 : Shape := ⟨1, ![64]⟩
abbrev S1x1x1x64 : Shape := ⟨4, ![1, 1, 1, 64]⟩
abbrev S1x1x64x1 : Shape := ⟨4, ![1, 1, 64, 1]⟩
abbrev S_ : Shape := ⟨0, ![]⟩
abbrev S256x1 : Shape := ⟨2, ![256, 1]⟩
abbrev S1 : Shape := ⟨1, ![1]⟩
abbrev S1x1 : Shape := ⟨2, ![1, 1]⟩
abbrev S8x256x32x32 : Shape := ⟨4, ![8, 256, 32, 32]⟩
abbrev S64x1 : Shape := ⟨2, ![64, 1]⟩
abbrev S8x256x64x32 : Shape := ⟨4, ![8, 256, 64, 32]⟩
abbrev S8x256x64x64 : Shape := ⟨4, ![8, 256, 64, 64]⟩
abbrev S128x1 : Shape := ⟨2, ![128, 1]⟩
abbrev S8x128x16x16 : Shape := ⟨4, ![8, 128, 16, 16]⟩
abbrev S8x128x64x16 : Shape := ⟨4, ![8, 128, 64, 16]⟩
abbrev S8x128x64x64 : Shape := ⟨4, ![8, 128, 64, 64]⟩
abbrev S8x384x64x64 : Shape := ⟨4, ![8, 384, 64, 64]⟩

abbrev nBuf : Space → Nat
  | .hbm => 389
  | .vmem => 0
  | .smem => 0
  | _ => 0

abbrev hbmTy0_0 (i : Nat) : BufTy := match i % 128 with
  | 0 => ⟨S8x512x32x32, .f32⟩
  | 1 => ⟨S8x256x16x16, .f32⟩
  | 2 => ⟨S256, .i32⟩
  | 3 => ⟨S128, .i32⟩
  | 4 => ⟨S64, .i32⟩
  | 5 => ⟨S64, .i32⟩
  | 6 => ⟨S64, .i32⟩
  | 7 => ⟨S64, .i32⟩
  | 8 => ⟨S64, .f32⟩
  | 9 => ⟨S1x1x1x64, .f32⟩
  | 10 => ⟨S64, .f32⟩
  | 11 => ⟨S1x1x1x64, .f32⟩
  | 12 => ⟨S64, .f32⟩
  | 13 => ⟨S1x1x1x64, .f32⟩
  | 14 => ⟨S64, .f32⟩
  | 15 => ⟨S1x1x1x64, .f32⟩
  | 16 => ⟨S64, .f32⟩
  | 17 => ⟨S1x1x64x1, .f32⟩
  | 18 => ⟨S64, .f32⟩
  | 19 => ⟨S1x1x64x1, .f32⟩
  | 20 => ⟨S64, .i32⟩
  | 21 => ⟨S64, .i32⟩
  | 22 => ⟨S64, .i32⟩
  | 23 => ⟨S64, .i32⟩
  | 24 => ⟨S64, .f32⟩
  | 25 => ⟨S1x1x1x64, .f32⟩
  | 26 => ⟨S64, .f32⟩
  | 27 => ⟨S1x1x1x64, .f32⟩
  | 28 => ⟨S64, .f32⟩
  | 29 => ⟨S1x1x1x64, .f32⟩
  | 30 => ⟨S64, .f32⟩
  | 31 => ⟨S1x1x1x64, .f32⟩
  | 32 => ⟨S64, .f32⟩
  | 33 => ⟨S1x1x64x1, .f32⟩
  | 34 => ⟨S64, .f32⟩
  | 35 => ⟨S1x1x64x1, .f32⟩
  | 36 => ⟨S_, .i32⟩
  | 37 => ⟨S256, .i32⟩
  | 38 => ⟨S256, .i1⟩
  | 39 => ⟨S_, .i32⟩
  | 40 => ⟨S256, .i32⟩
  | 41 => ⟨S256, .i32⟩
  | 42 => ⟨S256, .i32⟩
  | 43 => ⟨S256x1, .i32⟩
  | 44 => ⟨S1, .i32⟩
  | 45 => ⟨S_, .i32⟩
  | 46 => ⟨S256x1, .i32⟩
  | 47 => ⟨S256x1, .i1⟩
  | 48 => ⟨S1x1, .i32⟩
  | 49 => ⟨S256x1, .i32⟩
  | 50 => ⟨S256x1, .i1⟩
  | 51 => ⟨S256x1, .i1⟩
  | 52 => ⟨S_, .i1⟩
  | 53 => ⟨S256, .i1⟩
  | 54 => ⟨S8x256x32x32, .f32⟩
  | 55 => ⟨S8x256x32x32, .i1⟩
  | 56 => ⟨S_, .f32⟩
  | 57 => ⟨S8x256x32x32, .f32⟩
  | 58 => ⟨S8x256x32x32, .f32⟩
  | 59 => ⟨S_, .i32⟩
  | 60 => ⟨S64, .i32⟩
  | 61 => ⟨S64, .i1⟩
  | 62 => ⟨S_, .i32⟩
  | 63 => ⟨S64, .i32⟩
  | 64 => ⟨S64, .i32⟩
  | 65 => ⟨S64, .i32⟩
  | 66 => ⟨S64x1, .i32⟩
  | 67 => ⟨S1, .i32⟩
  | 68 => ⟨S_, .i32⟩
  | 69 => ⟨S64x1, .i32⟩
  | 70 => ⟨S64x1, .i1⟩
  | 71 => ⟨S1x1, .i32⟩
  | 72 => ⟨S64x1, .i32⟩
  | 73 => ⟨S64x1, .i1⟩
  | 74 => ⟨S64x1, .i1⟩
  | 75 => ⟨S_, .i1⟩
  | 76 => ⟨S64, .i1⟩
  | 77 => ⟨S8x256x64x32, .f32⟩
  | 78 => ⟨S8x256x64x32, .i1⟩
  | 79 => ⟨S_, .f32⟩
  | 80 => ⟨S8x256x64x32, .f32⟩
  | 81 => ⟨S8x256x64x32, .f32⟩
  | 82 => ⟨S_, .i32⟩
  | 83 => ⟨S64, .i32⟩
  | 84 => ⟨S64, .i1⟩
  | 85 => ⟨S_, .i32⟩
  | 86 => ⟨S64, .i32⟩
  | 87 => ⟨S64, .i32⟩
  | 88 => ⟨S64, .i32⟩
  | 89 => ⟨S64x1, .i32⟩
  | 90 => ⟨S1, .i32⟩
  | 91 => ⟨S_, .i32⟩
  | 92 => ⟨S64x1, .i32⟩
  | 93 => ⟨S64x1, .i1⟩
  | 94 => ⟨S1x1, .i32⟩
  | 95 => ⟨S64x1, .i32⟩
  | 96 => ⟨S64x1, .i1⟩
  | 97 => ⟨S64x1, .i1⟩
  | 98 => ⟨S_, .i1⟩
  | 99 => ⟨S64, .i1⟩
  | 100 => ⟨S8x256x64x32, .f32⟩
  | 101 => ⟨S8x256x64x32, .i1⟩
  | 102 => ⟨S_, .f32⟩
  | 103 => ⟨S8x256x64x32, .f32⟩
  | 104 => ⟨S8x256x64x32, .f32⟩
  | 105 => ⟨S_, .i32⟩
  | 106 => ⟨S64, .i32⟩
  | 107 => ⟨S64, .i1⟩
  | 108 => ⟨S_, .i32⟩
  | 109 => ⟨S64, .i32⟩
  | 110 => ⟨S64, .i32⟩
  | 111 => ⟨S64, .i32⟩
  | 112 => ⟨S64x1, .i32⟩
  | 113 => ⟨S1, .i32⟩
  | 114 => ⟨S_, .i32⟩
  | 115 => ⟨S64x1, .i32⟩
  | 116 => ⟨S64x1, .i1⟩
  | 117 => ⟨S1x1, .i32⟩
  | 118 => ⟨S64x1, .i32⟩
  | 119 => ⟨S64x1, .i1⟩
  | 120 => ⟨S64x1, .i1⟩
  | 121 => ⟨S_, .i1⟩
  | 122 => ⟨S64, .i1⟩
  | 123 => ⟨S8x256x64x64, .f32⟩
  | 124 => ⟨S8x256x64x64, .i1⟩
  | 125 => ⟨S_, .f32⟩
  | 126 => ⟨S8x256x64x64, .f32⟩
  | 127 => ⟨S8x256x64x64, .f32⟩
  | _ => ⟨S8x512x32x32, .f32⟩

abbrev hbmTy0_1 (i : Nat) : BufTy := match i % 128 with
  | 0 => ⟨S_, .i32⟩
  | 1 => ⟨S64, .i32⟩
  | 2 => ⟨S64, .i1⟩
  | 3 => ⟨S_, .i32⟩
  | 4 => ⟨S64, .i32⟩
  | 5 => ⟨S64, .i32⟩
  | 6 => ⟨S64, .i32⟩
  | 7 => ⟨S64x1, .i32⟩
  | 8 => ⟨S1, .i32⟩
  | 9 => ⟨S_, .i32⟩
  | 10 => ⟨S64x1, .i32⟩
  | 11 => ⟨S64x1, .i1⟩
  | 12 => ⟨S1x1, .i32⟩
  | 13 => ⟨S64x1, .i32⟩
  | 14 => ⟨S64x1, .i1⟩
  | 15 => ⟨S64x1, .i1⟩
  | 16 => ⟨S_, .i1⟩
  | 17 => ⟨S64, .i1⟩
  | 18 => ⟨S8x256x64x64, .f32⟩
  | 19 => ⟨S8x256x64x64, .i1⟩
  | 20 => ⟨S_, .f32⟩
  | 21 => ⟨S8x256x64x64, .f32⟩
  | 22 => ⟨S8x256x64x64, .f32⟩
  | 23 => ⟨S8x256x64x64, .f32⟩
  | 24 => ⟨S8x256x64x64, .f32⟩
  | 25 => ⟨S8x256x64x64, .f32⟩
  | 26 => ⟨S8x256x64x64, .f32⟩
  | 27 => ⟨S8x256x64x64, .f32⟩
  | 28 => ⟨S_, .i32⟩
  | 29 => ⟨S64, .i32⟩
  | 30 => ⟨S64, .i1⟩
  | 31 => ⟨S_, .i32⟩
  | 32 => ⟨S64, .i32⟩
  | 33 => ⟨S64, .i32⟩
  | 34 => ⟨S64, .i32⟩
  | 35 => ⟨S64x1, .i32⟩
  | 36 => ⟨S1, .i32⟩
  | 37 => ⟨S_, .i32⟩
  | 38 => ⟨S64x1, .i32⟩
  | 39 => ⟨S64x1, .i1⟩
  | 40 => ⟨S1x1, .i32⟩
  | 41 => ⟨S64x1, .i32⟩
  | 42 => ⟨S64x1, .i1⟩
  | 43 => ⟨S64x1, .i1⟩
  | 44 => ⟨S_, .i1⟩
  | 45 => ⟨S64, .i1⟩
  | 46 => ⟨S8x256x64x64, .f32⟩
  | 47 => ⟨S8x256x64x64, .i1⟩
  | 48 => ⟨S_, .f32⟩
  | 49 => ⟨S8x256x64x64, .f32⟩
  | 50 => ⟨S8x256x64x64, .f32⟩
  | 51 => ⟨S_, .i32⟩
  | 52 => ⟨S64, .i32⟩
  | 53 => ⟨S64, .i1⟩
  | 54 => ⟨S_, .i32⟩
  | 55 => ⟨S64, .i32⟩
  | 56 => ⟨S64, .i32⟩
  | 57 => ⟨S64, .i32⟩
  | 58 => ⟨S64x1, .i32⟩
  | 59 => ⟨S1, .i32⟩
  | 60 => ⟨S_, .i32⟩
  | 61 => ⟨S64x1, .i32⟩
  | 62 => ⟨S64x1, .i1⟩
  | 63 => ⟨S1x1, .i32⟩
  | 64 => ⟨S64x1, .i32⟩
  | 65 => ⟨S64x1, .i1⟩
  | 66 => ⟨S64x1, .i1⟩
  | 67 => ⟨S_, .i1⟩
  | 68 => ⟨S64, .i1⟩
  | 69 => ⟨S8x256x64x64, .f32⟩
  | 70 => ⟨S8x256x64x64, .i1⟩
  | 71 => ⟨S_, .f32⟩
  | 72 => ⟨S8x256x64x64, .f32⟩
  | 73 => ⟨S8x256x64x64, .f32⟩
  | 74 => ⟨S8x256x64x64, .f32⟩
  | 75 => ⟨S8x256x64x64, .f32⟩
  | 76 => ⟨S8x256x64x64, .f32⟩
  | 77 => ⟨S8x256x64x64, .f32⟩
  | 78 => ⟨S8x256x64x64, .f32⟩
  | 79 => ⟨S8x256x64x64, .f32⟩
  | 80 => ⟨S8x256x64x64, .f32⟩
  | 81 => ⟨S8x256x64x64, .f32⟩
  | 82 => ⟨S8x256x64x64, .f32⟩
  | 83 => ⟨S8x256x64x64, .f32⟩
  | 84 => ⟨S_, .i32⟩
  | 85 => ⟨S128, .i32⟩
  | 86 => ⟨S128, .i1⟩
  | 87 => ⟨S_, .i32⟩
  | 88 => ⟨S128, .i32⟩
  | 89 => ⟨S128, .i32⟩
  | 90 => ⟨S128, .i32⟩
  | 91 => ⟨S128x1, .i32⟩
  | 92 => ⟨S1, .i32⟩
  | 93 => ⟨S_, .i32⟩
  | 94 => ⟨S128x1, .i32⟩
  | 95 => ⟨S128x1, .i1⟩
  | 96 => ⟨S1x1, .i32⟩
  | 97 => ⟨S128x1, .i32⟩
  | 98 => ⟨S128x1, .i1⟩
  | 99 => ⟨S128x1, .i1⟩
  | 100 => ⟨S_, .i1⟩
  | 101 => ⟨S128, .i1⟩
  | 102 => ⟨S8x128x16x16, .f32⟩
  | 103 => ⟨S8x128x16x16, .i1⟩
  | 104 => ⟨S_, .f32⟩
  | 105 => ⟨S8x128x16x16, .f32⟩
  | 106 => ⟨S8x128x16x16, .f32⟩
  | 107 => ⟨S_, .i32⟩
  | 108 => ⟨S64, .i32⟩
  | 109 => ⟨S64, .i1⟩
  | 110 => ⟨S_, .i32⟩
  | 111 => ⟨S64, .i32⟩
  | 112 => ⟨S64, .i32⟩
  | 113 => ⟨S64, .i32⟩
  | 114 => ⟨S64x1, .i32⟩
  | 115 => ⟨S1, .i32⟩
  | 116 => ⟨S_, .i32⟩
  | 117 => ⟨S64x1, .i32⟩
  | 118 => ⟨S64x1, .i1⟩
  | 119 => ⟨S1x1, .i32⟩
  | 120 => ⟨S64x1, .i32⟩
  | 121 => ⟨S64x1, .i1⟩
  | 122 => ⟨S64x1, .i1⟩
  | 123 => ⟨S_, .i1⟩
  | 124 => ⟨S64, .i1⟩
  | 125 => ⟨S8x128x64x16, .f32⟩
  | 126 => ⟨S8x128x64x16, .i1⟩
  | 127 => ⟨S_, .f32⟩
  | _ => ⟨S8x512x32x32, .f32⟩

abbrev hbmTy0_2 (i : Nat) : BufTy := match i % 128 with
  | 0 => ⟨S8x128x64x16, .f32⟩
  | 1 => ⟨S8x128x64x16, .f32⟩
  | 2 => ⟨S_, .i32⟩
  | 3 => ⟨S64, .i32⟩
  | 4 => ⟨S64, .i1⟩
  | 5 => ⟨S_, .i32⟩
  | 6 => ⟨S64, .i32⟩
  | 7 => ⟨S64, .i32⟩
  | 8 => ⟨S64, .i32⟩
  | 9 => ⟨S64x1, .i32⟩
  | 10 => ⟨S1, .i32⟩
  | 11 => ⟨S_, .i32⟩
  | 12 => ⟨S64x1, .i32⟩
  | 13 => ⟨S64x1, .i1⟩
  | 14 => ⟨S1x1, .i32⟩
  | 15 => ⟨S64x1, .i32⟩
  | 16 => ⟨S64x1, .i1⟩
  | 17 => ⟨S64x1, .i1⟩
  | 18 => ⟨S_, .i1⟩
  | 19 => ⟨S64, .i1⟩
  | 20 => ⟨S8x128x64x16, .f32⟩
  | 21 => ⟨S8x128x64x16, .i1⟩
  | 22 => ⟨S_, .f32⟩
  | 23 => ⟨S8x128x64x16, .f32⟩
  | 24 => ⟨S8x128x64x16, .f32⟩
  | 25 => ⟨S_, .i32⟩
  | 26 => ⟨S64, .i32⟩
  | 27 => ⟨S64, .i1⟩
  | 28 => ⟨S_, .i32⟩
  | 29 => ⟨S64, .i32⟩
  | 30 => ⟨S64, .i32⟩
  | 31 => ⟨S64, .i32⟩
  | 32 => ⟨S64x1, .i32⟩
  | 33 => ⟨S1, .i32⟩
  | 34 => ⟨S_, .i32⟩
  | 35 => ⟨S64x1, .i32⟩
  | 36 => ⟨S64x1, .i1⟩
  | 37 => ⟨S1x1, .i32⟩
  | 38 => ⟨S64x1, .i32⟩
  | 39 => ⟨S64x1, .i1⟩
  | 40 => ⟨S64x1, .i1⟩
  | 41 => ⟨S_, .i1⟩
  | 42 => ⟨S64, .i1⟩
  | 43 => ⟨S8x128x64x64, .f32⟩
  | 44 => ⟨S8x128x64x64, .i1⟩
  | 45 => ⟨S_, .f32⟩
  | 46 => ⟨S8x128x64x64, .f32⟩
  | 47 => ⟨S8x128x64x64, .f32⟩
  | 48 => ⟨S_, .i32⟩
  | 49 => ⟨S64, .i32⟩
  | 50 => ⟨S64, .i1⟩
  | 51 => ⟨S_, .i32⟩
  | 52 => ⟨S64, .i32⟩
  | 53 => ⟨S64, .i32⟩
  | 54 => ⟨S64, .i32⟩
  | 55 => ⟨S64x1, .i32⟩
  | 56 => ⟨S1, .i32⟩
  | 57 => ⟨S_, .i32⟩
  | 58 => ⟨S64x1, .i32⟩
  | 59 => ⟨S64x1, .i1⟩
  | 60 => ⟨S1x1, .i32⟩
  | 61 => ⟨S64x1, .i32⟩
  | 62 => ⟨S64x1, .i1⟩
  | 63 => ⟨S64x1, .i1⟩
  | 64 => ⟨S_, .i1⟩
  | 65 => ⟨S64, .i1⟩
  | 66 => ⟨S8x128x64x64, .f32⟩
  | 67 => ⟨S8x128x64x64, .i1⟩
  | 68 => ⟨S_, .f32⟩
  | 69 => ⟨S8x128x64x64, .f32⟩
  | 70 => ⟨S8x128x64x64, .f32⟩
  | 71 => ⟨S8x128x64x64, .f32⟩
  | 72 => ⟨S8x128x64x64, .f32⟩
  | 73 => ⟨S8x128x64x64, .f32⟩
  | 74 => ⟨S8x128x64x64, .f32⟩
  | 75 => ⟨S8x128x64x64, .f32⟩
  | 76 => ⟨S_, .i32⟩
  | 77 => ⟨S64, .i32⟩
  | 78 => ⟨S64, .i1⟩
  | 79 => ⟨S_, .i32⟩
  | 80 => ⟨S64, .i32⟩
  | 81 => ⟨S64, .i32⟩
  | 82 => ⟨S64, .i32⟩
  | 83 => ⟨S64x1, .i32⟩
  | 84 => ⟨S1, .i32⟩
  | 85 => ⟨S_, .i32⟩
  | 86 => ⟨S64x1, .i32⟩
  | 87 => ⟨S64x1, .i1⟩
  | 88 => ⟨S1x1, .i32⟩
  | 89 => ⟨S64x1, .i32⟩
  | 90 => ⟨S64x1, .i1⟩
  | 91 => ⟨S64x1, .i1⟩
  | 92 => ⟨S_, .i1⟩
  | 93 => ⟨S64, .i1⟩
  | 94 => ⟨S8x128x64x64, .f32⟩
  | 95 => ⟨S8x128x64x64, .i1⟩
  | 96 => ⟨S_, .f32⟩
  | 97 => ⟨S8x128x64x64, .f32⟩
  | 98 => ⟨S8x128x64x64, .f32⟩
  | 99 => ⟨S_, .i32⟩
  | 100 => ⟨S64, .i32⟩
  | 101 => ⟨S64, .i1⟩
  | 102 => ⟨S_, .i32⟩
  | 103 => ⟨S64, .i32⟩
  | 104 => ⟨S64, .i32⟩
  | 105 => ⟨S64, .i32⟩
  | 106 => ⟨S64x1, .i32⟩
  | 107 => ⟨S1, .i32⟩
  | 108 => ⟨S_, .i32⟩
  | 109 => ⟨S64x1, .i32⟩
  | 110 => ⟨S64x1, .i1⟩
  | 111 => ⟨S1x1, .i32⟩
  | 112 => ⟨S64x1, .i32⟩
  | 113 => ⟨S64x1, .i1⟩
  | 114 => ⟨S64x1, .i1⟩
  | 115 => ⟨S_, .i1⟩
  | 116 => ⟨S64, .i1⟩
  | 117 => ⟨S8x128x64x64, .f32⟩
  | 118 => ⟨S8x128x64x64, .i1⟩
  | 119 => ⟨S_, .f32⟩
  | 120 => ⟨S8x128x64x64, .f32⟩
  | 121 => ⟨S8x128x64x64, .f32⟩
  | 122 => ⟨S8x128x64x64, .f32⟩
  | 123 => ⟨S8x128x64x64, .f32⟩
  | 124 => ⟨S8x128x64x64, .f32⟩
  | 125 => ⟨S8x128x64x64, .f32⟩
  | 126 => ⟨S8x128x64x64, .f32⟩
  | 127 => ⟨S8x128x64x64, .f32⟩
  | _ => ⟨S8x512x32x32, .f32⟩

abbrev hbmTy0_3 (i : Nat) : BufTy := match i % 128 with
  | 0 => ⟨S8x128x64x64, .f32⟩
  | 1 => ⟨S8x128x64x64, .f32⟩
  | 2 => ⟨S8x128x64x64, .f32⟩
  | 3 => ⟨S8x128x64x64, .f32⟩
  | 4 => ⟨S8x384x64x64, .f32⟩
  | _ => ⟨S8x512x32x32, .f32⟩

abbrev hbmTy (i : Nat) : BufTy := match i / 128 with
  | 0 => hbmTy0_0 i
  | 1 => hbmTy0_1 i
  | 2 => hbmTy0_2 i
  | 3 => hbmTy0_3 i
  | _ => ⟨S8x512x32x32, .f32⟩

abbrev bufTy : (tb : Table) → Fin (tcTables nBuf tb) → BufTy
  | .hbm, ⟨i, _⟩ => hbmTy i
  | _, _ => ⟨S8x512x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_cst : Ref sig .tc := ⟨.hbm, 8, rfl⟩
abbrev main_v0 : Ref sig .tc := ⟨.hbm, 9, rfl⟩
abbrev main_cst_3 : Ref sig .tc := ⟨.hbm, 10, rfl⟩
abbrev main_v1 : Ref sig .tc := ⟨.hbm, 11, rfl⟩
abbrev main_cst_4 : Ref sig .tc := ⟨.hbm, 12, rfl⟩
abbrev main_v2 : Ref sig .tc := ⟨.hbm, 13, rfl⟩
abbrev main_cst_5 : Ref sig .tc := ⟨.hbm, 14, rfl⟩
abbrev main_v3 : Ref sig .tc := ⟨.hbm, 15, rfl⟩
abbrev main_cst_6 : Ref sig .tc := ⟨.hbm, 16, rfl⟩
abbrev main_v4 : Ref sig .tc := ⟨.hbm, 17, rfl⟩
abbrev main_cst_7 : Ref sig .tc := ⟨.hbm, 18, rfl⟩
abbrev main_v5 : Ref sig .tc := ⟨.hbm, 19, rfl⟩
abbrev main_c_8 : Ref sig .tc := ⟨.hbm, 20, rfl⟩
abbrev main_c_9 : Ref sig .tc := ⟨.hbm, 21, rfl⟩
abbrev main_c_10 : Ref sig .tc := ⟨.hbm, 22, rfl⟩
abbrev main_c_11 : Ref sig .tc := ⟨.hbm, 23, rfl⟩
abbrev main_cst_12 : Ref sig .tc := ⟨.hbm, 24, rfl⟩
abbrev main_v6 : Ref sig .tc := ⟨.hbm, 25, rfl⟩
abbrev main_cst_13 : Ref sig .tc := ⟨.hbm, 26, rfl⟩
abbrev main_v7 : Ref sig .tc := ⟨.hbm, 27, rfl⟩
abbrev main_cst_14 : Ref sig .tc := ⟨.hbm, 28, rfl⟩
abbrev main_v8 : Ref sig .tc := ⟨.hbm, 29, rfl⟩
abbrev main_cst_15 : Ref sig .tc := ⟨.hbm, 30, rfl⟩
abbrev main_v9 : Ref sig .tc := ⟨.hbm, 31, rfl⟩
abbrev main_cst_16 : Ref sig .tc := ⟨.hbm, 32, rfl⟩
abbrev main_v10 : Ref sig .tc := ⟨.hbm, 33, rfl⟩
abbrev main_cst_17 : Ref sig .tc := ⟨.hbm, 34, rfl⟩
abbrev main_v11 : Ref sig .tc := ⟨.hbm, 35, rfl⟩
abbrev main_call0_c : Ref sig .tc := ⟨.hbm, 36, rfl⟩
abbrev main_call0_v0 : Ref sig .tc := ⟨.hbm, 37, rfl⟩
abbrev main_call0_v1 : Ref sig .tc := ⟨.hbm, 38, rfl⟩
abbrev main_call0_c_0 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_c_1 : Ref sig .tc := ⟨.hbm, 44, rfl⟩
abbrev main_call0_c_2 : Ref sig .tc := ⟨.hbm, 45, rfl⟩
abbrev main_call0_v6 : Ref sig .tc := ⟨.hbm, 46, rfl⟩
abbrev main_call0_v7 : Ref sig .tc := ⟨.hbm, 47, rfl⟩
abbrev main_call0_v8 : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_c_3 : Ref sig .tc := ⟨.hbm, 52, rfl⟩
abbrev main_call0_v12 : Ref sig .tc := ⟨.hbm, 53, rfl⟩
abbrev main_call0_v13 : Ref sig .tc := ⟨.hbm, 54, rfl⟩
abbrev main_call0_v14 : Ref sig .tc := ⟨.hbm, 55, rfl⟩
abbrev main_call0_cst : Ref sig .tc := ⟨.hbm, 56, rfl⟩
abbrev main_call0_v15 : Ref sig .tc := ⟨.hbm, 57, rfl⟩
abbrev main_v12 : Ref sig .tc := ⟨.hbm, 58, rfl⟩
abbrev main_call1_c : Ref sig .tc := ⟨.hbm, 59, rfl⟩
abbrev main_call1_v0 : Ref sig .tc := ⟨.hbm, 60, rfl⟩
abbrev main_call1_v1 : Ref sig .tc := ⟨.hbm, 61, rfl⟩
abbrev main_call1_c_0 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_v5 : Ref sig .tc := ⟨.hbm, 66, rfl⟩
abbrev main_call1_c_1 : Ref sig .tc := ⟨.hbm, 67, rfl⟩
abbrev main_call1_c_2 : Ref sig .tc := ⟨.hbm, 68, rfl⟩
abbrev main_call1_v6 : Ref sig .tc := ⟨.hbm, 69, rfl⟩
abbrev main_call1_v7 : Ref sig .tc := ⟨.hbm, 70, rfl⟩
abbrev main_call1_v8 : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_call1_c_3 : Ref sig .tc := ⟨.hbm, 75, rfl⟩
abbrev main_call1_v12 : Ref sig .tc := ⟨.hbm, 76, rfl⟩
abbrev main_call1_v13 : Ref sig .tc := ⟨.hbm, 77, rfl⟩
abbrev main_call1_v14 : Ref sig .tc := ⟨.hbm, 78, rfl⟩
abbrev main_call1_cst : Ref sig .tc := ⟨.hbm, 79, rfl⟩
abbrev main_call1_v15 : Ref sig .tc := ⟨.hbm, 80, rfl⟩
abbrev main_v13 : Ref sig .tc := ⟨.hbm, 81, rfl⟩
abbrev main_call2_c : Ref sig .tc := ⟨.hbm, 82, rfl⟩
abbrev main_call2_v0 : Ref sig .tc := ⟨.hbm, 83, rfl⟩
abbrev main_call2_v1 : Ref sig .tc := ⟨.hbm, 84, rfl⟩
abbrev main_call2_c_0 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_call2_v5 : Ref sig .tc := ⟨.hbm, 89, rfl⟩
abbrev main_call2_c_1 : Ref sig .tc := ⟨.hbm, 90, rfl⟩
abbrev main_call2_c_2 : Ref sig .tc := ⟨.hbm, 91, rfl⟩
abbrev main_call2_v6 : Ref sig .tc := ⟨.hbm, 92, rfl⟩
abbrev main_call2_v7 : Ref sig .tc := ⟨.hbm, 93, rfl⟩
abbrev main_call2_v8 : Ref sig .tc := ⟨.hbm, 94, rfl⟩
abbrev main_call2_v9 : Ref sig .tc := ⟨.hbm, 95, rfl⟩
abbrev main_call2_v10 : Ref sig .tc := ⟨.hbm, 96, rfl⟩
abbrev main_call2_v11 : Ref sig .tc := ⟨.hbm, 97, rfl⟩
abbrev main_call2_c_3 : Ref sig .tc := ⟨.hbm, 98, rfl⟩
abbrev main_call2_v12 : Ref sig .tc := ⟨.hbm, 99, rfl⟩
abbrev main_call2_v13 : Ref sig .tc := ⟨.hbm, 100, rfl⟩
abbrev main_call2_v14 : Ref sig .tc := ⟨.hbm, 101, rfl⟩
abbrev main_call2_cst : Ref sig .tc := ⟨.hbm, 102, rfl⟩
abbrev main_call2_v15 : Ref sig .tc := ⟨.hbm, 103, rfl⟩
abbrev main_v14 : Ref sig .tc := ⟨.hbm, 104, rfl⟩
abbrev main_call3_c : Ref sig .tc := ⟨.hbm, 105, rfl⟩
abbrev main_call3_v0 : Ref sig .tc := ⟨.hbm, 106, rfl⟩
abbrev main_call3_v1 : Ref sig .tc := ⟨.hbm, 107, rfl⟩
abbrev main_call3_c_0 : Ref sig .tc := ⟨.hbm, 108, rfl⟩
abbrev main_call3_v2 : Ref sig .tc := ⟨.hbm, 109, rfl⟩
abbrev main_call3_v3 : Ref sig .tc := ⟨.hbm, 110, rfl⟩
abbrev main_call3_v4 : Ref sig .tc := ⟨.hbm, 111, rfl⟩
abbrev main_call3_v5 : Ref sig .tc := ⟨.hbm, 112, rfl⟩
abbrev main_call3_c_1 : Ref sig .tc := ⟨.hbm, 113, rfl⟩
abbrev main_call3_c_2 : Ref sig .tc := ⟨.hbm, 114, rfl⟩
abbrev main_call3_v6 : Ref sig .tc := ⟨.hbm, 115, rfl⟩
abbrev main_call3_v7 : Ref sig .tc := ⟨.hbm, 116, rfl⟩
abbrev main_call3_v8 : Ref sig .tc := ⟨.hbm, 117, rfl⟩
abbrev main_call3_v9 : Ref sig .tc := ⟨.hbm, 118, rfl⟩
abbrev main_call3_v10 : Ref sig .tc := ⟨.hbm, 119, rfl⟩
abbrev main_call3_v11 : Ref sig .tc := ⟨.hbm, 120, rfl⟩
abbrev main_call3_c_3 : Ref sig .tc := ⟨.hbm, 121, rfl⟩
abbrev main_call3_v12 : Ref sig .tc := ⟨.hbm, 122, rfl⟩
abbrev main_call3_v13 : Ref sig .tc := ⟨.hbm, 123, rfl⟩
abbrev main_call3_v14 : Ref sig .tc := ⟨.hbm, 124, rfl⟩
abbrev main_call3_cst : Ref sig .tc := ⟨.hbm, 125, rfl⟩
abbrev main_call3_v15 : Ref sig .tc := ⟨.hbm, 126, rfl⟩
abbrev main_v15 : Ref sig .tc := ⟨.hbm, 127, rfl⟩
abbrev main_call4_c : Ref sig .tc := ⟨.hbm, 128, rfl⟩
abbrev main_call4_v0 : Ref sig .tc := ⟨.hbm, 129, rfl⟩
abbrev main_call4_v1 : Ref sig .tc := ⟨.hbm, 130, rfl⟩
abbrev main_call4_c_0 : Ref sig .tc := ⟨.hbm, 131, rfl⟩
abbrev main_call4_v2 : Ref sig .tc := ⟨.hbm, 132, rfl⟩
abbrev main_call4_v3 : Ref sig .tc := ⟨.hbm, 133, rfl⟩
abbrev main_call4_v4 : Ref sig .tc := ⟨.hbm, 134, rfl⟩
abbrev main_call4_v5 : Ref sig .tc := ⟨.hbm, 135, rfl⟩
abbrev main_call4_c_1 : Ref sig .tc := ⟨.hbm, 136, rfl⟩
abbrev main_call4_c_2 : Ref sig .tc := ⟨.hbm, 137, rfl⟩
abbrev main_call4_v6 : Ref sig .tc := ⟨.hbm, 138, rfl⟩
abbrev main_call4_v7 : Ref sig .tc := ⟨.hbm, 139, rfl⟩
abbrev main_call4_v8 : Ref sig .tc := ⟨.hbm, 140, rfl⟩
abbrev main_call4_v9 : Ref sig .tc := ⟨.hbm, 141, rfl⟩
abbrev main_call4_v10 : Ref sig .tc := ⟨.hbm, 142, rfl⟩
abbrev main_call4_v11 : Ref sig .tc := ⟨.hbm, 143, rfl⟩
abbrev main_call4_c_3 : Ref sig .tc := ⟨.hbm, 144, rfl⟩
abbrev main_call4_v12 : Ref sig .tc := ⟨.hbm, 145, rfl⟩
abbrev main_call4_v13 : Ref sig .tc := ⟨.hbm, 146, rfl⟩
abbrev main_call4_v14 : Ref sig .tc := ⟨.hbm, 147, rfl⟩
abbrev main_call4_cst : Ref sig .tc := ⟨.hbm, 148, rfl⟩
abbrev main_call4_v15 : Ref sig .tc := ⟨.hbm, 149, rfl⟩
abbrev main_v16 : Ref sig .tc := ⟨.hbm, 150, rfl⟩
abbrev main_v17 : Ref sig .tc := ⟨.hbm, 151, rfl⟩
abbrev main_v18 : Ref sig .tc := ⟨.hbm, 152, rfl⟩
abbrev main_v19 : Ref sig .tc := ⟨.hbm, 153, rfl⟩
abbrev main_v20 : Ref sig .tc := ⟨.hbm, 154, rfl⟩
abbrev main_v21 : Ref sig .tc := ⟨.hbm, 155, rfl⟩
abbrev main_call5_c : Ref sig .tc := ⟨.hbm, 156, rfl⟩
abbrev main_call5_v0 : Ref sig .tc := ⟨.hbm, 157, rfl⟩
abbrev main_call5_v1 : Ref sig .tc := ⟨.hbm, 158, rfl⟩
abbrev main_call5_c_0 : Ref sig .tc := ⟨.hbm, 159, rfl⟩
abbrev main_call5_v2 : Ref sig .tc := ⟨.hbm, 160, rfl⟩
abbrev main_call5_v3 : Ref sig .tc := ⟨.hbm, 161, rfl⟩
abbrev main_call5_v4 : Ref sig .tc := ⟨.hbm, 162, rfl⟩
abbrev main_call5_v5 : Ref sig .tc := ⟨.hbm, 163, rfl⟩
abbrev main_call5_c_1 : Ref sig .tc := ⟨.hbm, 164, rfl⟩
abbrev main_call5_c_2 : Ref sig .tc := ⟨.hbm, 165, rfl⟩
abbrev main_call5_v6 : Ref sig .tc := ⟨.hbm, 166, rfl⟩
abbrev main_call5_v7 : Ref sig .tc := ⟨.hbm, 167, rfl⟩
abbrev main_call5_v8 : Ref sig .tc := ⟨.hbm, 168, rfl⟩
abbrev main_call5_v9 : Ref sig .tc := ⟨.hbm, 169, rfl⟩
abbrev main_call5_v10 : Ref sig .tc := ⟨.hbm, 170, rfl⟩
abbrev main_call5_v11 : Ref sig .tc := ⟨.hbm, 171, rfl⟩
abbrev main_call5_c_3 : Ref sig .tc := ⟨.hbm, 172, rfl⟩
abbrev main_call5_v12 : Ref sig .tc := ⟨.hbm, 173, rfl⟩
abbrev main_call5_v13 : Ref sig .tc := ⟨.hbm, 174, rfl⟩
abbrev main_call5_v14 : Ref sig .tc := ⟨.hbm, 175, rfl⟩
abbrev main_call5_cst : Ref sig .tc := ⟨.hbm, 176, rfl⟩
abbrev main_call5_v15 : Ref sig .tc := ⟨.hbm, 177, rfl⟩
abbrev main_v22 : Ref sig .tc := ⟨.hbm, 178, rfl⟩
abbrev main_call6_c : Ref sig .tc := ⟨.hbm, 179, rfl⟩
abbrev main_call6_v0 : Ref sig .tc := ⟨.hbm, 180, rfl⟩
abbrev main_call6_v1 : Ref sig .tc := ⟨.hbm, 181, rfl⟩
abbrev main_call6_c_0 : Ref sig .tc := ⟨.hbm, 182, rfl⟩
abbrev main_call6_v2 : Ref sig .tc := ⟨.hbm, 183, rfl⟩
abbrev main_call6_v3 : Ref sig .tc := ⟨.hbm, 184, rfl⟩
abbrev main_call6_v4 : Ref sig .tc := ⟨.hbm, 185, rfl⟩
abbrev main_call6_v5 : Ref sig .tc := ⟨.hbm, 186, rfl⟩
abbrev main_call6_c_1 : Ref sig .tc := ⟨.hbm, 187, rfl⟩
abbrev main_call6_c_2 : Ref sig .tc := ⟨.hbm, 188, rfl⟩
abbrev main_call6_v6 : Ref sig .tc := ⟨.hbm, 189, rfl⟩
abbrev main_call6_v7 : Ref sig .tc := ⟨.hbm, 190, rfl⟩
abbrev main_call6_v8 : Ref sig .tc := ⟨.hbm, 191, rfl⟩
abbrev main_call6_v9 : Ref sig .tc := ⟨.hbm, 192, rfl⟩
abbrev main_call6_v10 : Ref sig .tc := ⟨.hbm, 193, rfl⟩
abbrev main_call6_v11 : Ref sig .tc := ⟨.hbm, 194, rfl⟩
abbrev main_call6_c_3 : Ref sig .tc := ⟨.hbm, 195, rfl⟩
abbrev main_call6_v12 : Ref sig .tc := ⟨.hbm, 196, rfl⟩
abbrev main_call6_v13 : Ref sig .tc := ⟨.hbm, 197, rfl⟩
abbrev main_call6_v14 : Ref sig .tc := ⟨.hbm, 198, rfl⟩
abbrev main_call6_cst : Ref sig .tc := ⟨.hbm, 199, rfl⟩
abbrev main_call6_v15 : Ref sig .tc := ⟨.hbm, 200, rfl⟩
abbrev main_v23 : Ref sig .tc := ⟨.hbm, 201, rfl⟩
abbrev main_v24 : Ref sig .tc := ⟨.hbm, 202, rfl⟩
abbrev main_v25 : Ref sig .tc := ⟨.hbm, 203, rfl⟩
abbrev main_v26 : Ref sig .tc := ⟨.hbm, 204, rfl⟩
abbrev main_v27 : Ref sig .tc := ⟨.hbm, 205, rfl⟩
abbrev main_v28 : Ref sig .tc := ⟨.hbm, 206, rfl⟩
abbrev main_v29 : Ref sig .tc := ⟨.hbm, 207, rfl⟩
abbrev main_v30 : Ref sig .tc := ⟨.hbm, 208, rfl⟩
abbrev main_v31 : Ref sig .tc := ⟨.hbm, 209, rfl⟩
abbrev main_v32 : Ref sig .tc := ⟨.hbm, 210, rfl⟩
abbrev main_v33 : Ref sig .tc := ⟨.hbm, 211, rfl⟩
abbrev main_call7_c : Ref sig .tc := ⟨.hbm, 212, rfl⟩
abbrev main_call7_v0 : Ref sig .tc := ⟨.hbm, 213, rfl⟩
abbrev main_call7_v1 : Ref sig .tc := ⟨.hbm, 214, rfl⟩
abbrev main_call7_c_0 : Ref sig .tc := ⟨.hbm, 215, rfl⟩
abbrev main_call7_v2 : Ref sig .tc := ⟨.hbm, 216, rfl⟩
abbrev main_call7_v3 : Ref sig .tc := ⟨.hbm, 217, rfl⟩
abbrev main_call7_v4 : Ref sig .tc := ⟨.hbm, 218, rfl⟩
abbrev main_call7_v5 : Ref sig .tc := ⟨.hbm, 219, rfl⟩
abbrev main_call7_c_1 : Ref sig .tc := ⟨.hbm, 220, rfl⟩
abbrev main_call7_c_2 : Ref sig .tc := ⟨.hbm, 221, rfl⟩
abbrev main_call7_v6 : Ref sig .tc := ⟨.hbm, 222, rfl⟩
abbrev main_call7_v7 : Ref sig .tc := ⟨.hbm, 223, rfl⟩
abbrev main_call7_v8 : Ref sig .tc := ⟨.hbm, 224, rfl⟩
abbrev main_call7_v9 : Ref sig .tc := ⟨.hbm, 225, rfl⟩
abbrev main_call7_v10 : Ref sig .tc := ⟨.hbm, 226, rfl⟩
abbrev main_call7_v11 : Ref sig .tc := ⟨.hbm, 227, rfl⟩
abbrev main_call7_c_3 : Ref sig .tc := ⟨.hbm, 228, rfl⟩
abbrev main_call7_v12 : Ref sig .tc := ⟨.hbm, 229, rfl⟩
abbrev main_call7_v13 : Ref sig .tc := ⟨.hbm, 230, rfl⟩
abbrev main_call7_v14 : Ref sig .tc := ⟨.hbm, 231, rfl⟩
abbrev main_call7_cst : Ref sig .tc := ⟨.hbm, 232, rfl⟩
abbrev main_call7_v15 : Ref sig .tc := ⟨.hbm, 233, rfl⟩
abbrev main_v34 : Ref sig .tc := ⟨.hbm, 234, rfl⟩
abbrev main_call8_c : Ref sig .tc := ⟨.hbm, 235, rfl⟩
abbrev main_call8_v0 : Ref sig .tc := ⟨.hbm, 236, rfl⟩
abbrev main_call8_v1 : Ref sig .tc := ⟨.hbm, 237, rfl⟩
abbrev main_call8_c_0 : Ref sig .tc := ⟨.hbm, 238, rfl⟩
abbrev main_call8_v2 : Ref sig .tc := ⟨.hbm, 239, rfl⟩
abbrev main_call8_v3 : Ref sig .tc := ⟨.hbm, 240, rfl⟩
abbrev main_call8_v4 : Ref sig .tc := ⟨.hbm, 241, rfl⟩
abbrev main_call8_v5 : Ref sig .tc := ⟨.hbm, 242, rfl⟩
abbrev main_call8_c_1 : Ref sig .tc := ⟨.hbm, 243, rfl⟩
abbrev main_call8_c_2 : Ref sig .tc := ⟨.hbm, 244, rfl⟩
abbrev main_call8_v6 : Ref sig .tc := ⟨.hbm, 245, rfl⟩
abbrev main_call8_v7 : Ref sig .tc := ⟨.hbm, 246, rfl⟩
abbrev main_call8_v8 : Ref sig .tc := ⟨.hbm, 247, rfl⟩
abbrev main_call8_v9 : Ref sig .tc := ⟨.hbm, 248, rfl⟩
abbrev main_call8_v10 : Ref sig .tc := ⟨.hbm, 249, rfl⟩
abbrev main_call8_v11 : Ref sig .tc := ⟨.hbm, 250, rfl⟩
abbrev main_call8_c_3 : Ref sig .tc := ⟨.hbm, 251, rfl⟩
abbrev main_call8_v12 : Ref sig .tc := ⟨.hbm, 252, rfl⟩
abbrev main_call8_v13 : Ref sig .tc := ⟨.hbm, 253, rfl⟩
abbrev main_call8_v14 : Ref sig .tc := ⟨.hbm, 254, rfl⟩
abbrev main_call8_cst : Ref sig .tc := ⟨.hbm, 255, rfl⟩
abbrev main_call8_v15 : Ref sig .tc := ⟨.hbm, 256, rfl⟩
abbrev main_v35 : Ref sig .tc := ⟨.hbm, 257, rfl⟩
abbrev main_call9_c : Ref sig .tc := ⟨.hbm, 258, rfl⟩
abbrev main_call9_v0 : Ref sig .tc := ⟨.hbm, 259, rfl⟩
abbrev main_call9_v1 : Ref sig .tc := ⟨.hbm, 260, rfl⟩
abbrev main_call9_c_0 : Ref sig .tc := ⟨.hbm, 261, rfl⟩
abbrev main_call9_v2 : Ref sig .tc := ⟨.hbm, 262, rfl⟩
abbrev main_call9_v3 : Ref sig .tc := ⟨.hbm, 263, rfl⟩
abbrev main_call9_v4 : Ref sig .tc := ⟨.hbm, 264, rfl⟩
abbrev main_call9_v5 : Ref sig .tc := ⟨.hbm, 265, rfl⟩
abbrev main_call9_c_1 : Ref sig .tc := ⟨.hbm, 266, rfl⟩
abbrev main_call9_c_2 : Ref sig .tc := ⟨.hbm, 267, rfl⟩
abbrev main_call9_v6 : Ref sig .tc := ⟨.hbm, 268, rfl⟩
abbrev main_call9_v7 : Ref sig .tc := ⟨.hbm, 269, rfl⟩
abbrev main_call9_v8 : Ref sig .tc := ⟨.hbm, 270, rfl⟩
abbrev main_call9_v9 : Ref sig .tc := ⟨.hbm, 271, rfl⟩
abbrev main_call9_v10 : Ref sig .tc := ⟨.hbm, 272, rfl⟩
abbrev main_call9_v11 : Ref sig .tc := ⟨.hbm, 273, rfl⟩
abbrev main_call9_c_3 : Ref sig .tc := ⟨.hbm, 274, rfl⟩
abbrev main_call9_v12 : Ref sig .tc := ⟨.hbm, 275, rfl⟩
abbrev main_call9_v13 : Ref sig .tc := ⟨.hbm, 276, rfl⟩
abbrev main_call9_v14 : Ref sig .tc := ⟨.hbm, 277, rfl⟩
abbrev main_call9_cst : Ref sig .tc := ⟨.hbm, 278, rfl⟩
abbrev main_call9_v15 : Ref sig .tc := ⟨.hbm, 279, rfl⟩
abbrev main_v36 : Ref sig .tc := ⟨.hbm, 280, rfl⟩
abbrev main_call10_c : Ref sig .tc := ⟨.hbm, 281, rfl⟩
abbrev main_call10_v0 : Ref sig .tc := ⟨.hbm, 282, rfl⟩
abbrev main_call10_v1 : Ref sig .tc := ⟨.hbm, 283, rfl⟩
abbrev main_call10_c_0 : Ref sig .tc := ⟨.hbm, 284, rfl⟩
abbrev main_call10_v2 : Ref sig .tc := ⟨.hbm, 285, rfl⟩
abbrev main_call10_v3 : Ref sig .tc := ⟨.hbm, 286, rfl⟩
abbrev main_call10_v4 : Ref sig .tc := ⟨.hbm, 287, rfl⟩
abbrev main_call10_v5 : Ref sig .tc := ⟨.hbm, 288, rfl⟩
abbrev main_call10_c_1 : Ref sig .tc := ⟨.hbm, 289, rfl⟩
abbrev main_call10_c_2 : Ref sig .tc := ⟨.hbm, 290, rfl⟩
abbrev main_call10_v6 : Ref sig .tc := ⟨.hbm, 291, rfl⟩
abbrev main_call10_v7 : Ref sig .tc := ⟨.hbm, 292, rfl⟩
abbrev main_call10_v8 : Ref sig .tc := ⟨.hbm, 293, rfl⟩
abbrev main_call10_v9 : Ref sig .tc := ⟨.hbm, 294, rfl⟩
abbrev main_call10_v10 : Ref sig .tc := ⟨.hbm, 295, rfl⟩
abbrev main_call10_v11 : Ref sig .tc := ⟨.hbm, 296, rfl⟩
abbrev main_call10_c_3 : Ref sig .tc := ⟨.hbm, 297, rfl⟩
abbrev main_call10_v12 : Ref sig .tc := ⟨.hbm, 298, rfl⟩
abbrev main_call10_v13 : Ref sig .tc := ⟨.hbm, 299, rfl⟩
abbrev main_call10_v14 : Ref sig .tc := ⟨.hbm, 300, rfl⟩
abbrev main_call10_cst : Ref sig .tc := ⟨.hbm, 301, rfl⟩
abbrev main_call10_v15 : Ref sig .tc := ⟨.hbm, 302, rfl⟩
abbrev main_v37 : Ref sig .tc := ⟨.hbm, 303, rfl⟩
abbrev main_call11_c : Ref sig .tc := ⟨.hbm, 304, rfl⟩
abbrev main_call11_v0 : Ref sig .tc := ⟨.hbm, 305, rfl⟩
abbrev main_call11_v1 : Ref sig .tc := ⟨.hbm, 306, rfl⟩
abbrev main_call11_c_0 : Ref sig .tc := ⟨.hbm, 307, rfl⟩
abbrev main_call11_v2 : Ref sig .tc := ⟨.hbm, 308, rfl⟩
abbrev main_call11_v3 : Ref sig .tc := ⟨.hbm, 309, rfl⟩
abbrev main_call11_v4 : Ref sig .tc := ⟨.hbm, 310, rfl⟩
abbrev main_call11_v5 : Ref sig .tc := ⟨.hbm, 311, rfl⟩
abbrev main_call11_c_1 : Ref sig .tc := ⟨.hbm, 312, rfl⟩
abbrev main_call11_c_2 : Ref sig .tc := ⟨.hbm, 313, rfl⟩
abbrev main_call11_v6 : Ref sig .tc := ⟨.hbm, 314, rfl⟩
abbrev main_call11_v7 : Ref sig .tc := ⟨.hbm, 315, rfl⟩
abbrev main_call11_v8 : Ref sig .tc := ⟨.hbm, 316, rfl⟩
abbrev main_call11_v9 : Ref sig .tc := ⟨.hbm, 317, rfl⟩
abbrev main_call11_v10 : Ref sig .tc := ⟨.hbm, 318, rfl⟩
abbrev main_call11_v11 : Ref sig .tc := ⟨.hbm, 319, rfl⟩
abbrev main_call11_c_3 : Ref sig .tc := ⟨.hbm, 320, rfl⟩
abbrev main_call11_v12 : Ref sig .tc := ⟨.hbm, 321, rfl⟩
abbrev main_call11_v13 : Ref sig .tc := ⟨.hbm, 322, rfl⟩
abbrev main_call11_v14 : Ref sig .tc := ⟨.hbm, 323, rfl⟩
abbrev main_call11_cst : Ref sig .tc := ⟨.hbm, 324, rfl⟩
abbrev main_call11_v15 : Ref sig .tc := ⟨.hbm, 325, rfl⟩
abbrev main_v38 : Ref sig .tc := ⟨.hbm, 326, rfl⟩
abbrev main_v39 : Ref sig .tc := ⟨.hbm, 327, rfl⟩
abbrev main_v40 : Ref sig .tc := ⟨.hbm, 328, rfl⟩
abbrev main_v41 : Ref sig .tc := ⟨.hbm, 329, rfl⟩
abbrev main_v42 : Ref sig .tc := ⟨.hbm, 330, rfl⟩
abbrev main_v43 : Ref sig .tc := ⟨.hbm, 331, rfl⟩
abbrev main_call12_c : Ref sig .tc := ⟨.hbm, 332, rfl⟩
abbrev main_call12_v0 : Ref sig .tc := ⟨.hbm, 333, rfl⟩
abbrev main_call12_v1 : Ref sig .tc := ⟨.hbm, 334, rfl⟩
abbrev main_call12_c_0 : Ref sig .tc := ⟨.hbm, 335, rfl⟩
abbrev main_call12_v2 : Ref sig .tc := ⟨.hbm, 336, rfl⟩
abbrev main_call12_v3 : Ref sig .tc := ⟨.hbm, 337, rfl⟩
abbrev main_call12_v4 : Ref sig .tc := ⟨.hbm, 338, rfl⟩
abbrev main_call12_v5 : Ref sig .tc := ⟨.hbm, 339, rfl⟩
abbrev main_call12_c_1 : Ref sig .tc := ⟨.hbm, 340, rfl⟩
abbrev main_call12_c_2 : Ref sig .tc := ⟨.hbm, 341, rfl⟩
abbrev main_call12_v6 : Ref sig .tc := ⟨.hbm, 342, rfl⟩
abbrev main_call12_v7 : Ref sig .tc := ⟨.hbm, 343, rfl⟩
abbrev main_call12_v8 : Ref sig .tc := ⟨.hbm, 344, rfl⟩
abbrev main_call12_v9 : Ref sig .tc := ⟨.hbm, 345, rfl⟩
abbrev main_call12_v10 : Ref sig .tc := ⟨.hbm, 346, rfl⟩
abbrev main_call12_v11 : Ref sig .tc := ⟨.hbm, 347, rfl⟩
abbrev main_call12_c_3 : Ref sig .tc := ⟨.hbm, 348, rfl⟩
abbrev main_call12_v12 : Ref sig .tc := ⟨.hbm, 349, rfl⟩
abbrev main_call12_v13 : Ref sig .tc := ⟨.hbm, 350, rfl⟩
abbrev main_call12_v14 : Ref sig .tc := ⟨.hbm, 351, rfl⟩
abbrev main_call12_cst : Ref sig .tc := ⟨.hbm, 352, rfl⟩
abbrev main_call12_v15 : Ref sig .tc := ⟨.hbm, 353, rfl⟩
abbrev main_v44 : Ref sig .tc := ⟨.hbm, 354, rfl⟩
abbrev main_call13_c : Ref sig .tc := ⟨.hbm, 355, rfl⟩
abbrev main_call13_v0 : Ref sig .tc := ⟨.hbm, 356, rfl⟩
abbrev main_call13_v1 : Ref sig .tc := ⟨.hbm, 357, rfl⟩
abbrev main_call13_c_0 : Ref sig .tc := ⟨.hbm, 358, rfl⟩
abbrev main_call13_v2 : Ref sig .tc := ⟨.hbm, 359, rfl⟩
abbrev main_call13_v3 : Ref sig .tc := ⟨.hbm, 360, rfl⟩
abbrev main_call13_v4 : Ref sig .tc := ⟨.hbm, 361, rfl⟩
abbrev main_call13_v5 : Ref sig .tc := ⟨.hbm, 362, rfl⟩
abbrev main_call13_c_1 : Ref sig .tc := ⟨.hbm, 363, rfl⟩
abbrev main_call13_c_2 : Ref sig .tc := ⟨.hbm, 364, rfl⟩
abbrev main_call13_v6 : Ref sig .tc := ⟨.hbm, 365, rfl⟩
abbrev main_call13_v7 : Ref sig .tc := ⟨.hbm, 366, rfl⟩
abbrev main_call13_v8 : Ref sig .tc := ⟨.hbm, 367, rfl⟩
abbrev main_call13_v9 : Ref sig .tc := ⟨.hbm, 368, rfl⟩
abbrev main_call13_v10 : Ref sig .tc := ⟨.hbm, 369, rfl⟩
abbrev main_call13_v11 : Ref sig .tc := ⟨.hbm, 370, rfl⟩
abbrev main_call13_c_3 : Ref sig .tc := ⟨.hbm, 371, rfl⟩
abbrev main_call13_v12 : Ref sig .tc := ⟨.hbm, 372, rfl⟩
abbrev main_call13_v13 : Ref sig .tc := ⟨.hbm, 373, rfl⟩
abbrev main_call13_v14 : Ref sig .tc := ⟨.hbm, 374, rfl⟩
abbrev main_call13_cst : Ref sig .tc := ⟨.hbm, 375, rfl⟩
abbrev main_call13_v15 : Ref sig .tc := ⟨.hbm, 376, rfl⟩
abbrev main_v45 : Ref sig .tc := ⟨.hbm, 377, rfl⟩
abbrev main_v46 : Ref sig .tc := ⟨.hbm, 378, rfl⟩
abbrev main_v47 : Ref sig .tc := ⟨.hbm, 379, rfl⟩
abbrev main_v48 : Ref sig .tc := ⟨.hbm, 380, rfl⟩
abbrev main_v49 : Ref sig .tc := ⟨.hbm, 381, rfl⟩
abbrev main_v50 : Ref sig .tc := ⟨.hbm, 382, rfl⟩
abbrev main_v51 : Ref sig .tc := ⟨.hbm, 383, rfl⟩
abbrev main_v52 : Ref sig .tc := ⟨.hbm, 384, rfl⟩
abbrev main_v53 : Ref sig .tc := ⟨.hbm, 385, rfl⟩
abbrev main_v54 : Ref sig .tc := ⟨.hbm, 386, rfl⟩
abbrev main_v55 : Ref sig .tc := ⟨.hbm, 387, rfl⟩
abbrev main_v56 : Ref sig .tc := ⟨.hbm, 388, rfl⟩

abbrev nD : Nat := 1
abbrev τ : Topo := Topo.v7x

variable {F : FTy → Type} [FloatOps F]
-- ==== Proof.KernelIdealLaunched.lean ====
/- The launch of the first kernel's pipeline (KernelIdeal), at any contents of the two prefetched tables whose blocks lie
   inside the arrays (`Ok`): what each grid point leaves in the output's staging buffer, the pipeline's proof data, the
   body's obligation at every point, the run of @main and the frame. The text follows the launch's generated set-up; the
   two covering lemmas (64 stores tile the output block) are given the room that 64 pieces take. -/
module

public import proofs.«01_k».proof.Proof.Gen.KernelIdeal.Frame.RunB
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 4000000 in
/-- In case A the 64 stores tile the output block. -/
theorem cover0_A_18 (c : Dev nD) (i : grid0.Coords) (arg3 : Memref sig .tc .vmem S128x64 .f32) (harg3 : arg3.IsWhole) (arg4 : Memref sig .tc .vmem S64x128 .f32) (harg4 : arg4.IsWhole) (arg5 : Memref sig .tc .vmem S8x1x128x128 .f32) (harg5 : arg5.IsWhole) (arg6 : Memref sig .tc .vmem S8x1x128x128 .f32) (harg6 : arg6.IsWhole) (arg7 : Memref sig .tc .vmem S8x1x128x128 .f32) (harg7 : arg7.IsWhole) (arg8 : Memref sig .tc .vmem S8x1x128x128 .f32) (harg8 : arg8.IsWhole) (arg9 : Memref sig .tc .vmem S8x1x128x128 .f32) (harg9 : arg9.IsWhole) (arg10 : Memref sig .tc .vmem S8x1x128x128 .f32) (harg10 : arg10.IsWhole) (arg11 : Memref sig .tc .vmem S8x1x128x128 .f32) (harg11 : arg11.IsWhole) (arg12 : Memref sig .tc .vmem S8x1x128x128 .f32) (harg12 : arg12.IsWhole) (arg13 : Memref sig .tc .vmem S8x1x64x64 .f32) (harg13 : arg13.IsWhole) (arg14 : Memref sig .tc .vmem S8x1x64x64 .f32) (harg14 : arg14.IsWhole) (arg15 : Memref sig .tc .vmem S8x1x64x64 .f32) (harg15 : arg15.IsWhole) (arg16 : Memref sig .tc .vmem S8x1x64x64 .f32) (harg16 : arg16.IsWhole) (arg17 : Memref sig .tc .vmem S8x1x64x64 .f32) (harg17 : arg17.IsWhole) (arg18 : Memref sig .tc .vmem S8x1x64x64 .f32) (harg18 : arg18.IsWhole) (arg19 : Memref sig .tc .vmem S8x1x64x64 .f32) (harg19 : arg19.IsWhole) (arg20 : Memref sig .tc .vmem S8x1x64x64 .f32) (harg20 : arg20.IsWhole) (arg21 : Memref sig .tc .vmem S8x8x128x128 .f32) (harg21 : arg21.IsWhole) (hc0 : cond0_0 i) (hc1 : ¬cond0_1 i)
    (x0 : Vec F S128x64 .f32) (x1 : Vec F S64x128 .f32) (x2 : Vec F S8x1x128x128 .f32) (x3 : Vec F S8x1x128x128 .f32) (x4 : Vec F S8x1x128x128 .f32) (x5 : Vec F S8x1x128x128 .f32) (x6 : Vec F S8x1x128x128 .f32) (x7 : Vec F S8x1x128x128 .f32) (x8 : Vec F S8x1x128x128 .f32) (x9 : Vec F S8x1x128x128 .f32) (x10 : Vec F S8x1x64x64 .f32) (x11 : Vec F S8x1x64x64 .f32) (x12 : Vec F S8x1x64x64 .f32) (x13 : Vec F S8x1x64x64 .f32) (x14 : Vec F S8x1x64x64 .f32) (x15 : Vec F S8x1x64x64 .f32) (x16 : Vec F S8x1x64x64 .f32) (x17 : Vec F S8x1x64x64 .f32) (xt0 : TbBuf0 (F := F) c tbM0_0) (xt1 : TbBuf0 (F := F) c tbM0_1) (y : S8x8x128x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 x16 x17 xt0 xt1).1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 x16 x17 xt0 xt1).1 S1x1x128x128.size (by sl_kernel_rfl) y

/-- What case A leaves in output 18's staging buffer: its pieces read back over junk. -/
def out0_A_18 (c : Dev nD) (i : grid0.Coords) (arg3 : Memref sig .tc .vmem S128x64 .f32) (harg3 : arg3.IsWhole) (arg4 : Memref sig .tc .vmem S64x128 .f32) (harg4 : arg4.IsWhole) (arg5 : Memref sig .tc .vmem S8x1x128x128 .f32) (harg5 : arg5.IsWhole) (arg6 : Memref sig .tc .vmem S8x1x128x128 .f32) (harg6 : arg6.IsWhole) (arg7 : Memref sig .tc .vmem S8x1x128x128 .f32) (harg7 : arg7.IsWhole) (arg8 : Memref sig .tc .vmem S8x1x128x128 .f32) (harg8 : arg8.IsWhole) (arg9 : Memref sig .tc .vmem S8x1x128x128 .f32) (harg9 : arg9.IsWhole) (arg10 : Memref sig .tc .vmem S8x1x128x128 .f32) (harg10 : arg10.IsWhole) (arg11 : Memref sig .tc .vmem S8x1x128x128 .f32) (harg11 : arg11.IsWhole) (arg12 : Memref sig .tc .vmem S8x1x128x128 .f32) (harg12 : arg12.IsWhole) (arg13 : Memref sig .tc .vmem S8x1x64x64 .f32) (harg13 : arg13.IsWhole) (arg14 : Memref sig .tc .vmem S8x1x64x64 .f32) (harg14 : arg14.IsWhole) (arg15 : Memref sig .tc .vmem S8x1x64x64 .f32) (harg15 : arg15.IsWhole) (arg16 : Memref sig .tc .vmem S8x1x64x64 .f32) (harg16 : arg16.IsWhole) (arg17 : Memref sig .tc .vmem S8x1x64x64 .f32) (harg17 : arg17.IsWhole) (arg18 : Memref sig .tc .vmem S8x1x64x64 .f32) (harg18 : arg18.IsWhole) (arg19 : Memref sig .tc .vmem S8x1x64x64 .f32) (harg19 : arg19.IsWhole) (arg20 : Memref sig .tc .vmem S8x1x64x64 .f32) (harg20 : arg20.IsWhole) (arg21 : Memref sig .tc .vmem S8x8x128x128 .f32) (harg21 : arg21.IsWhole) (hc0 : cond0_0 i) (hc1 : ¬cond0_1 i)
    (x0 : Vec F S128x64 .f32) (x1 : Vec F S64x128 .f32) (x2 : Vec F S8x1x128x128 .f32) (x3 : Vec F S8x1x128x128 .f32) (x4 : Vec F S8x1x128x128 .f32) (x5 : Vec F S8x1x128x128 .f32) (x6 : Vec F S8x1x128x128 .f32) (x7 : Vec F S8x1x128x128 .f32) (x8 : Vec F S8x1x128x128 .f32) (x9 : Vec F S8x1x128x128 .f32) (x10 : Vec F S8x1x64x64 .f32) (x11 : Vec F S8x1x64x64 .f32) (x12 : Vec F S8x1x64x64 .f32) (x13 : Vec F S8x1x64x64 .f32) (x14 : Vec F S8x1x64x64 .f32) (x15 : Vec F S8x1x64x64 .f32) (x16 : Vec F S8x1x64x64 .f32) (x17 : Vec F S8x1x64x64 .f32) (xt0 : TbBuf0 (F := F) c tbM0_0) (xt1 : TbBuf0 (F := F) c tbM0_1) : Vec F S8x8x128x128 .f32 :=
  VO0_18.read (Elt F) (VO0_18.writes (Elt F) VO0_18.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 x16 x17 xt0 xt1).1)

set_option maxHeartbeats 4000000 in
/-- In case B the 64 stores tile the output block. -/
theorem cover0_B_18 (c : Dev nD) (i : grid0.Coords) (arg3 : Memref sig .tc .vmem S128x64 .f32) (harg3 : arg3.IsWhole) (arg4 : Memref sig .tc .vmem S64x128 .f32) (harg4 : arg4.IsWhole) (arg5 : Memref sig .tc .vmem S8x1x128x128 .f32) (harg5 : arg5.IsWhole) (arg6 : Memref sig .tc .vmem S8x1x128x128 .f32) (harg6 : arg6.IsWhole) (arg7 : Memref sig .tc .vmem S8x1x128x128 .f32) (harg7 : arg7.IsWhole) (arg8 : Memref sig .tc .vmem S8x1x128x128 .f32) (harg8 : arg8.IsWhole) (arg9 : Memref sig .tc .vmem S8x1x128x128 .f32) (harg9 : arg9.IsWhole) (arg10 : Memref sig .tc .vmem S8x1x128x128 .f32) (harg10 : arg10.IsWhole) (arg11 : Memref sig .tc .vmem S8x1x128x128 .f32) (harg11 : arg11.IsWhole) (arg12 : Memref sig .tc .vmem S8x1x128x128 .f32) (harg12 : arg12.IsWhole) (arg13 : Memref sig .tc .vmem S8x1x64x64 .f32) (harg13 : arg13.IsWhole) (arg14 : Memref sig .tc .vmem S8x1x64x64 .f32) (harg14 : arg14.IsWhole) (arg15 : Memref sig .tc .vmem S8x1x64x64 .f32) (harg15 : arg15.IsWhole) (arg16 : Memref sig .tc .vmem S8x1x64x64 .f32) (harg16 : arg16.IsWhole) (arg17 : Memref sig .tc .vmem S8x1x64x64 .f32) (harg17 : arg17.IsWhole) (arg18 : Memref sig .tc .vmem S8x1x64x64 .f32) (harg18 : arg18.IsWhole) (arg19 : Memref sig .tc .vmem S8x1x64x64 .f32) (harg19 : arg19.IsWhole) (arg20 : Memref sig .tc .vmem S8x1x64x64 .f32) (harg20 : arg20.IsWhole) (arg21 : Memref sig .tc .vmem S8x8x128x128 .f32) (harg21 : arg21.IsWhole) (hc0 : ¬cond0_0 i) (hc1 : cond0_1 i)
    (x0 : Vec F S128x64 .f32) (x1 : Vec F S64x128 .f32) (x2 : Vec F S8x1x128x128 .f32) (x3 : Vec F S8x1x128x128 .f32) (x4 : Vec F S8x1x128x128 .f32) (x5 : Vec F S8x1x128x128 .f32) (x6 : Vec F S8x1x128x128 .f32) (x7 : Vec F S8x1x128x128 .f32) (x8 : Vec F S8x1x128x128 .f32) (x9 : Vec F S8x1x128x128 .f32) (x10 : Vec F S8x1x64x64 .f32) (x11 : Vec F S8x1x64x64 .f32) (x12 : Vec F S8x1x64x64 .f32) (x13 : Vec F S8x1x64x64 .f32) (x14 : Vec F S8x1x64x64 .f32) (x15 : Vec F S8x1x64x64 .f32) (x16 : Vec F S8x1x64x64 .f32) (x17 : Vec F S8x1x64x64 .f32) (xt0 : TbBuf0 (F := F) c tbM0_0) (xt1 : TbBuf0 (F := F) c tbM0_1) (y : S8x8x128x128.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 x16 x17 xt0 xt1).1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 x16 x17 xt0 xt1).1 S1x1x128x128.size (by sl_kernel_rfl) y

/-- What case B leaves in output 18's staging buffer: its pieces read back over junk. -/
def out0_B_18 (c : Dev nD) (i : grid0.Coords) (arg3 : Memref sig .tc .vmem S128x64 .f32) (harg3 : arg3.IsWhole) (arg4 : Memref sig .tc .vmem S64x128 .f32) (harg4 : arg4.IsWhole) (arg5 : Memref sig .tc .vmem S8x1x128x128 .f32) (harg5 : arg5.IsWhole) (arg6 : Memref sig .tc .vmem S8x1x128x128 .f32) (harg6 : arg6.IsWhole) (arg7 : Memref sig .tc .vmem S8x1x128x128 .f32) (harg7 : arg7.IsWhole) (arg8 : Memref sig .tc .vmem S8x1x128x128 .f32) (harg8 : arg8.IsWhole) (arg9 : Memref sig .tc .vmem S8x1x128x128 .f32) (harg9 : arg9.IsWhole) (arg10 : Memref sig .tc .vmem S8x1x128x128 .f32) (harg10 : arg10.IsWhole) (arg11 : Memref sig .tc .vmem S8x1x128x128 .f32) (harg11 : arg11.IsWhole) (arg12 : Memref sig .tc .vmem S8x1x128x128 .f32) (harg12 : arg12.IsWhole) (arg13 : Memref sig .tc .vmem S8x1x64x64 .f32) (harg13 : arg13.IsWhole) (arg14 : Memref sig .tc .vmem S8x1x64x64 .f32) (harg14 : arg14.IsWhole) (arg15 : Memref sig .tc .vmem S8x1x64x64 .f32) (harg15 : arg15.IsWhole) (arg16 : Memref sig .tc .vmem S8x1x64x64 .f32) (harg16 : arg16.IsWhole) (arg17 : Memref sig .tc .vmem S8x1x64x64 .f32) (harg17 : arg17.IsWhole) (arg18 : Memref sig .tc .vmem S8x1x64x64 .f32) (harg18 : arg18.IsWhole) (arg19 : Memref sig .tc .vmem S8x1x64x64 .f32) (harg19 : arg19.IsWhole) (arg20 : Memref sig .tc .vmem S8x1x64x64 .f32) (harg20 : arg20.IsWhole) (arg21 : Memref sig .tc .vmem S8x8x128x128 .f32) (harg21 : arg21.IsWhole) (hc0 : ¬cond0_0 i) (hc1 : cond0_1 i)
    (x0 : Vec F S128x64 .f32) (x1 : Vec F S64x128 .f32) (x2 : Vec F S8x1x128x128 .f32) (x3 : Vec F S8x1x128x128 .f32) (x4 : Vec F S8x1x128x128 .f32) (x5 : Vec F S8x1x128x128 .f32) (x6 : Vec F S8x1x128x128 .f32) (x7 : Vec F S8x1x128x128 .f32) (x8 : Vec F S8x1x128x128 .f32) (x9 : Vec F S8x1x128x128 .f32) (x10 : Vec F S8x1x64x64 .f32) (x11 : Vec F S8x1x64x64 .f32) (x12 : Vec F S8x1x64x64 .f32) (x13 : Vec F S8x1x64x64 .f32) (x14 : Vec F S8x1x64x64 .f32) (x15 : Vec F S8x1x64x64 .f32) (x16 : Vec F S8x1x64x64 .f32) (x17 : Vec F S8x1x64x64 .f32) (xt0 : TbBuf0 (F := F) c tbM0_0) (xt1 : TbBuf0 (F := F) c tbM0_1) : Vec F S8x8x128x128 .f32 :=
  VO0_18.read (Elt F) (VO0_18.writes (Elt F) VO0_18.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 x16 x17 xt0 xt1).1)

/-! ## What the outputs hold after each point -/

/-- What the output's staging buffer holds after the body at point `t`: the copy (case A) before point 16, the product
    (case B) from point 16 on; neither reads what an earlier point left. -/
def outsAtPt (hO : Ok m) (c : Dev nD) (t : Fin (cfgM m hO).N) : Vec F S8x8x128x128 .f32 :=
  if h1 : 16 ≤ t.val then
    out0_B_18 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (fun h => Nat.not_lt.mpr h1 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (tbl m 0) (tbl m 1)
  else
    out0_A_18 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) ((hcond0_0 t).mpr (Nat.lt_of_not_le h1)) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (tbl m 0) (tbl m 1)

/-- The same by the point's position. -/
def outsAt0 (hO : Ok m) (c : Dev nD) (n : ℕ) (hn : n < (cfgM m hO).N) : Vec F S8x8x128x128 .f32 := outsAtPt m hO c ⟨n, hn⟩

/-- `outsAt0` at a point of case A: that case's contents. -/
theorem outsAt0_A (hO : Ok m) (c : Dev nD) (t : Fin (cfgM m hO).N) (h0 : t.val < 16) (h1 : ¬16 ≤ t.val) :
    outsAt0 m hO c t.val t.isLt = out0_A_18 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (tbl m 0) (tbl m 1) :=
  dif_neg h1

/-- `outsAt0` at a point of case B: that case's contents. -/
theorem outsAt0_B (hO : Ok m) (c : Dev nD) (t : Fin (cfgM m hO).N) (h0 : ¬t.val < 16) (h1 : 16 ≤ t.val) :
    outsAt0 m hO c t.val t.isLt = out0_B_18 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (tbl m 0) (tbl m 1) :=
  dif_pos h1

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    each input's share of its array
    (`Pipeline.shareOf`: the full share of an array several windows stage, dealt among them). -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => iblk m hO c 13 t
    | ⟨14, _⟩ => iblk m hO c 14 t
    | ⟨15, _⟩ => iblk m hO c 15 t
    | ⟨16, _⟩ => iblk m hO c 16 t
    | ⟨17, _⟩ => iblk m hO c 17 t
    | ⟨18, _⟩ => (outsAt0 m hO c t.val t.isLt)
    | ⟨_ + 19, h⟩ => absurd h (Nat.not_lt.2 (Nat.le_add_left _ _))
  Φ _ := iprop(Pipeline.ΦA spec0 c ∗ Pipeline.ΦT pre0 (tbl m) c)
  q w := Pipeline.shareOf spec0 w
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = iblk m hO c 9 t := by dsimp only [dats]; try rfl
theorem after0_10 (hO : Ok m) (c : Dev nD) (t : Fin (cfgM m hO).N) : (dats m hO 0 c).after 10 t = iblk m hO c 10 t := by dsimp only [dats]; try rfl
theorem after0_11 (hO : Ok m) (c : Dev nD) (t : Fin (cfgM m hO).N) : (dats m hO 0 c).after 11 t = iblk m hO c 11 t := by dsimp only [dats]; try rfl
theorem after0_12 (hO : Ok m) (c : Dev nD) (t : Fin (cfgM m hO).N) : (dats m hO 0 c).after 12 t = iblk m hO c 12 t := by dsimp only [dats]; try rfl
theorem after0_13 (hO : Ok m) (c : Dev nD) (t : Fin (cfgM m hO).N) : (dats m hO 0 c).after 13 t = iblk m hO c 13 t := by dsimp only [dats]; try rfl
theorem after0_14 (hO : Ok m) (c : Dev nD) (t : Fin (cfgM m hO).N) : (dats m hO 0 c).after 14 t = iblk m hO c 14 t := by dsimp only [dats]; try rfl
theorem after0_15 (hO : Ok m) (c : Dev nD) (t : Fin (cfgM m hO).N) : (dats m hO 0 c).after 15 t = iblk m hO c 15 t := by dsimp only [dats]; try rfl
theorem after0_16 (hO : Ok m) (c : Dev nD) (t : Fin (cfgM m hO).N) : (dats m hO 0 c).after 16 t = iblk m hO c 16 t := by dsimp only [dats]; try rfl
theorem after0_17 (hO : Ok m) (c : Dev nD) (t : Fin (cfgM m hO).N) : (dats m hO 0 c).after 17 t = iblk m hO c 17 t := by dsimp only [dats]; try rfl
theorem after0_18 (hO : Ok m) (c : Dev nD) (t : Fin (cfgM m hO).N) : (dats m hO 0 c).after 18 t = (outsAt0 m hO c t.val t.isLt) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d
theorem before0_10 (hO : Ok m) (c : Dev nD) (t : Fin (cfgM m hO).N) (d) : (dats m hO 0 c).before 10 t d = iblk m hO c 10 t :=
  before0_10_of m hO (dats m hO 0 c) (A_eq m hO c 10) (after0_10 m hO c) t d
theorem before0_11 (hO : Ok m) (c : Dev nD) (t : Fin (cfgM m hO).N) (d) : (dats m hO 0 c).before 11 t d = iblk m hO c 11 t :=
  before0_11_of m hO (dats m hO 0 c) (A_eq m hO c 11) (after0_11 m hO c) t d
theorem before0_12 (hO : Ok m) (c : Dev nD) (t : Fin (cfgM m hO).N) (d) : (dats m hO 0 c).before 12 t d = iblk m hO c 12 t :=
  before0_12_of m hO (dats m hO 0 c) (A_eq m hO c 12) (after0_12 m hO c) t d
theorem before0_13 (hO : Ok m) (c : Dev nD) (t : Fin (cfgM m hO).N) (d) : (dats m hO 0 c).before 13 t d = iblk m hO c 13 t :=
  before0_13_of m hO (dats m hO 0 c) (A_eq m hO c 13) (after0_13 m hO c) t d
theorem before0_14 (hO : Ok m) (c : Dev nD) (t : Fin (cfgM m hO).N) (d) : (dats m hO 0 c).before 14 t d = iblk m hO c 14 t :=
  before0_14_of m hO (dats m hO 0 c) (A_eq m hO c 14) (after0_14 m hO c) t d
theorem before0_15 (hO : Ok m) (c : Dev nD) (t : Fin (cfgM m hO).N) (d) : (dats m hO 0 c).before 15 t d = iblk m hO c 15 t :=
  before0_15_of m hO (dats m hO 0 c) (A_eq m hO c 15) (after0_15 m hO c) t d
theorem before0_16 (hO : Ok m) (c : Dev nD) (t : Fin (cfgM m hO).N) (d) : (dats m hO 0 c).before 16 t d = iblk m hO c 16 t :=
  before0_16_of m hO (dats m hO 0 c) (A_eq m hO c 16) (after0_16 m hO c) t d
theorem before0_17 (hO : Ok m) (c : Dev nD) (t : Fin (cfgM m hO).N) (d) : (dats m hO 0 c).before 17 t d = iblk m hO c 17 t :=
  before0_17_of m hO (dats m hO 0 c) (A_eq m hO c 17) (after0_17 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare ((dats m hO 0 c).before 13 t d))
    ∗ (∃ d, owns (c : Thread nD τ) (ms0_14 m hO t) fullShare ((dats m hO 0 c).before 14 t d))
    ∗ (∃ d, owns (c : Thread nD τ) (ms0_15 m hO t) fullShare ((dats m hO 0 c).before 15 t d))
    ∗ (∃ d, owns (c : Thread nD τ) (ms0_16 m hO t) fullShare ((dats m hO 0 c).before 16 t d))
    ∗ (∃ d, owns (c : Thread nD τ) (ms0_17 m hO t) fullShare ((dats m hO 0 c).before 17 t d))
    ∗ (∃ d, owns (c : Thread nD τ) (ms0_18 m hO t) fullShare ((dats m hO 0 c).before 18 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t
    ∗ (dats m hO 0 c).leavesExact 8 t
    ∗ (dats m hO 0 c).leavesExact 9 t
    ∗ (dats m hO 0 c).leavesExact 10 t
    ∗ (dats m hO 0 c).leavesExact 11 t
    ∗ (dats m hO 0 c).leavesExact 12 t
    ∗ (dats m hO 0 c).leavesExact 13 t
    ∗ (dats m hO 0 c).leavesExact 14 t
    ∗ (dats m hO 0 c).leavesExact 15 t
    ∗ (dats m hO 0 c).leavesExact 16 t
    ∗ (dats m hO 0 c).leavesExact 17 t
    ∗ (dats m hO 0 c).leavesExact 18 t)

set_option maxHeartbeats 3200000 in
/-- The body at any point: the inputs' memrefs hold their blocks (`before0_W`); the closed forms say which case the point is in (`by_cases`), an output the case reads before covering holds what the point before left (`before0_W_κ`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m hO 0 c).Φ t.succ = (dats m hO 0 c).Φ t.castSucc from rfl,
    show (dats m hO 0 c).owesAt () t.succ = (dats m hO 0 c).owesAt () t.castSucc from rfl]
  rw [show (dats m hO 0 c).Φ t.castSucc = iprop(Pipeline.ΦA spec0 c ∗ Pipeline.ΦT pre0 (tbl m) c) from rfl, PhiT0_eq]
  have hN : t.val < 48 := lt_of_lt_of_eq t.isLt (show (cfgM m hO).N = 48 from N_0)
  by_cases h0 : t.val < 16
  · by_cases h1 : 16 ≤ t.val
    · exfalso; omega
    · rw [show (dats m hO 0 c).leavesExact 0 t = owns (c : Thread nD τ) (ms0_0 m hO t) fullShare ((dats m hO 0 c).after 0 t) from by
      unfold Dat.leavesExact; rw [liveAt0_0 m hO t]; try rfl, after0_0]
      rw [show (dats m hO 0 c).leavesExact 1 t = owns (c : Thread nD τ) (ms0_1 m hO t) fullShare ((dats m hO 0 c).after 1 t) from by
      unfold Dat.leavesExact; rw [liveAt0_1 m hO t]; try rfl, after0_1]
      rw [show (dats m hO 0 c).leavesExact 2 t = owns (c : Thread nD τ) (ms0_2 m hO t) fullShare ((dats m hO 0 c).after 2 t) from by
      unfold Dat.leavesExact; rw [liveAt0_2 m hO t]; try rfl, after0_2]
      rw [show (dats m hO 0 c).leavesExact 3 t = owns (c : Thread nD τ) (ms0_3 m hO t) fullShare ((dats m hO 0 c).after 3 t) from by
      unfold Dat.leavesExact; rw [liveAt0_3 m hO t]; try rfl, after0_3]
      rw [show (dats m hO 0 c).leavesExact 4 t = owns (c : Thread nD τ) (ms0_4 m hO t) fullShare ((dats m hO 0 c).after 4 t) from by
      unfold Dat.leavesExact; rw [liveAt0_4 m hO t]; try rfl, after0_4]
      rw [show (dats m hO 0 c).leavesExact 5 t = owns (c : Thread nD τ) (ms0_5 m hO t) fullShare ((dats m hO 0 c).after 5 t) from by
      unfold Dat.leavesExact; rw [liveAt0_5 m hO t]; try rfl, after0_5]
      rw [show (dats m hO 0 c).leavesExact 6 t = owns (c : Thread nD τ) (ms0_6 m hO t) fullShare ((dats m hO 0 c).after 6 t) from by
      unfold Dat.leavesExact; rw [liveAt0_6 m hO t]; try rfl, after0_6]
      rw [show (dats m hO 0 c).leavesExact 7 t = owns (c : Thread nD τ) (ms0_7 m hO t) fullShare ((dats m hO 0 c).after 7 t) from by
      unfold Dat.leavesExact; rw [liveAt0_7 m hO t]; try rfl, after0_7]
      rw [show (dats m hO 0 c).leavesExact 8 t = owns (c : Thread nD τ) (ms0_8 m hO t) fullShare ((dats m hO 0 c).after 8 t) from by
      unfold Dat.leavesExact; rw [liveAt0_8 m hO t]; try rfl, after0_8]
      rw [show (dats m hO 0 c).leavesExact 9 t = owns (c : Thread nD τ) (ms0_9 m hO t) fullShare ((dats m hO 0 c).after 9 t) from by
      unfold Dat.leavesExact; rw [liveAt0_9 m hO t]; try rfl, after0_9]
      rw [show (dats m hO 0 c).leavesExact 10 t = owns (c : Thread nD τ) (ms0_10 m hO t) fullShare ((dats m hO 0 c).after 10 t) from by
      unfold Dat.leavesExact; rw [liveAt0_10 m hO t]; try rfl, after0_10]
      rw [show (dats m hO 0 c).leavesExact 11 t = owns (c : Thread nD τ) (ms0_11 m hO t) fullShare ((dats m hO 0 c).after 11 t) from by
      unfold Dat.leavesExact; rw [liveAt0_11 m hO t]; try rfl, after0_11]
      rw [show (dats m hO 0 c).leavesExact 12 t = owns (c : Thread nD τ) (ms0_12 m hO t) fullShare ((dats m hO 0 c).after 12 t) from by
      unfold Dat.leavesExact; rw [liveAt0_12 m hO t]; try rfl, after0_12]
      rw [show (dats m hO 0 c).leavesExact 13 t = owns (c : Thread nD τ) (ms0_13 m hO t) fullShare ((dats m hO 0 c).after 13 t) from by
      unfold Dat.leavesExact; rw [liveAt0_13 m hO t]; try rfl, after0_13]
      rw [show (dats m hO 0 c).leavesExact 14 t = owns (c : Thread nD τ) (ms0_14 m hO t) fullShare ((dats m hO 0 c).after 14 t) from by
      unfold Dat.leavesExact; rw [liveAt0_14 m hO t]; try rfl, after0_14]
      rw [show (dats m hO 0 c).leavesExact 15 t = owns (c : Thread nD τ) (ms0_15 m hO t) fullShare ((dats m hO 0 c).after 15 t) from by
      unfold Dat.leavesExact; rw [liveAt0_15 m hO t]; try rfl, after0_15]
      rw [show (dats m hO 0 c).leavesExact 16 t = owns (c : Thread nD τ) (ms0_16 m hO t) fullShare ((dats m hO 0 c).after 16 t) from by
      unfold Dat.leavesExact; rw [liveAt0_16 m hO t]; try rfl, after0_16]
      rw [show (dats m hO 0 c).leavesExact 17 t = owns (c : Thread nD τ) (ms0_17 m hO t) fullShare ((dats m hO 0 c).after 17 t) from by
      unfold Dat.leavesExact; rw [liveAt0_17 m hO t]; try rfl, after0_17]
      rw [show (dats m hO 0 c).leavesExact 18 t = owns (c : Thread nD τ) (ms0_18 m hO t) fullShare ((dats m hO 0 c).after 18 t) from by
      unfold Dat.leavesExact; rw [liveAt0_18_A m hO t ((hcond0_0 t).mpr h0) (fun h => h1 ((hcond0_1 t).mp h))]; try rfl, after0_18]
      rw [outsAt0_A m hO c t h0 h1]
      unfold out0_A_18
      iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply ((kernelRun0_A c (grid0.coords t) _ _ _ _ _ _ _ _ _ _ _ _ _ _ _ _ _ _ _ _ _ _ _ _ _ _ _ _ _ _ _ _ _ _ _ _ _ _ ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (tbl m 0) (tbl m 1)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexists _; iexact H18
      isplitl [HT0]; · iexact HT0
      isplitl [HT1]; · iexact HT1
      iintro ⟨H0, H1, H2, H3, H4, H5, H6, H7, H8, H9, H10, H11, H12, H13, H14, H15, H16, H17, ⟨%e18, H18⟩, HT0, HT1⟩
      isplitl [HΦ HT0 HT1]
      · isplitl [HΦ]
        · iexact HΦ
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      unfold owns; iexists _; isplitr
      swap; · iexact H18
      ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  · by_cases h1 : 16 ≤ t.val
    · rw [show (dats m hO 0 c).leavesExact 0 t = owns (c : Thread nD τ) (ms0_0 m hO t) fullShare ((dats m hO 0 c).after 0 t) from by
      unfold Dat.leavesExact; rw [liveAt0_0 m hO t]; try rfl, after0_0]
      rw [show (dats m hO 0 c).leavesExact 1 t = owns (c : Thread nD τ) (ms0_1 m hO t) fullShare ((dats m hO 0 c).after 1 t) from by
      unfold Dat.leavesExact; rw [liveAt0_1 m hO t]; try rfl, after0_1]
      rw [show (dats m hO 0 c).leavesExact 2 t = owns (c : Thread nD τ) (ms0_2 m hO t) fullShare ((dats m hO 0 c).after 2 t) from by
      unfold Dat.leavesExact; rw [liveAt0_2 m hO t]; try rfl, after0_2]
      rw [show (dats m hO 0 c).leavesExact 3 t = owns (c : Thread nD τ) (ms0_3 m hO t) fullShare ((dats m hO 0 c).after 3 t) from by
      unfold Dat.leavesExact; rw [liveAt0_3 m hO t]; try rfl, after0_3]
      rw [show (dats m hO 0 c).leavesExact 4 t = owns (c : Thread nD τ) (ms0_4 m hO t) fullShare ((dats m hO 0 c).after 4 t) from by
      unfold Dat.leavesExact; rw [liveAt0_4 m hO t]; try rfl, after0_4]
      rw [show (dats m hO 0 c).leavesExact 5 t = owns (c : Thread nD τ) (ms0_5 m hO t) fullShare ((dats m hO 0 c).after 5 t) from by
      unfold Dat.leavesExact; rw [liveAt0_5 m hO t]; try rfl, after0_5]
      rw [show (dats m hO 0 c).leavesExact 6 t = owns (c : Thread nD τ) (ms0_6 m hO t) fullShare ((dats m hO 0 c).after 6 t) from by
      unfold Dat.leavesExact; rw [liveAt0_6 m hO t]; try rfl, after0_6]
      rw [show (dats m hO 0 c).leavesExact 7 t = owns (c : Thread nD τ) (ms0_7 m hO t) fullShare ((dats m hO 0 c).after 7 t) from by
      unfold Dat.leavesExact; rw [liveAt0_7 m hO t]; try rfl, after0_7]
      rw [show (dats m hO 0 c).leavesExact 8 t = owns (c : Thread nD τ) (ms0_8 m hO t) fullShare ((dats m hO 0 c).after 8 t) from by
      unfold Dat.leavesExact; rw [liveAt0_8 m hO t]; try rfl, after0_8]
      rw [show (dats m hO 0 c).leavesExact 9 t = owns (c : Thread nD τ) (ms0_9 m hO t) fullShare ((dats m hO 0 c).after 9 t) from by
      unfold Dat.leavesExact; rw [liveAt0_9 m hO t]; try rfl, after0_9]
      rw [show (dats m hO 0 c).leavesExact 10 t = owns (c : Thread nD τ) (ms0_10 m hO t) fullShare ((dats m hO 0 c).after 10 t) from by
      unfold Dat.leavesExact; rw [liveAt0_10 m hO t]; try rfl, after0_10]
      rw [show (dats m hO 0 c).leavesExact 11 t = owns (c : Thread nD τ) (ms0_11 m hO t) fullShare ((dats m hO 0 c).after 11 t) from by
      unfold Dat.leavesExact; rw [liveAt0_11 m hO t]; try rfl, after0_11]
      rw [show (dats m hO 0 c).leavesExact 12 t = owns (c : Thread nD τ) (ms0_12 m hO t) fullShare ((dats m hO 0 c).after 12 t) from by
      unfold Dat.leavesExact; rw [liveAt0_12 m hO t]; try rfl, after0_12]
      rw [show (dats m hO 0 c).leavesExact 13 t = owns (c : Thread nD τ) (ms0_13 m hO t) fullShare ((dats m hO 0 c).after 13 t) from by
      unfold Dat.leavesExact; rw [liveAt0_13 m hO t]; try rfl, after0_13]
      rw [show (dats m hO 0 c).leavesExact 14 t = owns (c : Thread nD τ) (ms0_14 m hO t) fullShare ((dats m hO 0 c).after 14 t) from by
      unfold Dat.leavesExact; rw [liveAt0_14 m hO t]; try rfl, after0_14]
      rw [show (dats m hO 0 c).leavesExact 15 t = owns (c : Thread nD τ) (ms0_15 m hO t) fullShare ((dats m hO 0 c).after 15 t) from by
      unfold Dat.leavesExact; rw [liveAt0_15 m hO t]; try rfl, after0_15]
      rw [show (dats m hO 0 c).leavesExact 16 t = owns (c : Thread nD τ) (ms0_16 m hO t) fullShare ((dats m hO 0 c).after 16 t) from by
      unfold Dat.leavesExact; rw [liveAt0_16 m hO t]; try rfl, after0_16]
      rw [show (dats m hO 0 c).leavesExact 17 t = owns (c : Thread nD τ) (ms0_17 m hO t) fullShare ((dats m hO 0 c).after 17 t) from by
      unfold Dat.leavesExact; rw [liveAt0_17 m hO t]; try rfl, after0_17]
      rw [show (dats m hO 0 c).leavesExact 18 t = owns (c : Thread nD τ) (ms0_18 m hO t) fullShare ((dats m hO 0 c).after 18 t) from by
      unfold Dat.leavesExact; rw [liveAt0_18_B m hO t (fun h => h0 ((hcond0_0 t).mp h)) ((hcond0_1 t).mpr h1)]; try rfl, after0_18]
      rw [outsAt0_B m hO c t h0 h1]
      unfold out0_B_18
      iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply ((kernelRun0_B c (grid0.coords t) _ _ _ _ _ _ _ _ _ _ _ _ _ _ _ _ _ _ _ _ _ _ _ _ _ _ _ _ _ _ _ _ _ _ _ _ _ _ (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (tbl m 0) (tbl m 1)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexists _; iexact H18
      isplitl [HT0]; · iexact HT0
      isplitl [HT1]; · iexact HT1
      iintro ⟨H0, H1, H2, H3, H4, H5, H6, H7, H8, H9, H10, H11, H12, H13, H14, H15, H16, H17, ⟨%e18, H18⟩, HT0, HT1⟩
      isplitl [HΦ HT0 HT1]
      · isplitl [HΦ]
        · iexact HΦ
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      unfold owns; iexists _; isplitr
      swap; · iexact H18
      ipureintro; exact View.read_writes_of_cover _ _ _ _ _ (cover0_B_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · exfalso; omega

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

-- `θ_run_frameP_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ hO (dats m hO) (A_eq m hO) (run_main m ρ hO)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`; here for every contents of the PREFETCHED TABLES, UNDER `Gen.Ok m` (the pipeline's side condition of
    them), which Proof.lean proves from the precondition: `⟨…, fun m ρ h => Cert.KernelIdeal.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ hO) ((θ_run defs _ _).mono (fun _ h => h.2) (run_main_quiescent m ρ hO))

end Cert.KernelIdeal.Gen

end
-- ==== Proof.Take.lean ====
/- The two word tables the host hands the first kernel: each is `jnp.take` of an index argument at literal positions. Read
   at an entry it is the argument's word at that position, since every position is inside the argument. -/
module

public import Idealize.ShloMosaic.PureOps
public import Idealize.ShloMosaic.Lib.ValueIdxCore
public import Idealize.ShloMosaic.Lib.ReduceAll
public import Idealize.ShloMosaic.Lib.WordArith

@[expose] public section

namespace Cert.Channels

open Idealize.ShloMosaic Idealize.ShloMosaic.ValueIdx

abbrev Sc : Shape := ⟨0, ![]⟩
abbrev Sone : Shape := ⟨1, ![1]⟩
abbrev Sones : Shape := ⟨3, ![1, 1, 1]⟩
/-- A table: 8 lanes by 48 grid points. -/
abbrev Stab : Shape := ⟨2, ![8, 48]⟩
/-- A table as start indices of a gather. -/
abbrev Sidx : Shape := ⟨3, ![8, 48, 1]⟩

/-- A word below `n`, `n` below 2³¹, is its natural number read signed. -/
theorem toInt_of_lt {n : Nat} (hn : n < 2 ^ 31) (v : BitVec 32) (h : v.toNat < n) : v.toInt = (v.toNat : Int) := by
  rw [BitVec.toInt_eq_toNat_cond]
  split <;> omega

/-- Such a word is not below zero. -/
theorem slt_zero_of_lt {n : Nat} (hn : n < 2 ^ 31) (v : BitVec 32) (h : v.toNat < n) : IntOp.cmpi .slt v 0#32 = 0#1 := by
  have hi := toInt_of_lt hn v h
  have e0 : (0#32 : BitVec 32).toInt = 0 := by decide
  have : v.slt 0#32 = false := by rw [BitVec.slt_eq_decide, hi, e0]; simp
  simp [IntOp.cmpi, this]

/-- Such a word is at least zero. -/
theorem sge_zero_of_lt {n : Nat} (hn : n < 2 ^ 31) (v : BitVec 32) (h : v.toNat < n) : IntOp.cmpi .sge v 0#32 = 1#1 := by
  have hi := toInt_of_lt hn v h
  have e0 : (0#32 : BitVec 32).toInt = 0 := by decide
  have : (0#32 : BitVec 32).sle v = true := by rw [BitVec.sle_eq_decide, hi, e0]; simp
  simp [IntOp.cmpi, this]

/-- Such a word is at most `n - 1`. -/
theorem sle_last_of_lt {n : Nat} (hn : n < 2 ^ 31) (v : BitVec 32) (h : v.toNat < n) :
    IntOp.cmpi .sle v (BitVec.ofNat 32 (n - 1)) = 1#1 := by
  have hi := toInt_of_lt hn v h
  have ek : (BitVec.ofNat 32 (n - 1)).toInt = ((n - 1 : Nat) : Int) := by
    have e : (BitVec.ofNat 32 (n - 1)).toNat = n - 1 := by rw [BitVec.toNat_ofNat]; exact Nat.mod_eq_of_lt (by omega)
    rw [BitVec.toInt_eq_toNat_cond, e]; split <;> omega
  have : v.sle (BitVec.ofNat 32 (n - 1)) = true := by
    rw [BitVec.sle_eq_decide, hi, ek, decide_eq_true_eq]; omega
  simp [IntOp.cmpi, this]

/-- The positions, a negative one counted from the end, as start indices: none is negative, so they are the positions. -/
theorem start_apply {n : Nat} (hn : n < 2 ^ 31) (pos w : IVec Stab 32) (hpos : ∀ y, (pos y).toNat < n)
    (b0 : Sc.BroadcastsInDim Stab ![]) (b5 : Stab.BroadcastsInDim Sidx ![0, 1]) (i : Sidx.Idx) :
    broadcastInDim Sidx ![0, 1] b5 (select (cmpi .slt pos (broadcastInDim Stab ![] b0 (constantI Sc 32 0#32))) w pos) i
      = pos (ix2 ⟨(i 0).val, (i 0).isLt⟩ ⟨(i 1).val, (i 1).isLt⟩) := by
  have hj : ∀ j : Stab.Idx, select (cmpi .slt pos (broadcastInDim Stab ![] b0 (constantI Sc 32 0#32))) w pos j = pos j := by
    intro j
    show Scalar.select (IntOp.cmpi .slt (pos j) 0#32) (w j) (pos j) = pos j
    rw [slt_zero_of_lt hn _ (hpos j)]; rfl
  show select (cmpi .slt pos (broadcastInDim Stab ![] b0 (constantI Sc 32 0#32))) w pos _ = _
  rw [hj]
  congr 1
  funext a
  match a with
  | ⟨0, _⟩ => rfl
  | ⟨1, _⟩ => rfl

/-- `jnp.take` of an index argument at positions inside it, read at a table's entry. -/
theorem take_apply {n : Nat} (hn0 : 0 < n) (hn : n < 2 ^ 31) (x : IVec ⟨1, ![n]⟩ 32) (pos w fill : IVec Stab 32)
    (hpos : ∀ y, (pos y).toNat < n)
    (b0 : Sc.BroadcastsInDim Stab ![]) (b5 : Stab.BroadcastsInDim Sidx ![0, 1])
    (b1 : Sc.BroadcastsInDim Sidx ![]) (b2 : Sone.BroadcastsInDim Sones ![2]) (b3 : Sones.BroadcastsInDim Sidx ![0, 1, 2])
    (red : Sidx.ReducesTo [2] Stab) (hS : 0 < Sc.numel)
    (wf : GatherDims.WF ⟨1, ![n]⟩ ⟨3, ![8, 48, 1]⟩ ⟨2, ![8, 48]⟩ [] [0] [] [0] [] 2 ![1])
    (v5 : IVec Sidx 32)
    (hv5 : v5 = broadcastInDim Sidx ![0, 1] b5 (select (cmpi .slt pos (broadcastInDim Stab ![] b0 (constantI Sc 32 0#32))) w pos))
    (y : Stab.Idx) :
    select (Host.reduce IntOp.andi
        (andi (cmpi .sge v5 (broadcastInDim Sidx ![] b1 (constantI Sc 32 0#32)))
          (cmpi .sle v5 (broadcastInDim Sidx ![0, 1, 2] b3 (broadcastInDim Sones ![2] b2 (constantI Sone 32 (BitVec.ofNat 32 (n - 1)))))))
        (constantI Sc 1 1#1) red hS)
      (Host.gather (takeDims n 8 48 wf) x v5) fill y = x (ix1 ⟨(pos y).toNat, hpos y⟩) := by
  have h5 : ∀ i, v5 i = pos (ix2 ⟨(i 0).val, (i 0).isLt⟩ ⟨(i 1).val, (i 1).isLt⟩) := fun i => by
    rw [hv5]; exact start_apply hn pos w hpos b0 b5 i
  have hm : Host.reduce IntOp.andi
        (andi (cmpi .sge v5 (broadcastInDim Sidx ![] b1 (constantI Sc 32 0#32)))
          (cmpi .sle v5 (broadcastInDim Sidx ![0, 1, 2] b3 (broadcastInDim Sones ![2] b2 (constantI Sone 32 (BitVec.ofNat 32 (n - 1)))))))
        (constantI Sc 1 1#1) red hS y = 1#1 := by
    refine Host.reduce_andi_one _ _ _ _ _ rfl fun i => ?_
    show IntOp.andi (IntOp.cmpi .sge (v5 i) 0#32) (IntOp.cmpi .sle (v5 i) (BitVec.ofNat 32 (n - 1))) = 1#1
    have hb : (v5 i).toNat < n := by rw [h5]; exact hpos _
    rw [sge_zero_of_lt hn _ hb, sle_last_of_lt hn _ hb]; rfl
  show Scalar.select (Host.reduce IntOp.andi _ _ _ _ y) (Host.gather _ _ _ y) (fill y) = _
  rw [hm, gather_take_apply hn0]
  show x _ = x _
  have e : pos (ix2 ⟨((takeIdx y : Sidx.Idx) 0).val, ((takeIdx y : Sidx.Idx) 0).isLt⟩ ⟨((takeIdx y : Sidx.Idx) 1).val, ((takeIdx y : Sidx.Idx) 1).isLt⟩) = pos y := by
    congr 1
    funext a
    match a with
    | ⟨0, _⟩ => rfl
    | ⟨1, _⟩ => rfl
  congr 1
  funext a
  obtain rfl : a = 0 := Subsingleton.elim _ _
  refine Fin.ext ?_
  show min (v5 (takeIdx y)).toInt.toNat (n - 1) = (pos y).toNat
  rw [h5, e, toInt_of_lt hn _ (hpos y)]
  have := hpos y
  simp only [Int.toNat_natCast]
  omega

/-- The two comparisons of the precondition bound a word. -/
theorem toNat_lt_of_cmpi (x : BitVec 32) (k : ℕ) (hk : k < 2 ^ 31)
    (h : IntOp.andi (IntOp.cmpi .sge x 0#32) (IntOp.cmpi .slt x (BitVec.ofNat 32 k)) = 1#1) : x.toNat < k := by
  have ofBool_eq_one (p : Bool) : (BitVec.ofBool p = 1#1) ↔ p = true := by cases p <;> decide
  obtain ⟨h1, h2⟩ := IntOp.andi_eq_one.1 h
  simp only [IntOp.cmpi, ofBool_eq_one] at h1 h2
  exact WordArith.toNat_lt_of_zero_sle_of_slt_ofNat x k hk h1 h2

end Cert.Channels

end
-- ==== Proof.InRange.lean ====
/- What the precondition says of the two index arguments: every word of the first is below 256, every word of the second
   below 512. -/
module

public import proofs.«01_k».proof.Defs
public import proofs.«01_k».proof.Proof.Gen.Pre_in_range
public import proofs.«01_k».proof.Proof.Take

@[expose] public section

namespace Cert.Channels

open Idealize.ShloMosaic Cert.Pre_in_range Cert.Pre_in_range.Gen

variable {F : FTy → Type} [FloatOps F]

/-- The precondition, word by word. -/
theorem in_range_words (a0 : FVec F S8x256x128x128 .f32) (a1 : FVec F S8x512x64x64 .f32) (a2 : IVec S128 32) (a3 : IVec S256 32)
    (h : Cert.Pre_in_range.fn (F := F) a0 a1 a2 a3 = fun _ => 1#1) :
    (∀ i, (a2 i).toNat < 256) ∧ ∀ i, (a3 i).toNat < 512 := by
  have h0 := congrFun h (fun a => a.elim0)
  simp only [Cert.Pre_in_range.fn] at h0
  obtain ⟨h2, h3⟩ := IntOp.andi_eq_one.1 (show IntOp.andi _ _ = 1#1 from h0)
  haveI : Subsingleton S_.Idx := ⟨fun a b => funext fun d => d.elim0⟩
  constructor
  · intro i
    exact toNat_lt_of_cmpi _ 256 (by norm_num) (Host.reduce_andi_all _ _ _ _ _ h2 i)
  · intro i
    exact toNat_lt_of_cmpi _ 512 (by norm_num) (Host.reduce_andi_all _ _ _ _ _ h3 i)

end Cert.Channels

end
-- ==== Proof.KernelIdealTables.lean ====
/- The two prefetched tables of the first kernel (KernelIdeal) under the precondition: each entry is the index argument's word at a
   literal position, so every block the tables name lies inside its array (`Ok`). -/
module

public import proofs.«01_k».proof.Proof.Gen.KernelIdeal.Frame.Runs
public import proofs.«01_k».proof.Proof.InRange
public import Idealize.ShloMosaic.Lib.StableHlo.Run

@[expose] public section

set_option maxRecDepth 16384

noncomputable section

namespace Cert.KernelIdeal.Gen

open Idealize.ShloMosaic Idealize.ShloMosaic.TcCoe Idealize.ShloMosaic.StableHlo Idealize.ShloMosaic.ValueIdx Cert.Channels

variable {F : FTy → Type} [FloatOps F]
variable (m : (ℓ : Loc nD τ sig) → Buf (Elt F) ℓ)

/-- The positions of the first table lie inside its index argument. -/
theorem lit2_lt : ∀ i, (lit2 i).toNat < 128 := by decide +kernel

/-- The positions of the second table lie inside its index argument. -/
theorem lit3_lt : ∀ i, (lit3 i).toNat < 256 := by decide +kernel

set_option maxHeartbeats 4000000 in
/-- The first table's entry. -/
theorem tbl0_apply (y : S8x48.Idx) :
    tbl m 0 y = m (((0 : Dev nD) : Thread nD τ).loc main_arg2) (ix1 ⟨(lit2 (S8x48.rowMajor y)).toNat, lit2_lt _⟩) := by
  have e : (V m 0 main_v1 : IVec S8x48 32) y
      = m (((0 : Dev nD) : Thread nD τ).loc main_arg2) (ix1 ⟨(lit2 (S8x48.rowMajor y)).toNat, lit2_lt _⟩) := by
    unfold V
    simp only [hostOps0, hostOps0_1, hostOps0_2, List.flatten_cons, List.flatten_nil, List.append_nil, List.cons_append,
      List.nil_append, TRef.binary, TRef.nullary, TRef.ternary, TRef.unary, TRef.toBuf, TRef.ofBuf, cast_eq]
    after_results_simp
    exact take_apply (n := 128) (by norm_num) (by norm_num) _ (fun i => lit2 (S8x48.rowMajor i)) _ _ (fun y => lit2_lt _) _ _ _ _ _ _ _ _ _ rfl y
  exact e

set_option maxHeartbeats 4000000 in
/-- The second table's entry. -/
theorem tbl1_apply (y : S8x48.Idx) :
    tbl m 1 y = m (((0 : Dev nD) : Thread nD τ).loc main_arg3) (ix1 ⟨(lit3 (S8x48.rowMajor y)).toNat, lit3_lt _⟩) := by
  have e : (V m 0 main_v2 : IVec S8x48 32) y
      = m (((0 : Dev nD) : Thread nD τ).loc main_arg3) (ix1 ⟨(lit3 (S8x48.rowMajor y)).toNat, lit3_lt _⟩) := by
    unfold V
    simp only [hostOps0, hostOps0_1, hostOps0_2, List.flatten_cons, List.flatten_nil, List.append_nil, List.cons_append,
      List.nil_append, TRef.binary, TRef.nullary, TRef.ternary, TRef.unary, TRef.toBuf, TRef.ofBuf, cast_eq]
    after_results_simp
    exact take_apply (n := 256) (by norm_num) (by norm_num) _ (fun i => lit3 (S8x48.rowMajor i)) _ _ (fun y => lit3_lt _) _ _ _ _ _ _ _ _ _ rfl y
  exact e

/-- Tables whose words name channels of the arrays name blocks inside them. -/
theorem ok0_of_lt (pf : pre0.Contents (Elt F)) (h0 : ∀ y, (pf 0 y : BitVec 32).toNat < 256) (h1 : ∀ y, (pf 1 y : BitVec 32).toNat < 512) :
    ok0 pf := by
  have A : ∀ (w : BitVec 32), w.toNat < 256 → ∀ a, ((![0, w.toNat, 0, 0] : Fin 4 → ℕ) a + 1) * S8x1x128x128.size a ≤ S8x256x128x128.size a := by
    intro w hw a
    fin_cases a <;> simp <;> omega
  have B : ∀ (w : BitVec 32), w.toNat < 512 → ∀ a, ((![0, w.toNat, 0, 0] : Fin 4 → ℕ) a + 1) * S8x1x64x64.size a ≤ S8x512x64x64.size a := by
    intro w hw a
    fin_cases a <;> simp <;> omega
  unfold ok0
  exact ⟨fun i => ⟨A _ (h0 _), Or.inl rfl⟩, fun i => ⟨A _ (h0 _), Or.inl rfl⟩, fun i => ⟨A _ (h0 _), Or.inl rfl⟩,
    fun i => ⟨A _ (h0 _), Or.inl rfl⟩, fun i => ⟨A _ (h0 _), Or.inl rfl⟩, fun i => ⟨A _ (h0 _), Or.inl rfl⟩,
    fun i => ⟨A _ (h0 _), Or.inl rfl⟩, fun i => ⟨A _ (h0 _), Or.inl rfl⟩,
    fun i => ⟨B _ (h1 _), Or.inl rfl⟩, fun i => ⟨B _ (h1 _), Or.inl rfl⟩, fun i => ⟨B _ (h1 _), Or.inl rfl⟩,
    fun i => ⟨B _ (h1 _), Or.inl rfl⟩, fun i => ⟨B _ (h1 _), Or.inl rfl⟩, fun i => ⟨B _ (h1 _), Or.inl rfl⟩,
    fun i => ⟨B _ (h1 _), Or.inl rfl⟩, fun i => ⟨B _ (h1 _), Or.inl rfl⟩⟩

/-- Index arguments in range give tables in range. -/
theorem ok_of_words
    (h2 : ∀ i, (m (((0 : Dev nD) : Thread nD τ).loc main_arg2) i : BitVec 32).toNat < 256)
    (h3 : ∀ i, (m (((0 : Dev nD) : Thread nD τ).loc main_arg3) i : BitVec 32).toNat < 512) : Ok m :=
  ok0_of_lt _ (fun y => lt_of_eq_of_lt (congrArg BitVec.toNat (tbl0_apply m y)) (h2 _)) (fun y => lt_of_eq_of_lt (congrArg BitVec.toNat (tbl1_apply m y)) (h3 _))

end Cert.KernelIdeal.Gen

end

end
-- ==== Proof.BlockParts.lean ====
/- What one store of the body writes, in the two cases of a grid point: a copy of one slice of a channel block (case A),
   and one channel's block multiplied by the two interpolation matrices (case B). Stated once for every image `b` and
   every slot `j`; the launch's 64 stores are instances. -/
module

public import proofs.«01_k».proof.Proof.Gen.KernelIdeal.Skeleton
public import Idealize.ShloMosaic.Lib.Pipeline.Value
public import Idealize.ShloMosaic.Lib.Pointwise

@[expose] public section

set_option maxRecDepth 16384

noncomputable section

namespace Cert.KernelIdeal.Gen

open Idealize.ShloMosaic Idealize.ShloMosaic.TcCoe Idealize.ShloMosaic.Pointwise

/-- The output block of case A: slot `j` of image `b` is image `b` of the `j`-th channel block. -/
def copied {F : FTy → Type} [FloatOps F] (xs : Fin 8 → Vec F S8x1x128x128 .f32) : Vec F S8x8x128x128 .f32 :=
  fun i => xs (i 1) (ix4 (i 0) 0 (i 2) (i 3))

/-- The output block of case B: slot `j` of image `b` is the matrix `uy` times image `b` of the `j`-th channel block times
    the matrix `ux`. -/
def product (uy : FVec Ideal S128x64 .f32) (ux : FVec Ideal S64x128 .f32) (xs : Fin 8 → FVec Ideal S8x1x64x64 .f32) :
    FVec Ideal S8x8x128x128 .f32 :=
  fun i => ∑ k : Fin 64, uy (ix2 (i 2) k) * ∑ l : Fin 64, xs (i 1) (ix4 (i 0) 0 k l) * ux (ix2 l (i 3))

/-- Stores that cover a buffer and each write what `G` has in their box leave `G`. -/
theorem read_of_pieces {κ : Kind} {sp : Space} {s : Shape} {e : EltTy} {Val : EltTy → Type} [∀ e, Nonempty (Val e)]
    (v : View sig κ sp s e) (f : v.ty.Contents Val) (L : List (View.Piece Val s e)) (G : s.Idx → Val e)
    (hp : ∀ p ∈ L, ∀ x : p.1.shape.Idx, p.2 x = G (p.1.emb x)) (hc : ∀ y, ∃ p ∈ L, y ∈ p.1.set) :
    v.read Val (v.writes Val f L) = G :=
  (View.read_writes_eq_canon v f L hc).trans (funext fun y => View.canon_apply_of_pieces G L hp y (hc y))

/-- The box of slot `j` of image `b` in the output block, at an index of the box. -/
theorem box_emb (b j : ℕ) (hb : b < 8) (hj : j < 8) (h) (x : S1x1x128x128.Idx) :
    (Rect.unit (s := S8x8x128x128) ![b, j, 0, 0] S1x1x128x128.size h).emb x = ix4 ⟨b, hb⟩ ⟨j, hj⟩ (x 2) (x 3) := by
  idx_vars x
  funext a
  match a with
  | ⟨0, _⟩ => exact Fin.ext (show b + 1 * x0.val = b by omega)
  | ⟨1, _⟩ => exact Fin.ext (show j + 1 * x1.val = j by omega)
  | ⟨2, _⟩ => exact Fin.ext (show 0 + 1 * x2.val = x2.val by omega)
  | ⟨3, _⟩ => exact Fin.ext (show 0 + 1 * x3.val = x3.val by omega)

/-- The box of image `b` in an input block of 128 by 128, at an index of the box. -/
theorem slice_emb (b : ℕ) (hb : b < 8) (h) (x : S1x1x128x128.Idx) :
    (Rect.unit (s := S8x1x128x128) ![b, 0, 0, 0] S1x1x128x128.size h).emb x = ix4 ⟨b, hb⟩ 0 (x 2) (x 3) := by
  idx_vars x
  funext a
  match a with
  | ⟨0, _⟩ => exact Fin.ext (show b + 1 * x0.val = b by omega)
  | ⟨1, _⟩ => exact Fin.ext (show 0 + 1 * x1.val = 0 by omega)
  | ⟨2, _⟩ => exact Fin.ext (show 0 + 1 * x2.val = x2.val by omega)
  | ⟨3, _⟩ => exact Fin.ext (show 0 + 1 * x3.val = x3.val by omega)

/-- The same of an input block of 64 by 64. -/
theorem small_emb (b : ℕ) (hb : b < 8) (h) (x : S1x1x64x64.Idx) :
    (Rect.unit (s := S8x1x64x64) ![b, 0, 0, 0] S1x1x64x64.size h).emb x = ix4 ⟨b, hb⟩ 0 (x 2) (x 3) := by
  idx_vars x
  funext a
  match a with
  | ⟨0, _⟩ => exact Fin.ext (show b + 1 * x0.val = b by omega)
  | ⟨1, _⟩ => exact Fin.ext (show 0 + 1 * x1.val = 0 by omega)
  | ⟨2, _⟩ => exact Fin.ext (show 0 + 1 * x2.val = x2.val by omega)
  | ⟨3, _⟩ => exact Fin.ext (show 0 + 1 * x3.val = x3.val by omega)

/-- A store of case A: the slice of image `b` that was read, cast to a plane and back, is what `copied` has in slot `j` of
    image `b`. -/
theorem copy_stored {F : FTy → Type} [FloatOps F] {b j : ℕ} (hb : b < 8) (hj : j < 8) (xs : Fin 8 → Vec F S8x1x128x128 .f32)
    {X : Vec F S8x1x128x128 .f32} (hX : xs ⟨j, hj⟩ = X) {κ : Kind} {sp : Space} {mr : Memref sig κ sp S8x1x128x128 .f32}
    (hw : mr.IsWhole) (h h') (x : S1x1x128x128.Idx) :
    shapeCast S1x1x128x128 (shapeCast S128x128 (mr.view.readAt (Elt F)
        (Rect.unit (s := S8x1x128x128) ![b, 0, 0, 0] S1x1x128x128.size h).toLoadRect (hw.unread X))
      shapeCasts_S1x1x128x128_S128x128) shapeCasts_S128x128_S1x1x128x128 x
      = copied xs ((Rect.unit (s := S8x8x128x128) ![b, j, 0, 0] S1x1x128x128.size h').emb x) := by
  rw [shapeCast_shapeCast, View.readAt_eq_ld, hw.read_unread, box_emb b j hb hj, ← hX]
  exact congrArg _ (slice_emb b hb h x)

set_option maxHeartbeats 2000000 in
/-- Channel `j`'s rows of the product of the stacked planes with `ux`. -/
theorem stacked_apply {b : ℕ} (hb : b < 8) (xs : Fin 8 → FVec Ideal S8x1x64x64 .f32) (ux : FVec Ideal S64x128 .f32)
    (p : Fin 8 → FVec Ideal S64x64 .f32) (hp : ∀ j k l, p j (ix2 k l) = xs j (ix4 ⟨b, hb⟩ 0 k l))
    (h) (j : Fin 8) (k : Fin 64) (c : Fin 128) (hr : 64 * j.val + k.val < 512) :
    matmul (F := Ideal) dot_S512x64_S64x128_S512x128_1_0_0_1_n_n none
      (concatenate S512x64 0 [⟨S64x64, p 0⟩, ⟨S64x64, p 1⟩, ⟨S64x64, p 2⟩, ⟨S64x64, p 3⟩, ⟨S64x64, p 4⟩, ⟨S64x64, p 5⟩,
        ⟨S64x64, p 6⟩, ⟨S64x64, p 7⟩] h)
      (shapeCast S64x128 ux shapeCasts_S64x128_S64x128) (constant S512x128 .f32 0x00000000#32) (ix2 ⟨64 * j.val + k.val, hr⟩ c)
      = ∑ l : Fin 64, xs j (ix4 ⟨b, hb⟩ 0 k l) * ux (ix2 l c) := by
  pointwise [hp]
  refine Finset.sum_congr rfl fun l _ => congrArg (· * ux (ix2 l c)) ?_
  obtain ⟨j, hj⟩ := j
  have hk := k.isLt
  interval_cases j <;> dsimp only <;> split_ifs <;> first
    | omega
    | exact congrArg₂ (fun a q => xs a (ix4 ⟨b, hb⟩ 0 q l)) rfl (Fin.ext (by dsimp only; omega))

/-- A store of case B: the slice of the stacked product that holds channel `j`, multiplied by `uy` from the left. -/
theorem product_stored {b j o : ℕ} (hb : b < 8) (hj : j < 8) (ho : o = 64 * j) (xs : Fin 8 → FVec Ideal S8x1x64x64 .f32)
    (uy : FVec Ideal S128x64 .f32) (ux : FVec Ideal S64x128 .f32) (z : FVec Ideal S512x128 .f32)
    (hz : ∀ (k : Fin 64) (c : Fin 128) (hr : 64 * j + k.val < 512),
      z (ix2 ⟨64 * j + k.val, hr⟩ c) = ∑ l : Fin 64, xs ⟨j, hj⟩ (ix4 ⟨b, hb⟩ 0 k l) * ux (ix2 l c))
    (h h') (x : S1x1x128x128.Idx) :
    shapeCast S1x1x128x128 (matmul (F := Ideal) dot_S128x64_S64x128_S128x128_1_0_0_1_n_n none uy
        (extractStridedSlice S64x128 ![o, 0] z h) (constant S128x128 .f32 0x00000000#32))
      shapeCasts_S128x128_S1x1x128x128 x
      = product uy ux xs ((Rect.unit (s := S8x8x128x128) ![b, j, 0, 0] S1x1x128x128.size h').emb x) := by
  subst ho
  rw [box_emb b j hb hj]
  idx_vars x
  unfold product
  pointwise
  refine Finset.sum_congr rfl fun k _ => congrArg (uy (ix2 x2 k) * ·) ?_
  exact hz k x3 _

/-- A one-plane block cast to a plane. -/
theorem plane_cast (f : FVec Ideal S1x1x64x64 .f32) (k l : Fin 64) :
    shapeCast S64x64 f shapeCasts_S1x1x64x64_S64x64 (ix2 k l) = f (ix4 0 0 k l) := by
  pointwise

/-- The plane of image `b` read out of an input block of 64 by 64. -/
theorem plane_apply {b : ℕ} (hb : b < 8) {X : FVec Ideal S8x1x64x64 .f32} {κ : Kind} {sp : Space}
    {mr : Memref sig κ sp S8x1x64x64 .f32} (hw : mr.IsWhole) (h) (k l : Fin 64) :
    shapeCast S64x64 (mr.view.readAt (Elt Ideal)
        (Rect.unit (s := S8x1x64x64) ![b, 0, 0, 0] S1x1x64x64.size h).toLoadRect (hw.unread X))
      shapeCasts_S1x1x64x64_S64x64 (ix2 k l) = X (ix4 ⟨b, hb⟩ 0 k l) := by
  rw [View.readAt_eq_ld, hw.read_unread, plane_cast]
  exact congrArg X (small_emb b hb h (ix4 0 0 k l))

/-- A whole rank-two input read back. -/
theorem whole_read {n k : ℕ} {X : FVec Ideal ⟨2, ![n, k]⟩ .f32} {κ : Kind} {sp : Space}
    {mr : Memref sig κ sp ⟨2, ![n, k]⟩ .f32} (hw : mr.IsWhole) (h) :
    mr.view.readAt (Elt Ideal) (Rect.unit (s := ⟨2, ![n, k]⟩) ![0, 0] ![n, k] h).toLoadRect (hw.unread X) = X := by
  rw [View.readAt_eq_ld, hw.read_unread]
  refine funext fun x => congrArg X (funext fun a => Fin.ext ?_)
  match a with
  | ⟨0, h0⟩ => exact (show 0 + 1 * (x ⟨0, h0⟩).val = (x ⟨0, h0⟩).val by omega)
  | ⟨1, h1⟩ => exact (show 0 + 1 * (x ⟨1, h1⟩).val = (x ⟨1, h1⟩).val by omega)

/-- Every slice of 64 rows of the stacked product lies inside it. -/
theorem slices_at {o : ℕ} (h : o ≤ 448) : S512x128.Slices ![o, 0] S64x128 := by
  refine ⟨rfl, fun a => ?_⟩
  match a with
  | ⟨0, _⟩ => exact (show o + 64 ≤ 512 by omega)
  | ⟨1, _⟩ => exact (show 0 + 128 ≤ 128 by omega)

/-- A store of case B, over the planes and the matrices as they were read. -/
theorem plane_product_stored {b j o : ℕ} (hb : b < 8) (hj : j < 8) (ho : o = 64 * j)
    (xs : Fin 8 → FVec Ideal S8x1x64x64 .f32) (uy : FVec Ideal S128x64 .f32) (ux : FVec Ideal S64x128 .f32)
    {uy' : FVec Ideal S128x64 .f32} (huy : uy' = uy) {ux' : FVec Ideal S64x128 .f32} (hux : ux' = ux)
    {p0 p1 p2 p3 p4 p5 p6 p7 : FVec Ideal S64x64 .f32}
    (h0 : ∀ k l, p0 (ix2 k l) = xs 0 (ix4 ⟨b, hb⟩ 0 k l)) (h1 : ∀ k l, p1 (ix2 k l) = xs 1 (ix4 ⟨b, hb⟩ 0 k l))
    (h2 : ∀ k l, p2 (ix2 k l) = xs 2 (ix4 ⟨b, hb⟩ 0 k l)) (h3 : ∀ k l, p3 (ix2 k l) = xs 3 (ix4 ⟨b, hb⟩ 0 k l))
    (h4 : ∀ k l, p4 (ix2 k l) = xs 4 (ix4 ⟨b, hb⟩ 0 k l)) (h5 : ∀ k l, p5 (ix2 k l) = xs 5 (ix4 ⟨b, hb⟩ 0 k l))
    (h6 : ∀ k l, p6 (ix2 k l) = xs 6 (ix4 ⟨b, hb⟩ 0 k l)) (h7 : ∀ k l, p7 (ix2 k l) = xs 7 (ix4 ⟨b, hb⟩ 0 k l))
    (hs h') (x : S1x1x128x128.Idx) :
    shapeCast S1x1x128x128 (matmul (F := Ideal) dot_S128x64_S64x128_S128x128_1_0_0_1_n_n none uy'
        (extractStridedSlice S64x128 ![o, 0]
          (matmul (F := Ideal) dot_S512x64_S64x128_S512x128_1_0_0_1_n_n none
            (concatenate S512x64 0 [⟨S64x64, p0⟩, ⟨S64x64, p1⟩, ⟨S64x64, p2⟩, ⟨S64x64, p3⟩, ⟨S64x64, p4⟩, ⟨S64x64, p5⟩,
              ⟨S64x64, p6⟩, ⟨S64x64, p7⟩]
              concatenates_S64x64_S64x64_S64x64_S64x64_S64x64_S64x64_S64x64_S64x64_S512x64_d0)
            (shapeCast S64x128 ux' shapeCasts_S64x128_S64x128) (constant S512x128 .f32 0x00000000#32)) hs)
        (constant S128x128 .f32 0x00000000#32))
      shapeCasts_S128x128_S1x1x128x128 x
      = product uy ux xs ((Rect.unit (s := S8x8x128x128) ![b, j, 0, 0] S1x1x128x128.size h').emb x) := by
  subst huy hux
  refine product_stored hb hj ho xs _ _ _ (fun k c hr => ?_) hs h' x
  refine stacked_apply hb xs _ ![p0, p1, p2, p3, p4, p5, p6, p7] (fun i => ?_) _ ⟨j, hj⟩ k c hr
  match i with
  | 0 => exact h0
  | 1 => exact h1
  | 2 => exact h2
  | 3 => exact h3
  | 4 => exact h4
  | 5 => exact h5
  | 6 => exact h6
  | 7 => exact h7

end Cert.KernelIdeal.Gen

end

end
-- ==== Proof.BlockCopy.lean ====
/- What a grid point of case A leaves in the output block: a copy of eight channel blocks. -/
module

public import proofs.«01_k».proof.Proof.KernelIdealLaunched
public import proofs.«01_k».proof.Proof.BlockParts

@[expose] public section

set_option maxRecDepth 16384

noncomputable section

namespace Cert.KernelIdeal.Gen

open Idealize.ShloMosaic Idealize.ShloMosaic.TcCoe Idealize.ShloMosaic.Pointwise

variable {F : FTy → Type} [FloatOps F]
variable
    (c : Dev nD) (i : grid0.Coords) (arg3 : Memref sig .tc .vmem S128x64 .f32) (harg3 : arg3.IsWhole)
    (arg4 : Memref sig .tc .vmem S64x128 .f32) (harg4 : arg4.IsWhole) (arg5 : Memref sig .tc .vmem S8x1x128x128 .f32)
    (harg5 : arg5.IsWhole) (arg6 : Memref sig .tc .vmem S8x1x128x128 .f32) (harg6 : arg6.IsWhole)
    (arg7 : Memref sig .tc .vmem S8x1x128x128 .f32) (harg7 : arg7.IsWhole)
    (arg8 : Memref sig .tc .vmem S8x1x128x128 .f32) (harg8 : arg8.IsWhole)
    (arg9 : Memref sig .tc .vmem S8x1x128x128 .f32) (harg9 : arg9.IsWhole)
    (arg10 : Memref sig .tc .vmem S8x1x128x128 .f32) (harg10 : arg10.IsWhole)
    (arg11 : Memref sig .tc .vmem S8x1x128x128 .f32) (harg11 : arg11.IsWhole)
    (arg12 : Memref sig .tc .vmem S8x1x128x128 .f32) (harg12 : arg12.IsWhole)
    (arg13 : Memref sig .tc .vmem S8x1x64x64 .f32) (harg13 : arg13.IsWhole)
    (arg14 : Memref sig .tc .vmem S8x1x64x64 .f32) (harg14 : arg14.IsWhole)
    (arg15 : Memref sig .tc .vmem S8x1x64x64 .f32) (harg15 : arg15.IsWhole)
    (arg16 : Memref sig .tc .vmem S8x1x64x64 .f32) (harg16 : arg16.IsWhole)
    (arg17 : Memref sig .tc .vmem S8x1x64x64 .f32) (harg17 : arg17.IsWhole)
    (arg18 : Memref sig .tc .vmem S8x1x64x64 .f32) (harg18 : arg18.IsWhole)
    (arg19 : Memref sig .tc .vmem S8x1x64x64 .f32) (harg19 : arg19.IsWhole)
    (arg20 : Memref sig .tc .vmem S8x1x64x64 .f32) (harg20 : arg20.IsWhole)
    (arg21 : Memref sig .tc .vmem S8x8x128x128 .f32) (harg21 : arg21.IsWhole) (hc0 : cond0_0 i) (hc1 : ¬cond0_1 i)
    (x0 : Vec F S128x64 .f32) (x1 : Vec F S64x128 .f32) (x2 : Vec F S8x1x128x128 .f32) (x3 : Vec F S8x1x128x128 .f32)
    (x4 : Vec F S8x1x128x128 .f32) (x5 : Vec F S8x1x128x128 .f32) (x6 : Vec F S8x1x128x128 .f32)
    (x7 : Vec F S8x1x128x128 .f32) (x8 : Vec F S8x1x128x128 .f32) (x9 : Vec F S8x1x128x128 .f32)
    (x10 : Vec F S8x1x64x64 .f32) (x11 : Vec F S8x1x64x64 .f32) (x12 : Vec F S8x1x64x64 .f32)
    (x13 : Vec F S8x1x64x64 .f32) (x14 : Vec F S8x1x64x64 .f32) (x15 : Vec F S8x1x64x64 .f32)
    (x16 : Vec F S8x1x64x64 .f32) (x17 : Vec F S8x1x64x64 .f32) (xt0 : TbBuf0 (F := F) c tbM0_0)
    (xt1 : TbBuf0 (F := F) c tbM0_1)

set_option maxHeartbeats 4000000 in
/-- Every store of case A writes what `copied` has in its box. -/
theorem pieces_A : ∀ p ∈ (kernelRun0_A c i arg3 harg3 arg4 harg4 arg5 harg5 arg6 harg6 arg7 harg7 arg8 harg8 arg9 harg9 arg10 harg10 arg11 harg11 arg12
      harg12 arg13 harg13 arg14 harg14 arg15 harg15 arg16 harg16 arg17 harg17 arg18 harg18 arg19 harg19 arg20 harg20
      arg21 harg21 hc0 hc1 x0 x1 x2 x3 x4 x5 x6 x7 x8 x9 x10 x11 x12 x13 x14 x15 x16 x17 xt0 xt1).1,
      ∀ x : p.1.shape.Idx, p.2 x = copied ![x2, x3, x4, x5, x6, x7, x8, x9] (p.1.emb x) := by
  unfold kernelRun0_A
  dsimp only
  simp only [List.forall_mem_cons]
  repeat' refine And.intro ?_ ?_
  all_goals first
    | exact fun x => copy_stored (by decide) (by decide) _ (by rfl) _ _ _ x
    | exact List.forall_mem_nil _

/-- Case A leaves the copy of the eight channel blocks in the output block. -/
theorem out0_A_eq : out0_A_18 c i arg3 harg3 arg4 harg4 arg5 harg5 arg6 harg6 arg7 harg7 arg8 harg8 arg9 harg9 arg10 harg10 arg11 harg11 arg12
      harg12 arg13 harg13 arg14 harg14 arg15 harg15 arg16 harg16 arg17 harg17 arg18 harg18 arg19 harg19 arg20 harg20
      arg21 harg21 hc0 hc1 x0 x1 x2 x3 x4 x5 x6 x7 x8 x9 x10 x11 x12 x13 x14 x15 x16 x17 xt0 xt1
      = copied ![x2, x3, x4, x5, x6, x7, x8, x9] := by
  unfold out0_A_18
  exact read_of_pieces _ _ _ _
    (pieces_A c i arg3 harg3 arg4 harg4 arg5 harg5 arg6 harg6 arg7 harg7 arg8 harg8 arg9 harg9 arg10 harg10 arg11 harg11 arg12
      harg12 arg13 harg13 arg14 harg14 arg15 harg15 arg16 harg16 arg17 harg17 arg18 harg18 arg19 harg19 arg20 harg20
      arg21 harg21 hc0 hc1 x0 x1 x2 x3 x4 x5 x6 x7 x8 x9 x10 x11 x12 x13 x14 x15 x16 x17 xt0 xt1)
    (cover0_A_18 c i arg3 harg3 arg4 harg4 arg5 harg5 arg6 harg6 arg7 harg7 arg8 harg8 arg9 harg9 arg10 harg10 arg11 harg11 arg12
      harg12 arg13 harg13 arg14 harg14 arg15 harg15 arg16 harg16 arg17 harg17 arg18 harg18 arg19 harg19 arg20 harg20
      arg21 harg21 hc0 hc1 x0 x1 x2 x3 x4 x5 x6 x7 x8 x9 x10 x11 x12 x13 x14 x15 x16 x17 xt0 xt1)

end Cert.KernelIdeal.Gen

end

end
-- ==== Proof.BlockProduct.lean ====
/- What a grid point of case B leaves in the output block: eight channel blocks between the two matrices. -/
module

public import proofs.«01_k».proof.Proof.KernelIdealLaunched
public import proofs.«01_k».proof.Proof.BlockParts

@[expose] public section

set_option maxRecDepth 16384

noncomputable section

namespace Cert.KernelIdeal.Gen

open Idealize.ShloMosaic Idealize.ShloMosaic.TcCoe Idealize.ShloMosaic.Pointwise

variable
    (c : Dev nD) (i : grid0.Coords) (arg3 : Memref sig .tc .vmem S128x64 .f32) (harg3 : arg3.IsWhole)
    (arg4 : Memref sig .tc .vmem S64x128 .f32) (harg4 : arg4.IsWhole) (arg5 : Memref sig .tc .vmem S8x1x128x128 .f32)
    (harg5 : arg5.IsWhole) (arg6 : Memref sig .tc .vmem S8x1x128x128 .f32) (harg6 : arg6.IsWhole)
    (arg7 : Memref sig .tc .vmem S8x1x128x128 .f32) (harg7 : arg7.IsWhole)
    (arg8 : Memref sig .tc .vmem S8x1x128x128 .f32) (harg8 : arg8.IsWhole)
    (arg9 : Memref sig .tc .vmem S8x1x128x128 .f32) (harg9 : arg9.IsWhole)
    (arg10 : Memref sig .tc .vmem S8x1x128x128 .f32) (harg10 : arg10.IsWhole)
    (arg11 : Memref sig .tc .vmem S8x1x128x128 .f32) (harg11 : arg11.IsWhole)
    (arg12 : Memref sig .tc .vmem S8x1x128x128 .f32) (harg12 : arg12.IsWhole)
    (arg13 : Memref sig .tc .vmem S8x1x64x64 .f32) (harg13 : arg13.IsWhole)
    (arg14 : Memref sig .tc .vmem S8x1x64x64 .f32) (harg14 : arg14.IsWhole)
    (arg15 : Memref sig .tc .vmem S8x1x64x64 .f32) (harg15 : arg15.IsWhole)
    (arg16 : Memref sig .tc .vmem S8x1x64x64 .f32) (harg16 : arg16.IsWhole)
    (arg17 : Memref sig .tc .vmem S8x1x64x64 .f32) (harg17 : arg17.IsWhole)
    (arg18 : Memref sig .tc .vmem S8x1x64x64 .f32) (harg18 : arg18.IsWhole)
    (arg19 : Memref sig .tc .vmem S8x1x64x64 .f32) (harg19 : arg19.IsWhole)
    (arg20 : Memref sig .tc .vmem S8x1x64x64 .f32) (harg20 : arg20.IsWhole)
    (arg21 : Memref sig .tc .vmem S8x8x128x128 .f32) (harg21 : arg21.IsWhole) (hc0 : ¬cond0_0 i) (hc1 : cond0_1 i)
    (x0 : Vec Ideal S128x64 .f32) (x1 : Vec Ideal S64x128 .f32) (x2 : Vec Ideal S8x1x128x128 .f32)
    (x3 : Vec Ideal S8x1x128x128 .f32) (x4 : Vec Ideal S8x1x128x128 .f32) (x5 : Vec Ideal S8x1x128x128 .f32)
    (x6 : Vec Ideal S8x1x128x128 .f32) (x7 : Vec Ideal S8x1x128x128 .f32) (x8 : Vec Ideal S8x1x128x128 .f32)
    (x9 : Vec Ideal S8x1x128x128 .f32) (x10 : Vec Ideal S8x1x64x64 .f32) (x11 : Vec Ideal S8x1x64x64 .f32)
    (x12 : Vec Ideal S8x1x64x64 .f32) (x13 : Vec Ideal S8x1x64x64 .f32) (x14 : Vec Ideal S8x1x64x64 .f32)
    (x15 : Vec Ideal S8x1x64x64 .f32) (x16 : Vec Ideal S8x1x64x64 .f32) (x17 : Vec Ideal S8x1x64x64 .f32)
    (xt0 : TbBuf0 (F := Ideal) c tbM0_0) (xt1 : TbBuf0 (F := Ideal) c tbM0_1)

set_option maxHeartbeats 4000000 in
/-- Every store of case B writes what `product` has in its box. -/
theorem pieces_B : ∀ p ∈ (kernelRun0_B (F := Ideal) c i arg3 harg3 arg4 harg4 arg5 harg5 arg6 harg6 arg7 harg7 arg8 harg8 arg9 harg9 arg10 harg10 arg11 harg11 arg12
      harg12 arg13 harg13 arg14 harg14 arg15 harg15 arg16 harg16 arg17 harg17 arg18 harg18 arg19 harg19 arg20 harg20
      arg21 harg21 hc0 hc1 x0 x1 x2 x3 x4 x5 x6 x7 x8 x9 x10 x11 x12 x13 x14 x15 x16 x17 xt0 xt1).1,
      ∀ x : p.1.shape.Idx, p.2 x = product x0 x1 ![x10, x11, x12, x13, x14, x15, x16, x17] (p.1.emb x) := by
  unfold kernelRun0_B
  dsimp only
  simp only [List.forall_mem_cons]
  repeat' refine And.intro ?_ ?_
  all_goals first
    | exact fun x => plane_product_stored (by decide) (by decide) (by decide) _ _ _ (by exact whole_read _ _)
        (by exact whole_read _ _) (by exact plane_apply _ _ _) (by exact plane_apply _ _ _) (by exact plane_apply _ _ _)
        (by exact plane_apply _ _ _) (by exact plane_apply _ _ _) (by exact plane_apply _ _ _)
        (by exact plane_apply _ _ _) (by exact plane_apply _ _ _) (slices_at (by decide)) _ x
    | exact List.forall_mem_nil _

set_option maxHeartbeats 4000000 in
/-- Case B leaves the eight upsampled channel blocks in the output block. -/
theorem out0_B_eq : out0_B_18 (F := Ideal) c i arg3 harg3 arg4 harg4 arg5 harg5 arg6 harg6 arg7 harg7 arg8 harg8 arg9 harg9 arg10 harg10 arg11 harg11 arg12
      harg12 arg13 harg13 arg14 harg14 arg15 harg15 arg16 harg16 arg17 harg17 arg18 harg18 arg19 harg19 arg20 harg20
      arg21 harg21 hc0 hc1 x0 x1 x2 x3 x4 x5 x6 x7 x8 x9 x10 x11 x12 x13 x14 x15 x16 x17 xt0 xt1
      = product x0 x1 ![x10, x11, x12, x13, x14, x15, x16, x17] := by
  unfold out0_B_18
  exact read_of_pieces _ _ _ _
    (pieces_B c i arg3 harg3 arg4 harg4 arg5 harg5 arg6 harg6 arg7 harg7 arg8 harg8 arg9 harg9 arg10 harg10 arg11 harg11 arg12
      harg12 arg13 harg13 arg14 harg14 arg15 harg15 arg16 harg16 arg17 harg17 arg18 harg18 arg19 harg19 arg20 harg20
      arg21 harg21 hc0 hc1 x0 x1 x2 x3 x4 x5 x6 x7 x8 x9 x10 x11 x12 x13 x14 x15 x16 x17 xt0 xt1)
    (cover0_B_18 (F := Ideal) c i arg3 harg3 arg4 harg4 arg5 harg5 arg6 harg6 arg7 harg7 arg8 harg8 arg9 harg9 arg10 harg10 arg11 harg11 arg12
      harg12 arg13 harg13 arg14 harg14 arg15 harg15 arg16 harg16 arg17 harg17 arg18 harg18 arg19 harg19 arg20 harg20
      arg21 harg21 hc0 hc1 x0 x1 x2 x3 x4 x5 x6 x7 x8 x9 x10 x11 x12 x13 x14 x15 x16 x17 xt0 xt1)

end Cert.KernelIdeal.Gen

end

end
-- ==== Proof.KernelBlocks.lean ====
/- The blocks the body of the first kernel (KernelIdeal) reads, at an index: the two constant matrices whole, and the channels
   of the two arrays that the tables name. -/
module

public import Idealize.ShloMosaic.Lib.Pointwise
public import proofs.«01_k».proof.Proof.KernelIdealTables
public import proofs.«01_k».proof.Proof.KernelIdealLaunched

@[expose] public section

set_option maxRecDepth 16384

noncomputable section

namespace Cert.KernelIdeal.Gen

open Idealize.ShloMosaic Idealize.ShloMosaic.TcCoe Idealize.ShloMosaic.StableHlo Idealize.ShloMosaic.Pointwise

variable (m : (ℓ : Loc nD τ sig) → Buf (Elt Ideal) ℓ)

/-! ## The constants and the tables -/

/-- The matrix that interpolates the rows. -/
def rowMatrix : FVec Ideal S128x64 .f32 := fun i => FloatOps.ofBits .f32 (lit0 (S128x64.rowMajor i))

/-- The matrix that interpolates the columns. -/
def colMatrix : FVec Ideal S64x128 .f32 := fun i => FloatOps.ofBits .f32 (lit1 (S128x64.rowMajor (ix2 (i 1) (i 0))))

set_option maxHeartbeats 4000000 in
theorem V_cst (c : Dev nD) : (V m c main_cst : FVec Ideal S128x64 .f32) = rowMatrix := by
  unfold V
  simp only [hostOps0, hostOps0_1, hostOps0_2, List.flatten_cons, List.flatten_nil, List.append_nil, List.cons_append,
    List.nil_append, TRef.binary, TRef.nullary, TRef.ternary, TRef.unary, TRef.toBuf, TRef.ofBuf, cast_eq]
  after_results_simp
  rfl

set_option maxHeartbeats 4000000 in
theorem V_v0 (c : Dev nD) : (V m c main_v0 : FVec Ideal S64x128 .f32) = colMatrix := by
  unfold V
  simp only [hostOps0, hostOps0_1, hostOps0_2, List.flatten_cons, List.flatten_nil, List.append_nil, List.cons_append,
    List.nil_append, TRef.binary, TRef.nullary, TRef.ternary, TRef.unary, TRef.toBuf, TRef.ofBuf, cast_eq]
  after_results_simp
  funext i
  idx_vars i
  pointwise [colMatrix]

/-- The table positions of the copied channels count up: slot `j` of grid point `t` is channel `8 t + j`. -/
theorem lit2_eq : ∀ t j : Fin 48, t.val < 16 → j.val < 8 → (lit2 (Fin.ofNat 384 (48 * j.val + t.val))).toNat = 8 * t.val + j.val := by
  decide +kernel

/-- The table positions of the upsampled channels count up from grid point 16. -/
theorem lit3_eq : ∀ t j : Fin 48, 16 ≤ t.val → j.val < 8 → (lit3 (Fin.ofNat 384 (48 * j.val + t.val))).toNat = 8 * (t.val - 16) + j.val := by
  decide +kernel

theorem rowMajor_table (j : Fin 8) (t : Fin 48) : S8x48.rowMajor (ix2 j t) = Fin.ofNat 384 (48 * j.val + t.val) := by
  have h : ∀ (j : Fin 8) (t : Fin 48), (S8x48.rowMajor (ix2 j t)).val = (48 * j.val + t.val) % 384 := by decide +kernel
  exact Fin.ext (h j t)

/-- The channel of an array of `n` channels that an index word names. -/
def chan (n : ℕ) [NeZero n] (w : BitVec 32) : Fin n := Fin.ofNat n w.toNat

/-- The first array. -/
def array0 : FVec Ideal S8x256x128x128 .f32 := m (((0 : Dev nD) : Thread nD τ).loc main_arg0)

/-- The second array. -/
def array1 : FVec Ideal S8x512x64x64 .f32 := m (((0 : Dev nD) : Thread nD τ).loc main_arg1)

/-- The word of the first index argument at a position. -/
def word2 (k : Fin 128) : BitVec 32 := m (((0 : Dev nD) : Thread nD τ).loc main_arg2) (ix1 k)

/-- The word of the second index argument at a position. -/
def word3 (k : Fin 256) : BitVec 32 := m (((0 : Dev nD) : Thread nD τ).loc main_arg3) (ix1 k)

/-- The copied channel of slot `j` of grid point `t < 16`. -/
theorem table0 {pf : pre0.Contents (Elt Ideal)} (hpf : pf = tbl m) (t : Fin 48) (ht : t.val < 16) (j : Fin 8) (h) : pf 0 (ix2 j t) = word2 m ⟨8 * t.val + j.val, h⟩ := by
  rw [hpf, tbl0_apply]
  refine congrArg (m (((0 : Dev nD) : Thread nD τ).loc main_arg2)) (funext fun a => ?_)
  match a with
  | ⟨0, _⟩ => exact Fin.ext ((congrArg (fun k => (lit2 k).toNat) (rowMajor_table j t)).trans
      (lit2_eq t ⟨j.val, by omega⟩ ht j.isLt))

/-- The upsampled channel of slot `j` of grid point `t ≥ 16`. -/
theorem table1 {pf : pre0.Contents (Elt Ideal)} (hpf : pf = tbl m) (t : Fin 48) (ht : 16 ≤ t.val) (j : Fin 8) (h) :
    pf 1 (ix2 j t) = word3 m ⟨8 * (t.val - 16) + j.val, h⟩ := by
  rw [hpf, tbl1_apply]
  refine congrArg (m (((0 : Dev nD) : Thread nD τ).loc main_arg3)) (funext fun a => ?_)
  match a with
  | ⟨0, _⟩ => exact Fin.ext ((congrArg (fun k => (lit3 k).toNat) (rowMajor_table j t)).trans
      (lit3_eq t ⟨j.val, by omega⟩ ht j.isLt))

/-! ## The blocks the body reads -/

/-- The grid's one coordinate is the point, also as the index maps compute it. -/
theorem point_word (t : Fin grid0.N) : (Scalar.indexCast (BitVec.ofNat 32 (grid0.coords t 0).val)).toNat = t.val := by
  revert t; decide +kernel

/-- The table position the index map of slot `j` reads at grid point `t`. -/
theorem position (t : Fin grid0.N) (j : ℕ) (hj : j < 8) (o : ℕ) (ho : o = t.val) (h) (h1) :
    (Rect.unit (s := S8x48) ![j, o] S1x1.size h).emb (Shape.Idx.first (s := S1x1) h1)
      = ix2 ⟨j, hj⟩ ⟨t.val, lt_of_lt_of_eq t.isLt N_0⟩ := by
  subst ho
  funext a
  match a with
  | ⟨0, _⟩ => exact Fin.ext (show j + 1 * 0 = j by omega)
  | ⟨1, _⟩ => exact Fin.ext (show t.val + 1 * 0 = t.val by omega)

/-- A block one channel wide, placed by the block index `(0, q, 0, 0)`, at an index of the block. -/
theorem channel_emb {n h w : ℕ} [NeZero n] {ix : Fin 4 → ℕ} {q : BitVec 32} (hix : ix = ![0, q.toNat, 0, 0]) (hq : q.toNat < n)
    (e : (⟨4, ![8, 1, h, w]⟩ : Shape).Idx → (⟨4, ![8, n, h, w]⟩ : Shape).Idx)
    (he : ∀ x (a : Fin 4), (e x a).val = ix a * (![8, 1, h, w] : Fin 4 → ℕ) a + (x a).val)
    (x : (⟨4, ![8, 1, h, w]⟩ : Shape).Idx) : e x = ix4 (x 0) (chan n q) (x 2) (x 3) := by
  have h1 : (x 1).val = 0 := by have := (x 1).isLt; simp at this; omega
  subst hix
  funext a
  match a with
  | ⟨0, _⟩ => exact Fin.ext ((he x 0).trans (by simp))
  | ⟨1, _⟩ => exact Fin.ext ((he x 1).trans (by simp [h1, chan, Nat.mod_eq_of_lt hq]))
  | ⟨2, _⟩ => exact Fin.ext ((he x 2).trans (by simp))
  | ⟨3, _⟩ => exact Fin.ext ((he x 3).trans (by simp))

/-- An index map that reads one table entry, at that entry's position. -/
theorem index_of {pf : pre0.Contents (Elt Ideal)} (k : Fin 2) {y z : (pre0.ref k).ty.shape.Idx} (h : y = z)
    (f : Elt Ideal (pre0.ref k).ty.elt → ℕ) : (![0, f (pf k y), 0, 0] : Fin 4 → ℕ) = ![0, f (pf k z), 0, 0] := by rw [h]

/-- A grid point as a column of the tables. -/
abbrev col (t : Fin grid0.N) : Fin 48 := ⟨t.val, lt_of_lt_of_eq t.isLt N_0⟩

/-- The block of a copied channel, from where its block index puts it. -/
theorem copied_block {ix : Fin 4 → ℕ} {w q : BitVec 32} (hix : ix = ![0, w.toNat, 0, 0]) (hw : w = q) (hq : q.toNat < 256)
    (e : S8x1x128x128.Idx → S8x256x128x128.Idx)
    (he : ∀ x (a : Fin 4), (e x a).val = ix a * (![8, 1, 128, 128] : Fin 4 → ℕ) a + (x a).val) (x : S8x1x128x128.Idx) :
    (V m 0 main_arg0 : FVec Ideal S8x256x128x128 .f32) (e x) = array0 m (ix4 (x 0) (chan 256 q) (x 2) (x 3)) := by
  subst hw
  rw [channel_emb hix hq e he x, V_main_arg0]
  rfl

/-- The block of an upsampled channel, from where its block index puts it. -/
theorem upsampled_block {ix : Fin 4 → ℕ} {w q : BitVec 32} (hix : ix = ![0, w.toNat, 0, 0]) (hw : w = q) (hq : q.toNat < 512)
    (e : S8x1x64x64.Idx → S8x512x64x64.Idx)
    (he : ∀ x (a : Fin 4), (e x a).val = ix a * (![8, 1, 64, 64] : Fin 4 → ℕ) a + (x a).val) (x : S8x1x64x64.Idx) :
    (V m 0 main_arg1 : FVec Ideal S8x512x64x64 .f32) (e x) = array1 m (ix4 (x 0) (chan 512 q) (x 2) (x 3)) := by
  subst hw
  rw [channel_emb hix hq e he x, V_main_arg1]
  rfl

theorem index2 (pf : pre0.Contents (Elt Ideal)) (t : Fin grid0.N) (h) (h') :
    cc0_transform_2 h h' pf (grid0.coords t) = ![0, (pf 0 (ix2 0 (col t)) : BitVec 32).toNat, 0, 0] :=
  index_of 0 (position t 0 (by decide) _ (point_word t) _ _) BitVec.toNat

theorem window2 (a : (pcfg0 (F := Ideal)).Adm) (t : Fin grid0.N) :
    ((cfg0 a).win 2).index t = ![0, (a.1 0 (ix2 0 (col t)) : BitVec 32).toNat, 0, 0] :=
  index2 a.1 t _ _

theorem block2 (hO : Ok m) (t : Fin (cfgM m hO).N) {q : BitVec 32} (hw : (adm m hO).1 0 (ix2 0 (col t)) = q) (hq : q.toNat < 256)
    (x : S8x1x128x128.Idx) : (iblk m hO 0 2 t : Vec Ideal S8x1x128x128 .f32) x = array0 m (ix4 (x 0) (chan 256 q) (x 2) (x 3)) :=
  copied_block m (window2 (adm m hO) t) hw hq (((cfgM m hO).win 2).rect t).emb
    (fun x a => Pipeline.Window.rect_emb_val ((cfgM m hO).win 2) t x a (by rfl)) x

theorem index3 (pf : pre0.Contents (Elt Ideal)) (t : Fin grid0.N) (h) (h') :
    cc0_transform_3 h h' pf (grid0.coords t) = ![0, (pf 0 (ix2 1 (col t)) : BitVec 32).toNat, 0, 0] :=
  index_of 0 (position t 1 (by decide) _ (point_word t) _ _) BitVec.toNat

theorem window3 (a : (pcfg0 (F := Ideal)).Adm) (t : Fin grid0.N) :
    ((cfg0 a).win 3).index t = ![0, (a.1 0 (ix2 1 (col t)) : BitVec 32).toNat, 0, 0] :=
  index3 a.1 t _ _

theorem block3 (hO : Ok m) (t : Fin (cfgM m hO).N) {q : BitVec 32} (hw : (adm m hO).1 0 (ix2 1 (col t)) = q) (hq : q.toNat < 256)
    (x : S8x1x128x128.Idx) : (iblk m hO 0 3 t : Vec Ideal S8x1x128x128 .f32) x = array0 m (ix4 (x 0) (chan 256 q) (x 2) (x 3)) :=
  copied_block m (window3 (adm m hO) t) hw hq (((cfgM m hO).win 3).rect t).emb
    (fun x a => Pipeline.Window.rect_emb_val ((cfgM m hO).win 3) t x a (by rfl)) x

theorem index4 (pf : pre0.Contents (Elt Ideal)) (t : Fin grid0.N) (h) (h') :
    cc0_transform_4 h h' pf (grid0.coords t) = ![0, (pf 0 (ix2 2 (col t)) : BitVec 32).toNat, 0, 0] :=
  index_of 0 (position t 2 (by decide) _ (point_word t) _ _) BitVec.toNat

theorem window4 (a : (pcfg0 (F := Ideal)).Adm) (t : Fin grid0.N) :
    ((cfg0 a).win 4).index t = ![0, (a.1 0 (ix2 2 (col t)) : BitVec 32).toNat, 0, 0] :=
  index4 a.1 t _ _

theorem block4 (hO : Ok m) (t : Fin (cfgM m hO).N) {q : BitVec 32} (hw : (adm m hO).1 0 (ix2 2 (col t)) = q) (hq : q.toNat < 256)
    (x : S8x1x128x128.Idx) : (iblk m hO 0 4 t : Vec Ideal S8x1x128x128 .f32) x = array0 m (ix4 (x 0) (chan 256 q) (x 2) (x 3)) :=
  copied_block m (window4 (adm m hO) t) hw hq (((cfgM m hO).win 4).rect t).emb
    (fun x a => Pipeline.Window.rect_emb_val ((cfgM m hO).win 4) t x a (by rfl)) x

theorem index5 (pf : pre0.Contents (Elt Ideal)) (t : Fin grid0.N) (h) (h') :
    cc0_transform_5 h h' pf (grid0.coords t) = ![0, (pf 0 (ix2 3 (col t)) : BitVec 32).toNat, 0, 0] :=
  index_of 0 (position t 3 (by decide) _ (point_word t) _ _) BitVec.toNat

theorem window5 (a : (pcfg0 (F := Ideal)).Adm) (t : Fin grid0.N) :
    ((cfg0 a).win 5).index t = ![0, (a.1 0 (ix2 3 (col t)) : BitVec 32).toNat, 0, 0] :=
  index5 a.1 t _ _

theorem block5 (hO : Ok m) (t : Fin (cfgM m hO).N) {q : BitVec 32} (hw : (adm m hO).1 0 (ix2 3 (col t)) = q) (hq : q.toNat < 256)
    (x : S8x1x128x128.Idx) : (iblk m hO 0 5 t : Vec Ideal S8x1x128x128 .f32) x = array0 m (ix4 (x 0) (chan 256 q) (x 2) (x 3)) :=
  copied_block m (window5 (adm m hO) t) hw hq (((cfgM m hO).win 5).rect t).emb
    (fun x a => Pipeline.Window.rect_emb_val ((cfgM m hO).win 5) t x a (by rfl)) x

theorem index6 (pf : pre0.Contents (Elt Ideal)) (t : Fin grid0.N) (h) (h') :
    cc0_transform_6 h h' pf (grid0.coords t) = ![0, (pf 0 (ix2 4 (col t)) : BitVec 32).toNat, 0, 0] :=
  index_of 0 (position t 4 (by decide) _ (point_word t) _ _) BitVec.toNat

theorem window6 (a : (pcfg0 (F := Ideal)).Adm) (t : Fin grid0.N) :
    ((cfg0 a).win 6).index t = ![0, (a.1 0 (ix2 4 (col t)) : BitVec 32).toNat, 0, 0] :=
  index6 a.1 t _ _

theorem block6 (hO : Ok m) (t : Fin (cfgM m hO).N) {q : BitVec 32} (hw : (adm m hO).1 0 (ix2 4 (col t)) = q) (hq : q.toNat < 256)
    (x : S8x1x128x128.Idx) : (iblk m hO 0 6 t : Vec Ideal S8x1x128x128 .f32) x = array0 m (ix4 (x 0) (chan 256 q) (x 2) (x 3)) :=
  copied_block m (window6 (adm m hO) t) hw hq (((cfgM m hO).win 6).rect t).emb
    (fun x a => Pipeline.Window.rect_emb_val ((cfgM m hO).win 6) t x a (by rfl)) x

theorem index7 (pf : pre0.Contents (Elt Ideal)) (t : Fin grid0.N) (h) (h') :
    cc0_transform_7 h h' pf (grid0.coords t) = ![0, (pf 0 (ix2 5 (col t)) : BitVec 32).toNat, 0, 0] :=
  index_of 0 (position t 5 (by decide) _ (point_word t) _ _) BitVec.toNat

theorem window7 (a : (pcfg0 (F := Ideal)).Adm) (t : Fin grid0.N) :
    ((cfg0 a).win 7).index t = ![0, (a.1 0 (ix2 5 (col t)) : BitVec 32).toNat, 0, 0] :=
  index7 a.1 t _ _

theorem block7 (hO : Ok m) (t : Fin (cfgM m hO).N) {q : BitVec 32} (hw : (adm m hO).1 0 (ix2 5 (col t)) = q) (hq : q.toNat < 256)
    (x : S8x1x128x128.Idx) : (iblk m hO 0 7 t : Vec Ideal S8x1x128x128 .f32) x = array0 m (ix4 (x 0) (chan 256 q) (x 2) (x 3)) :=
  copied_block m (window7 (adm m hO) t) hw hq (((cfgM m hO).win 7).rect t).emb
    (fun x a => Pipeline.Window.rect_emb_val ((cfgM m hO).win 7) t x a (by rfl)) x

theorem index8 (pf : pre0.Contents (Elt Ideal)) (t : Fin grid0.N) (h) (h') :
    cc0_transform_8 h h' pf (grid0.coords t) = ![0, (pf 0 (ix2 6 (col t)) : BitVec 32).toNat, 0, 0] :=
  index_of 0 (position t 6 (by decide) _ (point_word t) _ _) BitVec.toNat

theorem window8 (a : (pcfg0 (F := Ideal)).Adm) (t : Fin grid0.N) :
    ((cfg0 a).win 8).index t = ![0, (a.1 0 (ix2 6 (col t)) : BitVec 32).toNat, 0, 0] :=
  index8 a.1 t _ _

theorem block8 (hO : Ok m) (t : Fin (cfgM m hO).N) {q : BitVec 32} (hw : (adm m hO).1 0 (ix2 6 (col t)) = q) (hq : q.toNat < 256)
    (x : S8x1x128x128.Idx) : (iblk m hO 0 8 t : Vec Ideal S8x1x128x128 .f32) x = array0 m (ix4 (x 0) (chan 256 q) (x 2) (x 3)) :=
  copied_block m (window8 (adm m hO) t) hw hq (((cfgM m hO).win 8).rect t).emb
    (fun x a => Pipeline.Window.rect_emb_val ((cfgM m hO).win 8) t x a (by rfl)) x

theorem index9 (pf : pre0.Contents (Elt Ideal)) (t : Fin grid0.N) (h) (h') :
    cc0_transform_9 h h' pf (grid0.coords t) = ![0, (pf 0 (ix2 7 (col t)) : BitVec 32).toNat, 0, 0] :=
  index_of 0 (position t 7 (by decide) _ (point_word t) _ _) BitVec.toNat

theorem window9 (a : (pcfg0 (F := Ideal)).Adm) (t : Fin grid0.N) :
    ((cfg0 a).win 9).index t = ![0, (a.1 0 (ix2 7 (col t)) : BitVec 32).toNat, 0, 0] :=
  index9 a.1 t _ _

theorem block9 (hO : Ok m) (t : Fin (cfgM m hO).N) {q : BitVec 32} (hw : (adm m hO).1 0 (ix2 7 (col t)) = q) (hq : q.toNat < 256)
    (x : S8x1x128x128.Idx) : (iblk m hO 0 9 t : Vec Ideal S8x1x128x128 .f32) x = array0 m (ix4 (x 0) (chan 256 q) (x 2) (x 3)) :=
  copied_block m (window9 (adm m hO) t) hw hq (((cfgM m hO).win 9).rect t).emb
    (fun x a => Pipeline.Window.rect_emb_val ((cfgM m hO).win 9) t x a (by rfl)) x

theorem index10 (pf : pre0.Contents (Elt Ideal)) (t : Fin grid0.N) (h) (h') :
    cc0_transform_10 h h' pf (grid0.coords t) = ![0, (pf 1 (ix2 0 (col t)) : BitVec 32).toNat, 0, 0] :=
  index_of 1 (position t 0 (by decide) _ (point_word t) _ _) BitVec.toNat

theorem window10 (a : (pcfg0 (F := Ideal)).Adm) (t : Fin grid0.N) :
    ((cfg0 a).win 10).index t = ![0, (a.1 1 (ix2 0 (col t)) : BitVec 32).toNat, 0, 0] :=
  index10 a.1 t _ _

theorem block10 (hO : Ok m) (t : Fin (cfgM m hO).N) {q : BitVec 32} (hw : (adm m hO).1 1 (ix2 0 (col t)) = q) (hq : q.toNat < 512)
    (x : S8x1x64x64.Idx) : (iblk m hO 0 10 t : Vec Ideal S8x1x64x64 .f32) x = array1 m (ix4 (x 0) (chan 512 q) (x 2) (x 3)) :=
  upsampled_block m (window10 (adm m hO) t) hw hq (((cfgM m hO).win 10).rect t).emb
    (fun x a => Pipeline.Window.rect_emb_val ((cfgM m hO).win 10) t x a (by rfl)) x

theorem index11 (pf : pre0.Contents (Elt Ideal)) (t : Fin grid0.N) (h) (h') :
    cc0_transform_11 h h' pf (grid0.coords t) = ![0, (pf 1 (ix2 1 (col t)) : BitVec 32).toNat, 0, 0] :=
  index_of 1 (position t 1 (by decide) _ (point_word t) _ _) BitVec.toNat

theorem window11 (a : (pcfg0 (F := Ideal)).Adm) (t : Fin grid0.N) :
    ((cfg0 a).win 11).index t = ![0, (a.1 1 (ix2 1 (col t)) : BitVec 32).toNat, 0, 0] :=
  index11 a.1 t _ _

theorem block11 (hO : Ok m) (t : Fin (cfgM m hO).N) {q : BitVec 32} (hw : (adm m hO).1 1 (ix2 1 (col t)) = q) (hq : q.toNat < 512)
    (x : S8x1x64x64.Idx) : (iblk m hO 0 11 t : Vec Ideal S8x1x64x64 .f32) x = array1 m (ix4 (x 0) (chan 512 q) (x 2) (x 3)) :=
  upsampled_block m (window11 (adm m hO) t) hw hq (((cfgM m hO).win 11).rect t).emb
    (fun x a => Pipeline.Window.rect_emb_val ((cfgM m hO).win 11) t x a (by rfl)) x

theorem index12 (pf : pre0.Contents (Elt Ideal)) (t : Fin grid0.N) (h) (h') :
    cc0_transform_12 h h' pf (grid0.coords t) = ![0, (pf 1 (ix2 2 (col t)) : BitVec 32).toNat, 0, 0] :=
  index_of 1 (position t 2 (by decide) _ (point_word t) _ _) BitVec.toNat

theorem window12 (a : (pcfg0 (F := Ideal)).Adm) (t : Fin grid0.N) :
    ((cfg0 a).win 12).index t = ![0, (a.1 1 (ix2 2 (col t)) : BitVec 32).toNat, 0, 0] :=
  index12 a.1 t _ _

theorem block12 (hO : Ok m) (t : Fin (cfgM m hO).N) {q : BitVec 32} (hw : (adm m hO).1 1 (ix2 2 (col t)) = q) (hq : q.toNat < 512)
    (x : S8x1x64x64.Idx) : (iblk m hO 0 12 t : Vec Ideal S8x1x64x64 .f32) x = array1 m (ix4 (x 0) (chan 512 q) (x 2) (x 3)) :=
  upsampled_block m (window12 (adm m hO) t) hw hq (((cfgM m hO).win 12).rect t).emb
    (fun x a => Pipeline.Window.rect_emb_val ((cfgM m hO).win 12) t x a (by rfl)) x

theorem index13 (pf : pre0.Contents (Elt Ideal)) (t : Fin grid0.N) (h) (h') :
    cc0_transform_13 h h' pf (grid0.coords t) = ![0, (pf 1 (ix2 3 (col t)) : BitVec 32).toNat, 0, 0] :=
  index_of 1 (position t 3 (by decide) _ (point_word t) _ _) BitVec.toNat

theorem window13 (a : (pcfg0 (F := Ideal)).Adm) (t : Fin grid0.N) :
    ((cfg0 a).win 13).index t = ![0, (a.1 1 (ix2 3 (col t)) : BitVec 32).toNat, 0, 0] :=
  index13 a.1 t _ _

theorem block13 (hO : Ok m) (t : Fin (cfgM m hO).N) {q : BitVec 32} (hw : (adm m hO).1 1 (ix2 3 (col t)) = q) (hq : q.toNat < 512)
    (x : S8x1x64x64.Idx) : (iblk m hO 0 13 t : Vec Ideal S8x1x64x64 .f32) x = array1 m (ix4 (x 0) (chan 512 q) (x 2) (x 3)) :=
  upsampled_block m (window13 (adm m hO) t) hw hq (((cfgM m hO).win 13).rect t).emb
    (fun x a => Pipeline.Window.rect_emb_val ((cfgM m hO).win 13) t x a (by rfl)) x

theorem index14 (pf : pre0.Contents (Elt Ideal)) (t : Fin grid0.N) (h) (h') :
    cc0_transform_14 h h' pf (grid0.coords t) = ![0, (pf 1 (ix2 4 (col t)) : BitVec 32).toNat, 0, 0] :=
  index_of 1 (position t 4 (by decide) _ (point_word t) _ _) BitVec.toNat

theorem window14 (a : (pcfg0 (F := Ideal)).Adm) (t : Fin grid0.N) :
    ((cfg0 a).win 14).index t = ![0, (a.1 1 (ix2 4 (col t)) : BitVec 32).toNat, 0, 0] :=
  index14 a.1 t _ _

theorem block14 (hO : Ok m) (t : Fin (cfgM m hO).N) {q : BitVec 32} (hw : (adm m hO).1 1 (ix2 4 (col t)) = q) (hq : q.toNat < 512)
    (x : S8x1x64x64.Idx) : (iblk m hO 0 14 t : Vec Ideal S8x1x64x64 .f32) x = array1 m (ix4 (x 0) (chan 512 q) (x 2) (x 3)) :=
  upsampled_block m (window14 (adm m hO) t) hw hq (((cfgM m hO).win 14).rect t).emb
    (fun x a => Pipeline.Window.rect_emb_val ((cfgM m hO).win 14) t x a (by rfl)) x

theorem index15 (pf : pre0.Contents (Elt Ideal)) (t : Fin grid0.N) (h) (h') :
    cc0_transform_15 h h' pf (grid0.coords t) = ![0, (pf 1 (ix2 5 (col t)) : BitVec 32).toNat, 0, 0] :=
  index_of 1 (position t 5 (by decide) _ (point_word t) _ _) BitVec.toNat

theorem window15 (a : (pcfg0 (F := Ideal)).Adm) (t : Fin grid0.N) :
    ((cfg0 a).win 15).index t = ![0, (a.1 1 (ix2 5 (col t)) : BitVec 32).toNat, 0, 0] :=
  index15 a.1 t _ _

theorem block15 (hO : Ok m) (t : Fin (cfgM m hO).N) {q : BitVec 32} (hw : (adm m hO).1 1 (ix2 5 (col t)) = q) (hq : q.toNat < 512)
    (x : S8x1x64x64.Idx) : (iblk m hO 0 15 t : Vec Ideal S8x1x64x64 .f32) x = array1 m (ix4 (x 0) (chan 512 q) (x 2) (x 3)) :=
  upsampled_block m (window15 (adm m hO) t) hw hq (((cfgM m hO).win 15).rect t).emb
    (fun x a => Pipeline.Window.rect_emb_val ((cfgM m hO).win 15) t x a (by rfl)) x

theorem index16 (pf : pre0.Contents (Elt Ideal)) (t : Fin grid0.N) (h) (h') :
    cc0_transform_16 h h' pf (grid0.coords t) = ![0, (pf 1 (ix2 6 (col t)) : BitVec 32).toNat, 0, 0] :=
  index_of 1 (position t 6 (by decide) _ (point_word t) _ _) BitVec.toNat

theorem window16 (a : (pcfg0 (F := Ideal)).Adm) (t : Fin grid0.N) :
    ((cfg0 a).win 16).index t = ![0, (a.1 1 (ix2 6 (col t)) : BitVec 32).toNat, 0, 0] :=
  index16 a.1 t _ _

theorem block16 (hO : Ok m) (t : Fin (cfgM m hO).N) {q : BitVec 32} (hw : (adm m hO).1 1 (ix2 6 (col t)) = q) (hq : q.toNat < 512)
    (x : S8x1x64x64.Idx) : (iblk m hO 0 16 t : Vec Ideal S8x1x64x64 .f32) x = array1 m (ix4 (x 0) (chan 512 q) (x 2) (x 3)) :=
  upsampled_block m (window16 (adm m hO) t) hw hq (((cfgM m hO).win 16).rect t).emb
    (fun x a => Pipeline.Window.rect_emb_val ((cfgM m hO).win 16) t x a (by rfl)) x

theorem index17 (pf : pre0.Contents (Elt Ideal)) (t : Fin grid0.N) (h) (h') :
    cc0_transform_17 h h' pf (grid0.coords t) = ![0, (pf 1 (ix2 7 (col t)) : BitVec 32).toNat, 0, 0] :=
  index_of 1 (position t 7 (by decide) _ (point_word t) _ _) BitVec.toNat

theorem window17 (a : (pcfg0 (F := Ideal)).Adm) (t : Fin grid0.N) :
    ((cfg0 a).win 17).index t = ![0, (a.1 1 (ix2 7 (col t)) : BitVec 32).toNat, 0, 0] :=
  index17 a.1 t _ _

theorem block17 (hO : Ok m) (t : Fin (cfgM m hO).N) {q : BitVec 32} (hw : (adm m hO).1 1 (ix2 7 (col t)) = q) (hq : q.toNat < 512)
    (x : S8x1x64x64.Idx) : (iblk m hO 0 17 t : Vec Ideal S8x1x64x64 .f32) x = array1 m (ix4 (x 0) (chan 512 q) (x 2) (x 3)) :=
  upsampled_block m (window17 (adm m hO) t) hw hq (((cfgM m hO).win 17).rect t).emb
    (fun x a => Pipeline.Window.rect_emb_val ((cfgM m hO).win 17) t x a (by rfl)) x

/-- The block of a constant is the whole constant. -/
theorem whole_emb {s : Shape} {ix : Fin s.rank → ℕ} (hix : ∀ a, ix a = 0) (e : s.Idx → s.Idx)
    (he : ∀ x a, (e x a).val = ix a * s.size a + (x a).val) (x : s.Idx) : e x = x :=
  funext fun a => Fin.ext ((he x a).trans (by rw [hix]; omega))

theorem block_rows (hO : Ok m) (t : Fin (cfgM m hO).N) : (iblk m hO 0 0 t : FVec Ideal S128x64 .f32) = rowMatrix := by
  rw [← V_cst m 0]
  exact funext fun x => congrArg (V m 0 main_cst) (whole_emb (s := S128x64) (ix := ((cfgM m hO).win 0).index t) (fun a => by fin_cases a <;> rfl)
      (((cfgM m hO).win 0).rect t).emb (fun x a => Pipeline.Window.rect_emb_val ((cfgM m hO).win 0) t x a (by rfl)) x)

theorem block_cols (hO : Ok m) (t : Fin (cfgM m hO).N) : (iblk m hO 0 1 t : FVec Ideal S64x128 .f32) = colMatrix := by
  rw [← V_v0 m 0]
  exact funext fun x => congrArg (V m 0 main_v0) (whole_emb (s := S64x128) (ix := ((cfgM m hO).win 1).index t) (fun a => by fin_cases a <;> rfl)
      (((cfgM m hO).win 1).rect t).emb (fun x a => Pipeline.Window.rect_emb_val ((cfgM m hO).win 1) t x a (by rfl)) x)

end Cert.KernelIdeal.Gen

end

end
-- ==== Proof.KernelFinal.lean ====
/- The result array of the first kernel (KernelIdeal), at an index: the first 128 channels are the channels of the first array
   the first index argument names, the other 256 are the channels of the second array the second index argument names,
   multiplied by the two interpolation matrices. The 48 grid points each write eight channels, and together all of them. -/
module

public import proofs.«01_k».proof.Proof.BlockCopy
public import proofs.«01_k».proof.Proof.BlockProduct
public import proofs.«01_k».proof.Proof.KernelBlocks

@[expose] public section

set_option maxRecDepth 16384

noncomputable section

namespace Cert.KernelIdeal.Gen

open Idealize.ShloMosaic Idealize.ShloMosaic.TcCoe Idealize.ShloMosaic.StableHlo Idealize.ShloMosaic.Pointwise
open Idealize.ShloMosaic.Pipeline (Dat)

variable (m : (ℓ : Loc nD τ sig) → Buf (Elt Ideal) ℓ)
variable (ρ : Dev nD → PrngReg)

/-- The result at an index. -/
def resultAt (b : Fin 8) (ch : Fin 384) (y x : Fin 128) : EReal :=
  if h : ch.val < 128 then array0 m (ix4 b (chan 256 (word2 m ⟨ch.val, h⟩)) y x)
  else
    ∑ k : Fin 64, rowMatrix (ix2 y k) * ∑ l : Fin 64,
      array1 m (ix4 b (chan 512 (word3 m ⟨ch.val - 128, by omega⟩)) k l) * colMatrix (ix2 l x)

/-- The result array. -/
def result : FVec Ideal S8x384x128x128 .f32 := fun i => resultAt m (i 0) (i 1) (i 2) (i 3)

/-- The output block at grid point `t` in the result array. -/
theorem out_emb (hO : Ok m) (t : Fin (cfgM m hO).N) (x : S8x8x128x128.Idx) (h) :
    (((cfgM m hO).win 18).rect t).emb x = ix4 (x 0) ⟨8 * t.val + (x 1).val, h⟩ (x 2) (x 3) := by
  have e : ∀ a : Fin 4, _ := fun a => Pipeline.Window.rect_emb_val ((cfgM m hO).win 18) t x a (by rfl)
  have w : (BitVec.ofNat 32 (grid0.coords t 0).val).toNat = t.val := point_word t
  funext a
  match a with
  | ⟨0, _⟩ => exact Fin.ext ((e 0).trans (show 0 * 8 + (x 0).val = (x 0).val by omega))
  | ⟨1, _⟩ => exact Fin.ext ((e 1).trans (show (BitVec.ofNat 32 (grid0.coords t 0).val).toNat * 8 + (x 1).val = 8 * t.val + (x 1).val by omega))
  | ⟨2, _⟩ => exact Fin.ext ((e 2).trans (show 0 * 128 + (x 2).val = (x 2).val by omega))
  | ⟨3, _⟩ => exact Fin.ext ((e 3).trans (show 0 * 128 + (x 3).val = (x 3).val by omega))

/-- What a grid point `t < 16` leaves in the output's staging buffer. -/
theorem left_copied (hO : Ok m) (t : Fin (cfgM m hO).N) (ht : t.val < 16) :
    outsAt0 m hO 0 t.val t.isLt = copied ![iblk m hO 0 2 t, iblk m hO 0 3 t, iblk m hO 0 4 t, iblk m hO 0 5 t, iblk m hO 0 6 t,
      iblk m hO 0 7 t, iblk m hO 0 8 t, iblk m hO 0 9 t] :=
  (outsAt0_A m hO 0 t ht (by omega)).trans (out0_A_eq ..)

/-- What a grid point `t ≥ 16` leaves in the output's staging buffer. -/
theorem left_upsampled (hO : Ok m) (t : Fin (cfgM m hO).N) (ht : ¬t.val < 16) :
    outsAt0 m hO 0 t.val t.isLt = product rowMatrix colMatrix ![iblk m hO 0 10 t, iblk m hO 0 11 t, iblk m hO 0 12 t,
      iblk m hO 0 13 t, iblk m hO 0 14 t, iblk m hO 0 15 t, iblk m hO 0 16 t, iblk m hO 0 17 t] :=
  (outsAt0_B m hO 0 t ht (by omega)).trans ((out0_B_eq ..).trans
    (congrArg₂ (fun a b => product a b _) (block_rows m hO t) (block_cols m hO t)))

/-- What holds of each of eight things holds of each entry of their list. -/
theorem eight {α : Type} {P : Fin 8 → α → Prop} {a0 a1 a2 a3 a4 a5 a6 a7 : α} (h0 : P 0 a0) (h1 : P 1 a1) (h2 : P 2 a2)
    (h3 : P 3 a3) (h4 : P 4 a4) (h5 : P 5 a5) (h6 : P 6 a6) (h7 : P 7 a7) (j : Fin 8) : P j (![a0, a1, a2, a3, a4, a5, a6, a7] j) := by
  fin_cases j <;> assumption

/-- The eight blocks of the copied channels at grid point `t < 16`. -/
theorem blocks_copied (hO : Ok m) (h2 : ∀ k, (word2 m k).toNat < 256) (t : Fin (cfgM m hO).N) (ht : t.val < 16) (j : Fin 8) :
    ∀ (h : 8 * t.val + j.val < 128) (x : S8x1x128x128.Idx),
      (![iblk m hO 0 2 t, iblk m hO 0 3 t, iblk m hO 0 4 t, iblk m hO 0 5 t, iblk m hO 0 6 t, iblk m hO 0 7 t, iblk m hO 0 8 t, iblk m hO 0 9 t] : Fin 8 → Vec Ideal S8x1x128x128 .f32) j x
        = array0 m (ix4 (x 0) (chan 256 (word2 m ⟨8 * t.val + j.val, h⟩)) (x 2) (x 3)) := by
  have T : ∀ (j : Fin 8) (h), (adm m hO).1 0 (ix2 j (col t)) = word2 m ⟨8 * t.val + j.val, h⟩ :=
    fun j h => table0 m rfl (col t) ht j h
  exact eight (P := fun j (f : Vec Ideal S8x1x128x128 .f32) => ∀ (h : 8 * t.val + j.val < 128) (x : S8x1x128x128.Idx),
      f x = array0 m (ix4 (x 0) (chan 256 (word2 m ⟨8 * t.val + j.val, h⟩)) (x 2) (x 3)))
    (fun h x => block2 m hO t (T 0 h) (h2 _) x)
    (fun h x => block3 m hO t (T 1 h) (h2 _) x)
    (fun h x => block4 m hO t (T 2 h) (h2 _) x)
    (fun h x => block5 m hO t (T 3 h) (h2 _) x)
    (fun h x => block6 m hO t (T 4 h) (h2 _) x)
    (fun h x => block7 m hO t (T 5 h) (h2 _) x)
    (fun h x => block8 m hO t (T 6 h) (h2 _) x)
    (fun h x => block9 m hO t (T 7 h) (h2 _) x) j

/-- The eight blocks of the upsampled channels at grid point `16 ≤ t`. -/
theorem blocks_upsampled (hO : Ok m) (h3 : ∀ k, (word3 m k).toNat < 512) (t : Fin (cfgM m hO).N) (ht : 16 ≤ t.val) (j : Fin 8) :
    ∀ (h : 8 * (t.val - 16) + j.val < 256) (x : S8x1x64x64.Idx),
      (![iblk m hO 0 10 t, iblk m hO 0 11 t, iblk m hO 0 12 t, iblk m hO 0 13 t, iblk m hO 0 14 t, iblk m hO 0 15 t, iblk m hO 0 16 t, iblk m hO 0 17 t] : Fin 8 → Vec Ideal S8x1x64x64 .f32) j x
        = array1 m (ix4 (x 0) (chan 512 (word3 m ⟨8 * (t.val - 16) + j.val, h⟩)) (x 2) (x 3)) := by
  have T : ∀ (j : Fin 8) (h), (adm m hO).1 1 (ix2 j (col t)) = word3 m ⟨8 * (t.val - 16) + j.val, h⟩ :=
    fun j h => table1 m rfl (col t) ht j h
  exact eight (P := fun j (f : Vec Ideal S8x1x64x64 .f32) => ∀ (h : 8 * (t.val - 16) + j.val < 256) (x : S8x1x64x64.Idx),
      f x = array1 m (ix4 (x 0) (chan 512 (word3 m ⟨8 * (t.val - 16) + j.val, h⟩)) (x 2) (x 3)))
    (fun h x => block10 m hO t (T 0 h) (h3 _) x)
    (fun h x => block11 m hO t (T 1 h) (h3 _) x)
    (fun h x => block12 m hO t (T 2 h) (h3 _) x)
    (fun h x => block13 m hO t (T 3 h) (h3 _) x)
    (fun h x => block14 m hO t (T 4 h) (h3 _) x)
    (fun h x => block15 m hO t (T 5 h) (h3 _) x)
    (fun h x => block16 m hO t (T 6 h) (h3 _) x)
    (fun h x => block17 m hO t (T 7 h) (h3 _) x) j

/-- What each grid point leaves in the output's staging buffer is its block of the result. -/
theorem out_block (hO : Ok m) (h2 : ∀ k, (word2 m k).toNat < 256) (h3 : ∀ k, (word3 m k).toNat < 512)
    (t : Fin (cfgM m hO).N) (x : S8x8x128x128.Idx) (h) :
    outsAt0 m hO 0 t.val t.isLt x = result m (ix4 (x 0) ⟨8 * t.val + (x 1).val, h⟩ (x 2) (x 3)) := by
  have hx : (x 1).val < 8 := (x 1).isLt
  have hN : t.val < 48 := lt_of_lt_of_eq t.isLt N_0
  show _ = resultAt m (x 0) ⟨8 * t.val + (x 1).val, h⟩ (x 2) (x 3)
  by_cases ht : t.val < 16
  · have e : resultAt m (x 0) ⟨8 * t.val + (x 1).val, h⟩ (x 2) (x 3) = _ := dif_pos (show 8 * t.val + (x 1).val < 128 by omega)
    exact (congrFun (left_copied m hO t ht) x).trans ((blocks_copied m hO h2 t ht (x 1) (by omega) _).trans e.symm)
  · have e : resultAt m (x 0) ⟨8 * t.val + (x 1).val, h⟩ (x 2) (x 3) = _ := dif_neg (show ¬8 * t.val + (x 1).val < 128 by omega)
    refine (congrFun (left_upsampled m hO t ht) x).trans (Eq.trans ?_ e.symm)
    refine Finset.sum_congr rfl fun k _ => congrArg (_ * ·) (Finset.sum_congr rfl fun l _ => congrArg (· * _) ?_)
    refine (blocks_upsampled m hO h3 t (by omega) (x 1) (by omega) _).trans ?_
    have e' : ∀ (n : ℕ) (hn hn'), n = 8 * t.val + (x 1).val - 128 →
        word3 m ⟨n, hn⟩ = word3 m ⟨8 * t.val + (x 1).val - 128, hn'⟩ := by rintro n hn hn' rfl; rfl
    rw [e' (8 * (t.val - 16) + (x 1).val) (by omega) (by omega) (by omega)]
    rfl

/-- What is written back at grid point `t` is its block of the result. -/
theorem flushed_eq (hO : Ok m) (h2 : ∀ k, (word2 m k).toNat < 256) (h3 : ∀ k, (word3 m k).toNat < 512) (t : Fin (cfgM m hO).N) :
    (dats m hO 0 0).flushed 18 t = (((cfgM m hO).win 18).blk t).view.read (Elt Ideal) (result m) := by
  show ((cfgM m hO).win 18).cut (grid0.coords t) ((dats m hO 0 0).after 18 t) = _
  rw [after0_18]
  have h : ∀ x : S8x8x128x128.Idx, 8 * t.val + (x 1).val < 384 := fun x => by
    have hN : t.val < 48 := lt_of_lt_of_eq t.isLt N_0
    have hx : (x 1).val < 8 := (x 1).isLt
    omega
  exact funext fun x => (out_block m hO h2 h3 t x (h x)).trans (congrArg (result m) (out_emb m hO t x (h x)).symm)

/-- The positions a rectangle places lie in it. -/
theorem emb_mem {s : Shape} (r : Rect s) (x : r.shape.Idx) : r.emb x ∈ r.set := by
  rw [← Rect.map_emb_univ]
  exact Finset.mem_map_of_mem _ (Finset.mem_univ _)

/-- The grid points' blocks cover the result array. -/
theorem cover (hO : Ok m) (i : S8x384x128x128.Idx) :
    ∃ t : Fin (cfgM m hO).N, ((cfgM m hO).win 18).flush t = true ∧ i ∈ (((cfgM m hO).win 18).blk t).view.set := by
  have h1 : (i 1).val < 384 := (i 1).isLt
  let t : Fin grid0.N := ⟨(i 1).val / 8, by rw [N_0]; omega⟩
  refine ⟨t, flush0_18 _ t, ?_⟩
  show i ∈ ((View.whole main_v3).slice (((cfgM m hO).win 18).rect t)).set
  erw [View.set_slice_whole]
  have e := out_emb m hO t (ix4 (i 0) ⟨(i 1).val % 8, Nat.mod_lt _ (by decide)⟩ (i 2) (i 3)) (by
    show 8 * ((i 1).val / 8) + (i 1).val % 8 < 384; omega)
  have e' : i = (((cfgM m hO).win 18).rect t).emb (ix4 (i 0) ⟨(i 1).val % 8, Nat.mod_lt _ (by decide)⟩ (i 2) (i 3)) := by
    rw [e]
    funext a
    match a with
    | ⟨0, _⟩ => rfl
    | ⟨1, _⟩ => exact Fin.ext (show (i 1).val = 8 * ((i 1).val / 8) + (i 1).val % 8 by omega)
    | ⟨2, _⟩ => rfl
    | ⟨3, _⟩ => rfl
  rw [e']
  exact emb_mem _ _

/-- The result array after the run. -/
theorem final (hO : Ok m) (h2 : ∀ k, (word2 m k).toNat < 256) (h3 : ∀ k, (word3 m k).toNat < 512) :
    (dats m hO 0 0).arrAt 18 (cfgM m hO).N = result m :=
  (dats m hO 0 0).arrAt_eq_of_cover 18 (result m) (fun t _ => flushed_eq m hO h2 h3 t) (cover m hO)

/-- The run of the first kernel: its result, and the arguments unchanged. -/
theorem run_result (hO : Ok m) (h2 : ∀ k, (word2 m k).toNat < 256) (h3 : ∀ k, (word3 m k).toNat < 512) :
    θ_run defs (onTc (τ := τ) (main (F := Ideal))) ⟨m, fun _ => 0, ρ⟩ fun r =>
      r.2.mem (((0 : Dev nD) : Thread nD τ).loc main_v3) = result m :=
  (θ_run defs _ _).mono (fun _ hr => ((hr 0).1 18).trans (final m hO h2 h3)) (run_main m ρ hO)

end Cert.KernelIdeal.Gen

end

end
-- ==== Proof.Gather.lean ====
/- The reference's `take` along one axis of a four-axis array, at an index: axis 1 (channels), axis 2 (rows) or axis 3
   (columns). Every position it takes is inside the axis, so a negative position is never counted from the end and no element
   is masked. -/
module

public import proofs.«01_k».proof.Proof.Take
public import Idealize.ShloMosaic.Lib.Pointwise

@[expose] public section

namespace Cert.Channels

open Idealize.ShloMosaic

variable {α : Type}

/-- A gather at an index, from where its three parts put every coordinate. -/
theorem gather_at {s si r : Shape} (d : GatherDims s si r) (x : s.Idx → α) (idx : IVec si 32) (y : r.Idx) (i : s.Idx)
    (h : ∀ a, d.start y idx a + d.batchCoord y a + d.offCoord y a = (i a).val) : Host.gather d x idx y = x i := by
  unfold Host.gather
  exact congrArg x (funext fun a => Fin.ext (h a))

/-- The dimension numbers of a take along axis 1. -/
abbrev dims1 (p n q r K : ℕ)
    (wf : GatherDims.WF ⟨4, ![p, n, q, r]⟩ ⟨2, ![K, 1]⟩ ⟨4, ![p, K, q, r]⟩ [0, 2, 3] [1] [] [1] [] 1 ![p, 1, q, r]) :
    GatherDims ⟨4, ![p, n, q, r]⟩ ⟨2, ![K, 1]⟩ ⟨4, ![p, K, q, r]⟩ where
  offsetDims := [0, 2, 3]
  collapsedSliceDims := [1]
  operandBatchingDims := []
  startIndicesBatchingDims := []
  startIndexMap := [1]
  indexVectorDim := 1
  sliceSizes := ![p, 1, q, r]
  wf := wf

/-- The dimension numbers of a take along axis 2. -/
abbrev dims2 (p q n r K : ℕ)
    (wf : GatherDims.WF ⟨4, ![p, q, n, r]⟩ ⟨2, ![K, 1]⟩ ⟨4, ![p, q, K, r]⟩ [0, 1, 3] [2] [] [2] [] 1 ![p, q, 1, r]) :
    GatherDims ⟨4, ![p, q, n, r]⟩ ⟨2, ![K, 1]⟩ ⟨4, ![p, q, K, r]⟩ where
  offsetDims := [0, 1, 3]
  collapsedSliceDims := [2]
  operandBatchingDims := []
  startIndicesBatchingDims := []
  startIndexMap := [2]
  indexVectorDim := 1
  sliceSizes := ![p, q, 1, r]
  wf := wf

/-- The dimension numbers of a take along axis 3. -/
abbrev dims3 (p q r n K : ℕ)
    (wf : GatherDims.WF ⟨4, ![p, q, r, n]⟩ ⟨2, ![K, 1]⟩ ⟨4, ![p, q, r, K]⟩ [0, 1, 2] [3] [] [3] [] 1 ![p, q, r, 1]) :
    GatherDims ⟨4, ![p, q, r, n]⟩ ⟨2, ![K, 1]⟩ ⟨4, ![p, q, r, K]⟩ where
  offsetDims := [0, 1, 2]
  collapsedSliceDims := [3]
  operandBatchingDims := []
  startIndicesBatchingDims := []
  startIndexMap := [3]
  indexVectorDim := 1
  sliceSizes := ![p, q, r, 1]
  wf := wf

/-- A start position inside the axis is not moved. -/
theorem clamp {n : ℕ} (hn : n < 2 ^ 31) (v : BitVec 32) (h : v.toNat < n) : min v.toInt.toNat (n - 1) = v.toNat := by
  rw [toInt_of_lt hn v h]
  simp only [Int.toNat_natCast]
  omega

/-- A take along axis 1 at an index, its start position being inside the axis. -/
theorem gather1 {p n q r K : ℕ} (hn : n < 2 ^ 31) (wf) (x : (⟨4, ![p, n, q, r]⟩ : Shape).Idx → α) (idx : IVec ⟨2, ![K, 1]⟩ 32)
    (b : Fin p) (i : Fin q) (j : Fin r) (k : Fin K) (h : (idx (ix2 k 0)).toNat < n) :
    Host.gather (dims1 p n q r K wf) x idx (ix4 b k i j) = x (ix4 b ⟨_, h⟩ i j) := by
  refine gather_at _ x idx _ _ fun a => ?_
  match a with
  | ⟨0, _⟩ => exact (show 0 + 0 + b.val = b.val by omega)
  | ⟨1, _⟩ =>
    have e : (dims1 p n q r K wf).siIdx (ix4 b k i j) ⟨0, Nat.one_pos⟩ = ix2 k 0 := by
      funext a
      match a with
      | ⟨0, _⟩ => rfl
      | ⟨1, _⟩ => rfl
    refine (show min (idx ((dims1 p n q r K wf).siIdx (ix4 b k i j) ⟨0, Nat.one_pos⟩)).toInt.toNat (n - 1) + 0 + 0
      = (idx (ix2 k 0)).toNat from ?_)
    rw [e, clamp hn _ h, Nat.add_zero]
  | ⟨2, _⟩ => exact (show 0 + 0 + i.val = i.val by omega)
  | ⟨3, _⟩ => exact (show 0 + 0 + j.val = j.val by omega)

/-- A take along axis 2 at an index, its start position being inside the axis. -/
theorem gather2 {p n q r K : ℕ} (hn : n < 2 ^ 31) (wf) (x : (⟨4, ![p, q, n, r]⟩ : Shape).Idx → α) (idx : IVec ⟨2, ![K, 1]⟩ 32)
    (b : Fin p) (i : Fin q) (j : Fin r) (k : Fin K) (h : (idx (ix2 k 0)).toNat < n) :
    Host.gather (dims2 p q n r K wf) x idx (ix4 b i k j) = x (ix4 b i ⟨_, h⟩ j) := by
  refine gather_at _ x idx _ _ fun a => ?_
  match a with
  | ⟨0, _⟩ => exact (show 0 + 0 + b.val = b.val by omega)
  | ⟨1, _⟩ => exact (show 0 + 0 + i.val = i.val by omega)
  | ⟨2, _⟩ =>
    have e : (dims2 p q n r K wf).siIdx (ix4 b i k j) ⟨0, Nat.one_pos⟩ = ix2 k 0 := by
      funext a
      match a with
      | ⟨0, _⟩ => rfl
      | ⟨1, _⟩ => rfl
    refine (show min (idx ((dims2 p q n r K wf).siIdx (ix4 b i k j) ⟨0, Nat.one_pos⟩)).toInt.toNat (n - 1) + 0 + 0
      = (idx (ix2 k 0)).toNat from ?_)
    rw [e, clamp hn _ h, Nat.add_zero]
  | ⟨3, _⟩ => exact (show 0 + 0 + j.val = j.val by omega)

/-- A take along axis 3 at an index, its start position being inside the axis. -/
theorem gather3 {p n q r K : ℕ} (hn : n < 2 ^ 31) (wf) (x : (⟨4, ![p, q, r, n]⟩ : Shape).Idx → α) (idx : IVec ⟨2, ![K, 1]⟩ 32)
    (b : Fin p) (i : Fin q) (j : Fin r) (k : Fin K) (h : (idx (ix2 k 0)).toNat < n) :
    Host.gather (dims3 p q r n K wf) x idx (ix4 b i j k) = x (ix4 b i j ⟨_, h⟩) := by
  refine gather_at _ x idx _ _ fun a => ?_
  match a with
  | ⟨0, _⟩ => exact (show 0 + 0 + b.val = b.val by omega)
  | ⟨1, _⟩ => exact (show 0 + 0 + i.val = i.val by omega)
  | ⟨2, _⟩ => exact (show 0 + 0 + j.val = j.val by omega)
  | ⟨3, _⟩ =>
    have e : (dims3 p q r n K wf).siIdx (ix4 b i j k) ⟨0, Nat.one_pos⟩ = ix2 k 0 := by
      funext a
      match a with
      | ⟨0, _⟩ => rfl
      | ⟨1, _⟩ => rfl
    refine (show min (idx ((dims3 p q r n K wf).siIdx (ix4 b i j k) ⟨0, Nat.one_pos⟩)).toInt.toNat (n - 1) + 0 + 0
      = (idx (ix2 k 0)).toNat from ?_)
    rw [e, clamp hn _ h, Nat.add_zero]

/-- Positions, a negative one counted from the end, as start indices: none is negative, so they are the positions. -/
theorem starts {n K : ℕ} (hn : n < 2 ^ 31) (hK : K ≠ 1) (pos w : IVec ⟨1, ![K]⟩ 32) (hpos : ∀ y, (pos y).toNat < n)
    (b0 : Sc.BroadcastsInDim ⟨1, ![K]⟩ ![]) (b5 : (⟨1, ![K]⟩ : Shape).BroadcastsInDim ⟨2, ![K, 1]⟩ ![0]) (i : (⟨2, ![K, 1]⟩ : Shape).Idx) :
    broadcastInDim ⟨2, ![K, 1]⟩ ![0] b5 (select (cmpi .slt pos (broadcastInDim ⟨1, ![K]⟩ ![] b0 (constantI Sc 32 0#32))) w pos) i
      = pos (ix1 (i 0)) := by
  have hj : ∀ j, select (cmpi .slt pos (broadcastInDim ⟨1, ![K]⟩ ![] b0 (constantI Sc 32 0#32))) w pos j = pos j := by
    intro j
    show Scalar.select (IntOp.cmpi .slt (pos j) 0#32) (w j) (pos j) = pos j
    rw [slt_zero_of_lt hn _ (hpos j)]; rfl
  show select (cmpi .slt pos (broadcastInDim ⟨1, ![K]⟩ ![] b0 (constantI Sc 32 0#32))) w pos _ = _
  rw [hj]
  congr 1
  funext a
  match a with
  | ⟨0, _⟩ =>
    exact dif_neg hK

/-- Start indices inside the axis: no element is masked. -/
theorem mask_one {n K : ℕ} (hn : n < 2 ^ 31) (v5 : IVec ⟨2, ![K, 1]⟩ 32) (hv : ∀ i, (v5 i).toNat < n)
    (b1 : Sc.BroadcastsInDim ⟨2, ![K, 1]⟩ ![]) (b2 : Sone.BroadcastsInDim ⟨2, ![1, 1]⟩ ![1])
    (b3 : (⟨2, ![1, 1]⟩ : Shape).BroadcastsInDim ⟨2, ![K, 1]⟩ ![0, 1])
    (red : (⟨2, ![K, 1]⟩ : Shape).ReducesTo [1] ⟨1, ![K]⟩) (hS : 0 < Sc.numel) (y : (⟨1, ![K]⟩ : Shape).Idx) :
    Host.reduce IntOp.andi
      (andi (cmpi .sge v5 (broadcastInDim ⟨2, ![K, 1]⟩ ![] b1 (constantI Sc 32 0#32)))
        (cmpi .sle v5 (broadcastInDim ⟨2, ![K, 1]⟩ ![0, 1] b3 (broadcastInDim ⟨2, ![1, 1]⟩ ![1] b2 (constantI Sone 32 (BitVec.ofNat 32 (n - 1)))))))
      (constantI Sc 1 1#1) red hS y = 1#1 := by
  refine Host.reduce_andi_one _ _ _ _ _ rfl fun i => ?_
  show IntOp.andi (IntOp.cmpi .sge (v5 i) 0#32) (IntOp.cmpi .sle (v5 i) (BitVec.ofNat 32 (n - 1))) = 1#1
  rw [sge_zero_of_lt hn _ (hv i), sle_last_of_lt hn _ (hv i)]; rfl

/-- A choice by a mask that is one everywhere. -/
theorem unmasked {s r : Shape} {dims : Fin s.rank → Fin r.rank} (b : s.BroadcastsInDim r dims) (mask : IVec s 1)
    (hm : ∀ y, mask y = 1#1) (g fill : r.Idx → α) : select (broadcastInDim r dims b mask) g fill = g := by
  funext i
  show Scalar.select (mask _) (g i) (fill i) = g i
  rw [hm]; rfl

/-- The whole take along axis 1, mask included, at an index. -/
theorem taken1 {p n q r K : ℕ} (hn : n < 2 ^ 31) (hK : K ≠ 1) (x : (⟨4, ![p, n, q, r]⟩ : Shape).Idx → α)
    (pos w : IVec ⟨1, ![K]⟩ 32) (hpos : ∀ y, (pos y).toNat < n)
    (b0 : Sc.BroadcastsInDim ⟨1, ![K]⟩ ![]) (b5 : (⟨1, ![K]⟩ : Shape).BroadcastsInDim ⟨2, ![K, 1]⟩ ![0])
    (b1 : Sc.BroadcastsInDim ⟨2, ![K, 1]⟩ ![]) (b2 : Sone.BroadcastsInDim ⟨2, ![1, 1]⟩ ![1])
    (b3 : (⟨2, ![1, 1]⟩ : Shape).BroadcastsInDim ⟨2, ![K, 1]⟩ ![0, 1])
    (red : (⟨2, ![K, 1]⟩ : Shape).ReducesTo [1] ⟨1, ![K]⟩) (hS : 0 < Sc.numel)
    (bm : (⟨1, ![K]⟩ : Shape).BroadcastsInDim ⟨4, ![p, K, q, r]⟩ ![1]) (wf) (fill : (⟨4, ![p, K, q, r]⟩ : Shape).Idx → α)
    (v5 : IVec ⟨2, ![K, 1]⟩ 32)
    (hv5 : v5 = broadcastInDim ⟨2, ![K, 1]⟩ ![0] b5 (select (cmpi .slt pos (broadcastInDim ⟨1, ![K]⟩ ![] b0 (constantI Sc 32 0#32))) w pos))
    (b : Fin p) (i : Fin q) (j : Fin r) (k : Fin K) :
    select (broadcastInDim ⟨4, ![p, K, q, r]⟩ ![1] bm (Host.reduce IntOp.andi
        (andi (cmpi .sge v5 (broadcastInDim ⟨2, ![K, 1]⟩ ![] b1 (constantI Sc 32 0#32)))
          (cmpi .sle v5 (broadcastInDim ⟨2, ![K, 1]⟩ ![0, 1] b3 (broadcastInDim ⟨2, ![1, 1]⟩ ![1] b2 (constantI Sone 32 (BitVec.ofNat 32 (n - 1)))))))
        (constantI Sc 1 1#1) red hS))
      (Host.gather (dims1 p n q r K wf) x v5) fill (ix4 b k i j) = x (ix4 b ⟨(pos (ix1 k)).toNat, hpos _⟩ i j) := by
  have h5 : ∀ i, v5 i = pos (ix1 (i 0)) := fun i => by rw [hv5]; exact starts hn hK pos w hpos b0 b5 i
  have hv : ∀ i, (v5 i).toNat < n := fun i => by rw [h5]; exact hpos _
  rw [unmasked bm _ (mask_one hn v5 hv b1 b2 b3 red hS), gather1 hn wf x v5 b i j k (hv _)]
  congr 2
  exact Fin.ext (congrArg BitVec.toNat (h5 _))

/-- The whole take along axis 2, mask included, at an index. -/
theorem taken2 {p n q r K : ℕ} (hn : n < 2 ^ 31) (hK : K ≠ 1) (x : (⟨4, ![p, q, n, r]⟩ : Shape).Idx → α)
    (pos w : IVec ⟨1, ![K]⟩ 32) (hpos : ∀ y, (pos y).toNat < n)
    (b0 : Sc.BroadcastsInDim ⟨1, ![K]⟩ ![]) (b5 : (⟨1, ![K]⟩ : Shape).BroadcastsInDim ⟨2, ![K, 1]⟩ ![0])
    (b1 : Sc.BroadcastsInDim ⟨2, ![K, 1]⟩ ![]) (b2 : Sone.BroadcastsInDim ⟨2, ![1, 1]⟩ ![1])
    (b3 : (⟨2, ![1, 1]⟩ : Shape).BroadcastsInDim ⟨2, ![K, 1]⟩ ![0, 1])
    (red : (⟨2, ![K, 1]⟩ : Shape).ReducesTo [1] ⟨1, ![K]⟩) (hS : 0 < Sc.numel)
    (bm : (⟨1, ![K]⟩ : Shape).BroadcastsInDim ⟨4, ![p, q, K, r]⟩ ![2]) (wf) (fill : (⟨4, ![p, q, K, r]⟩ : Shape).Idx → α)
    (v5 : IVec ⟨2, ![K, 1]⟩ 32)
    (hv5 : v5 = broadcastInDim ⟨2, ![K, 1]⟩ ![0] b5 (select (cmpi .slt pos (broadcastInDim ⟨1, ![K]⟩ ![] b0 (constantI Sc 32 0#32))) w pos))
    (b : Fin p) (i : Fin q) (j : Fin r) (k : Fin K) :
    select (broadcastInDim ⟨4, ![p, q, K, r]⟩ ![2] bm (Host.reduce IntOp.andi
        (andi (cmpi .sge v5 (broadcastInDim ⟨2, ![K, 1]⟩ ![] b1 (constantI Sc 32 0#32)))
          (cmpi .sle v5 (broadcastInDim ⟨2, ![K, 1]⟩ ![0, 1] b3 (broadcastInDim ⟨2, ![1, 1]⟩ ![1] b2 (constantI Sone 32 (BitVec.ofNat 32 (n - 1)))))))
        (constantI Sc 1 1#1) red hS))
      (Host.gather (dims2 p q n r K wf) x v5) fill (ix4 b i k j) = x (ix4 b i ⟨(pos (ix1 k)).toNat, hpos _⟩ j) := by
  have h5 : ∀ i, v5 i = pos (ix1 (i 0)) := fun i => by rw [hv5]; exact starts hn hK pos w hpos b0 b5 i
  have hv : ∀ i, (v5 i).toNat < n := fun i => by rw [h5]; exact hpos _
  rw [unmasked bm _ (mask_one hn v5 hv b1 b2 b3 red hS), gather2 hn wf x v5 b i j k (hv _)]
  congr 2
  exact Fin.ext (congrArg BitVec.toNat (h5 _))

/-- The whole take along axis 3, mask included, at an index. -/
theorem taken3 {p n q r K : ℕ} (hn : n < 2 ^ 31) (hK : K ≠ 1) (x : (⟨4, ![p, q, r, n]⟩ : Shape).Idx → α)
    (pos w : IVec ⟨1, ![K]⟩ 32) (hpos : ∀ y, (pos y).toNat < n)
    (b0 : Sc.BroadcastsInDim ⟨1, ![K]⟩ ![]) (b5 : (⟨1, ![K]⟩ : Shape).BroadcastsInDim ⟨2, ![K, 1]⟩ ![0])
    (b1 : Sc.BroadcastsInDim ⟨2, ![K, 1]⟩ ![]) (b2 : Sone.BroadcastsInDim ⟨2, ![1, 1]⟩ ![1])
    (b3 : (⟨2, ![1, 1]⟩ : Shape).BroadcastsInDim ⟨2, ![K, 1]⟩ ![0, 1])
    (red : (⟨2, ![K, 1]⟩ : Shape).ReducesTo [1] ⟨1, ![K]⟩) (hS : 0 < Sc.numel)
    (bm : (⟨1, ![K]⟩ : Shape).BroadcastsInDim ⟨4, ![p, q, r, K]⟩ ![3]) (wf) (fill : (⟨4, ![p, q, r, K]⟩ : Shape).Idx → α)
    (v5 : IVec ⟨2, ![K, 1]⟩ 32)
    (hv5 : v5 = broadcastInDim ⟨2, ![K, 1]⟩ ![0] b5 (select (cmpi .slt pos (broadcastInDim ⟨1, ![K]⟩ ![] b0 (constantI Sc 32 0#32))) w pos))
    (b : Fin p) (i : Fin q) (j : Fin r) (k : Fin K) :
    select (broadcastInDim ⟨4, ![p, q, r, K]⟩ ![3] bm (Host.reduce IntOp.andi
        (andi (cmpi .sge v5 (broadcastInDim ⟨2, ![K, 1]⟩ ![] b1 (constantI Sc 32 0#32)))
          (cmpi .sle v5 (broadcastInDim ⟨2, ![K, 1]⟩ ![0, 1] b3 (broadcastInDim ⟨2, ![1, 1]⟩ ![1] b2 (constantI Sone 32 (BitVec.ofNat 32 (n - 1)))))))
        (constantI Sc 1 1#1) red hS))
      (Host.gather (dims3 p q r n K wf) x v5) fill (ix4 b i j k) = x (ix4 b i j ⟨(pos (ix1 k)).toNat, hpos _⟩) := by
  have h5 : ∀ i, v5 i = pos (ix1 (i 0)) := fun i => by rw [hv5]; exact starts hn hK pos w hpos b0 b5 i
  have hv : ∀ i, (v5 i).toNat < n := fun i => by rw [h5]; exact hpos _
  rw [unmasked bm _ (mask_one hn v5 hv b1 b2 b3 red hS), gather3 hn wf x v5 b i j k (hv _)]
  congr 2
  exact Fin.ext (congrArg BitVec.toNat (h5 _))

end Cert.Channels

end
-- ==== Proof.Taps.lean ====
/- The two interpolation matrices of the kernel against the reference's taps. A row of a matrix has the first weight at the
   lower tap, the second at the upper one and zero elsewhere, so the product with a column is the two taps weighted. The
   literals are compared word by word. -/
module

public import proofs.«01_k».proof.KernelIdeal
public import proofs.«01_k».proof.ReferenceIdeal
public import Idealize.ShloMosaic.Lib.IdealHost
public import Idealize.ShloMosaic.Lib.Pointwise

@[expose] public section

noncomputable section

set_option maxRecDepth 16384

namespace Cert.Taps

open Idealize.ShloMosaic

/-- A sum whose coefficients are `v` at `lo`, `w` at `hi` and zero elsewhere. Where both taps are one, its coefficient is `v`
    and `w` is zero. -/
theorem two_terms {n : ℕ} (M z : Fin n → EReal) (lo hi : Fin n) (v w : EReal)
    (hM : ∀ k, M k = if k = lo then v else if k = hi then w else 0) (hw : lo = hi → w = 0) :
    ∑ k, M k * z k = v * z lo + w * z hi := by
  by_cases h : lo = hi
  · subst h
    have e : ∀ k, M k * z k = if k = lo then v * z lo else 0 := fun k => by
      rw [hM k]
      split
      · next h => rw [h]
      · exact zero_mul _
    rw [Finset.sum_congr rfl fun k _ => e k, hw rfl, zero_mul, add_zero]
    simp
  · have e : ∀ k, M k * z k = (if k = lo then v * z lo else 0) + if k = hi then w * z hi else 0 := fun k => by
      rw [hM k]
      by_cases h1 : k = lo
      · subst h1; simp [h]
      · by_cases h2 : k = hi
        · subst h2; simp [h1]
        · simp [h1, h2]
    rw [Finset.sum_congr rfl fun k _ => e k, Finset.sum_add_distrib]
    simp

/-- The words of the row matrix: the weights at the taps, zero elsewhere. -/
theorem row_words : ∀ (y : Fin 128) (k : Fin 64), KernelIdeal.lit0 (Fin.ofNat 8192 (64 * y.val + k.val))
    = if k.val = (ReferenceIdeal.lit0 y).toNat then ReferenceIdeal.lit8 y
      else if k.val = (ReferenceIdeal.lit1 y).toNat then ReferenceIdeal.lit9 y else 0#32 := by decide +kernel

/-- The words of the column matrix. -/
theorem col_words : ∀ (x : Fin 128) (l : Fin 64), KernelIdeal.lit1 (Fin.ofNat 8192 (64 * x.val + l.val))
    = if l.val = (ReferenceIdeal.lit2 x).toNat then ReferenceIdeal.lit4 x
      else if l.val = (ReferenceIdeal.lit3 x).toNat then ReferenceIdeal.lit5 x else 0#32 := by decide +kernel

/-- Where the two row taps are one, the second weight is zero. -/
theorem row_single : ∀ y, (ReferenceIdeal.lit0 y).toNat = (ReferenceIdeal.lit1 y).toNat → ReferenceIdeal.lit9 y = 0#32 := by
  decide +kernel

/-- The same of the columns. -/
theorem col_single : ∀ x, (ReferenceIdeal.lit2 x).toNat = (ReferenceIdeal.lit3 x).toNat → ReferenceIdeal.lit5 x = 0#32 := by
  decide +kernel

/-- The reference's column weights are the same for both rows it combines. -/
theorem col_weights : ∀ x, ReferenceIdeal.lit6 x = ReferenceIdeal.lit4 x ∧ ReferenceIdeal.lit7 x = ReferenceIdeal.lit5 x := by
  decide +kernel

/-- The taps lie inside the second array's rows and columns. -/
theorem taps_lt : ∀ x, (ReferenceIdeal.lit0 x).toNat < 64 ∧ (ReferenceIdeal.lit1 x).toNat < 64
    ∧ (ReferenceIdeal.lit2 x).toNat < 64 ∧ (ReferenceIdeal.lit3 x).toNat < 64 := by
  decide +kernel

/-- The lower and the upper row tap. -/
def rowLo (y : Fin 128) : Fin 64 := ⟨(ReferenceIdeal.lit0 y).toNat, (taps_lt y).1⟩
def rowHi (y : Fin 128) : Fin 64 := ⟨(ReferenceIdeal.lit1 y).toNat, (taps_lt y).2.1⟩

/-- The lower and the upper column tap. -/
def colLo (x : Fin 128) : Fin 64 := ⟨(ReferenceIdeal.lit2 x).toNat, (taps_lt x).2.2.1⟩
def colHi (x : Fin 128) : Fin 64 := ⟨(ReferenceIdeal.lit3 x).toNat, (taps_lt x).2.2.2⟩

/-- The value of a word read as a 32-bit float. -/
def val (w : BitVec 32) : EReal := Ideal.ofBits .f32 w

theorem val_zero : val 0#32 = 0 := Ideal.ofBits_zero .f32

/-- A row of words that is two weights at two taps and zero elsewhere, times a column: the two taps weighted. -/
theorem tap_sum {n : ℕ} (M : Fin n → BitVec 32) (z : Fin n → EReal) (lo hi : Fin n) (v w : BitVec 32)
    (hM : ∀ k, M k = if k.val = lo.val then v else if k.val = hi.val then w else 0#32) (hw : lo.val = hi.val → w = 0#32) :
    ∑ k, val (M k) * z k = val v * z lo + val w * z hi :=
  two_terms (fun k => val (M k)) z lo hi (val v) (val w)
    (fun k => by
      rw [hM k]
      simp only [Fin.ext_iff]
      split
      · rfl
      · split
        · rfl
        · exact val_zero)
    (fun h => by rw [hw (congrArg Fin.val h), val_zero])

end Cert.Taps

end

end
-- ==== Proof.ReferenceAt.lean ====
/- The reference's result at an index: a copied channel of the first array, or the four taps of a channel of the second one,
   weighted by columns and then by rows. -/
module

public import proofs.«01_k».proof.Proof.Gather
public import proofs.«01_k».proof.Proof.Taps
public import proofs.«01_k».proof.Proof.Gen.ReferenceIdeal.Run

@[expose] public section

set_option maxRecDepth 16384

noncomputable section

namespace Cert.ReferenceIdeal.Value

open Idealize.ShloMosaic Idealize.ShloMosaic.TcCoe Idealize.ShloMosaic.StableHlo Cert.Channels Cert.Taps
open Cert.ReferenceIdeal.Gen

variable (V0 : Valuation τ sig (Elt Ideal))

/-- The four arguments. -/
def in0 : FVec Ideal S8x256x128x128 .f32 := V0 (Proc.devRef .tc main_arg0)
def in1 : FVec Ideal S8x512x64x64 .f32 := V0 (Proc.devRef .tc main_arg1)
def in2 : IVec S128 32 := V0 (Proc.devRef .tc main_arg2)
def in3 : IVec S256 32 := V0 (Proc.devRef .tc main_arg3)

/-- The channels taken of the second array, their rows at the lower and at the upper taps, and the result. -/
def chans : FVec Ideal S8x256x64x64 .f32 := res_main_v7 V0
def rows0 : FVec Ideal S8x256x128x64 .f32 := res_main_v8 V0
def rows1 : FVec Ideal S8x256x128x64 .f32 := res_main_v9 V0
def outcome : FVec Ideal S8x384x128x128 .f32 := res_main_v29 V0

/-- A literal vector's position. -/
theorem position (k : Fin 128) : S128.rowMajor (ix1 k) = k := Fin.ext (Shape.rowMajor_val_one _)

/-- A weight along the columns, broadcast to the result's shape. -/
theorem weight_col (f : FVec Ideal S128 .f32) (h h') (b : Fin 8) (c : Fin 256) (y x : Fin 128) :
    broadcastInDim S8x256x128x128 ![0, 1, 2, 3] h (broadcastInDim S1x1x1x128 ![3] h' f) (ix4 b c y x) = f (ix1 x) :=
  congrArg f (funext fun a => match a with | ⟨0, _⟩ => rfl)

/-- A weight along the rows, broadcast to the result's shape. -/
theorem weight_row (f : FVec Ideal S128 .f32) (h h') (b : Fin 8) (c : Fin 256) (y x : Fin 128) :
    broadcastInDim S8x256x128x128 ![0, 1, 2, 3] h (broadcastInDim S1x1x128x1 ![2] h' f) (ix4 b c y x) = f (ix1 y) :=
  congrArg f (funext fun a => match a with | ⟨0, _⟩ => rfl)

/-- The upsampled array's channels. -/
theorem channels (h3 : ∀ i, (in3 V0 i).toNat < 512) (b : Fin 8) (c : Fin 256) (k l : Fin 64) :
    chans V0 (ix4 b c k l) = in1 V0 (ix4 b ⟨(in3 V0 (ix1 c)).toNat, h3 _⟩ k l) := by
  unfold chans res_main_v7
  exact taken1 (n := 512) (by norm_num) (by norm_num) (in1 V0) (in3 V0) _ h3 _ _ _ _ _ _ _ _ _ _ _ rfl b k l c

/-- The rows at the lower tap. -/
theorem rows_lo (b : Fin 8) (c : Fin 256) (y : Fin 128) (l : Fin 64) :
    rows0 V0 (ix4 b c y l) = chans V0 (ix4 b c (rowLo y) l) := by
  unfold rows0 res_main_v8
  refine (taken2 (n := 64) (by norm_num) (by norm_num) (chans V0) (res_main_c V0) _ (fun i => (taps_lt _).1)
    _ _ _ _ _ _ _ _ _ _ _ rfl b c l y).trans ?_
  congr 2
  exact Fin.ext (congrArg (fun k => (lit0 k).toNat) (position y))

/-- The rows at the upper tap. -/
theorem rows_hi (b : Fin 8) (c : Fin 256) (y : Fin 128) (l : Fin 64) :
    rows1 V0 (ix4 b c y l) = chans V0 (ix4 b c (rowHi y) l) := by
  unfold rows1 res_main_v9
  refine (taken2 (n := 64) (by norm_num) (by norm_num) (chans V0) (res_main_c_0 V0) _ (fun i => (taps_lt _).2.1)
    _ _ _ _ _ _ _ _ _ _ _ rfl b c l y).trans ?_
  congr 2
  exact Fin.ext (congrArg (fun k => (lit1 k).toNat) (position y))

/-- The reference's last sums and products, at an index. -/
theorem combine {s : Shape} (A B C D E A' B' C' D' E' : FVec Ideal s .f32) (i : s.Idx) :
    addf (mulf (addf (mulf A B) (mulf C D)) E) (mulf (addf (mulf A' B') (mulf C' D')) E') i
      = ((A i * B i + C i * D i) * E i + (A' i * B' i + C' i * D' i) * E' i : EReal) := rfl

/-- The result at an index of a copied channel. -/
theorem result_copied (h2 : ∀ i, (in2 V0 i).toNat < 256) (b : Fin 8) (ch : Fin 384) (h : ch.val < 128) (y x : Fin 128) :
    outcome V0 (ix4 b ch y x)
      = in0 V0 (ix4 b ⟨(in2 V0 (ix1 ⟨ch.val, h⟩)).toNat, h2 _⟩ y x) := by
  unfold outcome res_main_v29
  refine (concatenate_pair_apply_left (s₁ := S8x128x128x128) (s₂ := S8x256x128x128) 1 _ _ _ (ix4 b ch y x) rfl (ix4 b ⟨ch.val, h⟩ y x) fun a => ?_).trans ?_
  · match a with
    | ⟨0, _⟩ => rfl
    | ⟨1, _⟩ => rfl
    | ⟨2, _⟩ => rfl
    | ⟨3, _⟩ => rfl
  · exact taken1 (n := 256) (by norm_num) (by norm_num) (in0 V0) (in2 V0) _ h2 _ _ _ _ _ _ _ _ _ _ _ rfl b y x ⟨ch.val, h⟩

/-- The result at an index of an upsampled channel, from the rows at the two taps. -/
theorem result_upsampled (b : Fin 8) (ch : Fin 384) (c : Fin 256) (h : c.val + 128 = ch.val) (y x : Fin 128) :
    outcome V0 (ix4 b ch y x)
      = ((rows0 V0 (ix4 b c y (colLo x)) * val (lit4 x)
          + rows0 V0 (ix4 b c y (colHi x)) * val (lit5 x)) * val (lit8 y)
        + (rows1 V0 (ix4 b c y (colLo x)) * val (lit6 x)
          + rows1 V0 (ix4 b c y (colHi x)) * val (lit7 x)) * val (lit9 y) : EReal) := by
  unfold outcome res_main_v29
  refine (concatenate_pair_apply_right (s₁ := S8x128x128x128) (s₂ := S8x256x128x128) 1 _ _ _ (ix4 b ch y x) rfl rfl (ix4 b c y x) (fun a ha => ?_) h).trans ?_
  · match a with
    | ⟨0, _⟩ => rfl
    | ⟨1, _⟩ => exact absurd rfl ha
    | ⟨2, _⟩ => rfl
    | ⟨3, _⟩ => rfl
  have lo : ∀ (z : FVec Ideal S8x256x128x64 .f32) (h), z (ix4 b c y ⟨(lit2 (S128.rowMajor (ix1 x))).toNat, h⟩) = z (ix4 b c y (colLo x)) :=
    fun z h => congrArg (fun k => z (ix4 b c y k)) (Fin.ext (congrArg (fun k => (lit2 k).toNat) (position x)))
  have hi : ∀ (z : FVec Ideal S8x256x128x64 .f32) (h), z (ix4 b c y ⟨(lit3 (S128.rowMajor (ix1 x))).toNat, h⟩) = z (ix4 b c y (colHi x)) :=
    fun z h => congrArg (fun k => z (ix4 b c y k)) (Fin.ext (congrArg (fun k => (lit3 k).toNat) (position x)))
  have w : ∀ (f : Fin 128 → BitVec 32) (k : Fin 128), FloatOps.ofBits (F := Ideal) .f32 (f (S128.rowMajor (ix1 k))) = val (f k) :=
    fun f k => congrArg (fun k => val (f k)) (position k)
  refine (combine ..).trans ?_
  refine congrArg₂ (· + ·)
    (congrArg₂ (· * ·) (congrArg₂ (· + ·) (congrArg₂ (· * ·) ?_ ?_) (congrArg₂ (· * ·) ?_ ?_)) ?_)
    (congrArg₂ (· * ·) (congrArg₂ (· + ·) (congrArg₂ (· * ·) ?_ ?_) (congrArg₂ (· * ·) ?_ ?_)) ?_)
  · exact (taken3 (n := 64) (by norm_num) (by norm_num) (rows0 V0) (res_main_c_1 V0) _ (fun i => (taps_lt _).2.2.1)
      _ _ _ _ _ _ _ _ _ _ _ rfl b c y x).trans (lo _ _)
  · exact (weight_col _ _ _ b c y x).trans (w lit4 x)
  · exact (taken3 (n := 64) (by norm_num) (by norm_num) (rows0 V0) (res_main_c_2 V0) _ (fun i => (taps_lt _).2.2.2)
      _ _ _ _ _ _ _ _ _ _ _ rfl b c y x).trans (hi _ _)
  · exact (weight_col _ _ _ b c y x).trans (w lit5 x)
  · exact (weight_row _ _ _ b c y x).trans (w lit8 y)
  · exact (taken3 (n := 64) (by norm_num) (by norm_num) (rows1 V0) (res_main_c_1 V0) _ (fun i => (taps_lt _).2.2.1)
      _ _ _ _ _ _ _ _ _ _ _ rfl b c y x).trans (lo _ _)
  · exact (weight_col _ _ _ b c y x).trans (w lit6 x)
  · exact (taken3 (n := 64) (by norm_num) (by norm_num) (rows1 V0) (res_main_c_2 V0) _ (fun i => (taps_lt _).2.2.2)
      _ _ _ _ _ _ _ _ _ _ _ rfl b c y x).trans (hi _ _)
  · exact (weight_col _ _ _ b c y x).trans (w lit7 x)
  · exact (weight_row _ _ _ b c y x).trans (w lit9 y)

end Cert.ReferenceIdeal.Value

end

end
-- ==== Proof.Agree.lean ====
/- The idealized kernel and the idealized reference hold the same result, from arguments that agree: a copied channel is the same
   element, and the product with the two matrices is the four taps weighted. -/
module

public import proofs.«01_k».proof.Proof.KernelFinal
public import proofs.«01_k».proof.Proof.ReferenceAt

@[expose] public section

set_option maxRecDepth 16384

noncomputable section

namespace Cert.Agree

open Idealize.ShloMosaic Idealize.ShloMosaic.TcCoe Idealize.ShloMosaic.StableHlo Cert.Taps
open Cert.KernelIdeal (nD τ sig S128x64)
open Cert.KernelIdeal.Gen (rowMatrix colMatrix chan array0 array1 word2 word3 resultAt result)
open Cert.ReferenceIdeal.Value (in0 in1 in2 in3 rows0 rows1 chans outcome)

/-- A matrix element's position among the literal's words. -/
theorem position (y : Fin 128) (k : Fin 64) : S128x64.rowMajor (ix2 y k) = Fin.ofNat 8192 (64 * y.val + k.val) := by
  refine Fin.ext ((Shape.rowMajor_val_two _).trans ?_)
  show y.val * 64 + k.val = (64 * y.val + k.val) % 8192
  omega

/-- A row of the row matrix times a column: the two row taps weighted. -/
theorem row_sum (y : Fin 128) (z : Fin 64 → EReal) :
    ∑ k : Fin 64, (rowMatrix (ix2 y k) * z k : EReal)
      = val (ReferenceIdeal.lit8 y) * z (rowLo y) + val (ReferenceIdeal.lit9 y) * z (rowHi y) := by
  refine (Finset.sum_congr rfl fun k _ => congrArg (· * z k) ?_).trans
    (tap_sum _ z (rowLo y) (rowHi y) _ _ (row_words y) (row_single y))
  exact congrArg (fun k => val (KernelIdeal.lit0 k)) (position y k)

/-- A row times a column of the column matrix: the two column taps weighted. -/
theorem col_sum (x : Fin 128) (z : Fin 64 → EReal) :
    ∑ l : Fin 64, (z l * colMatrix (ix2 l x) : EReal)
      = z (colLo x) * val (ReferenceIdeal.lit4 x) + z (colHi x) * val (ReferenceIdeal.lit5 x) := by
  rw [mul_comm (z (colLo x)), mul_comm (z (colHi x))]
  refine (Finset.sum_congr rfl fun l _ => ?_).trans
    (tap_sum _ z (colLo x) (colHi x) _ _ (col_words x) (col_single x))
  refine (mul_comm _ _).trans (congrArg (· * z l) ?_)
  exact congrArg (fun k => val (KernelIdeal.lit1 k)) (position x l)

variable (m : (ℓ : Loc nD τ sig) → Buf (Elt Ideal) ℓ)
variable (V0 : Valuation ReferenceIdeal.τ ReferenceIdeal.sig (Elt Ideal))

/-- A channel an index word inside the array names. -/
theorem chan_eq {n : ℕ} [NeZero n] {v w : BitVec 32} (h : v = w) (hw : w.toNat < n) : chan n v = ⟨w.toNat, hw⟩ := by
  subst h
  exact Fin.ext (Nat.mod_eq_of_lt hw)

/-- The two results are one array. -/
theorem results (h0 : in0 V0 = array0 m) (h1 : in1 V0 = array1 m) (h2 : ∀ k, in2 V0 (ix1 k) = word2 m k)
    (h3 : ∀ k, in3 V0 (ix1 k) = word3 m k) (b2 : ∀ i, (in2 V0 i).toNat < 256) (b3 : ∀ i, (in3 V0 i).toNat < 512) :
    outcome V0 = result m := by
  funext i
  idx_vars i
  show outcome V0 (ix4 i0 i1 i2 i3) = resultAt m i0 i1 i2 i3
  by_cases h : i1.val < 128
  · have e : resultAt m i0 i1 i2 i3 = _ := dif_pos h
    rw [e, ReferenceIdeal.Value.result_copied V0 b2 i0 i1 h i2 i3, chan_eq (h2 _).symm (b2 _), h0]
  · have e : resultAt m i0 i1 i2 i3 = _ := dif_neg h
    have hc : i1.val - 128 < 256 := by have := i1.isLt; omega
    have z : ∀ k l, array1 m (ix4 i0 (chan 512 (word3 m ⟨i1.val - 128, hc⟩)) k l) = chans V0 (ix4 i0 ⟨i1.val - 128, hc⟩ k l) :=
      fun k l => by rw [ReferenceIdeal.Value.channels V0 b3, chan_eq (h3 _).symm (b3 _), h1]
    rw [ReferenceIdeal.Value.result_upsampled V0 i0 i1 ⟨i1.val - 128, hc⟩ (show i1.val - 128 + 128 = i1.val by omega) i2 i3]
    simp only [ReferenceIdeal.Value.rows_lo, ReferenceIdeal.Value.rows_hi, (col_weights i3).1, (col_weights i3).2]
    refine Eq.trans ?_ e.symm
    refine Eq.trans ?_ (row_sum i2 fun k => _).symm
    simp only [col_sum, z]
    rw [mul_comm (val (ReferenceIdeal.lit8 i2)), mul_comm (val (ReferenceIdeal.lit9 i2))]

end Cert.Agree

end

end
-- ==== Proof.BodyLoops.lean ====
/- The body of the second kernel as loops: for each of the two sources, one step per gathered channel (read the index word,
   assume that it lies in the source, load that channel), the channels stacked and multiplied from the right, then one
   step per output channel (multiply from the left, store). The printed body is this text unrolled. -/
module

public import proofs.«01_k».proof.Proof.Gen.Kernel2.Launch

@[expose] public section

noncomputable section

namespace Cert.Loops

open Idealize.ShloMosaic Idealize.SL.Sem

variable {F : FTy → Type} [FloatOps F]
variable {nD : Nat} {τ : Topo} {sig : RefSig} {Λ : Labels}

/-- A table of `T` words. -/
abbrev tabS (T : Nat) : Shape := ⟨1, ![T]⟩
/-- A source of `C` channels of `h × w`. -/
abbrev srcS (C h w : Nat) : Shape := ⟨4, ![1, C, h, w]⟩
/-- A matrix. -/
abbrev matS (h w : Nat) : Shape := ⟨2, ![h, w]⟩
/-- One word. -/
abbrev oneS : Shape := ⟨1, ![1]⟩

/-- Where the channel named by the word `v` begins. -/
def chanOff (v : BitVec 32) : Fin 4 → Nat := ![0, (Scalar.indexCast v).toNat, 0, 0]

/-- The channel named by `v` is one of the source's. -/
def InSource (C h w : Nat) (v : BitVec 32) : Prop :=
  ∀ a, chanOff v a + (srcS 1 h w).size a ≤ (srcS C h w).size a

instance InSource.dec (C h w : Nat) (v : BitVec 32) : Decidable (InSource C h w v) :=
  decidable_of_iff' _ (Iff.of_eq (InSource.eq_1 C h w v))

theorem word_inb {T k : Nat} (hk : k < T) : ∀ a, (![k] : Fin 1 → Nat) a + oneS.size a ≤ (tabS T).size a := by
  intro a; fin_cases a; exact hk

/-- The rectangle of word `k`. -/
abbrev wordR {T k : Nat} (hk : k < T) : Rect (tabS T) := Rect.unit (s := tabS T) ![k] oneS.size (word_inb hk)

theorem one_numel : oneS.numel = 1 := by decide

/-- The rectangle of the channel named by `v`. -/
abbrev chanR {C h w : Nat} {v : BitVec 32} (hv : InSource C h w v) : Rect (srcS C h w) :=
  Rect.unit (s := srcS C h w) (chanOff v) (srcS 1 h w).size hv

theorem whole_inb (h w : Nat) : ∀ a, (![0, 0] : Fin 2 → Nat) a + (matS h w).size a ≤ (matS h w).size a := by
  intro a; fin_cases a <;> exact Nat.le_of_eq (Nat.zero_add _)

abbrev wholeR (h w : Nat) : Rect (matS h w) := Rect.unit (s := matS h w) ![0, 0] (matS h w).size (whole_inb h w)

theorem out_inb {D H W c : Nat} (hc : c < D) : ∀ a, (![0, c, 0, 0] : Fin 4 → Nat) a + (srcS 1 H W).size a ≤ (srcS D H W).size a := by
  intro a; fin_cases a
  · exact Nat.le_refl 1
  · exact hc
  · exact Nat.le_of_eq (Nat.zero_add _)
  · exact Nat.le_of_eq (Nat.zero_add _)

/-- The rectangle of output channel `c`. -/
abbrev outR {D c : Nat} (H W : Nat) (hc : c < D) : Rect (srcS D H W) :=
  Rect.unit (s := srcS D H W) ![0, c, 0, 0] (srcS 1 H W).size (out_inb hc)

/-- The plain product of two matrices. -/
abbrev dot2 {m k n : Nat} (wf : DotDims.WF (matS m k) (matS k n) (matS m n) [1] [0] [0] [1] [] []) : DotDims (matS m k) (matS k n) (matS m n) where
  lhsContracting := [1]
  rhsContracting := [0]
  lhsNonContracting := [0]
  rhsNonContracting := [1]
  lhsBatch := []
  rhsBatch := []
  wf := wf

abbrev P (F : FTy → Type) (nD : Nat) (τ : Topo) (sig : RefSig) (Λ : Labels) := Prog (TpuEff nD τ sig (Elt F) Λ .tc) PUnit

/-- The last `n` of the `T` gathered channels, in order, and how many there are, given to `K`. -/
def gather {T C h w : Nat} (tab : Memref sig .tc .smem (tabS T) .i32) (src : Memref sig .tc .vmem (srcS C h w) .f32)
    (hpos : 0 < (srcS 1 h w).numel) (hcast : (srcS 1 h w).ShapeCasts (matS h w)) (n : Nat) :
    n ≤ T → ((xs : List (FVec F (matS h w) .f32)) → xs.length = n → P F nD τ sig Λ) → P F nD τ sig Λ :=
  Nat.rec (motive := fun n => n ≤ T → ((xs : List (FVec F (matS h w) .f32)) → xs.length = n → P F nD τ sig Λ) → P F nD τ sig Λ)
    (fun _ K => K [] rfl)
    (fun n ih hn K =>
      .op (.load tab (wordR (T := T) (k := T - (n + 1)) (by omega)).toLoadRect (View.loadsAt_rect (View.loads_smem_one rfl one_numel))) fun f =>
      .op (.assume (InSource C h w (f (Shape.Idx.first (one_numel.symm ▸ Nat.one_pos)))) (InSource.dec C h w _)) fun hv =>
      .op (.load src (chanR hv.down).toLoadRect (View.loadsAt_vmem hpos)) fun x =>
      ih (by omega) fun xs hxs => K (shapeCast (matS h w) x hcast :: xs) (congrArg (· + 1) hxs)) n

/-- The last `n` of the `T` output channels: each the left factor times its rows of `z`. -/
def stores {T h D N H W : Nat} (b : Nat) (hb : b + T ≤ D) (lhs : Memref sig .tc .vmem (matS H h) .f32)
    (out : Memref sig .tc .vmem (srcS D H W) .f32) (hpos : 0 < (matS H h).numel) (hposo : 0 < (srcS 1 H W).numel)
    (hsl : ∀ c, c < T → (matS N W).Slices ![h * c, 0] (matS h W))
    (wf : DotDims.WF (matS H h) (matS h W) (matS H W) [1] [0] [0] [1] [] [])
    (hcast : (matS H W).ShapeCasts (srcS 1 H W)) (z : FVec F (matS N W) .f32) (n : Nat) :
    n ≤ T → P F nD τ sig Λ → P F nD τ sig Λ :=
  Nat.rec (motive := fun n => n ≤ T → P F nD τ sig Λ → P F nD τ sig Λ)
    (fun _ K => K)
    (fun n ih hn K =>
      .op (.load lhs (wholeR H h).toLoadRect (View.loadsAt_vmem hpos)) fun u =>
      .op (.load out (outR (D := D) (c := b + (T - (n + 1))) H W (by omega)).toLoadRect (View.loadsAt_vmem hposo)) fun _ =>
      .op (.store out (outR (D := D) (c := b + (T - (n + 1))) H W (by omega))
        (shapeCast (srcS 1 H W) (matmul (dot2 wf) none u
          (extractStridedSlice (matS h W) ![h * (T - (n + 1)), 0] z (hsl _ (by omega))) (constant (matS H W) .f32 0x00000000#32)) hcast)
        Finset.univ (View.stores_vmem_bits_univ hposo rfl) (.inl rfl)) fun _ =>
      ih (by omega) K) n

/-- One source's half of the body. -/
def half {T C h w D N H W : Nat} (tab : Memref sig .tc .smem (tabS T) .i32) (src : Memref sig .tc .vmem (srcS C h w) .f32)
    (lhs : Memref sig .tc .vmem (matS H h) .f32) (rhs : Memref sig .tc .vmem (matS w W) .f32)
    (out : Memref sig .tc .vmem (srcS D H W) .f32) (b : Nat) (hb : b + T ≤ D)
    (hsrc : 0 < (srcS 1 h w).numel) (hcast : (srcS 1 h w).ShapeCasts (matS h w))
    (hcat : ∀ xs : List (FVec F (matS h w) .f32), xs.length = T →
      Shape.Concatenates ((xs.map fun x => (⟨matS h w, x⟩ : (s : Shape) × (s.Idx → F .f32))).map (·.1)) (matS N w) 0)
    (hrhs : 0 < (matS w W).numel) (hcr : (matS w W).ShapeCasts (matS w W))
    (wfr : DotDims.WF (matS N w) (matS w W) (matS N W) [1] [0] [0] [1] [] [])
    (hlhs : 0 < (matS H h).numel) (hout : 0 < (srcS 1 H W).numel)
    (hsl : ∀ c, c < T → (matS N W).Slices ![h * c, 0] (matS h W))
    (wfl : DotDims.WF (matS H h) (matS h W) (matS H W) [1] [0] [0] [1] [] [])
    (hco : (matS H W).ShapeCasts (srcS 1 H W)) (K : P F nD τ sig Λ) : P F nD τ sig Λ :=
  gather tab src hsrc hcast T (Nat.le_refl T) fun xs hxs =>
  .op (.load rhs (wholeR w W).toLoadRect (View.loadsAt_vmem hrhs)) fun y =>
  stores b hb lhs out hlhs hout hsl wfl hco
    (matmul (dot2 wfr) none
      (concatenate (matS N w) 0 (xs.map fun x => ⟨matS h w, x⟩) (hcat xs hxs))
      (shapeCast (matS w W) y hcr) (constant (matS N W) .f32 0x00000000#32)) T (Nat.le_refl T) K

end Cert.Loops

end
-- ==== Proof.LoopTriples.lean ====
/- The triples of the loops of `BodyLoops`, by induction on the number of steps left: with every word of the table naming a
   channel of the source, the gathered channels are the source's, and every output channel is stored once. -/
module

public import proofs.«01_k».proof.Proof.BodyLoops
public import Idealize.ShloMosaic.Lib.Pipeline.FrameBody
public import Idealize.ShloMosaic.Lib.Pipeline.Value
public import Idealize.ShloMosaic.Lib.Pointwise
public import Idealize.ShloMosaic.Lib.Tactic

@[expose] public section

noncomputable section

namespace Cert.Loops

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable {nD : Nat} {τ : Topo} {sig : RefSig} {Λ : Labels}
variable {Ix : Type} [DecidableEq Ix] {Name : Type} [DecidableEq Name] {U : Type} [URA U] {Lvl : Type} [Preorder Lvl]

local notation "𝕄" => MT nD τ sig Ix (Elt F) Name U Lvl

/-- Word `k` of a table. -/
def word {T : Nat} (W : (tabS T).Idx → BitVec 32) (k : Fin T) : BitVec 32 :=
  W ((wordR k.isLt).emb (Shape.Idx.first (one_numel.symm ▸ Nat.one_pos)))

/-- The channel of the source that word `k` names. -/
def plane {T C h w : Nat} (X : FVec F (srcS C h w) .f32) (W : (tabS T).Idx → BitVec 32) (hin : ∀ k, InSource C h w (word W k))
    (hcast : (srcS 1 h w).ShapeCasts (matS h w)) (k : Fin T) : FVec F (matS h w) .f32 :=
  shapeCast (matS h w) (fun x => X ((chanR (hin k)).emb x)) hcast

/-- What is stored in output channel `k`. -/
def payload {T h N H W : Nat} (hsl : ∀ c, c < T → (matS N W).Slices ![h * c, 0] (matS h W))
    (wf : DotDims.WF (matS H h) (matS h W) (matS H W) [1] [0] [0] [1] [] [])
    (hcast : (matS H W).ShapeCasts (srcS 1 H W)) (u : FVec F (matS H h) .f32) (z : FVec F (matS N W) .f32) (k : Fin T) :
    FVec F (srcS 1 H W) .f32 :=
  shapeCast (srcS 1 H W) (matmul (dot2 wf) none u
    (extractStridedSlice (matS h W) ![h * k.val, 0] z (hsl _ k.isLt)) (constant (matS H W) .f32 0x00000000#32)) hcast

/-- Where it is stored. -/
theorem chan_lt {D T b : Nat} (hb : b + T ≤ D) (k : Fin T) : b + k.val < D := by omega

theorem whole_emb_eq {h w : Nat} (x : (matS h w).Idx) : (wholeR h w).emb x = x := by
  funext a
  match a with
  | ⟨0, h0⟩ => exact Fin.ext (show 0 + 1 * (x ⟨0, h0⟩).val = (x ⟨0, h0⟩).val by omega)
  | ⟨1, h1⟩ => exact Fin.ext (show 0 + 1 * (x ⟨1, h1⟩).val = (x ⟨1, h1⟩).val by omega)

/-- The gathered channels stacked and multiplied from the right. -/
def stack {T C h w N W : Nat} (X : FVec F (srcS C h w) .f32) (V : (tabS T).Idx → BitVec 32) (hin : ∀ k, InSource C h w (word V k))
    (hcast : (srcS 1 h w).ShapeCasts (matS h w))
    (hcat : ∀ xs : List (FVec F (matS h w) .f32), xs.length = T →
      Shape.Concatenates ((xs.map fun x => (⟨matS h w, x⟩ : (s : Shape) × (s.Idx → F .f32))).map (·.1)) (matS N w) 0)
    (hcr : (matS w W).ShapeCasts (matS w W))
    (wfr : DotDims.WF (matS N w) (matS w W) (matS N W) [1] [0] [0] [1] [] []) (y : FVec F (matS w W) .f32) : FVec F (matS N W) .f32 :=
  matmul (dot2 wfr) none
    (concatenate (matS N w) 0 ((List.ofFn (plane X V hin hcast)).map fun x => ⟨matS h w, x⟩) (hcat _ List.length_ofFn))
    (shapeCast (matS w W) y hcr) (constant (matS N W) .f32 0x00000000#32)

theorem whole_read_eq {h w : Nat} (M : Memref sig .tc .vmem (matS h w) .f32) (f : M.view.ty.Contents (Elt F)) :
    M.view.readAt (Elt F) (wholeR h w).toLoadRect f = M.view.read (Elt F) f :=
  funext fun x => congrArg (M.view.read (Elt F) f) (whole_emb_eq x)

/-- `H` is one of the separate parts of `A`. -/
def Has (A H : sProp 𝕄) : Prop := ∃ R, A ⊣⊢ R ∗ H

theorem Has.here {H B : sProp 𝕄} : Has iprop(H ∗ B) H := ⟨B, Laws.sep_comm⟩

theorem Has.there {C B H : sProp 𝕄} (h : Has B H) : Has iprop(C ∗ B) H :=
  h.elim fun R h => ⟨iprop(C ∗ R), (Laws.sep_congr_right h).trans Laws.sep_assoc.symm⟩

open Idealize.ShloMosaic.Pointwise in
/-- An array of channels, the first `T` given by `pa` and the others by `pb`. -/
def joined {T T' D H W : Nat} (hD : T + T' = D) (pa : Fin T → FVec F (srcS 1 H W) .f32) (pb : Fin T' → FVec F (srcS 1 H W) .f32) :
    FVec F (srcS D H W) .f32 := fun i =>
  if h : (i 1).val < T then pa ⟨(i 1).val, h⟩ (ix4 0 0 (i 2) (i 3))
  else pb ⟨(i 1).val - T, by have : (i 1).val < D := (i 1).isLt; omega⟩ (ix4 0 0 (i 2) (i 3))

open Idealize.ShloMosaic.Pointwise in
theorem out_emb_eq {D H W c : Nat} (hc : c < D) (x : (srcS 1 H W).Idx) : (outR H W hc).emb x = ix4 0 ⟨c, hc⟩ (x 2) (x 3) := by
  funext a
  match a with
  | ⟨0, h0⟩ => exact Fin.ext (show 0 + 1 * (x ⟨0, h0⟩).val = 0 by have : (x ⟨0, h0⟩).val < 1 := (x ⟨0, h0⟩).isLt; omega)
  | ⟨1, h1⟩ => exact Fin.ext (show c + 1 * (x ⟨1, h1⟩).val = c by have : (x ⟨1, h1⟩).val < 1 := (x ⟨1, h1⟩).isLt; omega)
  | ⟨2, h2⟩ => exact Fin.ext (show 0 + 1 * (x ⟨2, h2⟩).val = (x ⟨2, h2⟩).val by omega)
  | ⟨3, h3⟩ => exact Fin.ext (show 0 + 1 * (x ⟨3, h3⟩).val = (x ⟨3, h3⟩).val by omega)

open Idealize.ShloMosaic.Pointwise in
theorem one_chan {H W : Nat} (x : (srcS 1 H W).Idx) : x = ix4 0 0 (x 2) (x 3) := by
  funext a
  match a with
  | ⟨0, h0⟩ => exact Fin.ext (show (x ⟨0, h0⟩).val = 0 by have : (x ⟨0, h0⟩).val < 1 := (x ⟨0, h0⟩).isLt; omega)
  | ⟨1, h1⟩ => exact Fin.ext (show (x ⟨1, h1⟩).val = 0 by have : (x ⟨1, h1⟩).val < 1 := (x ⟨1, h1⟩).isLt; omega)
  | ⟨2, _⟩ => rfl
  | ⟨3, _⟩ => rfl

open Idealize.ShloMosaic.Pointwise in
/-- Stores of every channel, each once, leave the channels stored. -/
theorem read_joined {T T' D H W : Nat} (hD : T + T' = D) (pa : Fin T → FVec F (srcS 1 H W) .f32) (pb : Fin T' → FVec F (srcS 1 H W) .f32)
    (v : View sig .tc .vmem (srcS D H W) .f32) (f : v.ty.Contents (Elt F)) (L : List (View.Piece (Elt F) (srcS D H W) .f32))
    (ha : 0 + T ≤ D) (hb : T + T' ≤ D)
    (hL : ∀ p, p ∈ L ↔ (∃ k : Fin T, p = ⟨outR H W (chan_lt ha k), pa k⟩) ∨ ∃ k : Fin T', p = ⟨outR H W (chan_lt hb k), pb k⟩) :
    v.read (Elt F) (v.writes (Elt F) f L) = joined hD pa pb := by
  refine funext fun y => View.read_writes_apply_of_pieces v f _ L (fun p hp x => ?_) y ?_
  · rcases (hL p).1 hp with ⟨k, rfl⟩ | ⟨k, rfl⟩
    · show pa k x = joined hD pa pb ((outR H W (chan_lt ha k)).emb x)
      rw [out_emb_eq]
      have hk : (⟨0 + k.val, chan_lt ha k⟩ : Fin D).val < T := by have := k.isLt; show 0 + k.val < T; omega
      refine Eq.trans ?_ (dif_pos hk).symm
      refine (congrArg (pa k) (one_chan x)).trans (congrArg (fun j => pa j _) (Fin.ext (show k.val = 0 + k.val by omega)))
    · show pb k x = joined hD pa pb ((outR H W (chan_lt hb k)).emb x)
      rw [out_emb_eq]
      have hk : ¬(⟨T + k.val, chan_lt hb k⟩ : Fin D).val < T := by show ¬T + k.val < T; omega
      refine Eq.trans ?_ (dif_neg hk).symm
      refine (congrArg (pb k) (one_chan x)).trans (congrArg (fun j => pb j _) (Fin.ext (show k.val = T + k.val - T by omega)))
  · have mem : ∀ (c : Nat) (hc : c < D), c = (y 1).val → y ∈ (outR H W hc).set := fun c hc e => by
      have : y = (outR H W hc).emb (ix4 0 0 (y 2) (y 3)) := by
        rw [out_emb_eq]
        funext a
        match a with
        | ⟨0, h0⟩ => exact Fin.ext (show (y ⟨0, h0⟩).val = 0 by have : (y ⟨0, h0⟩).val < 1 := (y ⟨0, h0⟩).isLt; omega)
        | ⟨1, _⟩ => exact Fin.ext e.symm
        | ⟨2, _⟩ => rfl
        | ⟨3, _⟩ => rfl
      rw [this, ← Rect.map_emb_univ]
      exact Finset.mem_map_of_mem _ (Finset.mem_univ _)
    have hy : (y 1).val < D := (y 1).isLt
    by_cases h : (y 1).val < T
    · exact ⟨_, (hL _).2 (Or.inl ⟨⟨(y 1).val, h⟩, rfl⟩), mem _ (chan_lt ha ⟨(y 1).val, h⟩) (by show 0 + (y 1).val = (y 1).val; omega)⟩
    · exact ⟨_, (hL _).2 (Or.inr ⟨⟨(y 1).val - T, by omega⟩, rfl⟩), mem _ (chan_lt hb ⟨(y 1).val - T, by omega⟩) (by show T + ((y 1).val - T) = (y 1).val; omega)⟩

variable {defs : Defs nD τ sig (Elt F) Λ} (𝒱 : Variants) (c : Dev nD) (E : Set Name)

theorem wp_gather {T C h w : Nat} {tab : Memref sig .tc .smem (tabS T) .i32} {src : Memref sig .tc .vmem (srcS C h w) .f32}
    {hpos : 0 < (srcS 1 h w).numel} {hcast : (srcS 1 h w).ShapeCasts (matS h w)} {q q' : PosShare TreeShare}
    {ft : Buf (Elt F) (tab.view.loc (c : Thread nD τ))} {fs : Buf (Elt F) (src.view.loc (c : Thread nD τ))}
    (hin : ∀ k, InSource C h w (word (tab.view.read (Elt F) ft) k)) {A R R' : sProp 𝕄}
    (ht : A ⊣⊢ R ∗ (tab.view.loc (c : Thread nD τ) ↦{q} ft)) (hs : A ⊣⊢ R' ∗ (src.view.loc (c : Thread nD τ) ↦{q'} fs)) (Q : PUnit → sProp 𝕄) :
    ∀ (n : Nat) (hn : n ≤ T) (K : (xs : List (FVec F (matS h w) .f32)) → xs.length = n → P F nD τ sig Λ),
      (∀ xs hxs, xs = List.ofFn (fun i : Fin n => plane (src.view.read (Elt F) fs) _ hin hcast ⟨T - n + i.val, by omega⟩) →
        A ⊢ wp frame (wpE defs 𝒱 (c : Thread nD τ) none) E (K xs hxs) Q) →
      A ⊢ wp frame (wpE defs 𝒱 (c : Thread nD τ) none) E (gather tab src hpos hcast n hn K) Q
  | 0, _, K, hK => hK [] rfl (by simp)
  | n + 1, hn, K, hK =>
    exec_load 𝒱 (c : Thread nD τ) none E ht (Finset.subset_univ _) _ rfl <|
    exec_assume 𝒱 (c : Thread nD τ) none E (InSource.dec C h w _) _ (hin ⟨T - (n + 1), by omega⟩) <|
    exec_load 𝒱 (c : Thread nD τ) none E hs (Finset.subset_univ _) _ rfl <|
    wp_gather (hpos := hpos) hin ht hs Q n (by omega) _ fun xs hxs e => hK _ _ (by
      refine Eq.trans ?_ List.ofFn_succ.symm
      refine congrArg₂ List.cons rfl (e.trans (congrArg List.ofFn (funext fun i => congrArg _ (Fin.ext ?_))))
      show T - n + i.val = T - (n + 1) + (i.val + 1)
      omega)

theorem wp_stores {T h D N H W : Nat} {b : Nat} {hb : b + T ≤ D} {lhs : Memref sig .tc .vmem (matS H h) .f32}
    {out : Memref sig .tc .vmem (srcS D H W) .f32} {hpos : 0 < (matS H h).numel} {hposo : 0 < (srcS 1 H W).numel}
    {hsl : ∀ c, c < T → (matS N W).Slices ![h * c, 0] (matS h W)}
    {wf : DotDims.WF (matS H h) (matS h W) (matS H W) [1] [0] [0] [1] [] []}
    {hcast : (matS H W).ShapeCasts (srcS 1 H W)} {z : FVec F (matS N W) .f32} {q : PosShare TreeShare}
    {fl : Buf (Elt F) (lhs.view.loc (c : Thread nD τ))} {fo : Buf (Elt F) (out.view.loc (c : Thread nD τ))}
    {A R' : List (View.Piece (Elt F) (srcS D H W) .f32) → sProp 𝕄} {R : sProp 𝕄}
    (hl : ∀ L, A L ⊣⊢ R' L ∗ (lhs.view.loc (c : Thread nD τ) ↦{q} fl))
    (ho : ∀ L, A L ⊣⊢ R ∗ (out.view.loc (c : Thread nD τ) ↦{fullShare} out.view.writes (Elt F) fo L)) (Q : PUnit → sProp 𝕄) (K : P F nD τ sig Λ) :
    ∀ (n : Nat) (hn : n ≤ T) (L : List (View.Piece (Elt F) (srcS D H W) .f32)),
      (∀ L' : List (View.Piece (Elt F) (srcS D H W) .f32),
        (∀ p, p ∈ L' ↔ p ∈ L ∨ ∃ k : Fin T, T - n ≤ k.val
          ∧ p = ⟨outR H W (chan_lt hb k), payload hsl wf hcast (lhs.view.read (Elt F) fl) z k⟩) →
        A L' ⊢ wp frame (wpE defs 𝒱 (c : Thread nD τ) none) E K Q) →
      A L ⊢ wp frame (wpE defs 𝒱 (c : Thread nD τ) none) E (stores b hb lhs out hpos hposo hsl wf hcast z n hn K) Q
  | 0, _, L, hK => hK L fun p => ⟨Or.inl, fun h => h.elim id fun ⟨k, hk, _⟩ => absurd k.isLt (by omega)⟩
  | n + 1, hn, L, hK =>
    exec_load 𝒱 (c : Thread nD τ) none E (hl L) (Finset.subset_univ _) _ (whole_read_eq lhs fl) <|
    exec_load 𝒱 (c : Thread nD τ) none E (ho L) (Finset.subset_univ _) _ rfl <|
    exec_store 𝒱 (c : Thread nD τ) none E (ho L) (Finset.subset_univ _) _ rfl (ho _) <|
    wp_stores (hb := hb) (hpos := hpos) (hposo := hposo) hl ho Q K n (by omega) _ fun L' hL' => hK L' fun p => (hL' p).trans (by
      rw [List.mem_cons]
      constructor
      · rintro ((rfl | h) | ⟨k, hk, rfl⟩)
        · exact Or.inr ⟨⟨T - (n + 1), by omega⟩, le_refl _, rfl⟩
        · exact Or.inl h
        · exact Or.inr ⟨k, by omega, rfl⟩
      · rintro (h | ⟨k, hk, rfl⟩)
        · exact Or.inl (Or.inr h)
        · by_cases hk' : T - n ≤ k.val
          · exact Or.inr ⟨k, hk', rfl⟩
          · obtain ⟨k, hk0⟩ := k
            obtain rfl : k = T - (n + 1) := by have : T - (n + 1) ≤ k := hk; have : ¬T - n ≤ k := hk'; omega
            exact Or.inl (Or.inl rfl))

theorem wp_half {T C h w D N H W : Nat} {tab : Memref sig .tc .smem (tabS T) .i32} {src : Memref sig .tc .vmem (srcS C h w) .f32}
    {lhs : Memref sig .tc .vmem (matS H h) .f32} {rhs : Memref sig .tc .vmem (matS w W) .f32}
    {out : Memref sig .tc .vmem (srcS D H W) .f32} {b : Nat} {hb : b + T ≤ D}
    {hsrc : 0 < (srcS 1 h w).numel} {hcast : (srcS 1 h w).ShapeCasts (matS h w)}
    {hcat : ∀ xs : List (FVec F (matS h w) .f32), xs.length = T →
      Shape.Concatenates ((xs.map fun x => (⟨matS h w, x⟩ : (s : Shape) × (s.Idx → F .f32))).map (·.1)) (matS N w) 0}
    {hrhs : 0 < (matS w W).numel} {hcr : (matS w W).ShapeCasts (matS w W)}
    {wfr : DotDims.WF (matS N w) (matS w W) (matS N W) [1] [0] [0] [1] [] []}
    {hlhs : 0 < (matS H h).numel} {hout : 0 < (srcS 1 H W).numel}
    {hsl : ∀ c, c < T → (matS N W).Slices ![h * c, 0] (matS h W)}
    {wfl : DotDims.WF (matS H h) (matS h W) (matS H W) [1] [0] [0] [1] [] []}
    {hco : (matS H W).ShapeCasts (srcS 1 H W)} {qt qs ql qr : PosShare TreeShare}
    {ft : Buf (Elt F) (tab.view.loc (c : Thread nD τ))} {fs : Buf (Elt F) (src.view.loc (c : Thread nD τ))}
    {fl : Buf (Elt F) (lhs.view.loc (c : Thread nD τ))} {fr : Buf (Elt F) (rhs.view.loc (c : Thread nD τ))}
    {fo : Buf (Elt F) (out.view.loc (c : Thread nD τ))}
    (hin : ∀ k, InSource C h w (word (tab.view.read (Elt F) ft) k))
    {A : List (View.Piece (Elt F) (srcS D H W) .f32) → sProp 𝕄} {R : sProp 𝕄}
    (ht : ∀ L, Has (A L) (tab.view.loc (c : Thread nD τ) ↦{qt} ft))
    (hs : ∀ L, Has (A L) (src.view.loc (c : Thread nD τ) ↦{qs} fs))
    (hl : ∀ L, Has (A L) (lhs.view.loc (c : Thread nD τ) ↦{ql} fl))
    (hr : ∀ L, Has (A L) (rhs.view.loc (c : Thread nD τ) ↦{qr} fr))
    (ho : ∀ L, A L ⊣⊢ R ∗ (out.view.loc (c : Thread nD τ) ↦{fullShare} out.view.writes (Elt F) fo L)) (Q : PUnit → sProp 𝕄) (K : P F nD τ sig Λ)
    (L : List (View.Piece (Elt F) (srcS D H W) .f32))
    (hK : ∀ L' : List (View.Piece (Elt F) (srcS D H W) .f32),
      (∀ p, p ∈ L' ↔ p ∈ L ∨ ∃ k : Fin T, p = ⟨outR H W (chan_lt hb k), payload hsl wfl hco (lhs.view.read (Elt F) fl)
        (stack (src.view.read (Elt F) fs) _ hin hcast hcat hcr wfr (rhs.view.read (Elt F) fr)) k⟩) →
      A L' ⊢ wp frame (wpE defs 𝒱 (c : Thread nD τ) none) E K Q) :
    A L ⊢ wp frame (wpE defs 𝒱 (c : Thread nD τ) none) E
      (half tab src lhs rhs out b hb hsrc hcast hcat hrhs hcr wfr hlhs hout hsl wfl hco K) Q :=
  wp_gather (hpos := hsrc) 𝒱 c E hin (ht L).choose_spec (hs L).choose_spec Q T (Nat.le_refl T) _ fun xs hxs e => by
    have e' : xs = List.ofFn (plane (src.view.read (Elt F) fs) _ hin hcast) :=
      e.trans (congrArg List.ofFn (funext fun i => congrArg _ (Fin.ext (show T - T + i.val = i.val by omega))))
    subst e'
    exact exec_load 𝒱 (c : Thread nD τ) none E (hr L).choose_spec (Finset.subset_univ _) _ (whole_read_eq rhs fr) <|
      wp_stores (hb := hb) (hpos := hlhs) (hposo := hout) 𝒱 c E (fun L => (hl L).choose_spec) ho Q K T (Nat.le_refl T) L fun L' hL' => hK L' fun p => (hL' p).trans
        (or_congr Iff.rfl (exists_congr fun k => ⟨fun h => h.2, fun h => ⟨by omega, h⟩⟩))

end Cert.Loops

end
-- ==== Proof.Kernel2IdealBody.lean ====
/- The printed body of the second kernel is the two halves of `BodyLoops`, one after the other. -/
module

public import proofs.«01_k».proof.Proof.BodyLoops
public import proofs.«01_k».proof.Proof.Gen.Kernel2Ideal.Launch
public import Idealize.ShloMosaic.Lib.Tactic

@[expose] public section

set_option maxRecDepth 100000

noncomputable section

namespace Cert.Kernel2Ideal.Gen

open Idealize.ShloMosaic Idealize.SL.Sem Cert.Loops

variable {F : FTy → Type} [FloatOps F]

theorem cat_a (xs : List (FVec F (matS 32 32) .f32)) (h : xs.length = 256) :
    Shape.Concatenates ((xs.map fun x => (⟨matS 32 32, x⟩ : (s : Shape) × (s.Idx → F .f32))).map (·.1)) (matS 8192 32) 0 := by
  have e : (xs.map fun x => (⟨matS 32 32, x⟩ : (s : Shape) × (s.Idx → F .f32))).map (·.1) = List.replicate 256 (matS 32 32) := by
    rw [List.map_map]; exact List.eq_replicate_iff.2 ⟨by simp [h], by simp⟩
  rw [e]; decide

theorem cat_b (xs : List (FVec F (matS 16 16) .f32)) (h : xs.length = 128) :
    Shape.Concatenates ((xs.map fun x => (⟨matS 16 16, x⟩ : (s : Shape) × (s.Idx → F .f32))).map (·.1)) (matS 2048 16) 0 := by
  have e : (xs.map fun x => (⟨matS 16 16, x⟩ : (s : Shape) × (s.Idx → F .f32))).map (·.1) = List.replicate 128 (matS 16 16) := by
    rw [List.map_map]; exact List.eq_replicate_iff.2 ⟨by simp [h], by simp⟩
  rw [e]; decide

theorem sl_a (c : Nat) (hc : c < 256) : (matS 8192 64).Slices ![32 * c, 0] (matS 32 64) :=
  ⟨rfl, fun a => by fin_cases a <;> simp [Fin.cast] <;> omega⟩

theorem sl_b (c : Nat) (hc : c < 128) : (matS 2048 64).Slices ![16 * c, 0] (matS 16 64) :=
  ⟨rfl, fun a => by fin_cases a <;> simp [Fin.cast] <;> omega⟩

variable [Facts]
open Facts Shapes1.Facts₀ Shapes2.Facts₀

/-- The body, over the two halves. -/
abbrev loops (arg1 : Memref sig .tc .smem S256 .i32) (arg2 : Memref sig .tc .smem S128 .i32) (arg3 : Memref sig .tc .vmem S64x32 .f32) (arg4 : Memref sig .tc .vmem S32x64 .f32) (arg5 : Memref sig .tc .vmem S64x16 .f32) (arg6 : Memref sig .tc .vmem S16x64 .f32) (arg7 : Memref sig .tc .vmem S1x512x32x32 .f32) (arg8 : Memref sig .tc .vmem S1x256x16x16 .f32) (arg9 : Memref sig .tc .vmem S1x384x64x64 .f32) :
    Prog (TpuEff nD τ sig (Elt F) Λ₀ .tc) PUnit :=
  half (T := 256) (C := 512) (h := 32) (w := 32) (D := 384) (N := 8192) (H := 64) (W := 64) arg1 arg7 arg3 arg4 arg9 0 (by omega)
    h_S1x1x32x32 shapeCasts_S1x1x32x32_S32x32 cat_a h_S32x64 shapeCasts_S32x64_S32x64 dot_S8192x32_S32x64_S8192x64_1_0_0_1_n_n_wf
    h_S64x32 h_S1x1x64x64 sl_a dot_S64x32_S32x64_S64x64_1_0_0_1_n_n_wf shapeCasts_S64x64_S1x1x64x64 <|
  half (T := 128) (C := 256) (h := 16) (w := 16) (D := 384) (N := 2048) (H := 64) (W := 64) arg2 arg8 arg5 arg6 arg9 256 (by omega)
    h_S1x1x16x16 shapeCasts_S1x1x16x16_S16x16 cat_b h_S16x64 shapeCasts_S16x64_S16x64 dot_S2048x16_S16x64_S2048x64_1_0_0_1_n_n_wf
    h_S64x16 h_S1x1x64x64 sl_b dot_S64x16_S16x64_S64x64_1_0_0_1_n_n_wf shapeCasts_S64x64_S1x1x64x64 (.ret ⟨⟩)

theorem body_eq (i : grid0.Coords) (arg1 : Memref sig .tc .smem S256 .i32) (harg1 : arg1.IsWhole) (arg2 : Memref sig .tc .smem S128 .i32) (harg2 : arg2.IsWhole) (arg3 : Memref sig .tc .vmem S64x32 .f32) (harg3 : arg3.IsWhole) (arg4 : Memref sig .tc .vmem S32x64 .f32) (harg4 : arg4.IsWhole) (arg5 : Memref sig .tc .vmem S64x16 .f32) (harg5 : arg5.IsWhole) (arg6 : Memref sig .tc .vmem S16x64 .f32) (harg6 : arg6.IsWhole) (arg7 : Memref sig .tc .vmem S1x512x32x32 .f32) (harg7 : arg7.IsWhole) (arg8 : Memref sig .tc .vmem S1x256x16x16 .f32) (harg8 : arg8.IsWhole) (arg9 : Memref sig .tc .vmem S1x384x64x64 .f32) (harg9 : arg9.IsWhole) :
    cc0__block2_kernel (F := F) i arg1 harg1 arg2 harg2 arg3 harg3 arg4 harg4 arg5 harg5 arg6 harg6 arg7 harg7 arg8 harg8 arg9 harg9
      = loops arg1 arg2 arg3 arg4 arg5 arg6 arg7 arg8 arg9 := by
  sl_kernel_rfl

end Cert.Kernel2Ideal.Gen

end
-- ==== Proof.Kernel2IdealLaunched.lean ====
/- The launch of the second kernel's pipeline (Kernel2Ideal): at each grid point the body leaves, in the output's staging buffer, each
   gathered channel between its two matrices. The triple of the body is that of its two loops (`LoopTriples`), under the
   condition that every word of the two tables names a channel (`Words`). The launch set-up is the first kernel's, for
   seven windows. -/
module

public import proofs.«01_k».proof.Proof.LoopTriples
public import proofs.«01_k».proof.Proof.Kernel2IdealBody
public import proofs.«01_k».proof.Proof.Gen.Kernel2Ideal.Launch
public import Idealize.ShloMosaic.Lib.Pipeline.FrameBody
public import Idealize.ShloMosaic.Lib.Ring
public import Idealize.ShloMosaic.Lib.Tactic
public import Idealize.ShloMosaic.Lib.Claim

@[expose] public section

set_option maxRecDepth 16384

noncomputable section

namespace Cert.Kernel2Ideal.Gen

open Idealize.ShloMosaic Idealize.ShloMosaic.TcCoe Idealize.ShloMosaic.Tactic Cert.Loops
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the host operations. -/
abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0] (by simp only [List.Forall]; exact hostOps0_sub)
    (by simp only [List.Forall]; exact hostOps0_fresh) main_chain

/-- No host operation writes an argument. -/
theorem V_arg (b : Ref sig .tc) (h0 : b ≠ main_cst) (h1 : b ≠ main_cst_0) (h2 : b ≠ main_cst_1) (h3 : b ≠ main_cst_2)
    (h4 : b ≠ main_v0) (h5 : b ≠ main_v1) (c : Dev nD) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5⟩))

theorem V_main_arg0 (c : Dev nD) : V m c main_arg0 = m ((c : Thread nD τ).loc main_arg0) :=
  V_arg m main_arg0 (by decide) (by decide) (by decide) (by decide) (by decide) (by decide) c

theorem V_main_arg1 (c : Dev nD) : V m c main_arg1 = m ((c : Thread nD τ).loc main_arg1) :=
  V_arg m main_arg1 (by decide) (by decide) (by decide) (by decide) (by decide) (by decide) c

theorem V_main_arg2 (c : Dev nD) : V m c main_arg2 = m ((c : Thread nD τ).loc main_arg2) :=
  V_arg m main_arg2 (by decide) (by decide) (by decide) (by decide) (by decide) (by decide) c

theorem V_main_arg3 (c : Dev nD) : V m c main_arg3 = m ((c : Thread nD τ).loc main_arg3) :=
  V_arg m main_arg3 (by decide) (by decide) (by decide) (by decide) (by decide) (by decide) c

/-! ## The prefetched tables -/

/-- The tables' contents when the region is entered. -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

abbrev Ok : Prop := ok0 (F := F) (tbl m)

abbrev adm (hO : Ok m) : (pcfg0 (F := F)).Adm := ⟨tbl m, hO⟩
abbrev cfgM (hO : Ok m) : Pipeline.Cfg sig Λ₀ := cfg0 (adm m hO)

abbrev tbM0_0 : Memref sig .tc .smem S256 .i32 := Memref.whole main_arg2
abbrev htbM0_0 : tbM0_0.IsWhole := Memref.isWhole_whole _
abbrev tbM0_1 : Memref sig .tc .smem S128 .i32 := Memref.whole main_arg3
abbrev htbM0_1 : tbM0_1.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- Every word of the two tables names a channel. -/
structure Words (t0 : S256.Idx → BitVec 32) (t1 : S128.Idx → BitVec 32) : Prop where
  a : ∀ k, InSource 512 32 32 (word (T := 256) t0 k)
  b : ∀ k, InSource 256 16 16 (word (T := 128) t1 k)

/-! ## The body -/

open Facts Shapes1.Facts₀ Shapes2.Facts₀

/-- Output channel `k` of the first 256. -/
def chan_a (t0 : S256.Idx → BitVec 32) (h : ∀ k, InSource 512 32 32 (word (T := 256) t0 k)) (u : Vec F S64x32 .f32) (y : Vec F S32x64 .f32)
    (x : Vec F S1x512x32x32 .f32) (k : Fin 256) : FVec F (srcS 1 64 64) .f32 :=
  payload sl_a dot_S64x32_S32x64_S64x64_1_0_0_1_n_n_wf shapeCasts_S64x64_S1x1x64x64 u
    (stack x t0 h shapeCasts_S1x1x32x32_S32x32 cat_a shapeCasts_S32x64_S32x64 dot_S8192x32_S32x64_S8192x64_1_0_0_1_n_n_wf y) k

/-- Output channel `k` of the other 128. -/
def chan_b (t1 : S128.Idx → BitVec 32) (h : ∀ k, InSource 256 16 16 (word (T := 128) t1 k)) (u : Vec F S64x16 .f32) (y : Vec F S16x64 .f32)
    (x : Vec F S1x256x16x16 .f32) (k : Fin 128) : FVec F (srcS 1 64 64) .f32 :=
  payload sl_b dot_S64x16_S16x64_S64x64_1_0_0_1_n_n_wf shapeCasts_S64x64_S1x1x64x64 u
    (stack x t1 h shapeCasts_S1x1x16x16_S16x16 cat_b shapeCasts_S16x64_S16x64 dot_S2048x16_S16x64_S2048x64_1_0_0_1_n_n_wf y) k

/-- What the body leaves in the output's staging buffer. -/
def outV {t0 : S256.Idx → BitVec 32} {t1 : S128.Idx → BitVec 32} (h : Words t0 t1) (x0 : Vec F S64x32 .f32) (x1 : Vec F S32x64 .f32) (x2 : Vec F S64x16 .f32) (x3 : Vec F S16x64 .f32) (x4 : Vec F S1x512x32x32 .f32) (x5 : Vec F S1x256x16x16 .f32) : Vec F S1x384x64x64 .f32 :=
  joined (T := 256) (T' := 128) rfl (chan_a t0 h.a x0 x1 x4) (chan_b t1 h.b x2 x3 x5)

/-- The two loops, from the buffers: every store is that of one output channel. -/
theorem loops_run (c : Dev nD) (arg1 : Memref sig .tc .smem S256 .i32) (arg2 : Memref sig .tc .smem S128 .i32) (arg3 : Memref sig .tc .vmem S64x32 .f32) (arg4 : Memref sig .tc .vmem S32x64 .f32) (arg5 : Memref sig .tc .vmem S64x16 .f32) (arg6 : Memref sig .tc .vmem S16x64 .f32) (arg7 : Memref sig .tc .vmem S1x512x32x32 .f32) (arg8 : Memref sig .tc .vmem S1x256x16x16 .f32) (arg9 : Memref sig .tc .vmem S1x384x64x64 .f32)
    (t0 : TbBuf0 (F := F) c arg1) (t1 : TbBuf0 (F := F) c arg2) (f0 : Buf (Elt F) (arg3.view.loc (c : Thread nD τ))) (f1 : Buf (Elt F) (arg4.view.loc (c : Thread nD τ))) (f2 : Buf (Elt F) (arg5.view.loc (c : Thread nD τ))) (f3 : Buf (Elt F) (arg6.view.loc (c : Thread nD τ))) (f4 : Buf (Elt F) (arg7.view.loc (c : Thread nD τ))) (f5 : Buf (Elt F) (arg8.view.loc (c : Thread nD τ))) (f6 : Buf (Elt F) (arg9.view.loc (c : Thread nD τ)))
    (h : Words (arg1.view.read (Elt F) t0) (arg2.view.read (Elt F) t1)) (Z : sProp 𝕄) (E : Set ℕ) (K : PUnit → sProp 𝕄)
    (hK : ∀ f, arg9.view.read (Elt F) f = outV h (arg3.view.read (Elt F) f0) (arg4.view.read (Elt F) f1) (arg5.view.read (Elt F) f2) (arg6.view.read (Elt F) f3) (arg7.view.read (Elt F) f4) (arg8.view.read (Elt F) f5) →
      iprop((arg9.view.loc (c : Thread nD τ) ↦{fullShare} f) ∗ tbPt0 c arg1 t0 ∗ tbPt0 c arg2 t1 ∗ (arg3.view.loc (c : Thread nD τ) ↦{fullShare} f0) ∗ (arg4.view.loc (c : Thread nD τ) ↦{fullShare} f1) ∗ (arg5.view.loc (c : Thread nD τ) ↦{fullShare} f2) ∗ (arg6.view.loc (c : Thread nD τ) ↦{fullShare} f3) ∗ (arg7.view.loc (c : Thread nD τ) ↦{fullShare} f4) ∗ (arg8.view.loc (c : Thread nD τ) ↦{fullShare} f5) ∗ Z) ⊢ K ⟨⟩) :
    iprop((arg9.view.loc (c : Thread nD τ) ↦{fullShare} arg9.view.writes (Elt F) f6 []) ∗ tbPt0 c arg1 t0 ∗ tbPt0 c arg2 t1 ∗ (arg3.view.loc (c : Thread nD τ) ↦{fullShare} f0) ∗ (arg4.view.loc (c : Thread nD τ) ↦{fullShare} f1) ∗ (arg5.view.loc (c : Thread nD τ) ↦{fullShare} f2) ∗ (arg6.view.loc (c : Thread nD τ) ↦{fullShare} f3) ∗ (arg7.view.loc (c : Thread nD τ) ↦{fullShare} f4) ∗ (arg8.view.loc (c : Thread nD τ) ↦{fullShare} f5) ∗ Z)
      ⊢ wp frame (wpE (defs₀ (F := F)) Variants.none c none) E (loops arg1 arg2 arg3 arg4 arg5 arg6 arg7 arg8 arg9) K := by
  let A : List (View.Piece (Elt F) (srcS 384 64 64) .f32) → sProp 𝕄 := fun L =>
    iprop((arg9.view.loc (c : Thread nD τ) ↦{fullShare} arg9.view.writes (Elt F) f6 L) ∗ tbPt0 c arg1 t0 ∗ tbPt0 c arg2 t1 ∗ (arg3.view.loc (c : Thread nD τ) ↦{fullShare} f0) ∗ (arg4.view.loc (c : Thread nD τ) ↦{fullShare} f1) ∗ (arg5.view.loc (c : Thread nD τ) ↦{fullShare} f2) ∗ (arg6.view.loc (c : Thread nD τ) ↦{fullShare} f3) ∗ (arg7.view.loc (c : Thread nD τ) ↦{fullShare} f4) ∗ (arg8.view.loc (c : Thread nD τ) ↦{fullShare} f5) ∗ Z)
  show A [] ⊢ _
  refine wp_half Variants.none c E (A := A) h.a (fun L => Has.there Has.here) (fun L => Has.there (Has.there (Has.there (Has.there (Has.there (Has.there (Has.there Has.here))))))) (fun L => Has.there (Has.there (Has.there Has.here))) (fun L => Has.there (Has.there (Has.there (Has.there Has.here)))) (fun L => sep_comm) K _ [] fun L₁ hL₁ => ?_
  refine wp_half Variants.none c E (A := A) h.b (fun L => Has.there (Has.there Has.here)) (fun L => Has.there (Has.there (Has.there (Has.there (Has.there (Has.there (Has.there (Has.there Has.here)))))))) (fun L => Has.there (Has.there (Has.there (Has.there (Has.there Has.here))))) (fun L => Has.there (Has.there (Has.there (Has.there (Has.there (Has.there Has.here)))))) (fun L => sep_comm) K _ L₁ fun L₂ hL₂ => ?_
  refine exec_ret Variants.none (c : Thread nD τ) none E _ (hK _ ?_)
  refine read_joined (T := 256) (T' := 128) rfl (chan_a _ h.a _ _ _) (chan_b _ h.b _ _ _) arg9.view f6 L₂ (by omega) (by omega) fun p => (hL₂ p).trans (or_congr ((hL₁ p).trans ?_) Iff.rfl)
  exact ⟨fun h => h.elim (fun h => absurd h List.not_mem_nil) id, Or.inr⟩

/-- The triple of the body. -/
theorem kernel_run (c : Dev nD) (i : grid0.Coords) (arg3 : Memref sig .tc .vmem S64x32 .f32) (harg3 : arg3.IsWhole) (arg4 : Memref sig .tc .vmem S32x64 .f32) (harg4 : arg4.IsWhole) (arg5 : Memref sig .tc .vmem S64x16 .f32) (harg5 : arg5.IsWhole) (arg6 : Memref sig .tc .vmem S16x64 .f32) (harg6 : arg6.IsWhole) (arg7 : Memref sig .tc .vmem S1x512x32x32 .f32) (harg7 : arg7.IsWhole) (arg8 : Memref sig .tc .vmem S1x256x16x16 .f32) (harg8 : arg8.IsWhole) (arg9 : Memref sig .tc .vmem S1x384x64x64 .f32) (harg9 : arg9.IsWhole) (x0 : Vec F S64x32 .f32) (x1 : Vec F S32x64 .f32) (x2 : Vec F S64x16 .f32) (x3 : Vec F S16x64 .f32) (x4 : Vec F S1x512x32x32 .f32) (x5 : Vec F S1x256x16x16 .f32)
    (t0 : TbBuf0 (F := F) c tbM0_0) (t1 : TbBuf0 (F := F) c tbM0_1) (h : Words t0 t1) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ tbPt0 c tbM0_0 t0 ∗ tbPt0 c tbM0_1 t1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (outV h x0 x1 x2 x3 x4 x5) ∗ tbPt0 c tbM0_0 t0 ∗ tbPt0 c tbM0_1 t1) -∗ K ⟨⟩))
      ⊢ wp frame (wpE (defs₀ (F := F)) Variants.none c none) E (cc0__block2_kernel i tbM0_0 htbM0_0 tbM0_1 htbM0_1 arg3 harg3 arg4 harg4 arg5 harg5 arg6 harg6 arg7 harg7 arg8 harg8 arg9 harg9) K := by
  rw [body_eq]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, HT0, HT1, Hk⟩
  rw [harg3.set_eq_univ]; rw [harg4.set_eq_univ]; rw [harg5.set_eq_univ]; rw [harg6.set_eq_univ]; rw [harg7.set_eq_univ]; rw [harg8.set_eq_univ]; rw [harg9.set_eq_univ]
  subst hf0 hf1 hf2 hf3 hf4 hf5
  iapply loops_run c tbM0_0 tbM0_1 arg3 arg4 arg5 arg6 arg7 arg8 arg9 t0 t1 f0 f1 f2 f3 f4 f5 f6 h (iprop(iprop((∃ f, ⌜arg3.view.read (Elt F) f = arg3.view.read (Elt F) f0⌝ ∗ (arg3.view.loc (c : Thread nD τ) ↦[Finset.univ]{fullShare} f)) ∗ (∃ f, ⌜arg4.view.read (Elt F) f = arg4.view.read (Elt F) f1⌝ ∗ (arg4.view.loc (c : Thread nD τ) ↦[Finset.univ]{fullShare} f)) ∗ (∃ f, ⌜arg5.view.read (Elt F) f = arg5.view.read (Elt F) f2⌝ ∗ (arg5.view.loc (c : Thread nD τ) ↦[Finset.univ]{fullShare} f)) ∗ (∃ f, ⌜arg6.view.read (Elt F) f = arg6.view.read (Elt F) f3⌝ ∗ (arg6.view.loc (c : Thread nD τ) ↦[Finset.univ]{fullShare} f)) ∗ (∃ f, ⌜arg7.view.read (Elt F) f = arg7.view.read (Elt F) f4⌝ ∗ (arg7.view.loc (c : Thread nD τ) ↦[Finset.univ]{fullShare} f)) ∗ (∃ f, ⌜arg8.view.read (Elt F) f = arg8.view.read (Elt F) f5⌝ ∗ (arg8.view.loc (c : Thread nD τ) ↦[Finset.univ]{fullShare} f)) ∗ (∃ f, ⌜arg9.view.read (Elt F) f = outV h (arg3.view.read (Elt F) f0) (arg4.view.read (Elt F) f1) (arg5.view.read (Elt F) f2) (arg6.view.read (Elt F) f3) (arg7.view.read (Elt F) f4) (arg8.view.read (Elt F) f5)⌝ ∗ (arg9.view.loc (c : Thread nD τ) ↦[Finset.univ]{fullShare} f)) ∗ tbPt0 c tbM0_0 t0 ∗ tbPt0 c tbM0_1 t1) -∗ K ⟨⟩)) E K (fun f hf => by
    iintro ⟨H6, HT0, HT1, H0, H1, H2, H3, H4, H5, Hk⟩
    iapply Hk
    isplitl [H0]
    · iexists f0; isplitr; ipureintro; rfl; iexact H0
    isplitl [H1]
    · iexists f1; isplitr; ipureintro; rfl; iexact H1
    isplitl [H2]
    · iexists f2; isplitr; ipureintro; rfl; iexact H2
    isplitl [H3]
    · iexists f3; isplitr; ipureintro; rfl; iexact H3
    isplitl [H4]
    · iexists f4; isplitr; ipureintro; rfl; iexact H4
    isplitl [H5]
    · iexists f5; isplitr; ipureintro; rfl; iexact H5
    isplitl [H6]
    · iexists f; isplitr; ipureintro; exact hf; iexact H6
    isplitl [HT0]; · iexact HT0
    iexact HT1)
  isplitl [H6]; · iexact H6
  isplitl [HT0]; · iexact HT0
  isplitl [HT1]; · iexact HT1
  isplitl [H0]; · iexact H0
  isplitl [H1]; · iexact H1
  isplitl [H2]; · iexact H2
  isplitl [H3]; · iexact H3
  isplitl [H4]; · iexact H4
  isplitl [H5]; · iexact H5
  iexact Hk

/-! ## The windows' blocks and the staging buffers -/

/-- Window `w`'s block at point `t`, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem liveAt0_0 (hO : Ok m) : ∀ t : Fin (cfgM m hO).N, (cfgM m hO).idle 0 (grid0.coords t) = false := fun _ => rfl
abbrev ms0_0 (hO : Ok m) (t : Fin (cfgM m hO).N) : Memref sig .tc .vmem S64x32 .f32 := spec0_0.stage ((cfgM m hO).slots t 0)
abbrev hs0_0 (hO : Ok m) (t : Fin (cfgM m hO).N) : (ms0_0 m hO t).IsWhole := hstage0_0 (((cfgM m hO).slots t 0).cast nbuf0_0)

theorem liveAt0_1 (hO : Ok m) : ∀ t : Fin (cfgM m hO).N, (cfgM m hO).idle 1 (grid0.coords t) = false := fun _ => rfl
abbrev ms0_1 (hO : Ok m) (t : Fin (cfgM m hO).N) : Memref sig .tc .vmem S32x64 .f32 := spec0_1.stage ((cfgM m hO).slots t 1)
abbrev hs0_1 (hO : Ok m) (t : Fin (cfgM m hO).N) : (ms0_1 m hO t).IsWhole := hstage0_1 (((cfgM m hO).slots t 1).cast nbuf0_1)

theorem liveAt0_2 (hO : Ok m) : ∀ t : Fin (cfgM m hO).N, (cfgM m hO).idle 2 (grid0.coords t) = false := fun _ => rfl
abbrev ms0_2 (hO : Ok m) (t : Fin (cfgM m hO).N) : Memref sig .tc .vmem S64x16 .f32 := spec0_2.stage ((cfgM m hO).slots t 2)
abbrev hs0_2 (hO : Ok m) (t : Fin (cfgM m hO).N) : (ms0_2 m hO t).IsWhole := hstage0_2 (((cfgM m hO).slots t 2).cast nbuf0_2)

theorem liveAt0_3 (hO : Ok m) : ∀ t : Fin (cfgM m hO).N, (cfgM m hO).idle 3 (grid0.coords t) = false := fun _ => rfl
abbrev ms0_3 (hO : Ok m) (t : Fin (cfgM m hO).N) : Memref sig .tc .vmem S16x64 .f32 := spec0_3.stage ((cfgM m hO).slots t 3)
abbrev hs0_3 (hO : Ok m) (t : Fin (cfgM m hO).N) : (ms0_3 m hO t).IsWhole := hstage0_3 (((cfgM m hO).slots t 3).cast nbuf0_3)

theorem liveAt0_4 (hO : Ok m) : ∀ t : Fin (cfgM m hO).N, (cfgM m hO).idle 4 (grid0.coords t) = false := fun _ => rfl
abbrev ms0_4 (hO : Ok m) (t : Fin (cfgM m hO).N) : Memref sig .tc .vmem S1x512x32x32 .f32 := spec0_4.stage ((cfgM m hO).slots t 4)
abbrev hs0_4 (hO : Ok m) (t : Fin (cfgM m hO).N) : (ms0_4 m hO t).IsWhole := hstage0_4 (((cfgM m hO).slots t 4).cast nbuf0_4)

theorem liveAt0_5 (hO : Ok m) : ∀ t : Fin (cfgM m hO).N, (cfgM m hO).idle 5 (grid0.coords t) = false := fun _ => rfl
abbrev ms0_5 (hO : Ok m) (t : Fin (cfgM m hO).N) : Memref sig .tc .vmem S1x256x16x16 .f32 := spec0_5.stage ((cfgM m hO).slots t 5)
abbrev hs0_5 (hO : Ok m) (t : Fin (cfgM m hO).N) : (ms0_5 m hO t).IsWhole := hstage0_5 (((cfgM m hO).slots t 5).cast nbuf0_5)

theorem liveAt0_6 (hO : Ok m) : ∀ t : Fin (cfgM m hO).N, (cfgM m hO).idle 6 (grid0.coords t) = false := fun _ => rfl
abbrev ms0_6 (hO : Ok m) (t : Fin (cfgM m hO).N) : Memref sig .tc .vmem S1x384x64x64 .f32 := spec0_6.stage ((cfgM m hO).slots t 6)
abbrev hs0_6 (hO : Ok m) (t : Fin (cfgM m hO).N) : (ms0_6 m hO t).IsWhole := hstage0_6 (((cfgM m hO).slots t 6).cast nbuf0_6)

/-- The body at point `t`, on what the pipeline calls it with. -/
abbrev bodyAt0 (hO : Ok m) (t : Fin (cfgM m hO).N) : Prog (TpuEff nD τ sig (Elt F) Λ₀ .tc) PUnit :=
  cc0__block2_kernel (grid0.coords t) tbM0_0 htbM0_0 tbM0_1 htbM0_1 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t)

/-! ## The pipeline's proof data -/

/-- What the output's staging buffer holds after the body at point `t`. -/
def outsAt0 (hO : Ok m) (hW : Words (tbl m 0) (tbl m 1)) (c : Dev nD) (t : Fin (cfgM m hO).N) : Vec F S1x384x64x64 .f32 :=
  outV hW (iblk m hO c 0 t) (iblk m hO c 1 t) (iblk m hO c 2 t) (iblk m hO c 3 t) (iblk m hO c 4 t) (iblk m hO c 5 t)

def dats (hO : Ok m) (hW : Words (tbl m 0) (tbl m 1)) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => outsAt0 m hO hW c t
    | ⟨_ + 7, h⟩ => absurd h (Nat.not_lt.2 (Nat.le_add_left _ _))
  Φ _ := iprop(Pipeline.ΦA spec0 c ∗ Pipeline.ΦT pre0 (tbl m) c)
  q w := fullShare
  owed _ := 0

variable (hO : Ok m) (hW : Words (tbl m 0) (tbl m 1))

theorem A_eq (c : Dev nD) (w : Fin (cfgM m hO).W) : (dats m hO hW 0 c).A w = V m c (Pipeline.arrRef spec0 w) := by
  dsimp only [dats]

theorem after0_0 (c : Dev nD) (t : Fin (cfgM m hO).N) : (dats m hO hW 0 c).after 0 t = iblk m hO c 0 t := by dsimp only [dats]; try rfl

theorem after0_1 (c : Dev nD) (t : Fin (cfgM m hO).N) : (dats m hO hW 0 c).after 1 t = iblk m hO c 1 t := by dsimp only [dats]; try rfl

theorem after0_2 (c : Dev nD) (t : Fin (cfgM m hO).N) : (dats m hO hW 0 c).after 2 t = iblk m hO c 2 t := by dsimp only [dats]; try rfl

theorem after0_3 (c : Dev nD) (t : Fin (cfgM m hO).N) : (dats m hO hW 0 c).after 3 t = iblk m hO c 3 t := by dsimp only [dats]; try rfl

theorem after0_4 (c : Dev nD) (t : Fin (cfgM m hO).N) : (dats m hO hW 0 c).after 4 t = iblk m hO c 4 t := by dsimp only [dats]; try rfl

theorem after0_5 (c : Dev nD) (t : Fin (cfgM m hO).N) : (dats m hO hW 0 c).after 5 t = iblk m hO c 5 t := by dsimp only [dats]; try rfl

theorem after0_6 (c : Dev nD) (t : Fin (cfgM m hO).N) : (dats m hO hW 0 c).after 6 t = outsAt0 m hO hW c t := by dsimp only [dats]; try rfl

theorem before0_0 (c : Dev nD) (t : Fin (cfgM m hO).N) (d) : (dats m hO hW 0 c).before 0 t d = iblk m hO c 0 t :=
  before0_0_of m hO (dats m hO hW 0 c) (A_eq m hO hW c 0) (after0_0 m hO hW c) t d

theorem before0_1 (c : Dev nD) (t : Fin (cfgM m hO).N) (d) : (dats m hO hW 0 c).before 1 t d = iblk m hO c 1 t :=
  before0_1_of m hO (dats m hO hW 0 c) (A_eq m hO hW c 1) (after0_1 m hO hW c) t d

theorem before0_2 (c : Dev nD) (t : Fin (cfgM m hO).N) (d) : (dats m hO hW 0 c).before 2 t d = iblk m hO c 2 t :=
  before0_2_of m hO (dats m hO hW 0 c) (A_eq m hO hW c 2) (after0_2 m hO hW c) t d

theorem before0_3 (c : Dev nD) (t : Fin (cfgM m hO).N) (d) : (dats m hO hW 0 c).before 3 t d = iblk m hO c 3 t :=
  before0_3_of m hO (dats m hO hW 0 c) (A_eq m hO hW c 3) (after0_3 m hO hW c) t d

theorem before0_4 (c : Dev nD) (t : Fin (cfgM m hO).N) (d) : (dats m hO hW 0 c).before 4 t d = iblk m hO c 4 t :=
  before0_4_of m hO (dats m hO hW 0 c) (A_eq m hO hW c 4) (after0_4 m hO hW c) t d

theorem before0_5 (c : Dev nD) (t : Fin (cfgM m hO).N) (d) : (dats m hO hW 0 c).before 5 t d = iblk m hO c 5 t :=
  before0_5_of m hO (dats m hO hW 0 c) (A_eq m hO hW c 5) (after0_5 m hO hW c) t d

/-! ## The body's obligation -/

def bodyPre (c : Dev nD) (t : Fin (cfgM m hO).N) : sProp 𝕄 :=
  iprop((dats m hO hW 0 c).Φ t.castSucc ∗ (dats m hO hW 0 c).owesAt () t.castSucc
    ∗ (∃ d, owns (c : Thread nD τ) (ms0_0 m hO t) fullShare ((dats m hO hW 0 c).before 0 t d))
    ∗ (∃ d, owns (c : Thread nD τ) (ms0_1 m hO t) fullShare ((dats m hO hW 0 c).before 1 t d))
    ∗ (∃ d, owns (c : Thread nD τ) (ms0_2 m hO t) fullShare ((dats m hO hW 0 c).before 2 t d))
    ∗ (∃ d, owns (c : Thread nD τ) (ms0_3 m hO t) fullShare ((dats m hO hW 0 c).before 3 t d))
    ∗ (∃ d, owns (c : Thread nD τ) (ms0_4 m hO t) fullShare ((dats m hO hW 0 c).before 4 t d))
    ∗ (∃ d, owns (c : Thread nD τ) (ms0_5 m hO t) fullShare ((dats m hO hW 0 c).before 5 t d))
    ∗ (∃ d, owns (c : Thread nD τ) (ms0_6 m hO t) fullShare ((dats m hO hW 0 c).before 6 t d)))

def bodyPost (c : Dev nD) (t : Fin (cfgM m hO).N) : sProp 𝕄 :=
  iprop((dats m hO hW 0 c).Φ t.succ ∗ (dats m hO hW 0 c).owesAt () t.succ
    ∗ (dats m hO hW 0 c).leavesExact 0 t
    ∗ (dats m hO hW 0 c).leavesExact 1 t
    ∗ (dats m hO hW 0 c).leavesExact 2 t
    ∗ (dats m hO hW 0 c).leavesExact 3 t
    ∗ (dats m hO hW 0 c).leavesExact 4 t
    ∗ (dats m hO hW 0 c).leavesExact 5 t
    ∗ (dats m hO hW 0 c).leavesExact 6 t)

theorem sound_body (c : Dev nD) (t : Fin (cfgM m hO).N) :
    bodyPre m hO hW c t ⊢ wp frame (wpE (defs₀ (F := F)) Variants.none c none) Set.univ (bodyAt0 m hO t) (fun _ => bodyPost m hO hW c t) := by
  unfold bodyPre bodyPost bodyAt0
  simp only [before0_0, before0_1, before0_2, before0_3, before0_4, before0_5]
  rw [show (dats m hO hW 0 c).Φ t.succ = (dats m hO hW 0 c).Φ t.castSucc from rfl,
    show (dats m hO hW 0 c).owesAt () t.succ = (dats m hO hW 0 c).owesAt () t.castSucc from rfl]
  rw [show (dats m hO hW 0 c).Φ t.castSucc = iprop(Pipeline.ΦA spec0 c ∗ Pipeline.ΦT pre0 (tbl m) c) from rfl, PhiT0_eq]
  rw [show (dats m hO hW 0 c).leavesExact 0 t = owns (c : Thread nD τ) (ms0_0 m hO t) fullShare ((dats m hO hW 0 c).after 0 t) from by
    unfold Dat.leavesExact; rw [liveAt0_0 m hO t]; try rfl, after0_0]
  rw [show (dats m hO hW 0 c).leavesExact 1 t = owns (c : Thread nD τ) (ms0_1 m hO t) fullShare ((dats m hO hW 0 c).after 1 t) from by
    unfold Dat.leavesExact; rw [liveAt0_1 m hO t]; try rfl, after0_1]
  rw [show (dats m hO hW 0 c).leavesExact 2 t = owns (c : Thread nD τ) (ms0_2 m hO t) fullShare ((dats m hO hW 0 c).after 2 t) from by
    unfold Dat.leavesExact; rw [liveAt0_2 m hO t]; try rfl, after0_2]
  rw [show (dats m hO hW 0 c).leavesExact 3 t = owns (c : Thread nD τ) (ms0_3 m hO t) fullShare ((dats m hO hW 0 c).after 3 t) from by
    unfold Dat.leavesExact; rw [liveAt0_3 m hO t]; try rfl, after0_3]
  rw [show (dats m hO hW 0 c).leavesExact 4 t = owns (c : Thread nD τ) (ms0_4 m hO t) fullShare ((dats m hO hW 0 c).after 4 t) from by
    unfold Dat.leavesExact; rw [liveAt0_4 m hO t]; try rfl, after0_4]
  rw [show (dats m hO hW 0 c).leavesExact 5 t = owns (c : Thread nD τ) (ms0_5 m hO t) fullShare ((dats m hO hW 0 c).after 5 t) from by
    unfold Dat.leavesExact; rw [liveAt0_5 m hO t]; try rfl, after0_5]
  rw [show (dats m hO hW 0 c).leavesExact 6 t = owns (c : Thread nD τ) (ms0_6 m hO t) fullShare ((dats m hO hW 0 c).after 6 t) from by
    unfold Dat.leavesExact; rw [liveAt0_6 m hO t]; try rfl, after0_6]
  unfold outsAt0
  iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩⟩
  iapply (kernel_run c (grid0.coords t) _ _ _ _ _ _ _ _ _ _ _ _ _ _ (iblk m hO c 0 t) (iblk m hO c 1 t) (iblk m hO c 2 t) (iblk m hO c 3 t) (iblk m hO c 4 t) (iblk m hO c 5 t) (tbl m 0) (tbl m 1) hW Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HT0]; · iexact HT0
  isplitl [HT1]; · iexact HT1
  iintro ⟨H0, H1, H2, H3, H4, H5, H6, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin (cfgM m hO).N) :
    defs₀ (F := F) .tc (cfgM m hO).body ((cfgM m hO).bodyArgs t ((cfgM m hO).slots t)) = bodyAt0 m hO t := by
  unfold defs₀; rw [Defs.onTc_tc]

theorem body_obligation (c : Dev nD) : BodyObligation (dats (F := F) m hO hW 0 c) (defs₀ (F := F)) Variants.none () Set.univ := fun t => by
  rw [bigSep_W0, bigSep_W0, defs₀_row m hO]
  exact triple_restated (sound_body m hO hW c t) rfl .rfl fun _ => .rfl

/-! ## The run and the frame -/

set_option backward.isDefEq.respectTransparency.types false in
theorem run_main_quiescent : θ_run defs (onTc (τ := τ) (main (F := F))) (s₀ m ρ) (fun r => (Pipeline.FramePost (Pipeline.pin pcfgs fun _ => adm m hO) (dats m hO hW) 0 (V m)) r ∧ r.2.sem = fun _ => 0) :=
  Pipeline.θ_run_frameP (Q' := _) pcfgs (fun _ => adm m hO) (dats m hO hW) (0 : Fin 1) launch0 defs₀ Variants.none m ρ main
    (hbody := fun c => (body_obligation m hO hW c).loose) (hshare := fun _ w => by unfold Dat.share; split <;> rfl)
    (howed := fun _ _ => rfl) (V := V m) (hmain := hmain m Variants.none) (hA := A_eq m hO hW) (hpf := V_pre m)
    (hΦ := fun _ _ => rfl)

theorem run_main : θ_run defs (onTc (τ := τ) (main (F := F))) (s₀ m ρ) (Pipeline.FramePost (Pipeline.pin pcfgs fun _ => adm m hO) (dats m hO hW) 0 (V m)) :=
  (θ_run defs _ _).mono (fun _ h => h.1) (run_main_quiescent m ρ hO hW)

include hO hW in
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 4).trans (((dats m hO hW 0 c).arrAt_in 4 rfl _).trans ((A_eq m hO hW c 4).trans (V_main_arg0 m c))),
      ((h c).1 5).trans (((dats m hO hW 0 c).arrAt_in 5 rfl _).trans ((A_eq m hO hW c 5).trans (V_main_arg1 m c))),
      ((h c).2 main_arg2 (by decide : main_arg2 ∈ Pipeline.restRefs sig spec0)).trans (V_main_arg2 m c),
      ((h c).2 main_arg3 (by decide : main_arg3 ∈ Pipeline.restRefs sig spec0)).trans (V_main_arg3 m c)⟩) (run_main m ρ hO hW)

include hO hW in
/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ hO hW) ((θ_run defs _ _).mono (fun _ h => h.2) (run_main_quiescent m ρ hO hW))

end Cert.Kernel2Ideal.Gen

end
-- ==== Proof.LoopValue.lean ====
/- What the loops of `BodyLoops` store, at an index: the channel a word names, between the two matrices. -/
module

public import proofs.«01_k».proof.Proof.LoopTriples
public import Idealize.ShloMosaic.Lib.MatmulPlain

@[expose] public section

noncomputable section

namespace Cert.Loops

open Idealize.ShloMosaic Idealize.ShloMosaic.TcCoe

/-- A plain product from zero, at an index. -/
theorem product_apply {m k n : ℕ} (wf : DotDims.WF (matS m k) (matS k n) (matS m n) [1] [0] [0] [1] [] [])
    (a : FVec Ideal (matS m k) .f32) (b : FVec Ideal (matS k n) .f32) (r : Fin m) (c : Fin n) :
    matmul (F := Ideal) (dot2 wf) none a b (constant (matS m n) .f32 0x00000000#32) (ix2 r c) = ∑ l : Fin k, a (ix2 r l) * b (ix2 l c) := by
  refine (Ideal.matmul_plain_apply none a b _ r c).trans ?_
  have z : (constant (F := Ideal) (matS m n) .f32 0x00000000#32) (ix2 r c) = (0 : EReal) := Ideal.ofBits_zero .f32
  exact (congrArg (· + _) z).trans (zero_add _)

/-- The channel read, at an index. -/
theorem plane_apply {T C h w : ℕ} (X : FVec Ideal (srcS C h w) .f32) (V : (tabS T).Idx → BitVec 32) (hin : ∀ k, InSource C h w (word V k))
    (hcast) (k : Fin T) (hC : (word V k).toNat < C) (r : Fin h) (l : Fin w) :
    plane X V hin hcast k (ix2 r l) = X (ix4 0 ⟨(word V k).toNat, hC⟩ r l) := by
  unfold plane
  refine (shapeCast_apply _ hcast (ix2 r l) (ix4 0 0 r l) ?_).trans ?_
  · rw [Shape.rowMajor_val_four, Shape.rowMajor_val_two]
    show ((0 * 1 + 0) * h + r.val) * w + l.val = r.val * w + l.val
    simp
  · refine congrArg X (funext fun a => ?_)
    match a with
    | ⟨0, _⟩ => exact Fin.ext (show 0 + 1 * 0 = 0 by omega)
    | ⟨1, _⟩ => exact Fin.ext (show (word V k).toNat + 1 * 0 = (word V k).toNat by omega)
    | ⟨2, _⟩ => exact Fin.ext (show 0 + 1 * r.val = r.val by omega)
    | ⟨3, _⟩ => exact Fin.ext (show 0 + 1 * l.val = l.val by omega)

/-- Equal pieces stacked, at row `r` of piece `k`. -/
theorem stacked_apply {T h w N : ℕ} (f : Fin T → FVec Ideal (matS h w) .f32) (L : List ((s : Shape) × (s.Idx → Ideal .f32)))
    (hL : L = List.ofFn fun k => (⟨matS h w, f k⟩ : (s : Shape) × (s.Idx → Ideal .f32)))
    (hcat : Shape.Concatenates (L.map (·.1)) (matS N w) 0) (k : Fin T) (r : Fin h) (l : Fin w) (hr : h * k.val + r.val < N) :
    concatenate (matS N w) 0 L hcat (ix2 ⟨h * k.val + r.val, hr⟩ l) = f k (ix2 r l) := by
  subst hL
  refine concatenate_ofFn_apply 0 f hcat rfl h rfl _ k ?_ (ix2 r l) ?_ fun b hb => ?_
  · show (h * k.val + r.val) / h = k.val
    rw [Nat.mul_add_div (Nat.lt_of_le_of_lt (Nat.zero_le _) r.isLt), Nat.div_eq_of_lt r.isLt, add_zero]
  · show r.val = (h * k.val + r.val) % h
    rw [Nat.mul_add_mod, Nat.mod_eq_of_lt r.isLt]
  · match b with
    | ⟨0, _⟩ => exact absurd rfl hb
    | ⟨1, _⟩ => rfl

/-- What is stored in output channel `k`, at an index. -/
theorem payload_apply {T C h w N H W : ℕ} (hsl : ∀ c, c < T → (matS N W).Slices ![h * c, 0] (matS h W))
    (wf : DotDims.WF (matS H h) (matS h W) (matS H W) [1] [0] [0] [1] [] []) (hco : (matS H W).ShapeCasts (srcS 1 H W))
    (u : FVec Ideal (matS H h) .f32) (X : FVec Ideal (srcS C h w) .f32) (V : (tabS T).Idx → BitVec 32)
    (hin : ∀ k, InSource C h w (word V k)) (hcast) (hcat) (hcr)
    (wfr : DotDims.WF (matS N w) (matS w W) (matS N W) [1] [0] [0] [1] [] []) (v : FVec Ideal (matS w W) .f32)
    (k : Fin T) (hC : (word V k).toNat < C) (y : Fin H) (x : Fin W) :
    payload hsl wf hco u (stack X V hin hcast hcat hcr wfr v) k (ix4 0 0 y x)
      = ∑ r : Fin h, u (ix2 y r) * ∑ l : Fin w, X (ix4 0 ⟨(word V k).toNat, hC⟩ r l) * v (ix2 l x) := by
  unfold payload
  refine (shapeCast_apply _ hco (ix4 0 0 y x) (ix2 y x) ?_).trans ((product_apply wf u _ y x).trans ?_)
  · rw [Shape.rowMajor_val_four, Shape.rowMajor_val_two]
    show y.val * W + x.val = ((0 * 1 + 0) * H + y.val) * W + x.val
    simp
  refine Finset.sum_congr rfl fun r _ => congrArg (u (ix2 y r) * ·) ?_
  have hr : h * k.val + r.val < N := by
    have : h * k.val + h ≤ N := (hsl k.val k.isLt).2 0
    have := r.isLt
    omega
  have e : extractStridedSlice (matS h W) ![h * k.val, 0] (stack X V hin hcast hcat hcr wfr v) (hsl _ k.isLt) (ix2 r x)
      = stack X V hin hcast hcat hcr wfr v (ix2 ⟨h * k.val + r.val, hr⟩ x) := by
    refine congrArg (stack X V hin hcast hcat hcr wfr v) (funext fun a => ?_)
    match a with
    | ⟨0, _⟩ => rfl
    | ⟨1, _⟩ => exact Fin.ext (show 0 + x.val = x.val by omega)
  refine e.trans ?_
  unfold stack
  refine (product_apply wfr _ _ _ x).trans (Finset.sum_congr rfl fun l _ => ?_)
  rw [shapeCast_self]
  refine congrArg (· * v (ix2 l x)) ?_
  exact (stacked_apply (plane X V hin hcast) _ List.map_ofFn _ k r l hr).trans (plane_apply X V hin hcast k hC r l)

/-- A word that names a channel names it inside the source. -/
theorem inSource_of_lt {C h w : ℕ} {v : BitVec 32} (hv : v.toNat < C) : InSource C h w v := by
  intro a
  match a with
  | ⟨0, _⟩ => exact Nat.le_refl 1
  | ⟨1, _⟩ => exact (show v.toNat + 1 ≤ C from hv)
  | ⟨2, _⟩ => exact (show 0 + h ≤ h by omega)
  | ⟨3, _⟩ => exact (show 0 + w ≤ w by omega)

/-- The word at a position. -/
theorem word_eq {T : ℕ} (V : (tabS T).Idx → BitVec 32) (k : Fin T) : word V k = V (ix1 k) := by
  unfold word
  refine congrArg V (funext fun a => ?_)
  match a with
  | ⟨0, _⟩ => exact Fin.ext (show k.val + 1 * 0 = k.val by omega)

end Cert.Loops

end

end
-- ==== Proof.Kernel2Final.lean ====
/- The result array of the second kernel (Kernel2Ideal), at an index: the channel an index argument names between the two
   matrices of its scale. Each of the eight grid points writes one image. -/
module

public import Idealize.ShloMosaic.Lib.Pointwise
public import proofs.«01_k».proof.Proof.Kernel2IdealLaunched
public import proofs.«01_k».proof.Proof.LoopValue

@[expose] public section

set_option maxRecDepth 16384

noncomputable section

namespace Cert.Kernel2Ideal.Gen

open Idealize.ShloMosaic Idealize.ShloMosaic.TcCoe Idealize.ShloMosaic.StableHlo Cert.Loops
open Idealize.ShloMosaic.Pipeline (Dat)

variable (m : (ℓ : Loc nD τ sig) → Buf (Elt Ideal) ℓ)
variable (ρ : Dev nD → PrngReg)

/-! ## The matrices -/

/-- The matrices that interpolate the rows. -/
def rowA : FVec Ideal S64x32 .f32 := fun i => FloatOps.ofBits .f32 (lit0 (S64x32.rowMajor i))
def rowB : FVec Ideal S64x16 .f32 := fun i => FloatOps.ofBits .f32 (lit2 (S64x16.rowMajor i))

/-- The matrices that interpolate the columns. -/
def colA : FVec Ideal S32x64 .f32 := fun i => FloatOps.ofBits .f32 (lit1 (S64x32.rowMajor (ix2 (i 1) (i 0))))
def colB : FVec Ideal S16x64 .f32 := fun i => FloatOps.ofBits .f32 (lit3 (S64x16.rowMajor (ix2 (i 1) (i 0))))

theorem V_cst (c : Dev nD) : (V m c main_cst : FVec Ideal S64x32 .f32) = rowA := by
  unfold V
  simp only [hostOps0, List.flatten_cons, List.flatten_nil, List.append_nil, List.cons_append, List.nil_append]
  after_results_simp
  rfl

theorem V_cst_1 (c : Dev nD) : (V m c main_cst_1 : FVec Ideal S64x16 .f32) = rowB := by
  unfold V
  simp only [hostOps0, List.flatten_cons, List.flatten_nil, List.append_nil, List.cons_append, List.nil_append]
  after_results_simp
  rfl

theorem V_v0 (c : Dev nD) : (V m c main_v0 : FVec Ideal S32x64 .f32) = colA := by
  unfold V
  simp only [hostOps0, List.flatten_cons, List.flatten_nil, List.append_nil, List.cons_append, List.nil_append]
  after_results_simp
  funext i
  idx_vars i
  pointwise [colA]

theorem V_v1 (c : Dev nD) : (V m c main_v1 : FVec Ideal S16x64 .f32) = colB := by
  unfold V
  simp only [hostOps0, List.flatten_cons, List.flatten_nil, List.append_nil, List.cons_append, List.nil_append]
  after_results_simp
  funext i
  idx_vars i
  pointwise [colB]

/-! ## The arguments and the blocks -/

def array0 : FVec Ideal S8x512x32x32 .f32 := m (((0 : Dev nD) : Thread nD τ).loc main_arg0)
def array1 : FVec Ideal S8x256x16x16 .f32 := m (((0 : Dev nD) : Thread nD τ).loc main_arg1)
def word2 (k : Fin 256) : BitVec 32 := m (((0 : Dev nD) : Thread nD τ).loc main_arg2) (ix1 k)
def word3 (k : Fin 128) : BitVec 32 := m (((0 : Dev nD) : Thread nD τ).loc main_arg3) (ix1 k)

theorem table0 (k : Fin 256) : word (T := 256) (tbl m 0) k = word2 m k :=
  (word_eq _ k).trans (congrFun (V_main_arg2 m 0) (ix1 k))

theorem table1 (k : Fin 128) : word (T := 128) (tbl m 1) k = word3 m k :=
  (word_eq _ k).trans (congrFun (V_main_arg3 m 0) (ix1 k))

/-- Index arguments in range name channels. -/
theorem words (h2 : ∀ k, (word2 m k).toNat < 512) (h3 : ∀ k, (word3 m k).toNat < 256) : Words (tbl m 0) (tbl m 1) where
  a k := inSource_of_lt ((congrArg BitVec.toNat (table0 m k)).trans_lt (h2 k))
  b k := inSource_of_lt ((congrArg BitVec.toNat (table1 m k)).trans_lt (h3 k))

/-- The block of a constant is the whole constant. -/
theorem whole_emb {s : Shape} {ix : Fin s.rank → ℕ} (hix : ∀ a, ix a = 0) (e : s.Idx → s.Idx)
    (he : ∀ x a, (e x a).val = ix a * s.size a + (x a).val) (x : s.Idx) : e x = x :=
  funext fun a => Fin.ext ((he x a).trans (by rw [hix]; omega))

theorem block0 (hO : Ok m) (t : Fin (cfgM m hO).N) : (iblk m hO 0 0 t : FVec Ideal S64x32 .f32) = rowA := by
  rw [← V_cst m 0]
  exact funext fun x => congrArg (V m 0 main_cst) (whole_emb (s := S64x32) (ix := ((cfgM m hO).win 0).index t) (fun a => by fin_cases a <;> rfl)
      (((cfgM m hO).win 0).rect t).emb (fun x a => Pipeline.Window.rect_emb_val ((cfgM m hO).win 0) t x a (by rfl)) x)

theorem block1 (hO : Ok m) (t : Fin (cfgM m hO).N) : (iblk m hO 0 1 t : FVec Ideal S32x64 .f32) = colA := by
  rw [← V_v0 m 0]
  exact funext fun x => congrArg (V m 0 main_v0) (whole_emb (s := S32x64) (ix := ((cfgM m hO).win 1).index t) (fun a => by fin_cases a <;> rfl)
      (((cfgM m hO).win 1).rect t).emb (fun x a => Pipeline.Window.rect_emb_val ((cfgM m hO).win 1) t x a (by rfl)) x)

theorem block2 (hO : Ok m) (t : Fin (cfgM m hO).N) : (iblk m hO 0 2 t : FVec Ideal S64x16 .f32) = rowB := by
  rw [← V_cst_1 m 0]
  exact funext fun x => congrArg (V m 0 main_cst_1) (whole_emb (s := S64x16) (ix := ((cfgM m hO).win 2).index t) (fun a => by fin_cases a <;> rfl)
      (((cfgM m hO).win 2).rect t).emb (fun x a => Pipeline.Window.rect_emb_val ((cfgM m hO).win 2) t x a (by rfl)) x)

theorem block3 (hO : Ok m) (t : Fin (cfgM m hO).N) : (iblk m hO 0 3 t : FVec Ideal S16x64 .f32) = colB := by
  rw [← V_v1 m 0]
  exact funext fun x => congrArg (V m 0 main_v1) (whole_emb (s := S16x64) (ix := ((cfgM m hO).win 3).index t) (fun a => by fin_cases a <;> rfl)
      (((cfgM m hO).win 3).rect t).emb (fun x a => Pipeline.Window.rect_emb_val ((cfgM m hO).win 3) t x a (by rfl)) x)

/-- A grid point as an image. -/
abbrev image (t : Fin grid0.N) : Fin 8 := ⟨t.val, lt_of_lt_of_eq t.isLt N_0⟩

/-- A grid point as the index maps read it. -/
theorem point_word (t : Fin grid0.N) : (BitVec.ofNat 32 (grid0.coords t 0).val).toNat = t.val := by
  revert t; decide +kernel

/-- A block of one image, placed by the block index `(b, 0, 0, 0)`, at an index of the block. -/
theorem image_emb {n h w : ℕ} {ix : Fin 4 → ℕ} (b : Fin 8) (hix : ∀ a, ix a = (![b.val, 0, 0, 0] : Fin 4 → ℕ) a)
    (e : (srcS n h w).Idx → (⟨4, ![8, n, h, w]⟩ : Shape).Idx)
    (he : ∀ x (a : Fin 4), (e x a).val = ix a * (srcS n h w).size a + (x a).val) (x : (srcS n h w).Idx) :
    e x = ix4 b (x 1) (x 2) (x 3) := by
  have h0 : (x 0).val < 1 := (x 0).isLt
  funext a
  match a with
  | ⟨0, _⟩ => exact Fin.ext ((he x 0).trans (by rw [hix]; show b.val * 1 + (x 0).val = b.val; omega))
  | ⟨1, _⟩ => exact Fin.ext ((he x 1).trans (by rw [hix]; show 0 * n + (x 1).val = (x 1).val; omega))
  | ⟨2, _⟩ => exact Fin.ext ((he x 2).trans (by rw [hix]; show 0 * h + (x 2).val = (x 2).val; omega))
  | ⟨3, _⟩ => exact Fin.ext ((he x 3).trans (by rw [hix]; show 0 * w + (x 3).val = (x 3).val; omega))

theorem index4 (hO : Ok m) (t : Fin (cfgM m hO).N) : ∀ a : Fin 4, ((cfgM m hO).win 4).index t a = (![(image t).val, 0, 0, 0] : Fin 4 → ℕ) a
  | ⟨0, _⟩ => point_word t
  | ⟨1, _⟩ => rfl
  | ⟨2, _⟩ => rfl
  | ⟨3, _⟩ => rfl

theorem index5 (hO : Ok m) (t : Fin (cfgM m hO).N) : ∀ a : Fin 4, ((cfgM m hO).win 5).index t a = (![(image t).val, 0, 0, 0] : Fin 4 → ℕ) a
  | ⟨0, _⟩ => point_word t
  | ⟨1, _⟩ => rfl
  | ⟨2, _⟩ => rfl
  | ⟨3, _⟩ => rfl

theorem index6 (hO : Ok m) (t : Fin (cfgM m hO).N) : ∀ a : Fin 4, ((cfgM m hO).win 6).index t a = (![(image t).val, 0, 0, 0] : Fin 4 → ℕ) a
  | ⟨0, _⟩ => point_word t
  | ⟨1, _⟩ => rfl
  | ⟨2, _⟩ => rfl
  | ⟨3, _⟩ => rfl

/-- The image of the first array at a grid point. -/
theorem block4 (hO : Ok m) (t : Fin (cfgM m hO).N) (x : S1x512x32x32.Idx) :
    (iblk m hO 0 4 t : FVec Ideal S1x512x32x32 .f32) x = array0 m (ix4 (image t) (x 1) (x 2) (x 3)) := by
  have e := image_emb (n := 512) (h := 32) (w := 32) (image t) (index4 m hO t) (((cfgM m hO).win 4).rect t).emb
    (fun x a => Pipeline.Window.rect_emb_val ((cfgM m hO).win 4) t x a (by rfl)) x
  exact (congrArg (V m 0 main_arg0) e).trans (congrFun (V_main_arg0 m 0) _)

/-- The image of the second array at a grid point. -/
theorem block5 (hO : Ok m) (t : Fin (cfgM m hO).N) (x : S1x256x16x16.Idx) :
    (iblk m hO 0 5 t : FVec Ideal S1x256x16x16 .f32) x = array1 m (ix4 (image t) (x 1) (x 2) (x 3)) := by
  have e := image_emb (n := 256) (h := 16) (w := 16) (image t) (index5 m hO t) (((cfgM m hO).win 5).rect t).emb
    (fun x a => Pipeline.Window.rect_emb_val ((cfgM m hO).win 5) t x a (by rfl)) x
  exact (congrArg (V m 0 main_arg1) e).trans (congrFun (V_main_arg1 m 0) _)

/-- The output block at grid point `t` in the result array. -/
theorem out_emb (hO : Ok m) (t : Fin (cfgM m hO).N) (x : S1x384x64x64.Idx) :
    (((cfgM m hO).win 6).rect t).emb x = ix4 (image t) (x 1) (x 2) (x 3) :=
  image_emb (n := 384) (h := 64) (w := 64) (image t) (index6 m hO t) (((cfgM m hO).win 6).rect t).emb
    (fun x a => Pipeline.Window.rect_emb_val ((cfgM m hO).win 6) t x a (by rfl)) x

/-! ## The result -/

variable (h2 : ∀ k, (word2 m k).toNat < 512) (h3 : ∀ k, (word3 m k).toNat < 256)

/-- The result at an index of a channel of the first array, and of the second. -/
def resultA (b : Fin 8) (c : Fin 256) (y x : Fin 64) : EReal :=
  ∑ k : Fin 32, rowA (ix2 y k) * ∑ l : Fin 32, array0 m (ix4 b ⟨(word2 m c).toNat, h2 c⟩ k l) * colA (ix2 l x)

def resultB (b : Fin 8) (c : Fin 128) (y x : Fin 64) : EReal :=
  ∑ k : Fin 16, rowB (ix2 y k) * ∑ l : Fin 16, array1 m (ix4 b ⟨(word3 m c).toNat, h3 c⟩ k l) * colB (ix2 l x)

/-- The result array. -/
def result : FVec Ideal S8x384x64x64 .f32 := fun i =>
  if h : (i 1).val < 256 then resultA m h2 (i 0) ⟨(i 1).val, h⟩ (i 2) (i 3)
  else resultB m h3 (i 0) ⟨(i 1).val - 256, by have : (i 1).val < 384 := (i 1).isLt; omega⟩ (i 2) (i 3)

/-- A channel a word names, when the word is known. -/
theorem chan_of {n : ℕ} {v w : BitVec 32} (h : v = w) (hv : v.toNat < n) (hw : w.toNat < n) : (⟨v.toNat, hv⟩ : Fin n) = ⟨w.toNat, hw⟩ := by
  subst h; rfl

theorem chanA (hO : Ok m) (hin) (t : Fin (cfgM m hO).N) (c : Fin 256) (y x : Fin 64) :
    chan_a (tbl m 0) hin (iblk m hO 0 0 t) (iblk m hO 0 1 t) (iblk m hO 0 4 t) c (ix4 0 0 y x) = resultA m h2 (image t) c y x := by
  have hc : (word (T := 256) (tbl m 0) c).toNat < 512 := (congrArg BitVec.toNat (table0 m c)).trans_lt (h2 c)
  refine (payload_apply (T := 256) (C := 512) (h := 32) (w := 32) (N := 8192) _ _ _ _ _ _ _ _ _ _ _ _ c hc y x).trans ?_
  rw [block0, block1]
  refine Finset.sum_congr rfl fun k _ => congrArg (_ * ·) (Finset.sum_congr rfl fun l _ => congrArg (· * _) ?_)
  exact (block4 m hO t _).trans (congrArg (fun q => array0 m (ix4 (image t) q k l)) (chan_of (table0 m c) _ _))

theorem chanB (hO : Ok m) (hin) (t : Fin (cfgM m hO).N) (c : Fin 128) (y x : Fin 64) :
    chan_b (tbl m 1) hin (iblk m hO 0 2 t) (iblk m hO 0 3 t) (iblk m hO 0 5 t) c (ix4 0 0 y x) = resultB m h3 (image t) c y x := by
  have hc : (word (T := 128) (tbl m 1) c).toNat < 256 := (congrArg BitVec.toNat (table1 m c)).trans_lt (h3 c)
  refine (payload_apply (T := 128) (C := 256) (h := 16) (w := 16) (N := 2048) _ _ _ _ _ _ _ _ _ _ _ _ c hc y x).trans ?_
  rw [block2, block3]
  refine Finset.sum_congr rfl fun k _ => congrArg (_ * ·) (Finset.sum_congr rfl fun l _ => congrArg (· * _) ?_)
  exact (block5 m hO t _).trans (congrArg (fun q => array1 m (ix4 (image t) q k l)) (chan_of (table1 m c) _ _))

/-- What each grid point leaves in the output's staging buffer is its block of the result. -/
theorem out_block (hO : Ok m) (hW) (t : Fin (cfgM m hO).N) (x : S1x384x64x64.Idx) :
    outsAt0 m hO hW 0 t x = result m h2 h3 (ix4 (image t) (x 1) (x 2) (x 3)) := by
  unfold outsAt0 outV joined result
  by_cases h : (x 1).val < 256
  · exact (dif_pos h).trans ((chanA m h2 hO _ t ⟨(x 1).val, h⟩ (x 2) (x 3)).trans (Eq.symm (dif_pos h)))
  · exact (dif_neg h).trans ((chanB m h3 hO _ t ⟨(x 1).val - 256, by have : (x 1).val < 384 := (x 1).isLt; omega⟩ (x 2) (x 3)).trans (Eq.symm (dif_neg h)))

/-- What is written back at grid point `t` is its block of the result. -/
theorem flushed_eq (hO : Ok m) (hW) (t : Fin (cfgM m hO).N) :
    (dats m hO hW 0 0).flushed 6 t = (((cfgM m hO).win 6).blk t).view.read (Elt Ideal) (result m h2 h3) := by
  show ((cfgM m hO).win 6).cut (grid0.coords t) ((dats m hO hW 0 0).after 6 t) = _
  rw [after0_6]
  exact funext fun x => (out_block m h2 h3 hO hW t x).trans (congrArg (result m h2 h3) (out_emb m hO t x).symm)

/-- The positions a rectangle places lie in it. -/
theorem emb_mem {s : Shape} (r : Rect s) (x : r.shape.Idx) : r.emb x ∈ r.set := by
  rw [← Rect.map_emb_univ]
  exact Finset.mem_map_of_mem _ (Finset.mem_univ _)

/-- The output's block changes at every grid point. -/
theorem flush0_6 (a : (pcfg0 (F := Ideal)).Adm) : ∀ t : Fin (cfg0 a).N, ((cfg0 a).win 6).flush t = true :=
  (fun t => (Pipeline.Window.flushOf_reads cc0_transform_6 reads0_6 hreads0_6 0 (by decide) (by decide)
    (Pipeline.Window.sep_of_coord cc0_transform_6 0 0 (fun _ => rfl) (by decide)) (P := 1) (m := 0) (by decide) rfl t).mpr (Nat.mod_one _)
    : ∀ t : Fin grid0.N, Pipeline.Window.flushOf grid0 true cc0_transform_6 t = true)

/-- The grid points' blocks cover the result array. -/
theorem cover (hO : Ok m) (i : S8x384x64x64.Idx) :
    ∃ t : Fin (cfgM m hO).N, ((cfgM m hO).win 6).flush t = true ∧ i ∈ (((cfgM m hO).win 6).blk t).view.set := by
  have h0 : (i 0).val < 8 := (i 0).isLt
  let t : Fin grid0.N := ⟨(i 0).val, by rw [N_0]; omega⟩
  refine ⟨t, flush0_6 _ t, ?_⟩
  show i ∈ ((View.whole main_v2).slice (((cfgM m hO).win 6).rect t)).set
  erw [View.set_slice_whole]
  have e : i = (((cfgM m hO).win 6).rect t).emb (ix4 0 (i 1) (i 2) (i 3)) := by
    rw [out_emb m hO t (ix4 0 (i 1) (i 2) (i 3))]
    funext a
    match a with
    | ⟨0, _⟩ => rfl
    | ⟨1, _⟩ => rfl
    | ⟨2, _⟩ => rfl
    | ⟨3, _⟩ => rfl
  rw [e]
  exact emb_mem _ _

/-- The run of the second kernel: its result. -/
theorem run_result (hO : Ok m) :
    θ_run defs (onTc (τ := τ) (main (F := Ideal))) ⟨m, fun _ => 0, ρ⟩ fun r =>
      r.2.mem (((0 : Dev nD) : Thread nD τ).loc main_v2) = result m h2 h3 :=
  (θ_run defs _ _).mono (fun _ hr => ((hr 0).1 6).trans ((dats m hO (words m h2 h3) 0 0).arrAt_eq_of_cover 6 (result m h2 h3)
    (fun t _ => flushed_eq m h2 h3 hO _ t) (cover m hO))) (run_main m ρ hO (words m h2 h3))

end Cert.Kernel2Ideal.Gen

end

end
-- ==== Proof.Scales.lean ====
/- The two scales the second kernel interpolates at: the taps and the weights of the reference, and the kernel's matrices
   against them. A row of a matrix has the first weight at the lower tap, the second at the upper one and zero elsewhere, so
   a channel between its two matrices is four taps weighted. The literals are compared word by word. -/
module

public import proofs.«01_k».proof.Kernel2Ideal
public import proofs.«01_k».proof.Reference2Ideal
public import proofs.«01_k».proof.Proof.Taps

@[expose] public section

noncomputable section

set_option maxRecDepth 16384

namespace Cert.Taps

open Idealize.ShloMosaic

/-- The taps of 64 rows and columns among `n`, and the words of their weights. -/
structure Scale (n : ℕ) where
  rowLo : Fin 64 → Fin n
  rowHi : Fin 64 → Fin n
  colLo : Fin 64 → Fin n
  colHi : Fin 64 → Fin n
  rowW : Fin 64 → BitVec 32
  rowW' : Fin 64 → BitVec 32
  colW : Fin 64 → BitVec 32
  colW' : Fin 64 → BitVec 32

/-- The four taps of a channel, weighted by columns and then by rows. -/
def Scale.taps {n : ℕ} (s : Scale n) (f : Fin n → Fin n → EReal) (y x : Fin 64) : EReal :=
  (f (s.rowLo y) (s.colLo x) * val (s.colW x) + f (s.rowLo y) (s.colHi x) * val (s.colW' x)) * val (s.rowW y)
    + (f (s.rowHi y) (s.colLo x) * val (s.colW x) + f (s.rowHi y) (s.colHi x) * val (s.colW' x)) * val (s.rowW' y)

/-- The words of a scale's two matrices: the weights at the taps, zero elsewhere; one weight where the taps are one. -/
structure Scale.Matrices {n : ℕ} (s : Scale n) (M N : Fin 64 → Fin n → BitVec 32) : Prop where
  row : ∀ y k, M y k = if k.val = (s.rowLo y).val then s.rowW y else if k.val = (s.rowHi y).val then s.rowW' y else 0#32
  col : ∀ x l, N x l = if l.val = (s.colLo x).val then s.colW x else if l.val = (s.colHi x).val then s.colW' x else 0#32
  row_single : ∀ y, (s.rowLo y).val = (s.rowHi y).val → s.rowW' y = 0#32
  col_single : ∀ x, (s.colLo x).val = (s.colHi x).val → s.colW' x = 0#32

/-- A channel between its two matrices is the four taps weighted. -/
theorem Scale.Matrices.sum {n : ℕ} {s : Scale n} {M N : Fin 64 → Fin n → BitVec 32} (h : s.Matrices M N)
    (f : Fin n → Fin n → EReal) (y x : Fin 64) :
    ∑ k : Fin n, val (M y k) * ∑ l : Fin n, f k l * val (N x l) = s.taps f y x := by
  have c : ∀ k, ∑ l : Fin n, f k l * val (N x l) = f k (s.colLo x) * val (s.colW x) + f k (s.colHi x) * val (s.colW' x) := fun k => by
    rw [mul_comm (f k (s.colLo x)), mul_comm (f k (s.colHi x))]
    exact (Finset.sum_congr rfl fun l _ => mul_comm _ _).trans
      (tap_sum (N x) (f k) (s.colLo x) (s.colHi x) _ _ (h.col x) (h.col_single x))
  refine (Finset.sum_congr rfl fun k _ => congrArg (val (M y k) * ·) (c k)).trans
    ((tap_sum (M y) _ (s.rowLo y) (s.rowHi y) _ _ (h.row y) (h.row_single y)).trans ?_)
  exact congrArg₂ (· + ·) (mul_comm _ _) (mul_comm _ _)

/-! ## From 32 rows and columns -/

theorem taps_lt32 : ∀ x, (Reference2Ideal.lit0 x).toNat < 32 ∧ (Reference2Ideal.lit1 x).toNat < 32
    ∧ (Reference2Ideal.lit2 x).toNat < 32 ∧ (Reference2Ideal.lit3 x).toNat < 32 := by decide +kernel

def scale32 : Scale 32 where
  rowLo y := ⟨(Reference2Ideal.lit0 y).toNat, (taps_lt32 y).1⟩
  rowHi y := ⟨(Reference2Ideal.lit1 y).toNat, (taps_lt32 y).2.1⟩
  colLo x := ⟨(Reference2Ideal.lit2 x).toNat, (taps_lt32 x).2.2.1⟩
  colHi x := ⟨(Reference2Ideal.lit3 x).toNat, (taps_lt32 x).2.2.2⟩
  rowW := Reference2Ideal.lit8
  rowW' := Reference2Ideal.lit9
  colW := Reference2Ideal.lit4
  colW' := Reference2Ideal.lit5

theorem matrices32 : scale32.Matrices (fun y k => Kernel2Ideal.lit0 (Fin.ofNat 2048 (32 * y.val + k.val)))
    (fun x l => Kernel2Ideal.lit1 (Fin.ofNat 2048 (32 * x.val + l.val))) where
  row := by decide +kernel
  col := by decide +kernel
  row_single := by decide +kernel
  col_single := by decide +kernel

/-- The column weights are the same for both rows combined. -/
theorem col_weights32 : ∀ x, Reference2Ideal.lit6 x = Reference2Ideal.lit4 x ∧ Reference2Ideal.lit7 x = Reference2Ideal.lit5 x := by
  decide +kernel

/-! ## From 16 rows and columns -/

theorem taps_lt16 : ∀ x, (Reference2Ideal.lit10 x).toNat < 16 ∧ (Reference2Ideal.lit11 x).toNat < 16
    ∧ (Reference2Ideal.lit12 x).toNat < 16 ∧ (Reference2Ideal.lit13 x).toNat < 16 := by decide +kernel

def scale16 : Scale 16 where
  rowLo y := ⟨(Reference2Ideal.lit10 y).toNat, (taps_lt16 y).1⟩
  rowHi y := ⟨(Reference2Ideal.lit11 y).toNat, (taps_lt16 y).2.1⟩
  colLo x := ⟨(Reference2Ideal.lit12 x).toNat, (taps_lt16 x).2.2.1⟩
  colHi x := ⟨(Reference2Ideal.lit13 x).toNat, (taps_lt16 x).2.2.2⟩
  rowW := Reference2Ideal.lit18
  rowW' := Reference2Ideal.lit19
  colW := Reference2Ideal.lit14
  colW' := Reference2Ideal.lit15

theorem matrices16 : scale16.Matrices (fun y k => Kernel2Ideal.lit2 (Fin.ofNat 1024 (16 * y.val + k.val)))
    (fun x l => Kernel2Ideal.lit3 (Fin.ofNat 1024 (16 * x.val + l.val))) where
  row := by decide +kernel
  col := by decide +kernel
  row_single := by decide +kernel
  col_single := by decide +kernel

theorem col_weights16 : ∀ x, Reference2Ideal.lit16 x = Reference2Ideal.lit14 x ∧ Reference2Ideal.lit17 x = Reference2Ideal.lit15 x := by
  decide +kernel

end Cert.Taps

end

end
-- ==== Proof.Reference2At.lean ====
/- The second reference's result at an index: the four taps of a channel of the first array or of the second one, weighted
   by columns and then by rows. -/
module

public import proofs.«01_k».proof.Proof.Gather
public import proofs.«01_k».proof.Proof.Scales
public import proofs.«01_k».proof.Proof.Gen.Reference2Ideal.Run

@[expose] public section

set_option maxRecDepth 16384

noncomputable section

namespace Cert.Reference2Ideal.Value

open Idealize.ShloMosaic Idealize.ShloMosaic.TcCoe Idealize.ShloMosaic.StableHlo Cert.Channels Cert.Taps
open Cert.Reference2Ideal.Gen

variable (V0 : Valuation τ sig (Elt Ideal))

/-- The four arguments and the result. -/
def in0 : FVec Ideal S8x512x32x32 .f32 := V0 (Proc.devRef .tc main_arg0)
def in1 : FVec Ideal S8x256x16x16 .f32 := V0 (Proc.devRef .tc main_arg1)
def in2 : IVec S256 32 := V0 (Proc.devRef .tc main_arg2)
def in3 : IVec S128 32 := V0 (Proc.devRef .tc main_arg3)
def outcome : FVec Ideal S8x384x64x64 .f32 := res_main_v56 V0

/-- A literal vector's position. -/
theorem position (k : Fin 64) : S64.rowMajor (ix1 k) = k := Fin.ext (Shape.rowMajor_val_one _)

/-- A tap named by a literal vector. -/
theorem tap {n : ℕ} (f : Fin 64 → BitVec 32) (k : Fin 64) (h) (h') :
    (⟨(f (S64.rowMajor (ix1 k))).toNat, h⟩ : Fin n) = ⟨(f k).toNat, h'⟩ :=
  Fin.ext (congrArg (fun k => (f k).toNat) (position k))

/-- The words of a literal vector of weights. -/
def weights (f : Fin 64 → BitVec 32) : FVec Ideal S64 .f32 := fun i => FloatOps.ofBits .f32 (f (S64.rowMajor i))

/-- A weight along the columns, broadcast to the shape of `C` channels. -/
theorem weight_col {C : ℕ} (f : Fin 64 → BitVec 32) (h h') (b : Fin 8) (c : Fin C) (y x : Fin 64) :
    broadcastInDim ⟨4, ![8, C, 64, 64]⟩ ![0, 1, 2, 3] h (broadcastInDim S1x1x1x64 ![3] h' (weights f)) (ix4 b c y x) = val (f x) :=
  (congrArg (weights f) (funext fun a => match a with | ⟨0, _⟩ => rfl : _ = ix1 x)).trans (congrArg (fun k => val (f k)) (position x))

/-- A weight along the rows, broadcast to the shape of `C` channels. -/
theorem weight_row {C : ℕ} (f : Fin 64 → BitVec 32) (h h') (b : Fin 8) (c : Fin C) (y x : Fin 64) :
    broadcastInDim ⟨4, ![8, C, 64, 64]⟩ ![0, 1, 2, 3] h (broadcastInDim S1x1x64x1 ![2] h' (weights f)) (ix4 b c y x) = val (f y) :=
  (congrArg (weights f) (funext fun a => match a with | ⟨0, _⟩ => rfl : _ = ix1 y)).trans (congrArg (fun k => val (f k)) (position y))

/-- The reference's sums and products of the four tap arrays, at an index. -/
theorem combine {C : ℕ} (A B A' B' : FVec Ideal ⟨4, ![8, C, 64, 64]⟩ .f32) (f g f' g' u u' : Fin 64 → BitVec 32)
    (hf : ∀ x, f' x = f x ∧ g' x = g x) (h1 h2 h3 h4 h5 h6 h7 h8 h9 h10 h11 h12) (b : Fin 8) (c : Fin C) (y x : Fin 64)
    {n : ℕ} (s : Scale n) (z : Fin n → Fin n → EReal) (es : s.rowW = u ∧ s.rowW' = u' ∧ s.colW = f ∧ s.colW' = g)
    (ea : A (ix4 b c y x) = z (s.rowLo y) (s.colLo x)) (eb : B (ix4 b c y x) = z (s.rowLo y) (s.colHi x))
    (ea' : A' (ix4 b c y x) = z (s.rowHi y) (s.colLo x)) (eb' : B' (ix4 b c y x) = z (s.rowHi y) (s.colHi x)) :
    addf (mulf (addf (mulf A (broadcastInDim ⟨4, ![8, C, 64, 64]⟩ ![0, 1, 2, 3] h1 (broadcastInDim S1x1x1x64 ![3] h2 (weights f))))
          (mulf B (broadcastInDim ⟨4, ![8, C, 64, 64]⟩ ![0, 1, 2, 3] h3 (broadcastInDim S1x1x1x64 ![3] h4 (weights g)))))
        (broadcastInDim ⟨4, ![8, C, 64, 64]⟩ ![0, 1, 2, 3] h5 (broadcastInDim S1x1x64x1 ![2] h6 (weights u))))
      (mulf (addf (mulf A' (broadcastInDim ⟨4, ![8, C, 64, 64]⟩ ![0, 1, 2, 3] h7 (broadcastInDim S1x1x1x64 ![3] h8 (weights f'))))
          (mulf B' (broadcastInDim ⟨4, ![8, C, 64, 64]⟩ ![0, 1, 2, 3] h9 (broadcastInDim S1x1x1x64 ![3] h10 (weights g')))))
        (broadcastInDim ⟨4, ![8, C, 64, 64]⟩ ![0, 1, 2, 3] h11 (broadcastInDim S1x1x64x1 ![2] h12 (weights u')))) (ix4 b c y x)
      = s.taps z y x := by
  obtain ⟨rfl, rfl, rfl, rfl⟩ := es
  refine congrArg₂ (· + ·)
    (congrArg₂ (· * ·) (congrArg₂ (· + ·) (congrArg₂ (· * ·) ea (weight_col _ _ _ b c y x)) (congrArg₂ (· * ·) eb (weight_col _ _ _ b c y x)))
      (weight_row _ _ _ b c y x))
    (congrArg₂ (· * ·) (congrArg₂ (· + ·) (congrArg₂ (· * ·) ea' ((weight_col _ _ _ b c y x).trans (congrArg val (hf x).1)))
      (congrArg₂ (· * ·) eb' ((weight_col _ _ _ b c y x).trans (congrArg val (hf x).2)))) (weight_row _ _ _ b c y x))

/-! ## The channels interpolated from 32 rows and columns -/

def chans32 : FVec Ideal S8x256x32x32 .f32 := res_main_v12 V0
def rowsLo32 : FVec Ideal S8x256x64x32 .f32 := res_main_v13 V0
def rowsHi32 : FVec Ideal S8x256x64x32 .f32 := res_main_v14 V0

theorem channels32 (h : ∀ i, (in2 V0 i).toNat < 512) (b : Fin 8) (c : Fin 256) (k l : Fin 32) :
    chans32 V0 (ix4 b c k l) = in0 V0 (ix4 b ⟨(in2 V0 (ix1 c)).toNat, h _⟩ k l) := by
  unfold chans32 res_main_v12
  exact taken1 (n := 512) (by norm_num) (by norm_num) (in0 V0) (in2 V0) _ h _ _ _ _ _ _ _ _ _ _ _ rfl b k l c

theorem rows_lo32 (b : Fin 8) (c : Fin 256) (y : Fin 64) (l : Fin 32) :
    rowsLo32 V0 (ix4 b c y l) = chans32 V0 (ix4 b c (scale32.rowLo y) l) := by
  unfold rowsLo32 res_main_v13
  exact (taken2 (n := 32) (by norm_num) (by norm_num) (chans32 V0) (res_main_c V0) _ (fun i => (taps_lt32 _).1)
    _ _ _ _ _ _ _ _ _ _ _ rfl b c l y).trans (congrArg (fun k => chans32 V0 (ix4 b c k l)) (tap lit0 y _ _))

theorem rows_hi32 (b : Fin 8) (c : Fin 256) (y : Fin 64) (l : Fin 32) :
    rowsHi32 V0 (ix4 b c y l) = chans32 V0 (ix4 b c (scale32.rowHi y) l) := by
  unfold rowsHi32 res_main_v14
  exact (taken2 (n := 32) (by norm_num) (by norm_num) (chans32 V0) (res_main_c_0 V0) _ (fun i => (taps_lt32 _).2.1)
    _ _ _ _ _ _ _ _ _ _ _ rfl b c l y).trans (congrArg (fun k => chans32 V0 (ix4 b c k l)) (tap lit1 y _ _))

/-- The result at an index of such a channel. -/
theorem result32 (b : Fin 8) (ch : Fin 384) (c : Fin 256) (h : ch.val = c.val) (y x : Fin 64) :
    outcome V0 (ix4 b ch y x) = scale32.taps (fun k l => chans32 V0 (ix4 b c k l)) y x := by
  unfold outcome res_main_v56
  refine (concatenate_pair_apply_left (s₁ := S8x256x64x64) (s₂ := S8x128x64x64) 1 _ _ _ (ix4 b ch y x) rfl (ix4 b c y x) fun a => ?_).trans ?_
  · match a with
    | ⟨0, _⟩ => rfl
    | ⟨1, _⟩ => exact h.symm
    | ⟨2, _⟩ => rfl
    | ⟨3, _⟩ => rfl
  exact combine _ _ _ _ lit4 lit5 lit6 lit7 lit8 lit9 col_weights32 _ _ _ _ _ _ _ _ _ _ _ _ b c y x scale32
    (fun k l => chans32 V0 (ix4 b c k l)) ⟨rfl, rfl, rfl, rfl⟩
    ((taken3 (n := 32) (by norm_num) (by norm_num) (rowsLo32 V0) (res_main_c_1 V0) _ (fun i => (taps_lt32 _).2.2.1)
      _ _ _ _ _ _ _ _ _ _ _ rfl b c y x).trans ((congrArg (fun k => rowsLo32 V0 (ix4 b c y k)) (tap lit2 x _ _)).trans (rows_lo32 V0 b c y _)))
    ((taken3 (n := 32) (by norm_num) (by norm_num) (rowsLo32 V0) (res_main_c_2 V0) _ (fun i => (taps_lt32 _).2.2.2)
      _ _ _ _ _ _ _ _ _ _ _ rfl b c y x).trans ((congrArg (fun k => rowsLo32 V0 (ix4 b c y k)) (tap lit3 x _ _)).trans (rows_lo32 V0 b c y _)))
    ((taken3 (n := 32) (by norm_num) (by norm_num) (rowsHi32 V0) (res_main_c_1 V0) _ (fun i => (taps_lt32 _).2.2.1)
      _ _ _ _ _ _ _ _ _ _ _ rfl b c y x).trans ((congrArg (fun k => rowsHi32 V0 (ix4 b c y k)) (tap lit2 x _ _)).trans (rows_hi32 V0 b c y _)))
    ((taken3 (n := 32) (by norm_num) (by norm_num) (rowsHi32 V0) (res_main_c_2 V0) _ (fun i => (taps_lt32 _).2.2.2)
      _ _ _ _ _ _ _ _ _ _ _ rfl b c y x).trans ((congrArg (fun k => rowsHi32 V0 (ix4 b c y k)) (tap lit3 x _ _)).trans (rows_hi32 V0 b c y _)))

/-! ## The channels interpolated from 16 rows and columns -/

def chans16 : FVec Ideal S8x128x16x16 .f32 := res_main_v34 V0
def rowsLo16 : FVec Ideal S8x128x64x16 .f32 := res_main_v35 V0
def rowsHi16 : FVec Ideal S8x128x64x16 .f32 := res_main_v36 V0

theorem channels16 (h : ∀ i, (in3 V0 i).toNat < 256) (b : Fin 8) (c : Fin 128) (k l : Fin 16) :
    chans16 V0 (ix4 b c k l) = in1 V0 (ix4 b ⟨(in3 V0 (ix1 c)).toNat, h _⟩ k l) := by
  unfold chans16 res_main_v34
  exact taken1 (n := 256) (by norm_num) (by norm_num) (in1 V0) (in3 V0) _ h _ _ _ _ _ _ _ _ _ _ _ rfl b k l c

theorem rows_lo16 (b : Fin 8) (c : Fin 128) (y : Fin 64) (l : Fin 16) :
    rowsLo16 V0 (ix4 b c y l) = chans16 V0 (ix4 b c (scale16.rowLo y) l) := by
  unfold rowsLo16 res_main_v35
  exact (taken2 (n := 16) (by norm_num) (by norm_num) (chans16 V0) (res_main_c_8 V0) _ (fun i => (taps_lt16 _).1)
    _ _ _ _ _ _ _ _ _ _ _ rfl b c l y).trans (congrArg (fun k => chans16 V0 (ix4 b c k l)) (tap lit10 y _ _))

theorem rows_hi16 (b : Fin 8) (c : Fin 128) (y : Fin 64) (l : Fin 16) :
    rowsHi16 V0 (ix4 b c y l) = chans16 V0 (ix4 b c (scale16.rowHi y) l) := by
  unfold rowsHi16 res_main_v36
  exact (taken2 (n := 16) (by norm_num) (by norm_num) (chans16 V0) (res_main_c_9 V0) _ (fun i => (taps_lt16 _).2.1)
    _ _ _ _ _ _ _ _ _ _ _ rfl b c l y).trans (congrArg (fun k => chans16 V0 (ix4 b c k l)) (tap lit11 y _ _))

/-- The result at an index of such a channel. -/
theorem result16 (b : Fin 8) (ch : Fin 384) (c : Fin 128) (h : c.val + 256 = ch.val) (y x : Fin 64) :
    outcome V0 (ix4 b ch y x) = scale16.taps (fun k l => chans16 V0 (ix4 b c k l)) y x := by
  unfold outcome res_main_v56
  refine (concatenate_pair_apply_right (s₁ := S8x256x64x64) (s₂ := S8x128x64x64) 1 _ _ _ (ix4 b ch y x) rfl rfl (ix4 b c y x) (fun a ha => ?_) h).trans ?_
  · match a with
    | ⟨0, _⟩ => rfl
    | ⟨1, _⟩ => exact absurd rfl ha
    | ⟨2, _⟩ => rfl
    | ⟨3, _⟩ => rfl
  exact combine _ _ _ _ lit14 lit15 lit16 lit17 lit18 lit19 col_weights16 _ _ _ _ _ _ _ _ _ _ _ _ b c y x scale16
    (fun k l => chans16 V0 (ix4 b c k l)) ⟨rfl, rfl, rfl, rfl⟩
    ((taken3 (n := 16) (by norm_num) (by norm_num) (rowsLo16 V0) (res_main_c_10 V0) _ (fun i => (taps_lt16 _).2.2.1)
      _ _ _ _ _ _ _ _ _ _ _ rfl b c y x).trans ((congrArg (fun k => rowsLo16 V0 (ix4 b c y k)) (tap lit12 x _ _)).trans (rows_lo16 V0 b c y _)))
    ((taken3 (n := 16) (by norm_num) (by norm_num) (rowsLo16 V0) (res_main_c_11 V0) _ (fun i => (taps_lt16 _).2.2.2)
      _ _ _ _ _ _ _ _ _ _ _ rfl b c y x).trans ((congrArg (fun k => rowsLo16 V0 (ix4 b c y k)) (tap lit13 x _ _)).trans (rows_lo16 V0 b c y _)))
    ((taken3 (n := 16) (by norm_num) (by norm_num) (rowsHi16 V0) (res_main_c_10 V0) _ (fun i => (taps_lt16 _).2.2.1)
      _ _ _ _ _ _ _ _ _ _ _ rfl b c y x).trans ((congrArg (fun k => rowsHi16 V0 (ix4 b c y k)) (tap lit12 x _ _)).trans (rows_hi16 V0 b c y _)))
    ((taken3 (n := 16) (by norm_num) (by norm_num) (rowsHi16 V0) (res_main_c_11 V0) _ (fun i => (taps_lt16 _).2.2.2)
      _ _ _ _ _ _ _ _ _ _ _ rfl b c y x).trans ((congrArg (fun k => rowsHi16 V0 (ix4 b c y k)) (tap lit13 x _ _)).trans (rows_hi16 V0 b c y _)))

end Cert.Reference2Ideal.Value

end

end
-- ==== Proof.Agree2.lean ====
/- The second idealized kernel and the second idealized reference hold the same result, from arguments that agree: a channel
   between the two matrices of its scale is the four taps weighted. -/
module

public import proofs.«01_k».proof.Proof.Kernel2Final
public import proofs.«01_k».proof.Proof.Reference2At

@[expose] public section

set_option maxRecDepth 16384

noncomputable section

namespace Cert.Agree2

open Idealize.ShloMosaic Idealize.ShloMosaic.TcCoe Idealize.ShloMosaic.StableHlo Cert.Taps
open Cert.Kernel2Ideal (nD τ sig S64x32 S64x16)
open Cert.Kernel2Ideal.Gen (rowA rowB colA colB array0 array1 word2 word3 resultA resultB result)
open Cert.Reference2Ideal.Value (in0 in1 in2 in3 chans32 chans16 outcome)

/-- A matrix element's position among the literal's words. -/
theorem position32 (y : Fin 64) (k : Fin 32) : S64x32.rowMajor (ix2 y k) = Fin.ofNat 2048 (32 * y.val + k.val) := by
  refine Fin.ext ((Shape.rowMajor_val_two _).trans ?_)
  show y.val * 32 + k.val = (32 * y.val + k.val) % 2048
  omega

theorem position16 (y : Fin 64) (k : Fin 16) : S64x16.rowMajor (ix2 y k) = Fin.ofNat 1024 (16 * y.val + k.val) := by
  refine Fin.ext ((Shape.rowMajor_val_two _).trans ?_)
  show y.val * 16 + k.val = (16 * y.val + k.val) % 1024
  omega

/-- A channel between its two matrices: the four taps weighted. -/
theorem sum32 (f : Fin 32 → Fin 32 → EReal) (y x : Fin 64) :
    ∑ k : Fin 32, rowA (ix2 y k) * ∑ l : Fin 32, f k l * colA (ix2 l x) = scale32.taps f y x :=
  (Finset.sum_congr rfl fun k _ => congrArg₂ (· * ·) (congrArg (fun k => val (Kernel2Ideal.lit0 k)) (position32 y k))
    (Finset.sum_congr rfl fun l _ => congrArg (f k l * ·) (congrArg (fun k => val (Kernel2Ideal.lit1 k)) (position32 x l)))).trans
    (matrices32.sum f y x)

theorem sum16 (f : Fin 16 → Fin 16 → EReal) (y x : Fin 64) :
    ∑ k : Fin 16, rowB (ix2 y k) * ∑ l : Fin 16, f k l * colB (ix2 l x) = scale16.taps f y x :=
  (Finset.sum_congr rfl fun k _ => congrArg₂ (· * ·) (congrArg (fun k => val (Kernel2Ideal.lit2 k)) (position16 y k))
    (Finset.sum_congr rfl fun l _ => congrArg (f k l * ·) (congrArg (fun k => val (Kernel2Ideal.lit3 k)) (position16 x l)))).trans
    (matrices16.sum f y x)

variable (m : (ℓ : Loc nD τ sig) → Buf (Elt Ideal) ℓ)
variable (V0 : Valuation Reference2Ideal.τ Reference2Ideal.sig (Elt Ideal))

/-- The two results are one array. -/
theorem results (h0 : in0 V0 = array0 m) (h1 : in1 V0 = array1 m) (h2 : ∀ k, in2 V0 (ix1 k) = word2 m k)
    (h3 : ∀ k, in3 V0 (ix1 k) = word3 m k) (b2 : ∀ i, (in2 V0 i).toNat < 512) (b3 : ∀ i, (in3 V0 i).toNat < 256)
    (w2 : ∀ k, (word2 m k).toNat < 512) (w3 : ∀ k, (word3 m k).toNat < 256) :
    outcome V0 = result m w2 w3 := by
  funext i
  idx_vars i
  by_cases h : i1.val < 256
  · refine (Reference2Ideal.Value.result32 V0 i0 i1 ⟨i1.val, h⟩ rfl i2 i3).trans (Eq.trans ?_ (Eq.symm (dif_pos h)))
    refine Eq.trans ?_ (sum32 _ i2 i3).symm
    refine congrArg (fun f => scale32.taps f i2 i3) (funext fun k => funext fun l => ?_)
    exact (Reference2Ideal.Value.channels32 V0 b2 i0 ⟨i1.val, h⟩ k l).trans ((congrFun h0 _).trans
      (congrArg (fun q => array0 m (ix4 i0 q k l)) (Kernel2Ideal.Gen.chan_of (h2 ⟨i1.val, h⟩) _ _)))
  · have hc : i1.val - 256 < 128 := by have := i1.isLt; omega
    refine (Reference2Ideal.Value.result16 V0 i0 i1 ⟨i1.val - 256, hc⟩ (show i1.val - 256 + 256 = i1.val by omega) i2 i3).trans
      (Eq.trans ?_ (Eq.symm (dif_neg h)))
    refine Eq.trans ?_ (sum16 _ i2 i3).symm
    refine congrArg (fun f => scale16.taps f i2 i3) (funext fun k => funext fun l => ?_)
    exact (Reference2Ideal.Value.channels16 V0 b3 i0 ⟨i1.val - 256, hc⟩ k l).trans ((congrFun h1 _).trans
      (congrArg (fun q => array1 m (ix4 i0 q k l)) (Kernel2Ideal.Gen.chan_of (h3 ⟨i1.val - 256, hc⟩) _ _)))

end Cert.Agree2

end

end
-- ==== Proof.InRange2.lean ====
/- What the second precondition says of the two index arguments: every word of the first is below 512, every word of the second
   below 256. The second kernel's words then name channels. -/
module

public import proofs.«01_k».proof.Defs
public import proofs.«01_k».proof.Proof.Gen.Pre_in_range2
public import proofs.«01_k».proof.Proof.Take
public import proofs.«01_k».proof.Proof.Kernel2Launched
public import proofs.«01_k».proof.Proof.Kernel2IdealLaunched
public import proofs.«01_k».proof.Proof.LoopValue

@[expose] public section

namespace Cert.Channels

open Idealize.ShloMosaic Idealize.ShloMosaic.TcCoe Cert.Loops Cert.Pre_in_range2 Cert.Pre_in_range2.Gen

variable {F : FTy → Type} [FloatOps F]

/-- The precondition, word by word. -/
theorem in_range2_words (a0 : FVec F S8x512x32x32 .f32) (a1 : FVec F S8x256x16x16 .f32) (a2 : IVec S256 32) (a3 : IVec S128 32)
    (h : Cert.Pre_in_range2.fn (F := F) a0 a1 a2 a3 = fun _ => 1#1) :
    (∀ i, (a2 i).toNat < 512) ∧ ∀ i, (a3 i).toNat < 256 := by
  have h0 := congrFun h (fun a => a.elim0)
  simp only [Cert.Pre_in_range2.fn] at h0
  obtain ⟨h2, h3⟩ := IntOp.andi_eq_one.1 (show IntOp.andi _ _ = 1#1 from h0)
  haveI : Subsingleton S_.Idx := ⟨fun a b => funext fun d => d.elim0⟩
  constructor
  · intro i
    exact toNat_lt_of_cmpi _ 512 (by norm_num) (Host.reduce_andi_all _ _ _ _ _ h2 i)
  · intro i
    exact toNat_lt_of_cmpi _ 256 (by norm_num) (Host.reduce_andi_all _ _ _ _ _ h3 i)

/-- A table that holds an argument whose words are in range names channels. -/
theorem names {T C h w : ℕ} {t a : (⟨1, ![T]⟩ : Shape).Idx → BitVec 32} (e : t = a) (ha : ∀ i, (a i).toNat < C) (k : Fin T) :
    InSource C h w (word (T := T) t k) :=
  inSource_of_lt ((congrArg BitVec.toNat ((word_eq t k).trans (congrFun e (ix1 k)))).trans_lt (ha _))

theorem words_kernel2 (m : (ℓ : Loc Cert.Kernel2.nD Cert.Kernel2.τ Cert.Kernel2.sig) → Buf (Elt F) ℓ)
    (h2 : ∀ i, (m (((0 : Dev Cert.Kernel2.nD).tc : Thread Cert.Kernel2.nD Cert.Kernel2.τ).loc Cert.Kernel2.main_arg2) i).toNat < 512)
    (h3 : ∀ i, (m (((0 : Dev Cert.Kernel2.nD).tc : Thread Cert.Kernel2.nD Cert.Kernel2.τ).loc Cert.Kernel2.main_arg3) i).toNat < 256) :
    Cert.Kernel2.Gen.Words (Cert.Kernel2.Gen.tbl m 0) (Cert.Kernel2.Gen.tbl m 1) :=
  ⟨names (T := 256) (Cert.Kernel2.Gen.V_main_arg2 m 0) h2, names (T := 128) (Cert.Kernel2.Gen.V_main_arg3 m 0) h3⟩

theorem words_ideal2 (m : (ℓ : Loc Cert.Kernel2Ideal.nD Cert.Kernel2Ideal.τ Cert.Kernel2Ideal.sig) → Buf (Elt F) ℓ)
    (h2 : ∀ i, (m (((0 : Dev Cert.Kernel2Ideal.nD).tc : Thread Cert.Kernel2Ideal.nD Cert.Kernel2Ideal.τ).loc Cert.Kernel2Ideal.main_arg2) i).toNat < 512)
    (h3 : ∀ i, (m (((0 : Dev Cert.Kernel2Ideal.nD).tc : Thread Cert.Kernel2Ideal.nD Cert.Kernel2Ideal.τ).loc Cert.Kernel2Ideal.main_arg3) i).toNat < 256) :
    Cert.Kernel2Ideal.Gen.Words (Cert.Kernel2Ideal.Gen.tbl m 0) (Cert.Kernel2Ideal.Gen.tbl m 1) :=
  ⟨names (T := 256) (Cert.Kernel2Ideal.Gen.V_main_arg2 m 0) h2, names (T := 128) (Cert.Kernel2Ideal.Gen.V_main_arg3 m 0) h3⟩

end Cert.Channels

end
-- ==== Proof.lean ====
module

public import proofs.«01_k».proof.Defs
public import proofs.«01_k».proof.Proof.KernelLaunched
public import proofs.«01_k».proof.Proof.KernelIdealLaunched
public import proofs.«01_k».proof.Proof.KernelTables
public import proofs.«01_k».proof.Proof.KernelIdealTables
public import proofs.«01_k».proof.Proof.Agree
public import proofs.«01_k».proof.Proof.Agree2
public import proofs.«01_k».proof.Proof.InRange2
public import proofs.«01_k».proof.Proof.Gen.Kernel2
public import proofs.«01_k».proof.Proof.Gen.Kernel2.Launch
public import proofs.«01_k».proof.Proof.Gen.Kernel2Ideal
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Pre_in_range2
public import proofs.«01_k».proof.Proof.Gen.ReferenceIdeal
public import proofs.«01_k».proof.Proof.Gen.ReferenceIdeal.Run
public import proofs.«01_k».proof.Proof.Gen.Pre_in_range
public import Idealize.ShloMosaic.Adequacy
public import Idealize.ShloMosaic.Init

@[expose] public section

noncomputable section

namespace Cert.Proof

open Idealize.ShloMosaic Idealize.ShloMosaic.TcCoe Idealize.SL.Sem Cert.Channels

local instance : Cert.Pre_in_range.Facts := Cert.Pre_in_range.Gen.facts
local instance : Cert.Pre_in_range2.Facts := Cert.Pre_in_range2.Gen.facts

/-- Under the precondition the kernel's tables name blocks inside the arrays. -/
theorem ok_kernel (m : (ℓ : Loc Cert.Kernel.nD Cert.Kernel.τ Cert.Kernel.sig) → Buf (Elt Bits) ℓ) (h : Cert.Pre_Kernel m) :
    Cert.Kernel.Gen.Ok m :=
  Cert.Kernel.Gen.ok_of_words m (in_range_words _ _ _ _ (h 0)).1 (in_range_words _ _ _ _ (h 0)).2

/-- The same of the idealized kernel. -/
theorem ok_ideal (m : (ℓ : Loc Cert.KernelIdeal.nD Cert.KernelIdeal.τ Cert.KernelIdeal.sig) → Buf (Elt Ideal) ℓ)
    (h : Cert.Pre_KernelIdeal m) : Cert.KernelIdeal.Gen.Ok m :=
  Cert.KernelIdeal.Gen.ok_of_words m (in_range_words _ _ _ _ (h 0)).1 (in_range_words _ _ _ _ (h 0)).2

theorem frame_p : Cert.quiescent_Kernel := fun m g h => Cert.Kernel.Gen.frame m g (ok_kernel m h)

theorem frame_pi : Cert.quiescent_KernelIdeal := fun m g h => Cert.KernelIdeal.Gen.frame m g (ok_ideal m h)

/-- The reference runs and leaves its arguments; it declares no semaphore. -/
theorem frame_ri : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- The kernel's result and the reference's are one array, from arguments that agree. -/
theorem algebraic : Cert.algebraic_KernelIdeal_ReferenceIdeal := by
  intro m g m' g' h hA
  have hw := in_range_words _ _ _ _ (h 0)
  have hO := ok_ideal m h
  obtain ⟨e0, e1, e2, e3⟩ := hA 0
  refine ⟨fun c => Subsingleton.elim 0 c ▸ Cert.KernelIdeal.Gen.result m, ?_, ?_⟩
  · refine (θ_run Cert.KernelIdeal.defs _ _).mono (fun r hr c => ?_)
      (θ_run_and (Cert.KernelIdeal.Gen.run_result m g hO (fun k => hw.1 (ix1 k)) fun k => hw.2 (ix1 k))
        (Cert.KernelIdeal.Gen.unchanged m g hO))
    obtain rfl : (0 : Dev Cert.KernelIdeal.nD) = c := Subsingleton.elim _ _
    exact ⟨hr.1, hr.2 0⟩
  · refine (θ_run Cert.ReferenceIdeal.defs _ _).mono (fun r hr c => ?_) (Cert.ReferenceIdeal.Value.run (F := Ideal) m' g')
    obtain rfl : (0 : Dev Cert.ReferenceIdeal.nD) = c := Subsingleton.elim _ _
    refine ⟨(hr 0).1.trans ?_, (hr 0).2⟩
    exact Cert.Agree.results m (StableHlo.launchContents m' 0) e0 e1 (fun k => congrFun e2 (ix1 k)) (fun k => congrFun e3 (ix1 k))
      (fun i => (congrArg BitVec.toNat (congrFun e2 i)).trans_lt (hw.1 i))
      fun i => (congrArg BitVec.toNat (congrFun e3 i)).trans_lt (hw.2 i)

/-- Under the second precondition the second kernel's words name channels. -/
theorem words_kernel2 (m : (ℓ : Loc Cert.Kernel2.nD Cert.Kernel2.τ Cert.Kernel2.sig) → Buf (Elt Bits) ℓ) (h : Cert.Pre_Kernel2 m) :
    Cert.Kernel2.Gen.Words (Cert.Kernel2.Gen.tbl m 0) (Cert.Kernel2.Gen.tbl m 1) :=
  Cert.Channels.words_kernel2 m (in_range2_words _ _ _ _ (h 0)).1 (in_range2_words _ _ _ _ (h 0)).2

/-- The same of the second idealized kernel. -/
theorem words_ideal2 (m : (ℓ : Loc Cert.Kernel2Ideal.nD Cert.Kernel2Ideal.τ Cert.Kernel2Ideal.sig) → Buf (Elt Ideal) ℓ)
    (h : Cert.Pre_Kernel2Ideal m) : Cert.Kernel2Ideal.Gen.Words (Cert.Kernel2Ideal.Gen.tbl m 0) (Cert.Kernel2Ideal.Gen.tbl m 1) :=
  Cert.Channels.words_ideal2 m (in_range2_words _ _ _ _ (h 0)).1 (in_range2_words _ _ _ _ (h 0)).2

theorem frame_p2 : Cert.quiescent_Kernel2 := fun m g h => Cert.Kernel2.Gen.frame m g trivial (words_kernel2 m h)

theorem frame_pi2 : Cert.quiescent_Kernel2Ideal := fun m g h => Cert.Kernel2Ideal.Gen.frame m g trivial (words_ideal2 m h)

/-- The second reference runs and leaves its arguments; it declares no semaphore. -/
theorem frame_ri2 : Cert.quiescent_Reference2Ideal := fun m g _ =>
  (θ_run Cert.Reference2Ideal.defs _ _).mono
    (fun r h => ⟨fun c => (h c).2, Idealize.ShloMosaic.sem_eq_zero_of_no_sems (by decide) r.2⟩)
    (Cert.Reference2Ideal.Value.run (F := Ideal) m g)

/-- The second kernel's result and the second reference's are one array, from arguments that agree. -/
theorem algebraic2 : Cert.algebraic_Kernel2Ideal_Reference2Ideal := by
  intro m g m' g' h hA
  have hw := in_range2_words _ _ _ _ (h 0)
  have w2 : ∀ k, (Cert.Kernel2Ideal.Gen.word2 m k).toNat < 512 := fun k => hw.1 (ix1 k)
  have w3 : ∀ k, (Cert.Kernel2Ideal.Gen.word3 m k).toNat < 256 := fun k => hw.2 (ix1 k)
  obtain ⟨e0, e1, e2, e3⟩ := hA 0
  refine ⟨fun c => Subsingleton.elim 0 c ▸ Cert.Kernel2Ideal.Gen.result m w2 w3, ?_, ?_⟩
  · refine (θ_run Cert.Kernel2Ideal.defs _ _).mono (fun r hr c => ?_)
      (θ_run_and (Cert.Kernel2Ideal.Gen.run_result m g w2 w3 trivial) (Cert.Kernel2Ideal.Gen.unchanged m g trivial (words_ideal2 m h)))
    obtain rfl : (0 : Dev Cert.Kernel2Ideal.nD) = c := Subsingleton.elim _ _
    exact ⟨hr.1, hr.2 0⟩
  · refine (θ_run Cert.Reference2Ideal.defs _ _).mono (fun r hr c => ?_) (Cert.Reference2Ideal.Value.run (F := Ideal) m' g')
    obtain rfl : (0 : Dev Cert.Reference2Ideal.nD) = c := Subsingleton.elim _ _
    refine ⟨(hr 0).1.trans ?_, (hr 0).2⟩
    exact Cert.Agree2.results m (StableHlo.launchContents m' 0) e0 e1 (fun k => congrFun e2 (ix1 k)) (fun k => congrFun e3 (ix1 k))
      (fun i => (congrArg BitVec.toNat (congrFun e2 i)).trans_lt (hw.1 i))
      (fun i => (congrArg BitVec.toNat (congrFun e3 i)).trans_lt (hw.2 i)) w2 w3

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Pre_in_range.Gen.facts, Cert.Pre_in_range2.Gen.facts, frame_p, frame_pi, frame_ri, frame_p2, frame_pi2, frame_ri2,
  trivial, algebraic, trivial, algebraic2⟩

end Cert.Proof

end

end
